-- ==== Defs.lean ====
def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherIdeal_pre4 [hPre_pre4 : Cert.Pre_pre4.Facts] (m : (ℓ : Loc Cert.GatherIdeal.nD Cert.GatherIdeal.τ Cert.GatherIdeal.sig) → Buf (Elt Ideal) ℓ) : Prop :=
  ∀ c : Dev Cert.GatherIdeal.nD,
    (Cert.Pre_pre4.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1)) (m ((c.tc : Thread Cert.GatherIdeal.nD Cert.GatherIdeal.τ).loc Cert.GatherIdeal.main_arg2))) = (fun _ => 1#1)

def Pre_GatherReferenceIdeal (m : (ℓ : Loc Cert.GatherReferenceIdeal.nD Cert.GatherReferenceIdeal.τ Cert.GatherReferenceIdeal.sig) → Buf (Elt Ideal) ℓ) : Prop :=
  True

def Pre_GatherReferenceIdeal_pre4 [hPre_pre4 : Cert.Pre_pre4.Facts] (m : (ℓ : Loc Cert.GatherReferenceIdeal.nD Cert.GatherReferenceIdeal.τ Cert.GatherReferenceIdeal.sig) → Buf (Elt Ideal) ℓ) : Prop :=
  ∀ c : Dev Cert.GatherReferenceIdeal.nD,
    (Cert.Pre_pre4.fn (F := Ideal) (m ((c.tc : Thread Cert.GatherReferenceIdeal.nD Cert.GatherReferenceIdeal.τ).loc Cert.GatherReferenceIdeal.main_arg0)) (m ((c.tc : Thread Cert.GatherReferenceIdeal.nD Cert.GatherReferenceIdeal.τ).loc Cert.GatherReferenceIdeal.main_arg1)) (m ((c.tc : Thread Cert.GatherReferenceIdeal.nD Cert.GatherReferenceIdeal.τ).loc Cert.GatherReferenceIdeal.main_arg2))) = (fun _ => 1#1)

def Pre_Proj [hPre_pre2 : Cert.Pre_pre2.Facts] (m : (ℓ : Loc Cert.Proj.nD Cert.Proj.τ Cert.Proj.sig) → Buf (Elt Bits) ℓ) : Prop :=
  ∀ c : Dev Cert.Proj.nD,
    (Cert.Pre_pre2.fn (F := Bits) (m ((c.tc : Thread Cert.Proj.nD Cert.Proj.τ).loc Cert.Proj.main_arg0)) (m ((c.tc : Thread Cert.Proj.nD Cert.Proj.τ).loc Cert.Proj.main_arg1)) (m ((c.tc : Thread Cert.Proj.nD Cert.Proj.τ).loc Cert.Proj.main_arg2)) (m ((c.tc : Thread Cert.Proj.nD Cert.Proj.τ).loc Cert.Proj.main_arg3)) (m ((c.tc : Thread Cert.Proj.nD Cert.Proj.τ).loc Cert.Proj.main_arg4)) (m ((c.tc : Thread Cert.Proj.nD Cert.Proj.τ).loc Cert.Proj.main_arg5))) = (fun _ => 1#1)

def Pre_ProjIdeal [hPre_pre2 : Cert.Pre_pre2.Facts] (m : (ℓ : Loc Cert.ProjIdeal.nD Cert.ProjIdeal.τ Cert.ProjIdeal.sig) → Buf (Elt Ideal) ℓ) : Prop :=
  ∀ c : Dev Cert.ProjIdeal.nD,
    (Cert.Pre_pre2.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5))) = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_pre2 [hPre_pre2 : Cert.Pre_pre2.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_pre2.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_pre3 [hPre_pre3 : Cert.Pre_pre3.Facts] (m : (ℓ : Loc Cert.LossIdeal.nD Cert.LossIdeal.τ Cert.LossIdeal.sig) → Buf (Elt Ideal) ℓ) : Prop :=
  ∀ c : Dev Cert.LossIdeal.nD,
    (Cert.Pre_pre3.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))) = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_pre3 [hPre_pre3 : Cert.Pre_pre3.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_pre3.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3))) = (fun _ => 1#1)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ r.2.sem = fun _ => 0)

def quiescent_GatherIdeal_pre_pre4 [hGatherIdeal : Cert.GatherIdeal.Facts] [hPre_pre4 : Cert.Pre_pre4.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal_pre4 m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1)
      ∧ r.2.mem ((c.tc : Thread Cert.GatherReferenceIdeal.nD Cert.GatherReferenceIdeal.τ).loc Cert.GatherReferenceIdeal.main_arg2) = m ((c.tc : Thread Cert.GatherReferenceIdeal.nD Cert.GatherReferenceIdeal.τ).loc Cert.GatherReferenceIdeal.main_arg2))
      ∧ r.2.sem = fun _ => 0)

def quiescent_GatherReferenceIdeal_pre_pre4 [hGatherReferenceIdeal : Cert.GatherReferenceIdeal.Facts] [hPre_pre4 : Cert.Pre_pre4.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal_pre4 m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1)
      ∧ r.2.mem ((c.tc : Thread Cert.GatherReferenceIdeal.nD Cert.GatherReferenceIdeal.τ).loc Cert.GatherReferenceIdeal.main_arg2) = m ((c.tc : Thread Cert.GatherReferenceIdeal.nD Cert.GatherReferenceIdeal.τ).loc Cert.GatherReferenceIdeal.main_arg2))
      ∧ r.2.sem = fun _ => 0)

def quiescent_Proj [hProj : Cert.Proj.Facts] [hPre_pre2 : Cert.Pre_pre2.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] [hPre_pre2 : Cert.Pre_pre2.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5))
      ∧ r.2.sem = fun _ => 0)

def quiescent_ProjReferenceIdeal_pre_pre2 [hProjReferenceIdeal : Cert.ProjReferenceIdeal.Facts] [hPre_pre2 : Cert.Pre_pre2.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_pre2 m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossIdeal_pre_pre3 [hLossIdeal : Cert.LossIdeal.Facts] [hPre_pre3 : Cert.Pre_pre3.Facts] : Prop :=
  ∀ (m : (ℓ : Loc Cert.LossIdeal.nD Cert.LossIdeal.τ Cert.LossIdeal.sig) → Buf (Elt Ideal) ℓ) (g : Dev Cert.LossIdeal.nD → PrngReg), Pre_LossIdeal_pre3 m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3))
      ∧ r.2.sem = fun _ => 0)

def quiescent_LossReferenceIdeal_pre_pre3 [hLossReferenceIdeal : Cert.LossReferenceIdeal.Facts] [hPre_pre3 : Cert.Pre_pre3.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_pre3 m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3))
      ∧ r.2.sem = fun _ => 0)

def preserves_Gather_GatherIdeal : Prop :=
  True

def algebraic_GatherIdeal_GatherReferenceIdeal_pre_pre4 [hGatherIdeal : Cert.GatherIdeal.Facts] [hGatherReferenceIdeal : Cert.GatherReferenceIdeal.Facts] [hPre_pre4 : Cert.Pre_pre4.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal_pre4 m →
    (∀ c : Dev Cert.GatherIdeal.nD,
      m' ((c.tc : Thread Cert.GatherReferenceIdeal.nD Cert.GatherReferenceIdeal.τ).loc Cert.GatherReferenceIdeal.main_arg0) = m ((c.tc : Thread Cert.GatherIdeal.nD Cert.GatherIdeal.τ).loc Cert.GatherIdeal.main_arg0)
      ∧ m' ((c.tc : Thread Cert.GatherReferenceIdeal.nD Cert.GatherReferenceIdeal.τ).loc Cert.GatherReferenceIdeal.main_arg1) = m ((c.tc : Thread Cert.GatherIdeal.nD Cert.GatherIdeal.τ).loc Cert.GatherIdeal.main_arg1)
      ∧ m' ((c.tc : Thread Cert.GatherReferenceIdeal.nD Cert.GatherReferenceIdeal.τ).loc Cert.GatherReferenceIdeal.main_arg2) = m ((c.tc : Thread Cert.GatherIdeal.nD Cert.GatherIdeal.τ).loc Cert.GatherIdeal.main_arg2)) →
    ∃ (v0 : (c : Dev Cert.GatherIdeal.nD) → Buf (Elt Ideal) ((c.tc : Thread Cert.GatherIdeal.nD Cert.GatherIdeal.τ).loc Cert.GatherIdeal.main_v0_0)) (v1 : (c : Dev Cert.GatherIdeal.nD) → Buf (Elt Ideal) ((c.tc : Thread Cert.GatherIdeal.nD Cert.GatherIdeal.τ).loc Cert.GatherIdeal.main_v0_1)) (v2 : (c : Dev Cert.GatherIdeal.nD) → Buf (Elt Ideal) ((c.tc : Thread Cert.GatherIdeal.nD Cert.GatherIdeal.τ).loc Cert.GatherIdeal.main_v0_2)) (v3 : (c : Dev Cert.GatherIdeal.nD) → Buf (Elt Ideal) ((c.tc : Thread Cert.GatherIdeal.nD Cert.GatherIdeal.τ).loc Cert.GatherIdeal.main_v0_3)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v0_0) = v0 c
          ∧ r.2.mem ((c.tc : Thread Cert.GatherIdeal.nD Cert.GatherIdeal.τ).loc Cert.GatherIdeal.main_v0_1) = v1 c
          ∧ r.2.mem ((c.tc : Thread Cert.GatherIdeal.nD Cert.GatherIdeal.τ).loc Cert.GatherIdeal.main_v0_2) = v2 c
          ∧ r.2.mem ((c.tc : Thread Cert.GatherIdeal.nD Cert.GatherIdeal.τ).loc Cert.GatherIdeal.main_v0_3) = v3 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ θ_run (Cert.GatherReferenceIdeal.defs (F := Ideal)) (onTc (τ := Cert.GatherReferenceIdeal.τ) (Cert.GatherReferenceIdeal.main (F := Ideal))) ⟨m', fun _ => 0, g'⟩ (fun r => ∀ c : Dev Cert.GatherReferenceIdeal.nD,
          r.2.mem ((c.tc : Thread Cert.GatherReferenceIdeal.nD Cert.GatherReferenceIdeal.τ).loc Cert.GatherReferenceIdeal.main_v29) = v0 c
          ∧ r.2.mem ((c.tc : Thread Cert.GatherReferenceIdeal.nD Cert.GatherReferenceIdeal.τ).loc Cert.GatherReferenceIdeal.main_v38) = v1 c
          ∧ r.2.mem ((c.tc : Thread Cert.GatherReferenceIdeal.nD Cert.GatherReferenceIdeal.τ).loc Cert.GatherReferenceIdeal.main_v68) = v2 c
          ∧ r.2.mem ((c.tc : Thread Cert.GatherReferenceIdeal.nD Cert.GatherReferenceIdeal.τ).loc Cert.GatherReferenceIdeal.main_v77) = v3 c
          ∧ r.2.mem ((c.tc : Thread Cert.GatherReferenceIdeal.nD Cert.GatherReferenceIdeal.τ).loc Cert.GatherReferenceIdeal.main_arg0) = m' ((c.tc : Thread Cert.GatherReferenceIdeal.nD Cert.GatherReferenceIdeal.τ).loc Cert.GatherReferenceIdeal.main_arg0)
          ∧ r.2.mem ((c.tc : Thread Cert.GatherReferenceIdeal.nD Cert.GatherReferenceIdeal.τ).loc Cert.GatherReferenceIdeal.main_arg1) = m' ((c.tc : Thread Cert.GatherReferenceIdeal.nD Cert.GatherReferenceIdeal.τ).loc Cert.GatherReferenceIdeal.main_arg1)
          ∧ r.2.mem ((c.tc : Thread Cert.GatherReferenceIdeal.nD Cert.GatherReferenceIdeal.τ).loc Cert.GatherReferenceIdeal.main_arg2) = m' ((c.tc : Thread Cert.GatherReferenceIdeal.nD Cert.GatherReferenceIdeal.τ).loc Cert.GatherReferenceIdeal.main_arg2))

def preserves_Proj_ProjIdeal : Prop :=
  True

def algebraic_ProjIdeal_ProjReferenceIdeal [hProjIdeal : Cert.ProjIdeal.Facts] [hProjReferenceIdeal : Cert.ProjReferenceIdeal.Facts] [hPre_pre2 : Cert.Pre_pre2.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v2_0)) (v1 : (c : Dev Cert.ProjIdeal.nD) → Buf (Elt Ideal) ((c.tc : Thread Cert.ProjIdeal.nD Cert.ProjIdeal.τ).loc Cert.ProjIdeal.main_v2_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2_0) = v0 c
          ∧ r.2.mem ((c.tc : Thread Cert.ProjIdeal.nD Cert.ProjIdeal.τ).loc Cert.ProjIdeal.main_v2_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v32) = v0 c
          ∧ r.2.mem ((c.tc : Thread Cert.ProjReferenceIdeal.nD Cert.ProjReferenceIdeal.τ).loc Cert.ProjReferenceIdeal.main_v33) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5))

def preserves_Loss_LossIdeal : Prop :=
  True

def algebraic_LossIdeal_LossReferenceIdeal_pre_pre3 [hLossIdeal : Cert.LossIdeal.Facts] [hLossReferenceIdeal : Cert.LossReferenceIdeal.Facts] [hPre_pre3 : Cert.Pre_pre3.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal_pre3 m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)
      ∧ m' ((c.tc : Thread Cert.LossReferenceIdeal.nD Cert.LossReferenceIdeal.τ).loc Cert.LossReferenceIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v8)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v8) = v0 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v32) = v0 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3))

def Claim : Prop :=
  ∃ (hGather : Cert.Gather.Facts) (hGatherIdeal : Cert.GatherIdeal.Facts) (hGatherReferenceIdeal : Cert.GatherReferenceIdeal.Facts) (hProj : Cert.Proj.Facts) (hProjIdeal : Cert.ProjIdeal.Facts) (hProjReferenceIdeal : Cert.ProjReferenceIdeal.Facts) (hLoss : Cert.Loss.Facts) (hLossIdeal : Cert.LossIdeal.Facts) (hLossReferenceIdeal : Cert.LossReferenceIdeal.Facts) (hPre_pre4 : Cert.Pre_pre4.Facts) (hPre_pre2 : Cert.Pre_pre2.Facts) (hPre_pre3 : Cert.Pre_pre3.Facts),
    quiescent_Gather (hGather := hGather)
    ∧ quiescent_GatherIdeal (hGatherIdeal := hGatherIdeal)
    ∧ quiescent_GatherIdeal_pre_pre4 (hGatherIdeal := hGatherIdeal) (hPre_pre4 := hPre_pre4)
    ∧ quiescent_GatherReferenceIdeal (hGatherReferenceIdeal := hGatherReferenceIdeal)
    ∧ quiescent_GatherReferenceIdeal_pre_pre4 (hGatherReferenceIdeal := hGatherReferenceIdeal) (hPre_pre4 := hPre_pre4)
    ∧ quiescent_Proj (hProj := hProj) (hPre_pre2 := hPre_pre2)
    ∧ quiescent_ProjIdeal (hProjIdeal := hProjIdeal) (hPre_pre2 := hPre_pre2)
    ∧ quiescent_ProjReferenceIdeal (hProjReferenceIdeal := hProjReferenceIdeal)
    ∧ quiescent_ProjReferenceIdeal_pre_pre2 (hProjReferenceIdeal := hProjReferenceIdeal) (hPre_pre2 := hPre_pre2)
    ∧ quiescent_Loss (hLoss := hLoss)
    ∧ quiescent_LossIdeal (hLossIdeal := hLossIdeal)
    ∧ quiescent_LossIdeal_pre_pre3 (hLossIdeal := hLossIdeal) (hPre_pre3 := hPre_pre3)
    ∧ quiescent_LossReferenceIdeal (hLossReferenceIdeal := hLossReferenceIdeal)
    ∧ quiescent_LossReferenceIdeal_pre_pre3 (hLossReferenceIdeal := hLossReferenceIdeal) (hPre_pre3 := hPre_pre3)
    ∧ preserves_Gather_GatherIdeal
    ∧ algebraic_GatherIdeal_GatherReferenceIdeal_pre_pre4 (hGatherIdeal := hGatherIdeal) (hGatherReferenceIdeal := hGatherReferenceIdeal) (hPre_pre4 := hPre_pre4)
    ∧ preserves_Proj_ProjIdeal
    ∧ algebraic_ProjIdeal_ProjReferenceIdeal (hProjIdeal := hProjIdeal) (hProjReferenceIdeal := hProjReferenceIdeal) (hPre_pre2 := hPre_pre2)
    ∧ preserves_Loss_LossIdeal
    ∧ algebraic_LossIdeal_LossReferenceIdeal_pre_pre3 (hLossIdeal := hLossIdeal) (hLossReferenceIdeal := hLossReferenceIdeal) (hPre_pre3 := hPre_pre3)
-- ==== Pre_pre2.lean ====
abbrev S2x1408 : Shape := ⟨2, ![2, 1408]⟩
abbrev S11264x128 : Shape := ⟨2, ![11264, 128]⟩
abbrev S1000x16384 : Shape := ⟨2, ![1000, 16384]⟩
abbrev S_ : Shape := ⟨0, ![]⟩

class Facts : Prop where
  bcast_S_S2x1408 : S_.BroadcastsInDim S2x1408 (![] : Fin 0 → Fin S2x1408.rank)
  reducesTo_S2x1408_S_d0_1 : S2x1408.ReducesTo [0, 1] S_
  h_S_ : 0 < S_.numel

variable [Facts]

def fn {F : FTy → Type} [FloatOps F] (main_arg0 : IVec S2x1408 32) (main_arg1 : FVec F S11264x128 .bf16) (main_arg2 : FVec F S11264x128 .f32) (main_arg3 : FVec F S11264x128 .bf16) (main_arg4 : FVec F S11264x128 .f32) (main_arg5 : FVec F S1000x16384 .f32) : IVec S_ 1 :=
  let main_c : IVec S_ 32 := constantI S_ 32 0#32
  let main_v0 : IVec S2x1408 32 := broadcastInDim S2x1408 ![] bcast_S_S2x1408 main_c
  let main_v1 : IVec S2x1408 1 := cmpi .sge main_arg0 main_v0
  let main_c_0 : IVec S_ 32 := constantI S_ 32 1000#32
  let main_v2 : IVec S2x1408 32 := broadcastInDim S2x1408 ![] bcast_S_S2x1408 main_c_0
  let main_v3 : IVec S2x1408 1 := cmpi .slt main_arg0 main_v2
  let main_v4 : IVec S2x1408 1 := andi main_v1 main_v3
  let main_c_1 : IVec S_ 1 := constantI S_ 1 1#1
  let main_v5 : IVec S_ 1 := (fun x v => Host.reduce IntOp.andi x v reducesTo_S2x1408_S_d0_1 h_S_) main_v4 main_c_1
  main_v5
-- ==== Pre_pre3.lean ====
abbrev S22x1x512 : Shape := ⟨3, ![22, 1, 512]⟩
abbrev S2x4096x1 : Shape := ⟨3, ![2, 4096, 1]⟩
abbrev S_ : Shape := ⟨0, ![]⟩

class Facts : Prop where
  bcast_S_S2x4096x1 : S_.BroadcastsInDim S2x4096x1 (![] : Fin 0 → Fin S2x4096x1.rank)
  reducesTo_S2x4096x1_S_d0_1_2 : S2x4096x1.ReducesTo [0, 1, 2] S_
  h_S_ : 0 < S_.numel

variable [Facts]

def fn {F : FTy → Type} [FloatOps F] (main_arg0 : FVec F S22x1x512 .f32) (main_arg1 : FVec F S22x1x512 .f32) (main_arg2 : IVec S2x4096x1 32) (main_arg3 : IVec S2x4096x1 32) : IVec S_ 1 :=
  let main_c : IVec S_ 32 := constantI S_ 32 0#32
  let main_v0 : IVec S2x4096x1 32 := broadcastInDim S2x4096x1 ![] bcast_S_S2x4096x1 main_c
  let main_v1 : IVec S2x4096x1 1 := cmpi .sge main_arg2 main_v0
  let main_c_0 : IVec S_ 32 := constantI S_ 32 22#32
  let main_v2 : IVec S2x4096x1 32 := broadcastInDim S2x4096x1 ![] bcast_S_S2x4096x1 main_c_0
  let main_v3 : IVec S2x4096x1 1 := cmpi .slt main_arg2 main_v2
  let main_v4 : IVec S2x4096x1 1 := andi main_v1 main_v3
  let main_c_1 : IVec S_ 1 := constantI S_ 1 1#1
  let main_v5 : IVec S_ 1 := (fun x v => Host.reduce IntOp.andi x v reducesTo_S2x4096x1_S_d0_1_2 h_S_) main_v4 main_c_1
  let main_c_2 : IVec S_ 32 := constantI S_ 32 0#32
  let main_v6 : IVec S2x4096x1 32 := broadcastInDim S2x4096x1 ![] bcast_S_S2x4096x1 main_c_2
  let main_v7 : IVec S2x4096x1 1 := cmpi .sge main_arg3 main_v6
  let main_c_3 : IVec S_ 32 := constantI S_ 32 512#32
  let main_v8 : IVec S2x4096x1 32 := broadcastInDim S2x4096x1 ![] bcast_S_S2x4096x1 main_c_3
  let main_v9 : IVec S2x4096x1 1 := cmpi .slt main_arg3 main_v8
  let main_v10 : IVec S2x4096x1 1 := andi main_v7 main_v9
  let main_c_4 : IVec S_ 1 := constantI S_ 1 1#1
  let main_v11 : IVec S_ 1 := (fun x v => Host.reduce IntOp.andi x v reducesTo_S2x4096x1_S_d0_1_2 h_S_) main_v10 main_c_4
  let main_v12 : IVec S_ 1 := andi main_v5 main_v11
  main_v12
-- ==== Pre_pre4.lean ====
abbrev S8x11264 : Shape := ⟨2, ![8, 11264]⟩
abbrev S100000x128 : Shape := ⟨2, ![100000, 128]⟩
abbrev S_ : Shape := ⟨0, ![]⟩

class Facts : Prop where
  bcast_S_S8x11264 : S_.BroadcastsInDim S8x11264 (![] : Fin 0 → Fin S8x11264.rank)
  reducesTo_S8x11264_S_d0_1 : S8x11264.ReducesTo [0, 1] S_
  h_S_ : 0 < S_.numel

variable [Facts]

def fn {F : FTy → Type} [FloatOps F] (main_arg0 : IVec S8x11264 32) (main_arg1 : FVec F S100000x128 .f32) (main_arg2 : FVec F S100000x128 .f32) : IVec S_ 1 :=
  let main_c : IVec S_ 32 := constantI S_ 32 0#32
  let main_v0 : IVec S8x11264 32 := broadcastInDim S8x11264 ![] bcast_S_S8x11264 main_c
  let main_v1 : IVec S8x11264 1 := cmpi .sge main_arg0 main_v0
  let main_c_0 : IVec S_ 32 := constantI S_ 32 1000#32
  let main_v2 : IVec S8x11264 32 := broadcastInDim S8x11264 ![] bcast_S_S8x11264 main_c_0
  let main_v3 : IVec S8x11264 1 := cmpi .slt main_arg0 main_v2
  let main_v4 : IVec S8x11264 1 := andi main_v1 main_v3
  let main_c_1 : IVec S_ 1 := constantI S_ 1 1#1
  let main_v5 : IVec S_ 1 := (fun x v => Host.reduce IntOp.andi x v reducesTo_S8x11264_S_d0_1 h_S_) main_v4 main_c_1
  main_v5
-- ==== Gather.lean ====
abbrev S8x11264 : Shape := ⟨2, ![8, 11264]⟩
abbrev S100000x128 : Shape := ⟨2, ![100000, 128]⟩
abbrev S11264x128 : Shape := ⟨2, ![11264, 128]⟩
abbrev S8x512 : Shape := ⟨2, ![8, 512]⟩
abbrev S1000x128 : Shape := ⟨2, ![1000, 128]⟩
abbrev S512x128 : Shape := ⟨2, ![512, 128]⟩
abbrev S512x8 : Shape := ⟨2, ![512, 8]⟩
abbrev S512x1000 : Shape := ⟨2, ![512, 1000]⟩
abbrev S512x1 : Shape := ⟨2, ![512, 1]⟩
abbrev S512 : Shape := ⟨1, ![512]⟩

abbrev nBuf : Space → Nat
  | .hbm => 7
  | .vmem => 12
  | .smem => 0
  | _ => 0

abbrev bufTy : (tb : Table) → Fin (tcTables nBuf tb) → BufTy
  | .hbm, ⟨0, _⟩ => ⟨S8x11264, .i32⟩
  | .hbm, ⟨1, _⟩ => ⟨S100000x128, .f32⟩
  | .hbm, ⟨2, _⟩ => ⟨S100000x128, .f32⟩
  | .hbm, ⟨3, _⟩ => ⟨S11264x128, .bf16⟩
  | .hbm, ⟨4, _⟩ => ⟨S11264x128, .f32⟩
  | .hbm, ⟨5, _⟩ => ⟨S11264x128, .bf16⟩
  | .hbm, ⟨6, _⟩ => ⟨S11264x128, .f32⟩
  | .local _ .vmem, ⟨0, _⟩ => ⟨S8x512, .i32⟩
  | .local _ .vmem, ⟨1, _⟩ => ⟨S8x512, .i32⟩
  | .local _ .vmem, ⟨2, _⟩ => ⟨S1000x128, .f32⟩
  | .local _ .vmem, ⟨3, _⟩ => ⟨S1000x128, .f32⟩
  | .local _ .vmem, ⟨4, _⟩ => ⟨S512x128, .bf16⟩
  | .local _ .vmem, ⟨5, _⟩ => ⟨S512x128, .bf16⟩
  | .local _ .vmem, ⟨6, _⟩ => ⟨S512x128, .f32⟩
  | .local _ .vmem, ⟨7, _⟩ => ⟨S512x128, .f32⟩
  | .local _ .vmem, ⟨8, _⟩ => ⟨S512x128, .bf16⟩
  | .local _ .vmem, ⟨9, _⟩ => ⟨S512x128, .bf16⟩
  | .local _ .vmem, ⟨10, _⟩ => ⟨S512x128, .f32⟩
  | .local _ .vmem, ⟨11, _⟩ => ⟨S512x128, .f32⟩
  | _, _ => ⟨S8x11264, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GatherReferenceIdeal.lean ====
abbrev S8x11264 : Shape := ⟨2, ![8, 11264]⟩
abbrev S100000x128 : Shape := ⟨2, ![100000, 128]⟩
abbrev S1x11264 : Shape := ⟨2, ![1, 11264]⟩
abbrev S11264 : Shape := ⟨1, ![11264]⟩
abbrev S_ : Shape := ⟨0, ![]⟩
abbrev S11264x1 : Shape := ⟨2, ![11264, 1]⟩
abbrev S11264x128 : Shape := ⟨2, ![11264, 128]⟩

abbrev nBuf : Space → Nat
  | .hbm => 113
  | .vmem => 0
  | .smem => 0
  | _ => 0

abbrev bufTy : (tb : Table) → Fin (tcTables nBuf tb) → BufTy
  | .hbm, ⟨0, _⟩ => ⟨S8x11264, .i32⟩
  | .hbm, ⟨1, _⟩ => ⟨S100000x128, .f32⟩
  | .hbm, ⟨2, _⟩ => ⟨S100000x128, .f32⟩
  | .hbm, ⟨3, _⟩ => ⟨S1x11264, .i32⟩
  | .hbm, ⟨4, _⟩ => ⟨S11264, .i32⟩
  | .hbm, ⟨5, _⟩ => ⟨S_, .i32⟩
  | .hbm, ⟨6, _⟩ => ⟨S11264, .i32⟩
  | .hbm, ⟨7, _⟩ => ⟨S11264, .i1⟩
  | .hbm, ⟨8, _⟩ => ⟨S_, .i32⟩
  | .hbm, ⟨9, _⟩ => ⟨S11264, .i32⟩
  | .hbm, ⟨10, _⟩ => ⟨S11264, .i32⟩
  | .hbm, ⟨11, _⟩ => ⟨S11264, .i32⟩
  | .hbm, ⟨12, _⟩ => ⟨S11264x1, .i32⟩
  | .hbm, ⟨13, _⟩ => ⟨S11264x128, .f32⟩
  | .hbm, ⟨14, _⟩ => ⟨S11264x128, .f32⟩
  | .hbm, ⟨15, _⟩ => ⟨S_, .f32⟩
  | .hbm, ⟨16, _⟩ => ⟨S11264, .f32⟩
  | .hbm, ⟨17, _⟩ => ⟨S11264x1, .f32⟩
  | .hbm, ⟨18, _⟩ => ⟨S11264x1, .f32⟩
  | .hbm, ⟨19, _⟩ => ⟨S_, .f32⟩
  | .hbm, ⟨20, _⟩ => ⟨S11264x1, .f32⟩
  | .hbm, ⟨21, _⟩ => ⟨S11264x1, .f32⟩
  | .hbm, ⟨22, _⟩ => ⟨S11264x128, .f32⟩
  | .hbm, ⟨23, _⟩ => ⟨S11264x128, .f32⟩
  | .hbm, ⟨24, _⟩ => ⟨S1x11264, .i32⟩
  | .hbm, ⟨25, _⟩ => ⟨S11264, .i32⟩
  | .hbm, ⟨26, _⟩ => ⟨S_, .i32⟩
  | .hbm, ⟨27, _⟩ => ⟨S11264, .i32⟩
  | .hbm, ⟨28, _⟩ => ⟨S11264, .i1⟩
  | .hbm, ⟨29, _⟩ => ⟨S_, .i32⟩
  | .hbm, ⟨30, _⟩ => ⟨S11264, .i32⟩
  | .hbm, ⟨31, _⟩ => ⟨S11264, .i32⟩
  | .hbm, ⟨32, _⟩ => ⟨S11264, .i32⟩
  | .hbm, ⟨33, _⟩ => ⟨S11264x1, .i32⟩
  | .hbm, ⟨34, _⟩ => ⟨S11264x128, .f32⟩
  | .hbm, ⟨35, _⟩ => ⟨S11264x128, .f32⟩
  | .hbm, ⟨36, _⟩ => ⟨S_, .f32⟩
  | .hbm, ⟨37, _⟩ => ⟨S11264, .f32⟩
  | .hbm, ⟨38, _⟩ => ⟨S11264x1, .f32⟩
  | .hbm, ⟨39, _⟩ => ⟨S11264x1, .f32⟩
  | .hbm, ⟨40, _⟩ => ⟨S_, .f32⟩
  | .hbm, ⟨41, _⟩ => ⟨S11264x1, .f32⟩
  | .hbm, ⟨42, _⟩ => ⟨S11264x1, .f32⟩
  | .hbm, ⟨43, _⟩ => ⟨S11264x128, .f32⟩
  | .hbm, ⟨44, _⟩ => ⟨S11264x128, .f32⟩
  | .hbm, ⟨45, _⟩ => ⟨S11264x128, .f32⟩
  | .hbm, ⟨46, _⟩ => ⟨S11264x128, .bf16⟩
  | .hbm, ⟨47, _⟩ => ⟨S1x11264, .i32⟩
  | .hbm, ⟨48, _⟩ => ⟨S11264, .i32⟩
  | .hbm, ⟨49, _⟩ => ⟨S_, .i32⟩
  | .hbm, ⟨50, _⟩ => ⟨S11264, .i32⟩
  | .hbm, ⟨51, _⟩ => ⟨S11264, .i1⟩
  | .hbm, ⟨52, _⟩ => ⟨S_, .i32⟩
  | .hbm, ⟨53, _⟩ => ⟨S11264, .i32⟩
  | .hbm, ⟨54, _⟩ => ⟨S11264, .i32⟩
  | .hbm, ⟨55, _⟩ => ⟨S11264, .i32⟩
  | .hbm, ⟨56, _⟩ => ⟨S11264x1, .i32⟩
  | .hbm, ⟨57, _⟩ => ⟨S11264x128, .f32⟩
  | .hbm, ⟨58, _⟩ => ⟨S1x11264, .i32⟩
  | .hbm, ⟨59, _⟩ => ⟨S11264, .i32⟩
  | .hbm, ⟨60, _⟩ => ⟨S_, .i32⟩
  | .hbm, ⟨61, _⟩ => ⟨S11264, .i32⟩
  | .hbm, ⟨62, _⟩ => ⟨S11264, .i1⟩
  | .hbm, ⟨63, _⟩ => ⟨S_, .i32⟩
  | .hbm, ⟨64, _⟩ => ⟨S11264, .i32⟩
  | .hbm, ⟨65, _⟩ => ⟨S11264, .i32⟩
  | .hbm, ⟨66, _⟩ => ⟨S11264, .i32⟩
  | .hbm, ⟨67, _⟩ => ⟨S11264x1, .i32⟩
  | .hbm, ⟨68, _⟩ => ⟨S11264x128, .f32⟩
  | .hbm, ⟨69, _⟩ => ⟨S11264x128, .f32⟩
  | .hbm, ⟨70, _⟩ => ⟨S_, .f32⟩
  | .hbm, ⟨71, _⟩ => ⟨S11264, .f32⟩
  | .hbm, ⟨72, _⟩ => ⟨S11264x1, .f32⟩
  | .hbm, ⟨73, _⟩ => ⟨S11264x1, .f32⟩
  | .hbm, ⟨74, _⟩ => ⟨S_, .f32⟩
  | .hbm, ⟨75, _⟩ => ⟨S11264x1, .f32⟩
  | .hbm, ⟨76, _⟩ => ⟨S11264x1, .f32⟩
  | .hbm, ⟨77, _⟩ => ⟨S11264x128, .f32⟩
  | .hbm, ⟨78, _⟩ => ⟨S11264x128, .f32⟩
  | .hbm, ⟨79, _⟩ => ⟨S1x11264, .i32⟩
  | .hbm, ⟨80, _⟩ => ⟨S11264, .i32⟩
  | .hbm, ⟨81, _⟩ => ⟨S_, .i32⟩
  | .hbm, ⟨82, _⟩ => ⟨S11264, .i32⟩
  | .hbm, ⟨83, _⟩ => ⟨S11264, .i1⟩
  | .hbm, ⟨84, _⟩ => ⟨S_, .i32⟩
  | .hbm, ⟨85, _⟩ => ⟨S11264, .i32⟩
  | .hbm, ⟨86, _⟩ => ⟨S11264, .i32⟩
  | .hbm, ⟨87, _⟩ => ⟨S11264, .i32⟩
  | .hbm, ⟨88, _⟩ => ⟨S11264x1, .i32⟩
  | .hbm, ⟨89, _⟩ => ⟨S11264x128, .f32⟩
  | .hbm, ⟨90, _⟩ => ⟨S11264x128, .f32⟩
  | .hbm, ⟨91, _⟩ => ⟨S_, .f32⟩
  | .hbm, ⟨92, _⟩ => ⟨S11264, .f32⟩
  | .hbm, ⟨93, _⟩ => ⟨S11264x1, .f32⟩
  | .hbm, ⟨94, _⟩ => ⟨S11264x1, .f32⟩
  | .hbm, ⟨95, _⟩ => ⟨S_, .f32⟩
  | .hbm, ⟨96, _⟩ => ⟨S11264x1, .f32⟩
  | .hbm, ⟨97, _⟩ => ⟨S11264x1, .f32⟩
  | .hbm, ⟨98, _⟩ => ⟨S11264x128, .f32⟩
  | .hbm, ⟨99, _⟩ => ⟨S11264x128, .f32⟩
  | .hbm, ⟨100, _⟩ => ⟨S11264x128, .f32⟩
  | .hbm, ⟨101, _⟩ => ⟨S11264x128, .bf16⟩
  | .hbm, ⟨102, _⟩ => ⟨S1x11264, .i32⟩
  | .hbm, ⟨103, _⟩ => ⟨S11264, .i32⟩
  | .hbm, ⟨104, _⟩ => ⟨S_, .i32⟩
  | .hbm, ⟨105, _⟩ => ⟨S11264, .i32⟩
  | .hbm, ⟨106, _⟩ => ⟨S11264, .i1⟩
  | .hbm, ⟨107, _⟩ => ⟨S_, .i32⟩
  | .hbm, ⟨108, _⟩ => ⟨S11264, .i32⟩
  | .hbm, ⟨109, _⟩ => ⟨S11264, .i32⟩
  | .hbm, ⟨110, _⟩ => ⟨S11264, .i32⟩
  | .hbm, ⟨111, _⟩ => ⟨S11264x1, .i32⟩
  | .hbm, ⟨112, _⟩ => ⟨S11264x128, .f32⟩
  | _, _ => ⟨S8x11264, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call1_v0 : Ref sig .tc := ⟨.hbm, 35, rfl⟩
abbrev main_call1_cst : Ref sig .tc := ⟨.hbm, 36, rfl⟩
abbrev main_call1_v1 : Ref sig .tc := ⟨.hbm, 37, rfl⟩
abbrev main_call1_v2 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_4 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_6 : Ref sig .tc := ⟨.hbm, 60, rfl⟩
abbrev main_v41 : Ref sig .tc := ⟨.hbm, 61, rfl⟩
abbrev main_v42 : Ref sig .tc := ⟨.hbm, 62, rfl⟩
abbrev main_c_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call2_v0 : Ref sig .tc := ⟨.hbm, 69, rfl⟩
abbrev main_call2_cst : Ref sig .tc := ⟨.hbm, 70, rfl⟩
abbrev main_call2_v1 : Ref sig .tc := ⟨.hbm, 71, rfl⟩
abbrev main_call2_v2 : Ref sig .tc := ⟨.hbm, 72, rfl⟩
abbrev main_v48 : Ref sig .tc := ⟨.hbm, 73, rfl⟩
abbrev main_cst_8 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_9 : Ref sig .tc := ⟨.hbm, 81, rfl⟩
abbrev main_v55 : Ref sig .tc := ⟨.hbm, 82, rfl⟩
abbrev main_v56 : Ref sig .tc := ⟨.hbm, 83, rfl⟩
abbrev main_c_10 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_call3_v0 : Ref sig .tc := ⟨.hbm, 90, rfl⟩
abbrev main_call3_cst : Ref sig .tc := ⟨.hbm, 91, rfl⟩
abbrev main_call3_v1 : Ref sig .tc := ⟨.hbm, 92, rfl⟩
abbrev main_call3_v2 : Ref sig .tc := ⟨.hbm, 93, rfl⟩
abbrev main_v62 : Ref sig .tc := ⟨.hbm, 94, rfl⟩
abbrev main_cst_11 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_12 : Ref sig .tc := ⟨.hbm, 104, rfl⟩
abbrev main_v71 : Ref sig .tc := ⟨.hbm, 105, rfl⟩
abbrev main_v72 : Ref sig .tc := ⟨.hbm, 106, rfl⟩
abbrev main_c_13 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩

abbrev nD : Nat := 1
abbrev τ : Topo := Topo.v7x

variable {F : FTy → Type} [FloatOps F]
-- ==== Proj.lean ====
abbrev S2x1408 : Shape := ⟨2, ![2, 1408]⟩
abbrev S11264x128 : Shape := ⟨2, ![11264, 128]⟩
abbrev S1000x16384 : Shape := ⟨2, ![1000, 16384]⟩
abbrev S1000x128x128 : Shape := ⟨3, ![1000, 128, 128]⟩
abbrev S22x1x512 : Shape := ⟨3, ![22, 1, 512]⟩
abbrev S512x128 : Shape := ⟨2, ![512, 128]⟩
abbrev S1x128x128 : Shape := ⟨3, ![1, 128, 128]⟩
abbrev S1x1 : Shape := ⟨2, ![1, 1]⟩
abbrev S1x1x512 : Shape := ⟨3, ![1, 1, 512]⟩
abbrev S8x128 : Shape := ⟨2, ![8, 128]⟩
abbrev S128x128 : Shape := ⟨2, ![128, 128]⟩
abbrev S512 : Shape := ⟨1, ![512]⟩
abbrev S512x1 : Shape := ⟨2, ![512, 1]⟩
abbrev S1x512 : Shape := ⟨2, ![1, 512]⟩

abbrev nBuf : Space → Nat
  | .hbm => 9
  | .vmem => 268
  | .smem => 1
  | _ => 0

abbrev vmemTy0_0 (i : Nat) : BufTy := match i % 128 with
  | 0 => ⟨S512x128, .bf16⟩
  | 1 => ⟨S512x128, .bf16⟩
  | 2 => ⟨S512x128, .f32⟩
  | 3 => ⟨S512x128, .f32⟩
  | 4 => ⟨S512x128, .bf16⟩
  | 5 => ⟨S512x128, .bf16⟩
  | 6 => ⟨S512x128, .f32⟩
  | 7 => ⟨S512x128, .f32⟩
  | 8 => ⟨S1x128x128, .bf16⟩
  | 9 => ⟨S1x128x128, .bf16⟩
  | 10 => ⟨S1x128x128, .bf16⟩
  | 11 => ⟨S1x128x128, .bf16⟩
  | 12 => ⟨S1x128x128, .bf16⟩
  | 13 => ⟨S1x128x128, .bf16⟩
  | 14 => ⟨S1x128x128, .bf16⟩
  | 15 => ⟨S1x128x128, .bf16⟩
  | 16 => ⟨S1x128x128, .bf16⟩
  | 17 => ⟨S1x128x128, .bf16⟩
  | 18 => ⟨S1x128x128, .bf16⟩
  | 19 => ⟨S1x128x128, .bf16⟩
  | 20 => ⟨S1x128x128, .bf16⟩
  | 21 => ⟨S1x128x128, .bf16⟩
  | 22 => ⟨S1x128x128, .bf16⟩
  | 23 => ⟨S1x128x128, .bf16⟩
  | 24 => ⟨S1x128x128, .bf16⟩
  | 25 => ⟨S1x128x128, .bf16⟩
  | 26 => ⟨S1x128x128, .bf16⟩
  | 27 => ⟨S1x128x128, .bf16⟩
  | 28 => ⟨S1x128x128, .bf16⟩
  | 29 => ⟨S1x128x128, .bf16⟩
  | 30 => ⟨S1x128x128, .bf16⟩
  | 31 => ⟨S1x128x128, .bf16⟩
  | 32 => ⟨S1x128x128, .bf16⟩
  | 33 => ⟨S1x128x128, .bf16⟩
  | 34 => ⟨S1x128x128, .bf16⟩
  | 35 => ⟨S1x128x128, .bf16⟩
  | 36 => ⟨S1x128x128, .bf16⟩
  | 37 => ⟨S1x128x128, .bf16⟩
  | 38 => ⟨S1x128x128, .bf16⟩
  | 39 => ⟨S1x128x128, .bf16⟩
  | 40 => ⟨S1x128x128, .bf16⟩
  | 41 => ⟨S1x128x128, .bf16⟩
  | 42 => ⟨S1x128x128, .bf16⟩
  | 43 => ⟨S1x128x128, .bf16⟩
  | 44 => ⟨S1x128x128, .bf16⟩
  | 45 => ⟨S1x128x128, .bf16⟩
  | 46 => ⟨S1x128x128, .bf16⟩
  | 47 => ⟨S1x128x128, .bf16⟩
  | 48 => ⟨S1x128x128, .bf16⟩
  | 49 => ⟨S1x128x128, .bf16⟩
  | 50 => ⟨S1x128x128, .bf16⟩
  | 51 => ⟨S1x128x128, .bf16⟩
  | 52 => ⟨S1x128x128, .bf16⟩
  | 53 => ⟨S1x128x128, .bf16⟩
  | 54 => ⟨S1x128x128, .bf16⟩
  | 55 => ⟨S1x128x128, .bf16⟩
  | 56 => ⟨S1x128x128, .bf16⟩
  | 57 => ⟨S1x128x128, .bf16⟩
  | 58 => ⟨S1x128x128, .bf16⟩
  | 59 => ⟨S1x128x128, .bf16⟩
  | 60 => ⟨S1x128x128, .bf16⟩
  | 61 => ⟨S1x128x128, .bf16⟩
  | 62 => ⟨S1x128x128, .bf16⟩
  | 63 => ⟨S1x128x128, .bf16⟩
  | 64 => ⟨S1x128x128, .bf16⟩
  | 65 => ⟨S1x128x128, .bf16⟩
  | 66 => ⟨S1x128x128, .bf16⟩
  | 67 => ⟨S1x128x128, .bf16⟩
  | 68 => ⟨S1x128x128, .bf16⟩
  | 69 => ⟨S1x128x128, .bf16⟩
  | 70 => ⟨S1x128x128, .bf16⟩
  | 71 => ⟨S1x128x128, .bf16⟩
  | 72 => ⟨S1x128x128, .bf16⟩
  | 73 => ⟨S1x128x128, .bf16⟩
  | 74 => ⟨S1x128x128, .bf16⟩
  | 75 => ⟨S1x128x128, .bf16⟩
  | 76 => ⟨S1x128x128, .bf16⟩
  | 77 => ⟨S1x128x128, .bf16⟩
  | 78 => ⟨S1x128x128, .bf16⟩
  | 79 => ⟨S1x128x128, .bf16⟩
  | 80 => ⟨S1x128x128, .bf16⟩
  | 81 => ⟨S1x128x128, .bf16⟩
  | 82 => ⟨S1x128x128, .bf16⟩
  | 83 => ⟨S1x128x128, .bf16⟩
  | 84 => ⟨S1x128x128, .bf16⟩
  | 85 => ⟨S1x128x128, .bf16⟩
  | 86 => ⟨S1x128x128, .bf16⟩
  | 87 => ⟨S1x128x128, .bf16⟩
  | 88 => ⟨S1x128x128, .bf16⟩
  | 89 => ⟨S1x128x128, .bf16⟩
  | 90 => ⟨S1x128x128, .bf16⟩
  | 91 => ⟨S1x128x128, .bf16⟩
  | 92 => ⟨S1x128x128, .bf16⟩
  | 93 => ⟨S1x128x128, .bf16⟩
  | 94 => ⟨S1x128x128, .bf16⟩
  | 95 => ⟨S1x128x128, .bf16⟩
  | 96 => ⟨S1x128x128, .bf16⟩
  | 97 => ⟨S1x128x128, .bf16⟩
  | 98 => ⟨S1x128x128, .bf16⟩
  | 99 => ⟨S1x128x128, .bf16⟩
  | 100 => ⟨S1x128x128, .bf16⟩
  | 101 => ⟨S1x128x128, .bf16⟩
  | 102 => ⟨S1x128x128, .bf16⟩
  | 103 => ⟨S1x128x128, .bf16⟩
  | 104 => ⟨S1x128x128, .bf16⟩
  | 105 => ⟨S1x128x128, .bf16⟩
  | 106 => ⟨S1x128x128, .bf16⟩
  | 107 => ⟨S1x128x128, .bf16⟩
  | 108 => ⟨S1x128x128, .bf16⟩
  | 109 => ⟨S1x128x128, .bf16⟩
  | 110 => ⟨S1x128x128, .bf16⟩
  | 111 => ⟨S1x128x128, .bf16⟩
  | 112 => ⟨S1x128x128, .bf16⟩
  | 113 => ⟨S1x128x128, .bf16⟩
  | 114 => ⟨S1x128x128, .bf16⟩
  | 115 => ⟨S1x128x128, .bf16⟩
  | 116 => ⟨S1x128x128, .bf16⟩
  | 117 => ⟨S1x128x128, .bf16⟩
  | 118 => ⟨S1x128x128, .bf16⟩
  | 119 => ⟨S1x128x128, .bf16⟩
  | 120 => ⟨S1x128x128, .bf16⟩
  | 121 => ⟨S1x128x128, .bf16⟩
  | 122 => ⟨S1x128x128, .bf16⟩
  | 123 => ⟨S1x128x128, .bf16⟩
  | 124 => ⟨S1x128x128, .bf16⟩
  | 125 => ⟨S1x128x128, .bf16⟩
  | 126 => ⟨S1x128x128, .bf16⟩
  | 127 => ⟨S1x128x128, .bf16⟩
  | _ => ⟨S11264x128, .bf16⟩

abbrev vmemTy0_1 (i : Nat) : BufTy := match i % 128 with
  | 0 => ⟨S1x128x128, .bf16⟩
  | 1 => ⟨S1x128x128, .bf16⟩
  | 2 => ⟨S1x128x128, .bf16⟩
  | 3 => ⟨S1x128x128, .bf16⟩
  | 4 => ⟨S1x128x128, .bf16⟩
  | 5 => ⟨S1x128x128, .bf16⟩
  | 6 => ⟨S1x128x128, .bf16⟩
  | 7 => ⟨S1x128x128, .bf16⟩
  | 8 => ⟨S1x128x128, .bf16⟩
  | 9 => ⟨S1x128x128, .bf16⟩
  | 10 => ⟨S1x128x128, .bf16⟩
  | 11 => ⟨S1x128x128, .bf16⟩
  | 12 => ⟨S1x128x128, .bf16⟩
  | 13 => ⟨S1x128x128, .bf16⟩
  | 14 => ⟨S1x128x128, .bf16⟩
  | 15 => ⟨S1x128x128, .bf16⟩
  | 16 => ⟨S1x128x128, .bf16⟩
  | 17 => ⟨S1x128x128, .bf16⟩
  | 18 => ⟨S1x128x128, .bf16⟩
  | 19 => ⟨S1x128x128, .bf16⟩
  | 20 => ⟨S1x128x128, .bf16⟩
  | 21 => ⟨S1x128x128, .bf16⟩
  | 22 => ⟨S1x128x128, .bf16⟩
  | 23 => ⟨S1x128x128, .bf16⟩
  | 24 => ⟨S1x128x128, .bf16⟩
  | 25 => ⟨S1x128x128, .bf16⟩
  | 26 => ⟨S1x128x128, .bf16⟩
  | 27 => ⟨S1x128x128, .bf16⟩
  | 28 => ⟨S1x128x128, .bf16⟩
  | 29 => ⟨S1x128x128, .bf16⟩
  | 30 => ⟨S1x128x128, .bf16⟩
  | 31 => ⟨S1x128x128, .bf16⟩
  | 32 => ⟨S1x128x128, .bf16⟩
  | 33 => ⟨S1x128x128, .bf16⟩
  | 34 => ⟨S1x128x128, .bf16⟩
  | 35 => ⟨S1x128x128, .bf16⟩
  | 36 => ⟨S1x128x128, .bf16⟩
  | 37 => ⟨S1x128x128, .bf16⟩
  | 38 => ⟨S1x128x128, .bf16⟩
  | 39 => ⟨S1x128x128, .bf16⟩
  | 40 => ⟨S1x128x128, .bf16⟩
  | 41 => ⟨S1x128x128, .bf16⟩
  | 42 => ⟨S1x128x128, .bf16⟩
  | 43 => ⟨S1x128x128, .bf16⟩
  | 44 => ⟨S1x128x128, .bf16⟩
  | 45 => ⟨S1x128x128, .bf16⟩
  | 46 => ⟨S1x128x128, .bf16⟩
  | 47 => ⟨S1x128x128, .bf16⟩
  | 48 => ⟨S1x128x128, .bf16⟩
  | 49 => ⟨S1x128x128, .bf16⟩
  | 50 => ⟨S1x128x128, .bf16⟩
  | 51 => ⟨S1x128x128, .bf16⟩
  | 52 => ⟨S1x128x128, .bf16⟩
  | 53 => ⟨S1x128x128, .bf16⟩
  | 54 => ⟨S1x128x128, .bf16⟩
  | 55 => ⟨S1x128x128, .bf16⟩
  | 56 => ⟨S1x128x128, .bf16⟩
  | 57 => ⟨S1x128x128, .bf16⟩
  | 58 => ⟨S1x128x128, .bf16⟩
  | 59 => ⟨S1x128x128, .bf16⟩
  | 60 => ⟨S1x128x128, .bf16⟩
  | 61 => ⟨S1x128x128, .bf16⟩
  | 62 => ⟨S1x128x128, .bf16⟩
  | 63 => ⟨S1x128x128, .bf16⟩
  | 64 => ⟨S1x128x128, .bf16⟩
  | 65 => ⟨S1x128x128, .bf16⟩
  | 66 => ⟨S1x128x128, .bf16⟩
  | 67 => ⟨S1x128x128, .bf16⟩
  | 68 => ⟨S1x128x128, .bf16⟩
  | 69 => ⟨S1x128x128, .bf16⟩
  | 70 => ⟨S1x128x128, .bf16⟩
  | 71 => ⟨S1x128x128, .bf16⟩
  | 72 => ⟨S1x128x128, .bf16⟩
  | 73 => ⟨S1x128x128, .bf16⟩
  | 74 => ⟨S1x128x128, .bf16⟩
  | 75 => ⟨S1x128x128, .bf16⟩
  | 76 => ⟨S1x128x128, .bf16⟩
  | 77 => ⟨S1x128x128, .bf16⟩
  | 78 => ⟨S1x128x128, .bf16⟩
  | 79 => ⟨S1x128x128, .bf16⟩
  | 80 => ⟨S1x128x128, .bf16⟩
  | 81 => ⟨S1x128x128, .bf16⟩
  | 82 => ⟨S1x128x128, .bf16⟩
  | 83 => ⟨S1x128x128, .bf16⟩
  | 84 => ⟨S1x128x128, .bf16⟩
  | 85 => ⟨S1x128x128, .bf16⟩
  | 86 => ⟨S1x128x128, .bf16⟩
  | 87 => ⟨S1x128x128, .bf16⟩
  | 88 => ⟨S1x128x128, .bf16⟩
  | 89 => ⟨S1x128x128, .bf16⟩
  | 90 => ⟨S1x128x128, .bf16⟩
  | 91 => ⟨S1x128x128, .bf16⟩
  | 92 => ⟨S1x128x128, .bf16⟩
  | 93 => ⟨S1x128x128, .bf16⟩
  | 94 => ⟨S1x128x128, .bf16⟩
  | 95 => ⟨S1x128x128, .bf16⟩
  | 96 => ⟨S1x128x128, .bf16⟩
  | 97 => ⟨S1x128x128, .bf16⟩
  | 98 => ⟨S1x128x128, .bf16⟩
  | 99 => ⟨S1x128x128, .bf16⟩
  | 100 => ⟨S1x128x128, .bf16⟩
  | 101 => ⟨S1x128x128, .bf16⟩
  | 102 => ⟨S1x128x128, .bf16⟩
  | 103 => ⟨S1x128x128, .bf16⟩
  | 104 => ⟨S1x128x128, .bf16⟩
  | 105 => ⟨S1x128x128, .bf16⟩
  | 106 => ⟨S1x128x128, .bf16⟩
  | 107 => ⟨S1x128x128, .bf16⟩
  | 108 => ⟨S1x128x128, .bf16⟩
  | 109 => ⟨S1x128x128, .bf16⟩
  | 110 => ⟨S1x128x128, .bf16⟩
  | 111 => ⟨S1x128x128, .bf16⟩
  | 112 => ⟨S1x128x128, .bf16⟩
  | 113 => ⟨S1x128x128, .bf16⟩
  | 114 => ⟨S1x128x128, .bf16⟩
  | 115 => ⟨S1x128x128, .bf16⟩
  | 116 => ⟨S1x128x128, .bf16⟩
  | 117 => ⟨S1x128x128, .bf16⟩
  | 118 => ⟨S1x128x128, .bf16⟩
  | 119 => ⟨S1x128x128, .bf16⟩
  | 120 => ⟨S1x128x128, .bf16⟩
  | 121 => ⟨S1x128x128, .bf16⟩
  | 122 => ⟨S1x128x128, .bf16⟩
  | 123 => ⟨S1x128x128, .bf16⟩
  | 124 => ⟨S1x128x128, .bf16⟩
  | 125 => ⟨S1x128x128, .bf16⟩
  | 126 => ⟨S1x128x128, .bf16⟩
  | 127 => ⟨S1x128x128, .bf16⟩
  | _ => ⟨S11264x128, .bf16⟩

abbrev vmemTy0_2 (i : Nat) : BufTy := match i % 128 with
  | 0 => ⟨S1x128x128, .bf16⟩
  | 1 => ⟨S1x128x128, .bf16⟩
  | 2 => ⟨S1x128x128, .bf16⟩
  | 3 => ⟨S1x128x128, .bf16⟩
  | 4 => ⟨S1x128x128, .bf16⟩
  | 5 => ⟨S1x128x128, .bf16⟩
  | 6 => ⟨S1x128x128, .bf16⟩
  | 7 => ⟨S1x128x128, .bf16⟩
  | 8 => ⟨S1x1x512, .f32⟩
  | 9 => ⟨S1x1x512, .f32⟩
  | 10 => ⟨S1x1x512, .f32⟩
  | 11 => ⟨S1x1x512, .f32⟩
  | _ => ⟨S11264x128, .bf16⟩

abbrev vmemTy (i : Nat) : BufTy := match i / 128 with
  | 0 => vmemTy0_0 i
  | 1 => vmemTy0_1 i
  | 2 => vmemTy0_2 i
  | _ => ⟨S11264x128, .bf16⟩

abbrev bufTy : (tb : Table) → Fin (tcTables nBuf tb) → BufTy
  | .hbm, ⟨0, _⟩ => ⟨S11264x128, .bf16⟩
  | .hbm, ⟨1, _⟩ => ⟨S11264x128, .f32⟩
  | .hbm, ⟨2, _⟩ => ⟨S11264x128, .bf16⟩
  | .hbm, ⟨3, _⟩ => ⟨S11264x128, .f32⟩
  | .hbm, ⟨4, _⟩ => ⟨S1000x16384, .f32⟩
  | .hbm, ⟨5, _⟩ => ⟨S1000x128x128, .f32⟩
  | .hbm, ⟨6, _⟩ => ⟨S1000x128x128, .bf16⟩
  | .hbm, ⟨7, _⟩ => ⟨S22x1x512, .f32⟩
  | .hbm, ⟨8, _⟩ => ⟨S22x1x512, .f32⟩
  | .local _ .vmem, ⟨i, _⟩ => vmemTy i
  | .local _ .smem, ⟨0, _⟩ => ⟨S2x1408, .i32⟩
  | _, _ => ⟨S11264x128, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | _ => false

abbrev dmaSemScopedAt (i : Nat) : Bool := match i / 128 with
  | 0 => dmaSemScopedAt0_0 i
  | 1 => dmaSemScopedAt0_1 i
  | 2 => dmaSemScopedAt0_2 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | _ => false

abbrev vmemScopedAt (i : Nat) : Bool := match i / 128 with
  | 0 => vmemScopedAt0_0 i
  | 1 => vmemScopedAt0_1 i
  | 2 => vmemScopedAt0_2 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 268 → Bool
  | ⟨i, _⟩ => dmaSemScopedAt i

abbrev sig : RefSig :=
  ofTc nBuf bufTy 0 268 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_stg35_0 : Ref sig .tc := ⟨.vmem, 70, rfl⟩
abbrev cc0_stg35_1 : Ref sig .tc := ⟨.vmem, 71, rfl⟩
abbrev cc0_stg36_0 : Ref sig .tc := ⟨.vmem, 72, rfl⟩
abbrev cc0_stg36_1 : Ref sig .tc := ⟨.vmem, 73, rfl⟩
abbrev cc0_stg37_0 : Ref sig .tc := ⟨.vmem, 74, rfl⟩
abbrev cc0_stg37_1 : Ref sig .tc := ⟨.vmem, 75, rfl⟩
abbrev cc0_stg38_0 : Ref sig .tc := ⟨.vmem, 76, rfl⟩
abbrev cc0_stg38_1 : Ref sig .tc := ⟨.vmem, 77, rfl⟩
abbrev cc0_stg39_0 : Ref sig .tc := ⟨.vmem, 78, rfl⟩
abbrev cc0_stg39_1 : Ref sig .tc := ⟨.vmem, 79, rfl⟩
abbrev cc0_stg40_0 : Ref sig .tc := ⟨.vmem, 80, rfl⟩
abbrev cc0_stg40_1 : Ref sig .tc := ⟨.vmem, 81, rfl⟩
abbrev cc0_stg41_0 : Ref sig .tc := ⟨.vmem, 82, rfl⟩
abbrev cc0_stg41_1 : Ref sig .tc := ⟨.vmem, 83, rfl⟩
abbrev cc0_stg42_0 : Ref sig .tc := ⟨.vmem, 84, rfl⟩
abbrev cc0_stg42_1 : Ref sig .tc := ⟨.vmem, 85, rfl⟩
abbrev cc0_stg43_0 : Ref sig .tc := ⟨.vmem, 86, rfl⟩
abbrev cc0_stg43_1 : Ref sig .tc := ⟨.vmem, 87, rfl⟩
abbrev cc0_stg44_0 : Ref sig .tc := ⟨.vmem, 88, rfl⟩
abbrev cc0_stg44_1 : Ref sig .tc := ⟨.vmem, 89, rfl⟩
abbrev cc0_stg45_0 : Ref sig .tc := ⟨.vmem, 90, rfl⟩
abbrev cc0_stg45_1 : Ref sig .tc := ⟨.vmem, 91, rfl⟩
abbrev cc0_stg46_0 : Ref sig .tc := ⟨.vmem, 92, rfl⟩
abbrev cc0_stg46_1 : Ref sig .tc := ⟨.vmem, 93, rfl⟩
abbrev cc0_stg47_0 : Ref sig .tc := ⟨.vmem, 94, rfl⟩
abbrev cc0_stg47_1 : Ref sig .tc := ⟨.vmem, 95, rfl⟩
abbrev cc0_stg48_0 : Ref sig .tc := ⟨.vmem, 96, rfl⟩
abbrev cc0_stg48_1 : Ref sig .tc := ⟨.vmem, 97, rfl⟩
abbrev cc0_stg49_0 : Ref sig .tc := ⟨.vmem, 98, rfl⟩
abbrev cc0_stg49_1 : Ref sig .tc := ⟨.vmem, 99, rfl⟩
abbrev cc0_stg50_0 : Ref sig .tc := ⟨.vmem, 100, rfl⟩
abbrev cc0_stg50_1 : Ref sig .tc := ⟨.vmem, 101, rfl⟩
abbrev cc0_stg51_0 : Ref sig .tc := ⟨.vmem, 102, rfl⟩
abbrev cc0_stg51_1 : Ref sig .tc := ⟨.vmem, 103, rfl⟩
abbrev cc0_stg52_0 : Ref sig .tc := ⟨.vmem, 104, rfl⟩
abbrev cc0_stg52_1 : Ref sig .tc := ⟨.vmem, 105, rfl⟩
abbrev cc0_stg53_0 : Ref sig .tc := ⟨.vmem, 106, rfl⟩
abbrev cc0_stg53_1 : Ref sig .tc := ⟨.vmem, 107, rfl⟩
abbrev cc0_stg54_0 : Ref sig .tc := ⟨.vmem, 108, rfl⟩
abbrev cc0_stg54_1 : Ref sig .tc := ⟨.vmem, 109, rfl⟩
abbrev cc0_stg55_0 : Ref sig .tc := ⟨.vmem, 110, rfl⟩
abbrev cc0_stg55_1 : Ref sig .tc := ⟨.vmem, 111, rfl⟩
abbrev cc0_stg56_0 : Ref sig .tc := ⟨.vmem, 112, rfl⟩
abbrev cc0_stg56_1 : Ref sig .tc := ⟨.vmem, 113, rfl⟩
abbrev cc0_stg57_0 : Ref sig .tc := ⟨.vmem, 114, rfl⟩
abbrev cc0_stg57_1 : Ref sig .tc := ⟨.vmem, 115, rfl⟩
abbrev cc0_stg58_0 : Ref sig .tc := ⟨.vmem, 116, rfl⟩
abbrev cc0_stg58_1 : Ref sig .tc := ⟨.vmem, 117, rfl⟩
abbrev cc0_stg59_0 : Ref sig .tc := ⟨.vmem, 118, rfl⟩
abbrev cc0_stg59_1 : Ref sig .tc := ⟨.vmem, 119, rfl⟩
abbrev cc0_stg60_0 : Ref sig .tc := ⟨.vmem, 120, rfl⟩
abbrev cc0_stg60_1 : Ref sig .tc := ⟨.vmem, 121, rfl⟩
abbrev cc0_stg61_0 : Ref sig .tc := ⟨.vmem, 122, rfl⟩
abbrev cc0_stg61_1 : Ref sig .tc := ⟨.vmem, 123, rfl⟩
abbrev cc0_stg62_0 : Ref sig .tc := ⟨.vmem, 124, rfl⟩
abbrev cc0_stg62_1 : Ref sig .tc := ⟨.vmem, 125, rfl⟩
abbrev cc0_stg63_0 : Ref sig .tc := ⟨.vmem, 126, rfl⟩
abbrev cc0_stg63_1 : Ref sig .tc := ⟨.vmem, 127, rfl⟩
abbrev cc0_stg64_0 : Ref sig .tc := ⟨.vmem, 128, rfl⟩
abbrev cc0_stg64_1 : Ref sig .tc := ⟨.vmem, 129, rfl⟩
abbrev cc0_stg65_0 : Ref sig .tc := ⟨.vmem, 130, rfl⟩
abbrev cc0_stg65_1 : Ref sig .tc := ⟨.vmem, 131, rfl⟩
abbrev cc0_stg66_0 : Ref sig .tc := ⟨.vmem, 132, rfl⟩
abbrev cc0_stg66_1 : Ref sig .tc := ⟨.vmem, 133, rfl⟩
abbrev cc0_stg67_0 : Ref sig .tc := ⟨.vmem, 134, rfl⟩
abbrev cc0_stg67_1 : Ref sig .tc := ⟨.vmem, 135, rfl⟩
abbrev cc0_stg68_0 : Ref sig .tc := ⟨.vmem, 136, rfl⟩
abbrev cc0_stg68_1 : Ref sig .tc := ⟨.vmem, 137, rfl⟩
abbrev cc0_stg69_0 : Ref sig .tc := ⟨.vmem, 138, rfl⟩
abbrev cc0_stg69_1 : Ref sig .tc := ⟨.vmem, 139, rfl⟩
abbrev cc0_stg70_0 : Ref sig .tc := ⟨.vmem, 140, rfl⟩
abbrev cc0_stg70_1 : Ref sig .tc := ⟨.vmem, 141, rfl⟩
abbrev cc0_stg71_0 : Ref sig .tc := ⟨.vmem, 142, rfl⟩
abbrev cc0_stg71_1 : Ref sig .tc := ⟨.vmem, 143, rfl⟩
abbrev cc0_stg72_0 : Ref sig .tc := ⟨.vmem, 144, rfl⟩
abbrev cc0_stg72_1 : Ref sig .tc := ⟨.vmem, 145, rfl⟩
abbrev cc0_stg73_0 : Ref sig .tc := ⟨.vmem, 146, rfl⟩
abbrev cc0_stg73_1 : Ref sig .tc := ⟨.vmem, 147, rfl⟩
abbrev cc0_stg74_0 : Ref sig .tc := ⟨.vmem, 148, rfl⟩
abbrev cc0_stg74_1 : Ref sig .tc := ⟨.vmem, 149, rfl⟩
abbrev cc0_stg75_0 : Ref sig .tc := ⟨.vmem, 150, rfl⟩
abbrev cc0_stg75_1 : Ref sig .tc := ⟨.vmem, 151, rfl⟩
abbrev cc0_stg76_0 : Ref sig .tc := ⟨.vmem, 152, rfl⟩
abbrev cc0_stg76_1 : Ref sig .tc := ⟨.vmem, 153, rfl⟩
abbrev cc0_stg77_0 : Ref sig .tc := ⟨.vmem, 154, rfl⟩
abbrev cc0_stg77_1 : Ref sig .tc := ⟨.vmem, 155, rfl⟩
abbrev cc0_stg78_0 : Ref sig .tc := ⟨.vmem, 156, rfl⟩
abbrev cc0_stg78_1 : Ref sig .tc := ⟨.vmem, 157, rfl⟩
abbrev cc0_stg79_0 : Ref sig .tc := ⟨.vmem, 158, rfl⟩
abbrev cc0_stg79_1 : Ref sig .tc := ⟨.vmem, 159, rfl⟩
abbrev cc0_stg80_0 : Ref sig .tc := ⟨.vmem, 160, rfl⟩
abbrev cc0_stg80_1 : Ref sig .tc := ⟨.vmem, 161, rfl⟩
abbrev cc0_stg81_0 : Ref sig .tc := ⟨.vmem, 162, rfl⟩
abbrev cc0_stg81_1 : Ref sig .tc := ⟨.vmem, 163, rfl⟩
abbrev cc0_stg82_0 : Ref sig .tc := ⟨.vmem, 164, rfl⟩
abbrev cc0_stg82_1 : Ref sig .tc := ⟨.vmem, 165, rfl⟩
abbrev cc0_stg83_0 : Ref sig .tc := ⟨.vmem, 166, rfl⟩
abbrev cc0_stg83_1 : Ref sig .tc := ⟨.vmem, 167, rfl⟩
abbrev cc0_stg84_0 : Ref sig .tc := ⟨.vmem, 168, rfl⟩
abbrev cc0_stg84_1 : Ref sig .tc := ⟨.vmem, 169, rfl⟩
abbrev cc0_stg85_0 : Ref sig .tc := ⟨.vmem, 170, rfl⟩
abbrev cc0_stg85_1 : Ref sig .tc := ⟨.vmem, 171, rfl⟩
abbrev cc0_stg86_0 : Ref sig .tc := ⟨.vmem, 172, rfl⟩
abbrev cc0_stg86_1 : Ref sig .tc := ⟨.vmem, 173, rfl⟩
abbrev cc0_stg87_0 : Ref sig .tc := ⟨.vmem, 174, rfl⟩
abbrev cc0_stg87_1 : Ref sig .tc := ⟨.vmem, 175, rfl⟩
abbrev cc0_stg88_0 : Ref sig .tc := ⟨.vmem, 176, rfl⟩
abbrev cc0_stg88_1 : Ref sig .tc := ⟨.vmem, 177, rfl⟩
abbrev cc0_stg89_0 : Ref sig .tc := ⟨.vmem, 178, rfl⟩
abbrev cc0_stg89_1 : Ref sig .tc := ⟨.vmem, 179, rfl⟩
abbrev cc0_stg90_0 : Ref sig .tc := ⟨.vmem, 180, rfl⟩
abbrev cc0_stg90_1 : Ref sig .tc := ⟨.vmem, 181, rfl⟩
abbrev cc0_stg91_0 : Ref sig .tc := ⟨.vmem, 182, rfl⟩
abbrev cc0_stg91_1 : Ref sig .tc := ⟨.vmem, 183, rfl⟩
abbrev cc0_stg92_0 : Ref sig .tc := ⟨.vmem, 184, rfl⟩
abbrev cc0_stg92_1 : Ref sig .tc := ⟨.vmem, 185, rfl⟩
abbrev cc0_stg93_0 : Ref sig .tc := ⟨.vmem, 186, rfl⟩
abbrev cc0_stg93_1 : Ref sig .tc := ⟨.vmem, 187, rfl⟩
abbrev cc0_stg94_0 : Ref sig .tc := ⟨.vmem, 188, rfl⟩
abbrev cc0_stg94_1 : Ref sig .tc := ⟨.vmem, 189, rfl⟩
abbrev cc0_stg95_0 : Ref sig .tc := ⟨.vmem, 190, rfl⟩
abbrev cc0_stg95_1 : Ref sig .tc := ⟨.vmem, 191, rfl⟩
abbrev cc0_stg96_0 : Ref sig .tc := ⟨.vmem, 192, rfl⟩
abbrev cc0_stg96_1 : Ref sig .tc := ⟨.vmem, 193, rfl⟩
abbrev cc0_stg97_0 : Ref sig .tc := ⟨.vmem, 194, rfl⟩
abbrev cc0_stg97_1 : Ref sig .tc := ⟨.vmem, 195, rfl⟩
abbrev cc0_stg98_0 : Ref sig .tc := ⟨.vmem, 196, rfl⟩
abbrev cc0_stg98_1 : Ref sig .tc := ⟨.vmem, 197, rfl⟩
abbrev cc0_stg99_0 : Ref sig .tc := ⟨.vmem, 198, rfl⟩
abbrev cc0_stg99_1 : Ref sig .tc := ⟨.vmem, 199, rfl⟩
abbrev cc0_stg100_0 : Ref sig .tc := ⟨.vmem, 200, rfl⟩
abbrev cc0_stg100_1 : Ref sig .tc := ⟨.vmem, 201, rfl⟩
abbrev cc0_stg101_0 : Ref sig .tc := ⟨.vmem, 202, rfl⟩
abbrev cc0_stg101_1 : Ref sig .tc := ⟨.vmem, 203, rfl⟩
abbrev cc0_stg102_0 : Ref sig .tc := ⟨.vmem, 204, rfl⟩
abbrev cc0_stg102_1 : Ref sig .tc := ⟨.vmem, 205, rfl⟩
abbrev cc0_stg103_0 : Ref sig .tc := ⟨.vmem, 206, rfl⟩
abbrev cc0_stg103_1 : Ref sig .tc := ⟨.vmem, 207, rfl⟩
abbrev cc0_stg104_0 : Ref sig .tc := ⟨.vmem, 208, rfl⟩
abbrev cc0_stg104_1 : Ref sig .tc := ⟨.vmem, 209, rfl⟩
abbrev cc0_stg105_0 : Ref sig .tc := ⟨.vmem, 210, rfl⟩
abbrev cc0_stg105_1 : Ref sig .tc := ⟨.vmem, 211, rfl⟩
abbrev cc0_stg106_0 : Ref sig .tc := ⟨.vmem, 212, rfl⟩
abbrev cc0_stg106_1 : Ref sig .tc := ⟨.vmem, 213, rfl⟩
abbrev cc0_stg107_0 : Ref sig .tc := ⟨.vmem, 214, rfl⟩
abbrev cc0_stg107_1 : Ref sig .tc := ⟨.vmem, 215, rfl⟩
abbrev cc0_stg108_0 : Ref sig .tc := ⟨.vmem, 216, rfl⟩
abbrev cc0_stg108_1 : Ref sig .tc := ⟨.vmem, 217, rfl⟩
abbrev cc0_stg109_0 : Ref sig .tc := ⟨.vmem, 218, rfl⟩
abbrev cc0_stg109_1 : Ref sig .tc := ⟨.vmem, 219, rfl⟩
abbrev cc0_stg110_0 : Ref sig .tc := ⟨.vmem, 220, rfl⟩
abbrev cc0_stg110_1 : Ref sig .tc := ⟨.vmem, 221, rfl⟩
abbrev cc0_stg111_0 : Ref sig .tc := ⟨.vmem, 222, rfl⟩
abbrev cc0_stg111_1 : Ref sig .tc := ⟨.vmem, 223, rfl⟩
abbrev cc0_stg112_0 : Ref sig .tc := ⟨.vmem, 224, rfl⟩
abbrev cc0_stg112_1 : Ref sig .tc := ⟨.vmem, 225, rfl⟩
abbrev cc0_stg113_0 : Ref sig .tc := ⟨.vmem, 226, rfl⟩
abbrev cc0_stg113_1 : Ref sig .tc := ⟨.vmem, 227, rfl⟩
abbrev cc0_stg114_0 : Ref sig .tc := ⟨.vmem, 228, rfl⟩
abbrev cc0_stg114_1 : Ref sig .tc := ⟨.vmem, 229, rfl⟩
abbrev cc0_stg115_0 : Ref sig .tc := ⟨.vmem, 230, rfl⟩
abbrev cc0_stg115_1 : Ref sig .tc := ⟨.vmem, 231, rfl⟩
abbrev cc0_stg116_0 : Ref sig .tc := ⟨.vmem, 232, rfl⟩
abbrev cc0_stg116_1 : Ref sig .tc := ⟨.vmem, 233, rfl⟩
abbrev cc0_stg117_0 : Ref sig .tc := ⟨.vmem, 234, rfl⟩
abbrev cc0_stg117_1 : Ref sig .tc := ⟨.vmem, 235, rfl⟩
abbrev cc0_stg118_0 : Ref sig .tc := ⟨.vmem, 236, rfl⟩
abbrev cc0_stg118_1 : Ref sig .tc := ⟨.vmem, 237, rfl⟩
abbrev cc0_stg119_0 : Ref sig .tc := ⟨.vmem, 238, rfl⟩
abbrev cc0_stg119_1 : Ref sig .tc := ⟨.vmem, 239, rfl⟩
abbrev cc0_stg120_0 : Ref sig .tc := ⟨.vmem, 240, rfl⟩
abbrev cc0_stg120_1 : Ref sig .tc := ⟨.vmem, 241, rfl⟩
abbrev cc0_stg121_0 : Ref sig .tc := ⟨.vmem, 242, rfl⟩
abbrev cc0_stg121_1 : Ref sig .tc := ⟨.vmem, 243, rfl⟩
abbrev cc0_stg122_0 : Ref sig .tc := ⟨.vmem, 244, rfl⟩
abbrev cc0_stg122_1 : Ref sig .tc := ⟨.vmem, 245, rfl⟩
abbrev cc0_stg123_0 : Ref sig .tc := ⟨.vmem, 246, rfl⟩
abbrev cc0_stg123_1 : Ref sig .tc := ⟨.vmem, 247, rfl⟩
abbrev cc0_stg124_0 : Ref sig .tc := ⟨.vmem, 248, rfl⟩
abbrev cc0_stg124_1 : Ref sig .tc := ⟨.vmem, 249, rfl⟩
abbrev cc0_stg125_0 : Ref sig .tc := ⟨.vmem, 250, rfl⟩
abbrev cc0_stg125_1 : Ref sig .tc := ⟨.vmem, 251, rfl⟩
abbrev cc0_stg126_0 : Ref sig .tc := ⟨.vmem, 252, rfl⟩
abbrev cc0_stg126_1 : Ref sig .tc := ⟨.vmem, 253, rfl⟩
abbrev cc0_stg127_0 : Ref sig .tc := ⟨.vmem, 254, rfl⟩
abbrev cc0_stg127_1 : Ref sig .tc := ⟨.vmem, 255, rfl⟩
abbrev cc0_stg128_0 : Ref sig .tc := ⟨.vmem, 256, rfl⟩
abbrev cc0_stg128_1 : Ref sig .tc := ⟨.vmem, 257, rfl⟩
abbrev cc0_stg129_0 : Ref sig .tc := ⟨.vmem, 258, rfl⟩
abbrev cc0_stg129_1 : Ref sig .tc := ⟨.vmem, 259, rfl⟩
abbrev cc0_stg130_0 : Ref sig .tc := ⟨.vmem, 260, rfl⟩
abbrev cc0_stg130_1 : Ref sig .tc := ⟨.vmem, 261, rfl⟩
abbrev cc0_stg131_0 : Ref sig .tc := ⟨.vmem, 262, rfl⟩
abbrev cc0_stg131_1 : Ref sig .tc := ⟨.vmem, 263, rfl⟩
abbrev cc0_stg132_0 : Ref sig .tc := ⟨.vmem, 264, rfl⟩
abbrev cc0_stg132_1 : Ref sig .tc := ⟨.vmem, 265, rfl⟩
abbrev cc0_stg133_0 : Ref sig .tc := ⟨.vmem, 266, rfl⟩
abbrev cc0_stg133_1 : Ref sig .tc := ⟨.vmem, 267, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69
abbrev cc0_sem35_0 : DmaSem sig := 70
abbrev cc0_sem35_1 : DmaSem sig := 71
abbrev cc0_sem36_0 : DmaSem sig := 72
abbrev cc0_sem36_1 : DmaSem sig := 73
abbrev cc0_sem37_0 : DmaSem sig := 74
abbrev cc0_sem37_1 : DmaSem sig := 75
abbrev cc0_sem38_0 : DmaSem sig := 76
abbrev cc0_sem38_1 : DmaSem sig := 77
abbrev cc0_sem39_0 : DmaSem sig := 78
abbrev cc0_sem39_1 : DmaSem sig := 79
abbrev cc0_sem40_0 : DmaSem sig := 80
abbrev cc0_sem40_1 : DmaSem sig := 81
abbrev cc0_sem41_0 : DmaSem sig := 82
abbrev cc0_sem41_1 : DmaSem sig := 83
abbrev cc0_sem42_0 : DmaSem sig := 84
abbrev cc0_sem42_1 : DmaSem sig := 85
abbrev cc0_sem43_0 : DmaSem sig := 86
abbrev cc0_sem43_1 : DmaSem sig := 87
abbrev cc0_sem44_0 : DmaSem sig := 88
abbrev cc0_sem44_1 : DmaSem sig := 89
abbrev cc0_sem45_0 : DmaSem sig := 90
abbrev cc0_sem45_1 : DmaSem sig := 91
abbrev cc0_sem46_0 : DmaSem sig := 92
abbrev cc0_sem46_1 : DmaSem sig := 93
abbrev cc0_sem47_0 : DmaSem sig := 94
abbrev cc0_sem47_1 : DmaSem sig := 95
abbrev cc0_sem48_0 : DmaSem sig := 96
abbrev cc0_sem48_1 : DmaSem sig := 97
abbrev cc0_sem49_0 : DmaSem sig := 98
abbrev cc0_sem49_1 : DmaSem sig := 99
abbrev cc0_sem50_0 : DmaSem sig := 100
abbrev cc0_sem50_1 : DmaSem sig := 101
abbrev cc0_sem51_0 : DmaSem sig := 102
abbrev cc0_sem51_1 : DmaSem sig := 103
abbrev cc0_sem52_0 : DmaSem sig := 104
abbrev cc0_sem52_1 : DmaSem sig := 105
abbrev cc0_sem53_0 : DmaSem sig := 106
abbrev cc0_sem53_1 : DmaSem sig := 107
abbrev cc0_sem54_0 : DmaSem sig := 108
abbrev cc0_sem54_1 : DmaSem sig := 109
abbrev cc0_sem55_0 : DmaSem sig := 110
abbrev cc0_sem55_1 : DmaSem sig := 111
abbrev cc0_sem56_0 : DmaSem sig := 112
abbrev cc0_sem56_1 : DmaSem sig := 113
abbrev cc0_sem57_0 : DmaSem sig := 114
abbrev cc0_sem57_1 : DmaSem sig := 115
abbrev cc0_sem58_0 : DmaSem sig := 116
abbrev cc0_sem58_1 : DmaSem sig := 117
abbrev cc0_sem59_0 : DmaSem sig := 118
abbrev cc0_sem59_1 : DmaSem sig := 119
abbrev cc0_sem60_0 : DmaSem sig := 120
abbrev cc0_sem60_1 : DmaSem sig := 121
abbrev cc0_sem61_0 : DmaSem sig := 122
abbrev cc0_sem61_1 : DmaSem sig := 123
abbrev cc0_sem62_0 : DmaSem sig := 124
abbrev cc0_sem62_1 : DmaSem sig := 125
abbrev cc0_sem63_0 : DmaSem sig := 126
abbrev cc0_sem63_1 : DmaSem sig := 127
abbrev cc0_sem64_0 : DmaSem sig := 128
abbrev cc0_sem64_1 : DmaSem sig := 129
abbrev cc0_sem65_0 : DmaSem sig := 130
abbrev cc0_sem65_1 : DmaSem sig := 131
abbrev cc0_sem66_0 : DmaSem sig := 132
abbrev cc0_sem66_1 : DmaSem sig := 133
abbrev cc0_sem67_0 : DmaSem sig := 134
abbrev cc0_sem67_1 : DmaSem sig := 135
abbrev cc0_sem68_0 : DmaSem sig := 136
abbrev cc0_sem68_1 : DmaSem sig := 137
abbrev cc0_sem69_0 : DmaSem sig := 138
abbrev cc0_sem69_1 : DmaSem sig := 139
abbrev cc0_sem70_0 : DmaSem sig := 140
abbrev cc0_sem70_1 : DmaSem sig := 141
abbrev cc0_sem71_0 : DmaSem sig := 142
abbrev cc0_sem71_1 : DmaSem sig := 143
abbrev cc0_sem72_0 : DmaSem sig := 144
abbrev cc0_sem72_1 : DmaSem sig := 145
abbrev cc0_sem73_0 : DmaSem sig := 146
abbrev cc0_sem73_1 : DmaSem sig := 147
abbrev cc0_sem74_0 : DmaSem sig := 148
abbrev cc0_sem74_1 : DmaSem sig := 149
abbrev cc0_sem75_0 : DmaSem sig := 150
abbrev cc0_sem75_1 : DmaSem sig := 151
abbrev cc0_sem76_0 : DmaSem sig := 152
abbrev cc0_sem76_1 : DmaSem sig := 153
abbrev cc0_sem77_0 : DmaSem sig := 154
abbrev cc0_sem77_1 : DmaSem sig := 155
abbrev cc0_sem78_0 : DmaSem sig := 156
abbrev cc0_sem78_1 : DmaSem sig := 157
abbrev cc0_sem79_0 : DmaSem sig := 158
abbrev cc0_sem79_1 : DmaSem sig := 159
abbrev cc0_sem80_0 : DmaSem sig := 160
abbrev cc0_sem80_1 : DmaSem sig := 161
abbrev cc0_sem81_0 : DmaSem sig := 162
abbrev cc0_sem81_1 : DmaSem sig := 163
abbrev cc0_sem82_0 : DmaSem sig := 164
abbrev cc0_sem82_1 : DmaSem sig := 165
abbrev cc0_sem83_0 : DmaSem sig := 166
abbrev cc0_sem83_1 : DmaSem sig := 167
abbrev cc0_sem84_0 : DmaSem sig := 168
abbrev cc0_sem84_1 : DmaSem sig := 169
abbrev cc0_sem85_0 : DmaSem sig := 170
abbrev cc0_sem85_1 : DmaSem sig := 171
abbrev cc0_sem86_0 : DmaSem sig := 172
abbrev cc0_sem86_1 : DmaSem sig := 173
abbrev cc0_sem87_0 : DmaSem sig := 174
abbrev cc0_sem87_1 : DmaSem sig := 175
abbrev cc0_sem88_0 : DmaSem sig := 176
abbrev cc0_sem88_1 : DmaSem sig := 177
abbrev cc0_sem89_0 : DmaSem sig := 178
abbrev cc0_sem89_1 : DmaSem sig := 179
abbrev cc0_sem90_0 : DmaSem sig := 180
abbrev cc0_sem90_1 : DmaSem sig := 181
abbrev cc0_sem91_0 : DmaSem sig := 182
abbrev cc0_sem91_1 : DmaSem sig := 183
abbrev cc0_sem92_0 : DmaSem sig := 184
abbrev cc0_sem92_1 : DmaSem sig := 185
abbrev cc0_sem93_0 : DmaSem sig := 186
abbrev cc0_sem93_1 : DmaSem sig := 187
abbrev cc0_sem94_0 : DmaSem sig := 188
abbrev cc0_sem94_1 : DmaSem sig := 189
abbrev cc0_sem95_0 : DmaSem sig := 190
abbrev cc0_sem95_1 : DmaSem sig := 191
abbrev cc0_sem96_0 : DmaSem sig := 192
abbrev cc0_sem96_1 : DmaSem sig := 193
abbrev cc0_sem97_0 : DmaSem sig := 194
abbrev cc0_sem97_1 : DmaSem sig := 195
abbrev cc0_sem98_0 : DmaSem sig := 196
abbrev cc0_sem98_1 : DmaSem sig := 197
abbrev cc0_sem99_0 : DmaSem sig := 198
abbrev cc0_sem99_1 : DmaSem sig := 199
abbrev cc0_sem100_0 : DmaSem sig := 200
abbrev cc0_sem100_1 : DmaSem sig := 201
abbrev cc0_sem101_0 : DmaSem sig := 202
abbrev cc0_sem101_1 : DmaSem sig := 203
abbrev cc0_sem102_0 : DmaSem sig := 204
abbrev cc0_sem102_1 : DmaSem sig := 205
abbrev cc0_sem103_0 : DmaSem sig := 206
abbrev cc0_sem103_1 : DmaSem sig := 207
abbrev cc0_sem104_0 : DmaSem sig := 208
abbrev cc0_sem104_1 : DmaSem sig := 209
abbrev cc0_sem105_0 : DmaSem sig := 210
abbrev cc0_sem105_1 : DmaSem sig := 211
abbrev cc0_sem106_0 : DmaSem sig := 212
abbrev cc0_sem106_1 : DmaSem sig := 213
abbrev cc0_sem107_0 : DmaSem sig := 214
abbrev cc0_sem107_1 : DmaSem sig := 215
abbrev cc0_sem108_0 : DmaSem sig := 216
abbrev cc0_sem108_1 : DmaSem sig := 217
abbrev cc0_sem109_0 : DmaSem sig := 218
abbrev cc0_sem109_1 : DmaSem sig := 219
abbrev cc0_sem110_0 : DmaSem sig := 220
abbrev cc0_sem110_1 : DmaSem sig := 221
abbrev cc0_sem111_0 : DmaSem sig := 222
abbrev cc0_sem111_1 : DmaSem sig := 223
abbrev cc0_sem112_0 : DmaSem sig := 224
abbrev cc0_sem112_1 : DmaSem sig := 225
abbrev cc0_sem113_0 : DmaSem sig := 226
abbrev cc0_sem113_1 : DmaSem sig := 227
abbrev cc0_sem114_0 : DmaSem sig := 228
abbrev cc0_sem114_1 : DmaSem sig := 229
abbrev cc0_sem115_0 : DmaSem sig := 230
abbrev cc0_sem115_1 : DmaSem sig := 231
abbrev cc0_sem116_0 : DmaSem sig := 232
abbrev cc0_sem116_1 : DmaSem sig := 233
abbrev cc0_sem117_0 : DmaSem sig := 234
abbrev cc0_sem117_1 : DmaSem sig := 235
abbrev cc0_sem118_0 : DmaSem sig := 236
abbrev cc0_sem118_1 : DmaSem sig := 237
abbrev cc0_sem119_0 : DmaSem sig := 238
abbrev cc0_sem119_1 : DmaSem sig := 239
abbrev cc0_sem120_0 : DmaSem sig := 240
abbrev cc0_sem120_1 : DmaSem sig := 241
abbrev cc0_sem121_0 : DmaSem sig := 242
abbrev cc0_sem121_1 : DmaSem sig := 243
abbrev cc0_sem122_0 : DmaSem sig := 244
abbrev cc0_sem122_1 : DmaSem sig := 245
abbrev cc0_sem123_0 : DmaSem sig := 246
abbrev cc0_sem123_1 : DmaSem sig := 247
abbrev cc0_sem124_0 : DmaSem sig := 248
abbrev cc0_sem124_1 : DmaSem sig := 249
abbrev cc0_sem125_0 : DmaSem sig := 250
abbrev cc0_sem125_1 : DmaSem sig := 251
abbrev cc0_sem126_0 : DmaSem sig := 252
abbrev cc0_sem126_1 : DmaSem sig := 253
abbrev cc0_sem127_0 : DmaSem sig := 254
abbrev cc0_sem127_1 : DmaSem sig := 255
abbrev cc0_sem128_0 : DmaSem sig := 256
abbrev cc0_sem128_1 : DmaSem sig := 257
abbrev cc0_sem129_0 : DmaSem sig := 258
abbrev cc0_sem129_1 : DmaSem sig := 259
abbrev cc0_sem130_0 : DmaSem sig := 260
abbrev cc0_sem130_1 : DmaSem sig := 261
abbrev cc0_sem131_0 : DmaSem sig := 262
abbrev cc0_sem131_1 : DmaSem sig := 263
abbrev cc0_sem132_0 : DmaSem sig := 264
abbrev cc0_sem132_1 : DmaSem sig := 265
abbrev cc0_sem133_0 : DmaSem sig := 266
abbrev cc0_sem133_1 : DmaSem sig := 267

abbrev nD : Nat := 1
abbrev τ : Topo := Topo.v7x

variable {F : FTy → Type} [FloatOps F]

abbrev grid0 : Pipeline.Grid := ⟨1, ![22], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 2 → Nat :=
  let c0 : Index := 0#32
  let arg0 : BitVec 32 := BitVec.ofNat 32 (i 0).val
  let c64_i32 : BitVec 32 := 64#32
  let v0 : BitVec 32 := Scalar.muli arg0 c64_i32
  let v1 : BitVec 32 := Scalar.addi v0 c0_i32
  let v2 : Index := Scalar.indexCast v1
  ![0, v2.toNat]
def k0_off2 (i : grid0.Coords) (c0_i32 : BitVec 32) : Fin 2 → Nat :=
  let c1 : Index := 1#32
  let arg0 : BitVec 32 := BitVec.ofNat 32 (i 0).val
  let c64_i32 : BitVec 32 := 64#32
  let v0 : BitVec 32 := Scalar.muli arg0 c64_i32
  let v1 : BitVec 32 := Scalar.addi v0 c0_i32
  let v2 : Index := Scalar.indexCast v1
  ![1, v2.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c0_i32 : BitVec 32 := 0#32
  let v1 : BitVec 32 := Scalar.addi v0 c0_i32
  let c0 : Index := 0#32
  let v2 : Index := Scalar.indexCast v1
  let v3 : BitVec 32 := pf.at 0 (Rect.unit (s := S2x1408) ![0, v2.toNat] S1x1.size (k0_off1_inb i 0)) numel1_S1x1
  let c0_i32_0 : BitVec 32 := 0#32
  let c0_i32_1 : BitVec 32 := 0#32
  let c0_i32_2 : BitVec 32 := 0#32
  ![v3.toNat, c0_i32_0.toNat, c0_i32_1.toNat]

def cc0_transform_5 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c0_i32 : BitVec 32 := 0#32
  let v1 : BitVec 32 := Scalar.addi v0 c0_i32
  let c1 : Index := 1#32
  let v2 : Index := Scalar.indexCast v1
  let v3 : BitVec 32 := pf.at 0 (Rect.unit (s := S2x1408) ![1, v2.toNat] S1x1.size (k0_off2_inb i 0)) numel1_S1x1
  let c0_i32_0 : BitVec 32 := 0#32
  let c0_i32_1 : BitVec 32 := 0#32
  let c0_i32_2 : BitVec 32 := 0#32
  ![v3.toNat, c0_i32_0.toNat, c0_i32_1.toNat]

def cc0_transform_6 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.addi v0 c1_i32
  let c0 : Index := 0#32
  let v2 : Index := Scalar.indexCast v1
  let v3 : BitVec 32 := pf.at 0 (Rect.unit (s := S2x1408) ![0, v2.toNat] S1x1.size (k0_off1_inb i 1)) numel1_S1x1
  let c0_i32 : BitVec 32 := 0#32
  let c0_i32_0 : BitVec 32 := 0#32
  let c0_i32_1 : BitVec 32 := 0#32
  ![v3.toNat, c0_i32.toNat, c0_i32_0.toNat]

def cc0_transform_7 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.addi v0 c1_i32
  let c1 : Index := 1#32
  let v2 : Index := Scalar.indexCast v1
  let v3 : BitVec 32 := pf.at 0 (Rect.unit (s := S2x1408) ![1, v2.toNat] S1x1.size (k0_off2_inb i 1)) numel1_S1x1
  let c0_i32 : BitVec 32 := 0#32
  let c0_i32_0 : BitVec 32 := 0#32
  let c0_i32_1 : BitVec 32 := 0#32
  ![v3.toNat, c0_i32.toNat, c0_i32_0.toNat]

def cc0_transform_8 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c2_i32 : BitVec 32 := 2#32
  let v1 : BitVec 32 := Scalar.addi v0 c2_i32
  let c0 : Index := 0#32
  let v2 : Index := Scalar.indexCast v1
  let v3 : BitVec 32 := pf.at 0 (Rect.unit (s := S2x1408) ![0, v2.toNat] S1x1.size (k0_off1_inb i 2)) numel1_S1x1
  let c0_i32 : BitVec 32 := 0#32
  let c0_i32_0 : BitVec 32 := 0#32
  let c0_i32_1 : BitVec 32 := 0#32
  ![v3.toNat, c0_i32.toNat, c0_i32_0.toNat]

def cc0_transform_9 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c2_i32 : BitVec 32 := 2#32
  let v1 : BitVec 32 := Scalar.addi v0 c2_i32
  let c1 : Index := 1#32
  let v2 : Index := Scalar.indexCast v1
  let v3 : BitVec 32 := pf.at 0 (Rect.unit (s := S2x1408) ![1, v2.toNat] S1x1.size (k0_off2_inb i 2)) numel1_S1x1
  let c0_i32 : BitVec 32 := 0#32
  let c0_i32_0 : BitVec 32 := 0#32
  let c0_i32_1 : BitVec 32 := 0#32
  ![v3.toNat, c0_i32.toNat, c0_i32_0.toNat]

def cc0_transform_10 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c3_i32 : BitVec 32 := 3#32
  let v1 : BitVec 32 := Scalar.addi v0 c3_i32
  let c0 : Index := 0#32
  let v2 : Index := Scalar.indexCast v1
  let v3 : BitVec 32 := pf.at 0 (Rect.unit (s := S2x1408) ![0, v2.toNat] S1x1.size (k0_off1_inb i 3)) numel1_S1x1
  let c0_i32 : BitVec 32 := 0#32
  let c0_i32_0 : BitVec 32 := 0#32
  let c0_i32_1 : BitVec 32 := 0#32
  ![v3.toNat, c0_i32.toNat, c0_i32_0.toNat]

def cc0_transform_11 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c3_i32 : BitVec 32 := 3#32
  let v1 : BitVec 32 := Scalar.addi v0 c3_i32
  let c1 : Index := 1#32
  let v2 : Index := Scalar.indexCast v1
  let v3 : BitVec 32 := pf.at 0 (Rect.unit (s := S2x1408) ![1, v2.toNat] S1x1.size (k0_off2_inb i 3)) numel1_S1x1
  let c0_i32 : BitVec 32 := 0#32
  let c0_i32_0 : BitVec 32 := 0#32
  let c0_i32_1 : BitVec 32 := 0#32
  ![v3.toNat, c0_i32.toNat, c0_i32_0.toNat]

def cc0_transform_12 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c4_i32 : BitVec 32 := 4#32
  let v1 : BitVec 32 := Scalar.addi v0 c4_i32
  let c0 : Index := 0#32
  let v2 : Index := Scalar.indexCast v1
  let v3 : BitVec 32 := pf.at 0 (Rect.unit (s := S2x1408) ![0, v2.toNat] S1x1.size (k0_off1_inb i 4)) numel1_S1x1
  let c0_i32 : BitVec 32 := 0#32
  let c0_i32_0 : BitVec 32 := 0#32
  let c0_i32_1 : BitVec 32 := 0#32
  ![v3.toNat, c0_i32.toNat, c0_i32_0.toNat]

def cc0_transform_13 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c4_i32 : BitVec 32 := 4#32
  let v1 : BitVec 32 := Scalar.addi v0 c4_i32
  let c1 : Index := 1#32
  let v2 : Index := Scalar.indexCast v1
  let v3 : BitVec 32 := pf.at 0 (Rect.unit (s := S2x1408) ![1, v2.toNat] S1x1.size (k0_off2_inb i 4)) numel1_S1x1
  let c0_i32 : BitVec 32 := 0#32
  let c0_i32_0 : BitVec 32 := 0#32
  let c0_i32_1 : BitVec 32 := 0#32
  ![v3.toNat, c0_i32.toNat, c0_i32_0.toNat]

def cc0_transform_14 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c5_i32 : BitVec 32 := 5#32
  let v1 : BitVec 32 := Scalar.addi v0 c5_i32
  let c0 : Index := 0#32
  let v2 : Index := Scalar.indexCast v1
  let v3 : BitVec 32 := pf.at 0 (Rect.unit (s := S2x1408) ![0, v2.toNat] S1x1.size (k0_off1_inb i 5)) numel1_S1x1
  let c0_i32 : BitVec 32 := 0#32
  let c0_i32_0 : BitVec 32 := 0#32
  let c0_i32_1 : BitVec 32 := 0#32
  ![v3.toNat, c0_i32.toNat, c0_i32_0.toNat]

def cc0_transform_15 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c5_i32 : BitVec 32 := 5#32
  let v1 : BitVec 32 := Scalar.addi v0 c5_i32
  let c1 : Index := 1#32
  let v2 : Index := Scalar.indexCast v1
  let v3 : BitVec 32 := pf.at 0 (Rect.unit (s := S2x1408) ![1, v2.toNat] S1x1.size (k0_off2_inb i 5)) numel1_S1x1
  let c0_i32 : BitVec 32 := 0#32
  let c0_i32_0 : BitVec 32 := 0#32
  let c0_i32_1 : BitVec 32 := 0#32
  ![v3.toNat, c0_i32.toNat, c0_i32_0.toNat]

def cc0_transform_16 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c6_i32 : BitVec 32 := 6#32
  let v1 : BitVec 32 := Scalar.addi v0 c6_i32
  let c0 : Index := 0#32
  let v2 : Index := Scalar.indexCast v1
  let v3 : BitVec 32 := pf.at 0 (Rect.unit (s := S2x1408) ![0, v2.toNat] S1x1.size (k0_off1_inb i 6)) numel1_S1x1
  let c0_i32 : BitVec 32 := 0#32
  let c0_i32_0 : BitVec 32 := 0#32
  let c0_i32_1 : BitVec 32 := 0#32
  ![v3.toNat, c0_i32.toNat, c0_i32_0.toNat]

def cc0_transform_17 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c6_i32 : BitVec 32 := 6#32
  let v1 : BitVec 32 := Scalar.addi v0 c6_i32
  let c1 : Index := 1#32
  let v2 : Index := Scalar.indexCast v1
  let v3 : BitVec 32 := pf.at 0 (Rect.unit (s := S2x1408) ![1, v2.toNat] S1x1.size (k0_off2_inb i 6)) numel1_S1x1
  let c0_i32 : BitVec 32 := 0#32
  let c0_i32_0 : BitVec 32 := 0#32
  let c0_i32_1 : BitVec 32 := 0#32
  ![v3.toNat, c0_i32.toNat, c0_i32_0.toNat]

def cc0_transform_18 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c7_i32 : BitVec 32 := 7#32
  let v1 : BitVec 32 := Scalar.addi v0 c7_i32
  let c0 : Index := 0#32
  let v2 : Index := Scalar.indexCast v1
  let v3 : BitVec 32 := pf.at 0 (Rect.unit (s := S2x1408) ![0, v2.toNat] S1x1.size (k0_off1_inb i 7)) numel1_S1x1
  let c0_i32 : BitVec 32 := 0#32
  let c0_i32_0 : BitVec 32 := 0#32
  let c0_i32_1 : BitVec 32 := 0#32
  ![v3.toNat, c0_i32.toNat, c0_i32_0.toNat]

def cc0_transform_19 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c7_i32 : BitVec 32 := 7#32
  let v1 : BitVec 32 := Scalar.addi v0 c7_i32
  let c1 : Index := 1#32
  let v2 : Index := Scalar.indexCast v1
  let v3 : BitVec 32 := pf.at 0 (Rect.unit (s := S2x1408) ![1, v2.toNat] S1x1.size (k0_off2_inb i 7)) numel1_S1x1
  let c0_i32 : BitVec 32 := 0#32
  let c0_i32_0 : BitVec 32 := 0#32
  let c0_i32_1 : BitVec 32 := 0#32
  ![v3.toNat, c0_i32.toNat, c0_i32_0.toNat]

def cc0_transform_20 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c8_i32 : BitVec 32 := 8#32
  let v1 : BitVec 32 := Scalar.addi v0 c8_i32
  let c0 : Index := 0#32
  let v2 : Index := Scalar.indexCast v1
  let v3 : BitVec 32 := pf.at 0 (Rect.unit (s := S2x1408) ![0, v2.toNat] S1x1.size (k0_off1_inb i 8)) numel1_S1x1
  let c0_i32 : BitVec 32 := 0#32
  let c0_i32_0 : BitVec 32 := 0#32
  let c0_i32_1 : BitVec 32 := 0#32
  ![v3.toNat, c0_i32.toNat, c0_i32_0.toNat]

def cc0_transform_21 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c8_i32 : BitVec 32 := 8#32
  let v1 : BitVec 32 := Scalar.addi v0 c8_i32
  let c1 : Index := 1#32
  let v2 : Index := Scalar.indexCast v1
  let v3 : BitVec 32 := pf.at 0 (Rect.unit (s := S2x1408) ![1, v2.toNat] S1x1.size (k0_off2_inb i 8)) numel1_S1x1
  let c0_i32 : BitVec 32 := 0#32
  let c0_i32_0 : BitVec 32 := 0#32
  let c0_i32_1 : BitVec 32 := 0#32
  ![v3.toNat, c0_i32.toNat, c0_i32_0.toNat]

def cc0_transform_22 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c9_i32 : BitVec 32 := 9#32
  let v1 : BitVec 32 := Scalar.addi v0 c9_i32
  let c0 : Index := 0#32
  let v2 : Index := Scalar.indexCast v1
  let v3 : BitVec 32 := pf.at 0 (Rect.unit (s := S2x1408) ![0, v2.toNat] S1x1.size (k0_off1_inb i 9)) numel1_S1x1
  let c0_i32 : BitVec 32 := 0#32
  let c0_i32_0 : BitVec 32 := 0#32
  let c0_i32_1 : BitVec 32 := 0#32
  ![v3.toNat, c0_i32.toNat, c0_i32_0.toNat]

def cc0_transform_23 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c9_i32 : BitVec 32 := 9#32
  let v1 : BitVec 32 := Scalar.addi v0 c9_i32
  let c1 : Index := 1#32
  let v2 : Index := Scalar.indexCast v1
  let v3 : BitVec 32 := pf.at 0 (Rect.unit (s := S2x1408) ![1, v2.toNat] S1x1.size (k0_off2_inb i 9)) numel1_S1x1
  let c0_i32 : BitVec 32 := 0#32
  let c0_i32_0 : BitVec 32 := 0#32
  let c0_i32_1 : BitVec 32 := 0#32
  ![v3.toNat, c0_i32.toNat, c0_i32_0.toNat]

def cc0_transform_24 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c10_i32 : BitVec 32 := 10#32
  let v1 : BitVec 32 := Scalar.addi v0 c10_i32
  let c0 : Index := 0#32
  let v2 : Index := Scalar.indexCast v1
  let v3 : BitVec 32 := pf.at 0 (Rect.unit (s := S2x1408) ![0, v2.toNat] S1x1.size (k0_off1_inb i 10)) numel1_S1x1
  let c0_i32 : BitVec 32 := 0#32
  let c0_i32_0 : BitVec 32 := 0#32
  let c0_i32_1 : BitVec 32 := 0#32
  ![v3.toNat, c0_i32.toNat, c0_i32_0.toNat]

def cc0_transform_25 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c10_i32 : BitVec 32 := 10#32
  let v1 : BitVec 32 := Scalar.addi v0 c10_i32
  let c1 : Index := 1#32
  let v2 : Index := Scalar.indexCast v1
  let v3 : BitVec 32 := pf.at 0 (Rect.unit (s := S2x1408) ![1, v2.toNat] S1x1.size (k0_off2_inb i 10)) numel1_S1x1
  let c0_i32 : BitVec 32 := 0#32
  let c0_i32_0 : BitVec 32 := 0#32
  let c0_i32_1 : BitVec 32 := 0#32
  ![v3.toNat, c0_i32.toNat, c0_i32_0.toNat]

def cc0_transform_26 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c11_i32 : BitVec 32 := 11#32
  let v1 : BitVec 32 := Scalar.addi v0 c11_i32
  let c0 : Index := 0#32
  let v2 : Index := Scalar.indexCast v1
  let v3 : BitVec 32 := pf.at 0 (Rect.unit (s := S2x1408) ![0, v2.toNat] S1x1.size (k0_off1_inb i 11)) numel1_S1x1
  let c0_i32 : BitVec 32 := 0#32
  let c0_i32_0 : BitVec 32 := 0#32
  let c0_i32_1 : BitVec 32 := 0#32
  ![v3.toNat, c0_i32.toNat, c0_i32_0.toNat]

def cc0_transform_27 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c11_i32 : BitVec 32 := 11#32
  let v1 : BitVec 32 := Scalar.addi v0 c11_i32
  let c1 : Index := 1#32
  let v2 : Index := Scalar.indexCast v1
  let v3 : BitVec 32 := pf.at 0 (Rect.unit (s := S2x1408) ![1, v2.toNat] S1x1.size (k0_off2_inb i 11)) numel1_S1x1
  let c0_i32 : BitVec 32 := 0#32
  let c0_i32_0 : BitVec 32 := 0#32
  let c0_i32_1 : BitVec 32 := 0#32
  ![v3.toNat, c0_i32.toNat, c0_i32_0.toNat]

def cc0_transform_28 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c12_i32 : BitVec 32 := 12#32
  let v1 : BitVec 32 := Scalar.addi v0 c12_i32
  let c0 : Index := 0#32
  let v2 : Index := Scalar.indexCast v1
  let v3 : BitVec 32 := pf.at 0 (Rect.unit (s := S2x1408) ![0, v2.toNat] S1x1.size (k0_off1_inb i 12)) numel1_S1x1
  let c0_i32 : BitVec 32 := 0#32
  let c0_i32_0 : BitVec 32 := 0#32
  let c0_i32_1 : BitVec 32 := 0#32
  ![v3.toNat, c0_i32.toNat, c0_i32_0.toNat]

def cc0_transform_29 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c12_i32 : BitVec 32 := 12#32
  let v1 : BitVec 32 := Scalar.addi v0 c12_i32
  let c1 : Index := 1#32
  let v2 : Index := Scalar.indexCast v1
  let v3 : BitVec 32 := pf.at 0 (Rect.unit (s := S2x1408) ![1, v2.toNat] S1x1.size (k0_off2_inb i 12)) numel1_S1x1
  let c0_i32 : BitVec 32 := 0#32
  let c0_i32_0 : BitVec 32 := 0#32
  let c0_i32_1 : BitVec 32 := 0#32
  ![v3.toNat, c0_i32.toNat, c0_i32_0.toNat]

def cc0_transform_30 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c13_i32 : BitVec 32 := 13#32
  let v1 : BitVec 32 := Scalar.addi v0 c13_i32
  let c0 : Index := 0#32
  let v2 : Index := Scalar.indexCast v1
  let v3 : BitVec 32 := pf.at 0 (Rect.unit (s := S2x1408) ![0, v2.toNat] S1x1.size (k0_off1_inb i 13)) numel1_S1x1
  let c0_i32 : BitVec 32 := 0#32
  let c0_i32_0 : BitVec 32 := 0#32
  let c0_i32_1 : BitVec 32 := 0#32
  ![v3.toNat, c0_i32.toNat, c0_i32_0.toNat]

def cc0_transform_31 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c13_i32 : BitVec 32 := 13#32
  let v1 : BitVec 32 := Scalar.addi v0 c13_i32
  let c1 : Index := 1#32
  let v2 : Index := Scalar.indexCast v1
  let v3 : BitVec 32 := pf.at 0 (Rect.unit (s := S2x1408) ![1, v2.toNat] S1x1.size (k0_off2_inb i 13)) numel1_S1x1
  let c0_i32 : BitVec 32 := 0#32
  let c0_i32_0 : BitVec 32 := 0#32
  let c0_i32_1 : BitVec 32 := 0#32
  ![v3.toNat, c0_i32.toNat, c0_i32_0.toNat]

def cc0_transform_32 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c14_i32 : BitVec 32 := 14#32
  let v1 : BitVec 32 := Scalar.addi v0 c14_i32
  let c0 : Index := 0#32
  let v2 : Index := Scalar.indexCast v1
  let v3 : BitVec 32 := pf.at 0 (Rect.unit (s := S2x1408) ![0, v2.toNat] S1x1.size (k0_off1_inb i 14)) numel1_S1x1
  let c0_i32 : BitVec 32 := 0#32
  let c0_i32_0 : BitVec 32 := 0#32
  let c0_i32_1 : BitVec 32 := 0#32
  ![v3.toNat, c0_i32.toNat, c0_i32_0.toNat]

def cc0_transform_33 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c14_i32 : BitVec 32 := 14#32
  let v1 : BitVec 32 := Scalar.addi v0 c14_i32
  let c1 : Index := 1#32
  let v2 : Index := Scalar.indexCast v1
  let v3 : BitVec 32 := pf.at 0 (Rect.unit (s := S2x1408) ![1, v2.toNat] S1x1.size (k0_off2_inb i 14)) numel1_S1x1
  let c0_i32 : BitVec 32 := 0#32
  let c0_i32_0 : BitVec 32 := 0#32
  let c0_i32_1 : BitVec 32 := 0#32
  ![v3.toNat, c0_i32.toNat, c0_i32_0.toNat]

def cc0_transform_34 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c15_i32 : BitVec 32 := 15#32
  let v1 : BitVec 32 := Scalar.addi v0 c15_i32
  let c0 : Index := 0#32
  let v2 : Index := Scalar.indexCast v1
  let v3 : BitVec 32 := pf.at 0 (Rect.unit (s := S2x1408) ![0, v2.toNat] S1x1.size (k0_off1_inb i 15)) numel1_S1x1
  let c0_i32 : BitVec 32 := 0#32
  let c0_i32_0 : BitVec 32 := 0#32
  let c0_i32_1 : BitVec 32 := 0#32
  ![v3.toNat, c0_i32.toNat, c0_i32_0.toNat]

def cc0_transform_35 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c15_i32 : BitVec 32 := 15#32
  let v1 : BitVec 32 := Scalar.addi v0 c15_i32
  let c1 : Index := 1#32
  let v2 : Index := Scalar.indexCast v1
  let v3 : BitVec 32 := pf.at 0 (Rect.unit (s := S2x1408) ![1, v2.toNat] S1x1.size (k0_off2_inb i 15)) numel1_S1x1
  let c0_i32 : BitVec 32 := 0#32
  let c0_i32_0 : BitVec 32 := 0#32
  let c0_i32_1 : BitVec 32 := 0#32
  ![v3.toNat, c0_i32.toNat, c0_i32_0.toNat]

def cc0_transform_36 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c16_i32 : BitVec 32 := 16#32
  let v1 : BitVec 32 := Scalar.addi v0 c16_i32
  let c0 : Index := 0#32
  let v2 : Index := Scalar.indexCast v1
  let v3 : BitVec 32 := pf.at 0 (Rect.unit (s := S2x1408) ![0, v2.toNat] S1x1.size (k0_off1_inb i 16)) numel1_S1x1
  let c0_i32 : BitVec 32 := 0#32
  let c0_i32_0 : BitVec 32 := 0#32
  let c0_i32_1 : BitVec 32 := 0#32
  ![v3.toNat, c0_i32.toNat, c0_i32_0.toNat]

def cc0_transform_37 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c16_i32 : BitVec 32 := 16#32
  let v1 : BitVec 32 := Scalar.addi v0 c16_i32
  let c1 : Index := 1#32
  let v2 : Index := Scalar.indexCast v1
  let v3 : BitVec 32 := pf.at 0 (Rect.unit (s := S2x1408) ![1, v2.toNat] S1x1.size (k0_off2_inb i 16)) numel1_S1x1
  let c0_i32 : BitVec 32 := 0#32
  let c0_i32_0 : BitVec 32 := 0#32
  let c0_i32_1 : BitVec 32 := 0#32
  ![v3.toNat, c0_i32.toNat, c0_i32_0.toNat]

def cc0_transform_38 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c17_i32 : BitVec 32 := 17#32
  let v1 : BitVec 32 := Scalar.addi v0 c17_i32
  let c0 : Index := 0#32
  let v2 : Index := Scalar.indexCast v1
  let v3 : BitVec 32 := pf.at 0 (Rect.unit (s := S2x1408) ![0, v2.toNat] S1x1.size (k0_off1_inb i 17)) numel1_S1x1
  let c0_i32 : BitVec 32 := 0#32
  let c0_i32_0 : BitVec 32 := 0#32
  let c0_i32_1 : BitVec 32 := 0#32
  ![v3.toNat, c0_i32.toNat, c0_i32_0.toNat]

def cc0_transform_39 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c17_i32 : BitVec 32 := 17#32
  let v1 : BitVec 32 := Scalar.addi v0 c17_i32
  let c1 : Index := 1#32
  let v2 : Index := Scalar.indexCast v1
  let v3 : BitVec 32 := pf.at 0 (Rect.unit (s := S2x1408) ![1, v2.toNat] S1x1.size (k0_off2_inb i 17)) numel1_S1x1
  let c0_i32 : BitVec 32 := 0#32
  let c0_i32_0 : BitVec 32 := 0#32
  let c0_i32_1 : BitVec 32 := 0#32
  ![v3.toNat, c0_i32.toNat, c0_i32_0.toNat]

def cc0_transform_40 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c18_i32 : BitVec 32 := 18#32
  let v1 : BitVec 32 := Scalar.addi v0 c18_i32
  let c0 : Index := 0#32
  let v2 : Index := Scalar.indexCast v1
  let v3 : BitVec 32 := pf.at 0 (Rect.unit (s := S2x1408) ![0, v2.toNat] S1x1.size (k0_off1_inb i 18)) numel1_S1x1
  let c0_i32 : BitVec 32 := 0#32
  let c0_i32_0 : BitVec 32 := 0#32
  let c0_i32_1 : BitVec 32 := 0#32
  ![v3.toNat, c0_i32.toNat, c0_i32_0.toNat]

def cc0_transform_41 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c18_i32 : BitVec 32 := 18#32
  let v1 : BitVec 32 := Scalar.addi v0 c18_i32
  let c1 : Index := 1#32
  let v2 : Index := Scalar.indexCast v1
  let v3 : BitVec 32 := pf.at 0 (Rect.unit (s := S2x1408) ![1, v2.toNat] S1x1.size (k0_off2_inb i 18)) numel1_S1x1
  let c0_i32 : BitVec 32 := 0#32
  let c0_i32_0 : BitVec 32 := 0#32
  let c0_i32_1 : BitVec 32 := 0#32
  ![v3.toNat, c0_i32.toNat, c0_i32_0.toNat]

def cc0_transform_42 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c19_i32 : BitVec 32 := 19#32
  let v1 : BitVec 32 := Scalar.addi v0 c19_i32
  let c0 : Index := 0#32
  let v2 : Index := Scalar.indexCast v1
  let v3 : BitVec 32 := pf.at 0 (Rect.unit (s := S2x1408) ![0, v2.toNat] S1x1.size (k0_off1_inb i 19)) numel1_S1x1
  let c0_i32 : BitVec 32 := 0#32
  let c0_i32_0 : BitVec 32 := 0#32
  let c0_i32_1 : BitVec 32 := 0#32
  ![v3.toNat, c0_i32.toNat, c0_i32_0.toNat]

def cc0_transform_43 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c19_i32 : BitVec 32 := 19#32
  let v1 : BitVec 32 := Scalar.addi v0 c19_i32
  let c1 : Index := 1#32
  let v2 : Index := Scalar.indexCast v1
  let v3 : BitVec 32 := pf.at 0 (Rect.unit (s := S2x1408) ![1, v2.toNat] S1x1.size (k0_off2_inb i 19)) numel1_S1x1
  let c0_i32 : BitVec 32 := 0#32
  let c0_i32_0 : BitVec 32 := 0#32
  let c0_i32_1 : BitVec 32 := 0#32
  ![v3.toNat, c0_i32.toNat, c0_i32_0.toNat]

def cc0_transform_44 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c20_i32 : BitVec 32 := 20#32
  let v1 : BitVec 32 := Scalar.addi v0 c20_i32
  let c0 : Index := 0#32
  let v2 : Index := Scalar.indexCast v1
  let v3 : BitVec 32 := pf.at 0 (Rect.unit (s := S2x1408) ![0, v2.toNat] S1x1.size (k0_off1_inb i 20)) numel1_S1x1
  let c0_i32 : BitVec 32 := 0#32
  let c0_i32_0 : BitVec 32 := 0#32
  let c0_i32_1 : BitVec 32 := 0#32
  ![v3.toNat, c0_i32.toNat, c0_i32_0.toNat]

def cc0_transform_45 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c20_i32 : BitVec 32 := 20#32
  let v1 : BitVec 32 := Scalar.addi v0 c20_i32
  let c1 : Index := 1#32
  let v2 : Index := Scalar.indexCast v1
  let v3 : BitVec 32 := pf.at 0 (Rect.unit (s := S2x1408) ![1, v2.toNat] S1x1.size (k0_off2_inb i 20)) numel1_S1x1
  let c0_i32 : BitVec 32 := 0#32
  let c0_i32_0 : BitVec 32 := 0#32
  let c0_i32_1 : BitVec 32 := 0#32
  ![v3.toNat, c0_i32.toNat, c0_i32_0.toNat]

def cc0_transform_46 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c21_i32 : BitVec 32 := 21#32
  let v1 : BitVec 32 := Scalar.addi v0 c21_i32
  let c0 : Index := 0#32
  let v2 : Index := Scalar.indexCast v1
  let v3 : BitVec 32 := pf.at 0 (Rect.unit (s := S2x1408) ![0, v2.toNat] S1x1.size (k0_off1_inb i 21)) numel1_S1x1
  let c0_i32 : BitVec 32 := 0#32
  let c0_i32_0 : BitVec 32 := 0#32
  let c0_i32_1 : BitVec 32 := 0#32
  ![v3.toNat, c0_i32.toNat, c0_i32_0.toNat]

def cc0_transform_47 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c21_i32 : BitVec 32 := 21#32
  let v1 : BitVec 32 := Scalar.addi v0 c21_i32
  let c1 : Index := 1#32
  let v2 : Index := Scalar.indexCast v1
  let v3 : BitVec 32 := pf.at 0 (Rect.unit (s := S2x1408) ![1, v2.toNat] S1x1.size (k0_off2_inb i 21)) numel1_S1x1
  let c0_i32 : BitVec 32 := 0#32
  let c0_i32_0 : BitVec 32 := 0#32
  let c0_i32_1 : BitVec 32 := 0#32
  ![v3.toNat, c0_i32.toNat, c0_i32_0.toNat]

def cc0_transform_48 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c22_i32 : BitVec 32 := 22#32
  let v1 : BitVec 32 := Scalar.addi v0 c22_i32
  let c0 : Index := 0#32
  let v2 : Index := Scalar.indexCast v1
  let v3 : BitVec 32 := pf.at 0 (Rect.unit (s := S2x1408) ![0, v2.toNat] S1x1.size (k0_off1_inb i 22)) numel1_S1x1
  let c0_i32 : BitVec 32 := 0#32
  let c0_i32_0 : BitVec 32 := 0#32
  let c0_i32_1 : BitVec 32 := 0#32
  ![v3.toNat, c0_i32.toNat, c0_i32_0.toNat]

def cc0_transform_49 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c22_i32 : BitVec 32 := 22#32
  let v1 : BitVec 32 := Scalar.addi v0 c22_i32
  let c1 : Index := 1#32
  let v2 : Index := Scalar.indexCast v1
  let v3 : BitVec 32 := pf.at 0 (Rect.unit (s := S2x1408) ![1, v2.toNat] S1x1.size (k0_off2_inb i 22)) numel1_S1x1
  let c0_i32 : BitVec 32 := 0#32
  let c0_i32_0 : BitVec 32 := 0#32
  let c0_i32_1 : BitVec 32 := 0#32
  ![v3.toNat, c0_i32.toNat, c0_i32_0.toNat]

def cc0_transform_50 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c23_i32 : BitVec 32 := 23#32
  let v1 : BitVec 32 := Scalar.addi v0 c23_i32
  let c0 : Index := 0#32
  let v2 : Index := Scalar.indexCast v1
  let v3 : BitVec 32 := pf.at 0 (Rect.unit (s := S2x1408) ![0, v2.toNat] S1x1.size (k0_off1_inb i 23)) numel1_S1x1
  let c0_i32 : BitVec 32 := 0#32
  let c0_i32_0 : BitVec 32 := 0#32
  let c0_i32_1 : BitVec 32 := 0#32
  ![v3.toNat, c0_i32.toNat, c0_i32_0.toNat]

def cc0_transform_51 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c23_i32 : BitVec 32 := 23#32
  let v1 : BitVec 32 := Scalar.addi v0 c23_i32
  let c1 : Index := 1#32
  let v2 : Index := Scalar.indexCast v1
  let v3 : BitVec 32 := pf.at 0 (Rect.unit (s := S2x1408) ![1, v2.toNat] S1x1.size (k0_off2_inb i 23)) numel1_S1x1
  let c0_i32 : BitVec 32 := 0#32
  let c0_i32_0 : BitVec 32 := 0#32
  let c0_i32_1 : BitVec 32 := 0#32
  ![v3.toNat, c0_i32.toNat, c0_i32_0.toNat]

def cc0_transform_52 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c24_i32 : BitVec 32 := 24#32
  let v1 : BitVec 32 := Scalar.addi v0 c24_i32
  let c0 : Index := 0#32
  let v2 : Index := Scalar.indexCast v1
  let v3 : BitVec 32 := pf.at 0 (Rect.unit (s := S2x1408) ![0, v2.toNat] S1x1.size (k0_off1_inb i 24)) numel1_S1x1
  let c0_i32 : BitVec 32 := 0#32
  let c0_i32_0 : BitVec 32 := 0#32
  let c0_i32_1 : BitVec 32 := 0#32
  ![v3.toNat, c0_i32.toNat, c0_i32_0.toNat]

def cc0_transform_53 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c24_i32 : BitVec 32 := 24#32
  let v1 : BitVec 32 := Scalar.addi v0 c24_i32
  let c1 : Index := 1#32
  let v2 : Index := Scalar.indexCast v1
  let v3 : BitVec 32 := pf.at 0 (Rect.unit (s := S2x1408) ![1, v2.toNat] S1x1.size (k0_off2_inb i 24)) numel1_S1x1
  let c0_i32 : BitVec 32 := 0#32
  let c0_i32_0 : BitVec 32 := 0#32
  let c0_i32_1 : BitVec 32 := 0#32
  ![v3.toNat, c0_i32.toNat, c0_i32_0.toNat]

def cc0_transform_54 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c25_i32 : BitVec 32 := 25#32
  let v1 : BitVec 32 := Scalar.addi v0 c25_i32
  let c0 : Index := 0#32
  let v2 : Index := Scalar.indexCast v1
  let v3 : BitVec 32 := pf.at 0 (Rect.unit (s := S2x1408) ![0, v2.toNat] S1x1.size (k0_off1_inb i 25)) numel1_S1x1
  let c0_i32 : BitVec 32 := 0#32
  let c0_i32_0 : BitVec 32 := 0#32
  let c0_i32_1 : BitVec 32 := 0#32
  ![v3.toNat, c0_i32.toNat, c0_i32_0.toNat]

def cc0_transform_55 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c25_i32 : BitVec 32 := 25#32
  let v1 : BitVec 32 := Scalar.addi v0 c25_i32
  let c1 : Index := 1#32
  let v2 : Index := Scalar.indexCast v1
  let v3 : BitVec 32 := pf.at 0 (Rect.unit (s := S2x1408) ![1, v2.toNat] S1x1.size (k0_off2_inb i 25)) numel1_S1x1
  let c0_i32 : BitVec 32 := 0#32
  let c0_i32_0 : BitVec 32 := 0#32
  let c0_i32_1 : BitVec 32 := 0#32
  ![v3.toNat, c0_i32.toNat, c0_i32_0.toNat]

def cc0_transform_56 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c26_i32 : BitVec 32 := 26#32
  let v1 : BitVec 32 := Scalar.addi v0 c26_i32
  let c0 : Index := 0#32
  let v2 : Index := Scalar.indexCast v1
  let v3 : BitVec 32 := pf.at 0 (Rect.unit (s := S2x1408) ![0, v2.toNat] S1x1.size (k0_off1_inb i 26)) numel1_S1x1
  let c0_i32 : BitVec 32 := 0#32
  let c0_i32_0 : BitVec 32 := 0#32
  let c0_i32_1 : BitVec 32 := 0#32
  ![v3.toNat, c0_i32.toNat, c0_i32_0.toNat]

def cc0_transform_57 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c26_i32 : BitVec 32 := 26#32
  let v1 : BitVec 32 := Scalar.addi v0 c26_i32
  let c1 : Index := 1#32
  let v2 : Index := Scalar.indexCast v1
  let v3 : BitVec 32 := pf.at 0 (Rect.unit (s := S2x1408) ![1, v2.toNat] S1x1.size (k0_off2_inb i 26)) numel1_S1x1
  let c0_i32 : BitVec 32 := 0#32
  let c0_i32_0 : BitVec 32 := 0#32
  let c0_i32_1 : BitVec 32 := 0#32
  ![v3.toNat, c0_i32.toNat, c0_i32_0.toNat]

def cc0_transform_58 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c27_i32 : BitVec 32 := 27#32
  let v1 : BitVec 32 := Scalar.addi v0 c27_i32
  let c0 : Index := 0#32
  let v2 : Index := Scalar.indexCast v1
  let v3 : BitVec 32 := pf.at 0 (Rect.unit (s := S2x1408) ![0, v2.toNat] S1x1.size (k0_off1_inb i 27)) numel1_S1x1
  let c0_i32 : BitVec 32 := 0#32
  let c0_i32_0 : BitVec 32 := 0#32
  let c0_i32_1 : BitVec 32 := 0#32
  ![v3.toNat, c0_i32.toNat, c0_i32_0.toNat]

def cc0_transform_59 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c27_i32 : BitVec 32 := 27#32
  let v1 : BitVec 32 := Scalar.addi v0 c27_i32
  let c1 : Index := 1#32
  let v2 : Index := Scalar.indexCast v1
  let v3 : BitVec 32 := pf.at 0 (Rect.unit (s := S2x1408) ![1, v2.toNat] S1x1.size (k0_off2_inb i 27)) numel1_S1x1
  let c0_i32 : BitVec 32 := 0#32
  let c0_i32_0 : BitVec 32 := 0#32
  let c0_i32_1 : BitVec 32 := 0#32
  ![v3.toNat, c0_i32.toNat, c0_i32_0.toNat]

def cc0_transform_60 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c28_i32 : BitVec 32 := 28#32
  let v1 : BitVec 32 := Scalar.addi v0 c28_i32
  let c0 : Index := 0#32
  let v2 : Index := Scalar.indexCast v1
  let v3 : BitVec 32 := pf.at 0 (Rect.unit (s := S2x1408) ![0, v2.toNat] S1x1.size (k0_off1_inb i 28)) numel1_S1x1
  let c0_i32 : BitVec 32 := 0#32
  let c0_i32_0 : BitVec 32 := 0#32
  let c0_i32_1 : BitVec 32 := 0#32
  ![v3.toNat, c0_i32.toNat, c0_i32_0.toNat]

def cc0_transform_61 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c28_i32 : BitVec 32 := 28#32
  let v1 : BitVec 32 := Scalar.addi v0 c28_i32
  let c1 : Index := 1#32
  let v2 : Index := Scalar.indexCast v1
  let v3 : BitVec 32 := pf.at 0 (Rect.unit (s := S2x1408) ![1, v2.toNat] S1x1.size (k0_off2_inb i 28)) numel1_S1x1
  let c0_i32 : BitVec 32 := 0#32
  let c0_i32_0 : BitVec 32 := 0#32
  let c0_i32_1 : BitVec 32 := 0#32
  ![v3.toNat, c0_i32.toNat, c0_i32_0.toNat]

def cc0_transform_62 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c29_i32 : BitVec 32 := 29#32
  let v1 : BitVec 32 := Scalar.addi v0 c29_i32
  let c0 : Index := 0#32
  let v2 : Index := Scalar.indexCast v1
  let v3 : BitVec 32 := pf.at 0 (Rect.unit (s := S2x1408) ![0, v2.toNat] S1x1.size (k0_off1_inb i 29)) numel1_S1x1
  let c0_i32 : BitVec 32 := 0#32
  let c0_i32_0 : BitVec 32 := 0#32
  let c0_i32_1 : BitVec 32 := 0#32
  ![v3.toNat, c0_i32.toNat, c0_i32_0.toNat]

def cc0_transform_63 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c29_i32 : BitVec 32 := 29#32
  let v1 : BitVec 32 := Scalar.addi v0 c29_i32
  let c1 : Index := 1#32
  let v2 : Index := Scalar.indexCast v1
  let v3 : BitVec 32 := pf.at 0 (Rect.unit (s := S2x1408) ![1, v2.toNat] S1x1.size (k0_off2_inb i 29)) numel1_S1x1
  let c0_i32 : BitVec 32 := 0#32
  let c0_i32_0 : BitVec 32 := 0#32
  let c0_i32_1 : BitVec 32 := 0#32
  ![v3.toNat, c0_i32.toNat, c0_i32_0.toNat]

def cc0_transform_64 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c30_i32 : BitVec 32 := 30#32
  let v1 : BitVec 32 := Scalar.addi v0 c30_i32
  let c0 : Index := 0#32
  let v2 : Index := Scalar.indexCast v1
  let v3 : BitVec 32 := pf.at 0 (Rect.unit (s := S2x1408) ![0, v2.toNat] S1x1.size (k0_off1_inb i 30)) numel1_S1x1
  let c0_i32 : BitVec 32 := 0#32
  let c0_i32_0 : BitVec 32 := 0#32
  let c0_i32_1 : BitVec 32 := 0#32
  ![v3.toNat, c0_i32.toNat, c0_i32_0.toNat]

def cc0_transform_65 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c30_i32 : BitVec 32 := 30#32
  let v1 : BitVec 32 := Scalar.addi v0 c30_i32
  let c1 : Index := 1#32
  let v2 : Index := Scalar.indexCast v1
  let v3 : BitVec 32 := pf.at 0 (Rect.unit (s := S2x1408) ![1, v2.toNat] S1x1.size (k0_off2_inb i 30)) numel1_S1x1
  let c0_i32 : BitVec 32 := 0#32
  let c0_i32_0 : BitVec 32 := 0#32
  let c0_i32_1 : BitVec 32 := 0#32
  ![v3.toNat, c0_i32.toNat, c0_i32_0.toNat]

def cc0_transform_66 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c31_i32 : BitVec 32 := 31#32
  let v1 : BitVec 32 := Scalar.addi v0 c31_i32
  let c0 : Index := 0#32
  let v2 : Index := Scalar.indexCast v1
  let v3 : BitVec 32 := pf.at 0 (Rect.unit (s := S2x1408) ![0, v2.toNat] S1x1.size (k0_off1_inb i 31)) numel1_S1x1
  let c0_i32 : BitVec 32 := 0#32
  let c0_i32_0 : BitVec 32 := 0#32
  let c0_i32_1 : BitVec 32 := 0#32
  ![v3.toNat, c0_i32.toNat, c0_i32_0.toNat]

def cc0_transform_67 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c31_i32 : BitVec 32 := 31#32
  let v1 : BitVec 32 := Scalar.addi v0 c31_i32
  let c1 : Index := 1#32
  let v2 : Index := Scalar.indexCast v1
  let v3 : BitVec 32 := pf.at 0 (Rect.unit (s := S2x1408) ![1, v2.toNat] S1x1.size (k0_off2_inb i 31)) numel1_S1x1
  let c0_i32 : BitVec 32 := 0#32
  let c0_i32_0 : BitVec 32 := 0#32
  let c0_i32_1 : BitVec 32 := 0#32
  ![v3.toNat, c0_i32.toNat, c0_i32_0.toNat]

def cc0_transform_68 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c32_i32 : BitVec 32 := 32#32
  let v1 : BitVec 32 := Scalar.addi v0 c32_i32
  let c0 : Index := 0#32
  let v2 : Index := Scalar.indexCast v1
  let v3 : BitVec 32 := pf.at 0 (Rect.unit (s := S2x1408) ![0, v2.toNat] S1x1.size (k0_off1_inb i 32)) numel1_S1x1
  let c0_i32 : BitVec 32 := 0#32
  let c0_i32_0 : BitVec 32 := 0#32
  let c0_i32_1 : BitVec 32 := 0#32
  ![v3.toNat, c0_i32.toNat, c0_i32_0.toNat]

def cc0_transform_69 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c32_i32 : BitVec 32 := 32#32
  let v1 : BitVec 32 := Scalar.addi v0 c32_i32
  let c1 : Index := 1#32
  let v2 : Index := Scalar.indexCast v1
  let v3 : BitVec 32 := pf.at 0 (Rect.unit (s := S2x1408) ![1, v2.toNat] S1x1.size (k0_off2_inb i 32)) numel1_S1x1
  let c0_i32 : BitVec 32 := 0#32
  let c0_i32_0 : BitVec 32 := 0#32
  let c0_i32_1 : BitVec 32 := 0#32
  ![v3.toNat, c0_i32.toNat, c0_i32_0.toNat]

def cc0_transform_70 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c33_i32 : BitVec 32 := 33#32
  let v1 : BitVec 32 := Scalar.addi v0 c33_i32
  let c0 : Index := 0#32
  let v2 : Index := Scalar.indexCast v1
  let v3 : BitVec 32 := pf.at 0 (Rect.unit (s := S2x1408) ![0, v2.toNat] S1x1.size (k0_off1_inb i 33)) numel1_S1x1
  let c0_i32 : BitVec 32 := 0#32
  let c0_i32_0 : BitVec 32 := 0#32
  let c0_i32_1 : BitVec 32 := 0#32
  ![v3.toNat, c0_i32.toNat, c0_i32_0.toNat]

def cc0_transform_71 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c33_i32 : BitVec 32 := 33#32
  let v1 : BitVec 32 := Scalar.addi v0 c33_i32
  let c1 : Index := 1#32
  let v2 : Index := Scalar.indexCast v1
  let v3 : BitVec 32 := pf.at 0 (Rect.unit (s := S2x1408) ![1, v2.toNat] S1x1.size (k0_off2_inb i 33)) numel1_S1x1
  let c0_i32 : BitVec 32 := 0#32
  let c0_i32_0 : BitVec 32 := 0#32
  let c0_i32_1 : BitVec 32 := 0#32
  ![v3.toNat, c0_i32.toNat, c0_i32_0.toNat]

def cc0_transform_72 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c34_i32 : BitVec 32 := 34#32
  let v1 : BitVec 32 := Scalar.addi v0 c34_i32
  let c0 : Index := 0#32
  let v2 : Index := Scalar.indexCast v1
  let v3 : BitVec 32 := pf.at 0 (Rect.unit (s := S2x1408) ![0, v2.toNat] S1x1.size (k0_off1_inb i 34)) numel1_S1x1
  let c0_i32 : BitVec 32 := 0#32
  let c0_i32_0 : BitVec 32 := 0#32
  let c0_i32_1 : BitVec 32 := 0#32
  ![v3.toNat, c0_i32.toNat, c0_i32_0.toNat]

def cc0_transform_73 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c34_i32 : BitVec 32 := 34#32
  let v1 : BitVec 32 := Scalar.addi v0 c34_i32
  let c1 : Index := 1#32
  let v2 : Index := Scalar.indexCast v1
  let v3 : BitVec 32 := pf.at 0 (Rect.unit (s := S2x1408) ![1, v2.toNat] S1x1.size (k0_off2_inb i 34)) numel1_S1x1
  let c0_i32 : BitVec 32 := 0#32
  let c0_i32_0 : BitVec 32 := 0#32
  let c0_i32_1 : BitVec 32 := 0#32
  ![v3.toNat, c0_i32.toNat, c0_i32_0.toNat]

def cc0_transform_74 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c35_i32 : BitVec 32 := 35#32
  let v1 : BitVec 32 := Scalar.addi v0 c35_i32
  let c0 : Index := 0#32
  let v2 : Index := Scalar.indexCast v1
  let v3 : BitVec 32 := pf.at 0 (Rect.unit (s := S2x1408) ![0, v2.toNat] S1x1.size (k0_off1_inb i 35)) numel1_S1x1
  let c0_i32 : BitVec 32 := 0#32
  let c0_i32_0 : BitVec 32 := 0#32
  let c0_i32_1 : BitVec 32 := 0#32
  ![v3.toNat, c0_i32.toNat, c0_i32_0.toNat]

def cc0_transform_75 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c35_i32 : BitVec 32 := 35#32
  let v1 : BitVec 32 := Scalar.addi v0 c35_i32
  let c1 : Index := 1#32
  let v2 : Index := Scalar.indexCast v1
  let v3 : BitVec 32 := pf.at 0 (Rect.unit (s := S2x1408) ![1, v2.toNat] S1x1.size (k0_off2_inb i 35)) numel1_S1x1
  let c0_i32 : BitVec 32 := 0#32
  let c0_i32_0 : BitVec 32 := 0#32
  let c0_i32_1 : BitVec 32 := 0#32
  ![v3.toNat, c0_i32.toNat, c0_i32_0.toNat]

def cc0_transform_76 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c36_i32 : BitVec 32 := 36#32
  let v1 : BitVec 32 := Scalar.addi v0 c36_i32
  let c0 : Index := 0#32
  let v2 : Index := Scalar.indexCast v1
  let v3 : BitVec 32 := pf.at 0 (Rect.unit (s := S2x1408) ![0, v2.toNat] S1x1.size (k0_off1_inb i 36)) numel1_S1x1
  let c0_i32 : BitVec 32 := 0#32
  let c0_i32_0 : BitVec 32 := 0#32
  let c0_i32_1 : BitVec 32 := 0#32
  ![v3.toNat, c0_i32.toNat, c0_i32_0.toNat]

def cc0_transform_77 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c36_i32 : BitVec 32 := 36#32
  let v1 : BitVec 32 := Scalar.addi v0 c36_i32
  let c1 : Index := 1#32
  let v2 : Index := Scalar.indexCast v1
  let v3 : BitVec 32 := pf.at 0 (Rect.unit (s := S2x1408) ![1, v2.toNat] S1x1.size (k0_off2_inb i 36)) numel1_S1x1
  let c0_i32 : BitVec 32 := 0#32
  let c0_i32_0 : BitVec 32 := 0#32
  let c0_i32_1 : BitVec 32 := 0#32
  ![v3.toNat, c0_i32.toNat, c0_i32_0.toNat]

def cc0_transform_78 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c37_i32 : BitVec 32 := 37#32
  let v1 : BitVec 32 := Scalar.addi v0 c37_i32
  let c0 : Index := 0#32
  let v2 : Index := Scalar.indexCast v1
  let v3 : BitVec 32 := pf.at 0 (Rect.unit (s := S2x1408) ![0, v2.toNat] S1x1.size (k0_off1_inb i 37)) numel1_S1x1
  let c0_i32 : BitVec 32 := 0#32
  let c0_i32_0 : BitVec 32 := 0#32
  let c0_i32_1 : BitVec 32 := 0#32
  ![v3.toNat, c0_i32.toNat, c0_i32_0.toNat]

def cc0_transform_79 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c37_i32 : BitVec 32 := 37#32
  let v1 : BitVec 32 := Scalar.addi v0 c37_i32
  let c1 : Index := 1#32
  let v2 : Index := Scalar.indexCast v1
  let v3 : BitVec 32 := pf.at 0 (Rect.unit (s := S2x1408) ![1, v2.toNat] S1x1.size (k0_off2_inb i 37)) numel1_S1x1
  let c0_i32 : BitVec 32 := 0#32
  let c0_i32_0 : BitVec 32 := 0#32
  let c0_i32_1 : BitVec 32 := 0#32
  ![v3.toNat, c0_i32.toNat, c0_i32_0.toNat]

def cc0_transform_80 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c38_i32 : BitVec 32 := 38#32
  let v1 : BitVec 32 := Scalar.addi v0 c38_i32
  let c0 : Index := 0#32
  let v2 : Index := Scalar.indexCast v1
  let v3 : BitVec 32 := pf.at 0 (Rect.unit (s := S2x1408) ![0, v2.toNat] S1x1.size (k0_off1_inb i 38)) numel1_S1x1
  let c0_i32 : BitVec 32 := 0#32
  let c0_i32_0 : BitVec 32 := 0#32
  let c0_i32_1 : BitVec 32 := 0#32
  ![v3.toNat, c0_i32.toNat, c0_i32_0.toNat]

def cc0_transform_81 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c38_i32 : BitVec 32 := 38#32
  let v1 : BitVec 32 := Scalar.addi v0 c38_i32
  let c1 : Index := 1#32
  let v2 : Index := Scalar.indexCast v1
  let v3 : BitVec 32 := pf.at 0 (Rect.unit (s := S2x1408) ![1, v2.toNat] S1x1.size (k0_off2_inb i 38)) numel1_S1x1
  let c0_i32 : BitVec 32 := 0#32
  let c0_i32_0 : BitVec 32 := 0#32
  let c0_i32_1 : BitVec 32 := 0#32
  ![v3.toNat, c0_i32.toNat, c0_i32_0.toNat]

def cc0_transform_82 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c39_i32 : BitVec 32 := 39#32
  let v1 : BitVec 32 := Scalar.addi v0 c39_i32
  let c0 : Index := 0#32
  let v2 : Index := Scalar.indexCast v1
  let v3 : BitVec 32 := pf.at 0 (Rect.unit (s := S2x1408) ![0, v2.toNat] S1x1.size (k0_off1_inb i 39)) numel1_S1x1
  let c0_i32 : BitVec 32 := 0#32
  let c0_i32_0 : BitVec 32 := 0#32
  let c0_i32_1 : BitVec 32 := 0#32
  ![v3.toNat, c0_i32.toNat, c0_i32_0.toNat]

def cc0_transform_83 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c39_i32 : BitVec 32 := 39#32
  let v1 : BitVec 32 := Scalar.addi v0 c39_i32
  let c1 : Index := 1#32
  let v2 : Index := Scalar.indexCast v1
  let v3 : BitVec 32 := pf.at 0 (Rect.unit (s := S2x1408) ![1, v2.toNat] S1x1.size (k0_off2_inb i 39)) numel1_S1x1
  let c0_i32 : BitVec 32 := 0#32
  let c0_i32_0 : BitVec 32 := 0#32
  let c0_i32_1 : BitVec 32 := 0#32
  ![v3.toNat, c0_i32.toNat, c0_i32_0.toNat]

def cc0_transform_84 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c40_i32 : BitVec 32 := 40#32
  let v1 : BitVec 32 := Scalar.addi v0 c40_i32
  let c0 : Index := 0#32
  let v2 : Index := Scalar.indexCast v1
  let v3 : BitVec 32 := pf.at 0 (Rect.unit (s := S2x1408) ![0, v2.toNat] S1x1.size (k0_off1_inb i 40)) numel1_S1x1
  let c0_i32 : BitVec 32 := 0#32
  let c0_i32_0 : BitVec 32 := 0#32
  let c0_i32_1 : BitVec 32 := 0#32
  ![v3.toNat, c0_i32.toNat, c0_i32_0.toNat]

def cc0_transform_85 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c40_i32 : BitVec 32 := 40#32
  let v1 : BitVec 32 := Scalar.addi v0 c40_i32
  let c1 : Index := 1#32
  let v2 : Index := Scalar.indexCast v1
  let v3 : BitVec 32 := pf.at 0 (Rect.unit (s := S2x1408) ![1, v2.toNat] S1x1.size (k0_off2_inb i 40)) numel1_S1x1
  let c0_i32 : BitVec 32 := 0#32
  let c0_i32_0 : BitVec 32 := 0#32
  let c0_i32_1 : BitVec 32 := 0#32
  ![v3.toNat, c0_i32.toNat, c0_i32_0.toNat]

def cc0_transform_86 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c41_i32 : BitVec 32 := 41#32
  let v1 : BitVec 32 := Scalar.addi v0 c41_i32
  let c0 : Index := 0#32
  let v2 : Index := Scalar.indexCast v1
  let v3 : BitVec 32 := pf.at 0 (Rect.unit (s := S2x1408) ![0, v2.toNat] S1x1.size (k0_off1_inb i 41)) numel1_S1x1
  let c0_i32 : BitVec 32 := 0#32
  let c0_i32_0 : BitVec 32 := 0#32
  let c0_i32_1 : BitVec 32 := 0#32
  ![v3.toNat, c0_i32.toNat, c0_i32_0.toNat]

def cc0_transform_87 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c41_i32 : BitVec 32 := 41#32
  let v1 : BitVec 32 := Scalar.addi v0 c41_i32
  let c1 : Index := 1#32
  let v2 : Index := Scalar.indexCast v1
  let v3 : BitVec 32 := pf.at 0 (Rect.unit (s := S2x1408) ![1, v2.toNat] S1x1.size (k0_off2_inb i 41)) numel1_S1x1
  let c0_i32 : BitVec 32 := 0#32
  let c0_i32_0 : BitVec 32 := 0#32
  let c0_i32_1 : BitVec 32 := 0#32
  ![v3.toNat, c0_i32.toNat, c0_i32_0.toNat]

def cc0_transform_88 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c42_i32 : BitVec 32 := 42#32
  let v1 : BitVec 32 := Scalar.addi v0 c42_i32
  let c0 : Index := 0#32
  let v2 : Index := Scalar.indexCast v1
  let v3 : BitVec 32 := pf.at 0 (Rect.unit (s := S2x1408) ![0, v2.toNat] S1x1.size (k0_off1_inb i 42)) numel1_S1x1
  let c0_i32 : BitVec 32 := 0#32
  let c0_i32_0 : BitVec 32 := 0#32
  let c0_i32_1 : BitVec 32 := 0#32
  ![v3.toNat, c0_i32.toNat, c0_i32_0.toNat]

def cc0_transform_89 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c42_i32 : BitVec 32 := 42#32
  let v1 : BitVec 32 := Scalar.addi v0 c42_i32
  let c1 : Index := 1#32
  let v2 : Index := Scalar.indexCast v1
  let v3 : BitVec 32 := pf.at 0 (Rect.unit (s := S2x1408) ![1, v2.toNat] S1x1.size (k0_off2_inb i 42)) numel1_S1x1
  let c0_i32 : BitVec 32 := 0#32
  let c0_i32_0 : BitVec 32 := 0#32
  let c0_i32_1 : BitVec 32 := 0#32
  ![v3.toNat, c0_i32.toNat, c0_i32_0.toNat]

def cc0_transform_90 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c43_i32 : BitVec 32 := 43#32
  let v1 : BitVec 32 := Scalar.addi v0 c43_i32
  let c0 : Index := 0#32
  let v2 : Index := Scalar.indexCast v1
  let v3 : BitVec 32 := pf.at 0 (Rect.unit (s := S2x1408) ![0, v2.toNat] S1x1.size (k0_off1_inb i 43)) numel1_S1x1
  let c0_i32 : BitVec 32 := 0#32
  let c0_i32_0 : BitVec 32 := 0#32
  let c0_i32_1 : BitVec 32 := 0#32
  ![v3.toNat, c0_i32.toNat, c0_i32_0.toNat]

def cc0_transform_91 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c43_i32 : BitVec 32 := 43#32
  let v1 : BitVec 32 := Scalar.addi v0 c43_i32
  let c1 : Index := 1#32
  let v2 : Index := Scalar.indexCast v1
  let v3 : BitVec 32 := pf.at 0 (Rect.unit (s := S2x1408) ![1, v2.toNat] S1x1.size (k0_off2_inb i 43)) numel1_S1x1
  let c0_i32 : BitVec 32 := 0#32
  let c0_i32_0 : BitVec 32 := 0#32
  let c0_i32_1 : BitVec 32 := 0#32
  ![v3.toNat, c0_i32.toNat, c0_i32_0.toNat]

def cc0_transform_92 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c44_i32 : BitVec 32 := 44#32
  let v1 : BitVec 32 := Scalar.addi v0 c44_i32
  let c0 : Index := 0#32
  let v2 : Index := Scalar.indexCast v1
  let v3 : BitVec 32 := pf.at 0 (Rect.unit (s := S2x1408) ![0, v2.toNat] S1x1.size (k0_off1_inb i 44)) numel1_S1x1
  let c0_i32 : BitVec 32 := 0#32
  let c0_i32_0 : BitVec 32 := 0#32
  let c0_i32_1 : BitVec 32 := 0#32
  ![v3.toNat, c0_i32.toNat, c0_i32_0.toNat]

def cc0_transform_93 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c44_i32 : BitVec 32 := 44#32
  let v1 : BitVec 32 := Scalar.addi v0 c44_i32
  let c1 : Index := 1#32
  let v2 : Index := Scalar.indexCast v1
  let v3 : BitVec 32 := pf.at 0 (Rect.unit (s := S2x1408) ![1, v2.toNat] S1x1.size (k0_off2_inb i 44)) numel1_S1x1
  let c0_i32 : BitVec 32 := 0#32
  let c0_i32_0 : BitVec 32 := 0#32
  let c0_i32_1 : BitVec 32 := 0#32
  ![v3.toNat, c0_i32.toNat, c0_i32_0.toNat]

def cc0_transform_94 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c45_i32 : BitVec 32 := 45#32
  let v1 : BitVec 32 := Scalar.addi v0 c45_i32
  let c0 : Index := 0#32
  let v2 : Index := Scalar.indexCast v1
  let v3 : BitVec 32 := pf.at 0 (Rect.unit (s := S2x1408) ![0, v2.toNat] S1x1.size (k0_off1_inb i 45)) numel1_S1x1
  let c0_i32 : BitVec 32 := 0#32
  let c0_i32_0 : BitVec 32 := 0#32
  let c0_i32_1 : BitVec 32 := 0#32
  ![v3.toNat, c0_i32.toNat, c0_i32_0.toNat]

def cc0_transform_95 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c45_i32 : BitVec 32 := 45#32
  let v1 : BitVec 32 := Scalar.addi v0 c45_i32
  let c1 : Index := 1#32
  let v2 : Index := Scalar.indexCast v1
  let v3 : BitVec 32 := pf.at 0 (Rect.unit (s := S2x1408) ![1, v2.toNat] S1x1.size (k0_off2_inb i 45)) numel1_S1x1
  let c0_i32 : BitVec 32 := 0#32
  let c0_i32_0 : BitVec 32 := 0#32
  let c0_i32_1 : BitVec 32 := 0#32
  ![v3.toNat, c0_i32.toNat, c0_i32_0.toNat]

def cc0_transform_96 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c46_i32 : BitVec 32 := 46#32
  let v1 : BitVec 32 := Scalar.addi v0 c46_i32
  let c0 : Index := 0#32
  let v2 : Index := Scalar.indexCast v1
  let v3 : BitVec 32 := pf.at 0 (Rect.unit (s := S2x1408) ![0, v2.toNat] S1x1.size (k0_off1_inb i 46)) numel1_S1x1
  let c0_i32 : BitVec 32 := 0#32
  let c0_i32_0 : BitVec 32 := 0#32
  let c0_i32_1 : BitVec 32 := 0#32
  ![v3.toNat, c0_i32.toNat, c0_i32_0.toNat]

def cc0_transform_97 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c46_i32 : BitVec 32 := 46#32
  let v1 : BitVec 32 := Scalar.addi v0 c46_i32
  let c1 : Index := 1#32
  let v2 : Index := Scalar.indexCast v1
  let v3 : BitVec 32 := pf.at 0 (Rect.unit (s := S2x1408) ![1, v2.toNat] S1x1.size (k0_off2_inb i 46)) numel1_S1x1
  let c0_i32 : BitVec 32 := 0#32
  let c0_i32_0 : BitVec 32 := 0#32
  let c0_i32_1 : BitVec 32 := 0#32
  ![v3.toNat, c0_i32.toNat, c0_i32_0.toNat]

def cc0_transform_98 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c47_i32 : BitVec 32 := 47#32
  let v1 : BitVec 32 := Scalar.addi v0 c47_i32
  let c0 : Index := 0#32
  let v2 : Index := Scalar.indexCast v1
  let v3 : BitVec 32 := pf.at 0 (Rect.unit (s := S2x1408) ![0, v2.toNat] S1x1.size (k0_off1_inb i 47)) numel1_S1x1
  let c0_i32 : BitVec 32 := 0#32
  let c0_i32_0 : BitVec 32 := 0#32
  let c0_i32_1 : BitVec 32 := 0#32
  ![v3.toNat, c0_i32.toNat, c0_i32_0.toNat]

def cc0_transform_99 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c47_i32 : BitVec 32 := 47#32
  let v1 : BitVec 32 := Scalar.addi v0 c47_i32
  let c1 : Index := 1#32
  let v2 : Index := Scalar.indexCast v1
  let v3 : BitVec 32 := pf.at 0 (Rect.unit (s := S2x1408) ![1, v2.toNat] S1x1.size (k0_off2_inb i 47)) numel1_S1x1
  let c0_i32 : BitVec 32 := 0#32
  let c0_i32_0 : BitVec 32 := 0#32
  let c0_i32_1 : BitVec 32 := 0#32
  ![v3.toNat, c0_i32.toNat, c0_i32_0.toNat]

def cc0_transform_100 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c48_i32 : BitVec 32 := 48#32
  let v1 : BitVec 32 := Scalar.addi v0 c48_i32
  let c0 : Index := 0#32
  let v2 : Index := Scalar.indexCast v1
  let v3 : BitVec 32 := pf.at 0 (Rect.unit (s := S2x1408) ![0, v2.toNat] S1x1.size (k0_off1_inb i 48)) numel1_S1x1
  let c0_i32 : BitVec 32 := 0#32
  let c0_i32_0 : BitVec 32 := 0#32
  let c0_i32_1 : BitVec 32 := 0#32
  ![v3.toNat, c0_i32.toNat, c0_i32_0.toNat]

def cc0_transform_101 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c48_i32 : BitVec 32 := 48#32
  let v1 : BitVec 32 := Scalar.addi v0 c48_i32
  let c1 : Index := 1#32
  let v2 : Index := Scalar.indexCast v1
  let v3 : BitVec 32 := pf.at 0 (Rect.unit (s := S2x1408) ![1, v2.toNat] S1x1.size (k0_off2_inb i 48)) numel1_S1x1
  let c0_i32 : BitVec 32 := 0#32
  let c0_i32_0 : BitVec 32 := 0#32
  let c0_i32_1 : BitVec 32 := 0#32
  ![v3.toNat, c0_i32.toNat, c0_i32_0.toNat]

def cc0_transform_102 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c49_i32 : BitVec 32 := 49#32
  let v1 : BitVec 32 := Scalar.addi v0 c49_i32
  let c0 : Index := 0#32
  let v2 : Index := Scalar.indexCast v1
  let v3 : BitVec 32 := pf.at 0 (Rect.unit (s := S2x1408) ![0, v2.toNat] S1x1.size (k0_off1_inb i 49)) numel1_S1x1
  let c0_i32 : BitVec 32 := 0#32
  let c0_i32_0 : BitVec 32 := 0#32
  let c0_i32_1 : BitVec 32 := 0#32
  ![v3.toNat, c0_i32.toNat, c0_i32_0.toNat]

def cc0_transform_103 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c49_i32 : BitVec 32 := 49#32
  let v1 : BitVec 32 := Scalar.addi v0 c49_i32
  let c1 : Index := 1#32
  let v2 : Index := Scalar.indexCast v1
  let v3 : BitVec 32 := pf.at 0 (Rect.unit (s := S2x1408) ![1, v2.toNat] S1x1.size (k0_off2_inb i 49)) numel1_S1x1
  let c0_i32 : BitVec 32 := 0#32
  let c0_i32_0 : BitVec 32 := 0#32
  let c0_i32_1 : BitVec 32 := 0#32
  ![v3.toNat, c0_i32.toNat, c0_i32_0.toNat]

def cc0_transform_104 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c50_i32 : BitVec 32 := 50#32
  let v1 : BitVec 32 := Scalar.addi v0 c50_i32
  let c0 : Index := 0#32
  let v2 : Index := Scalar.indexCast v1
  let v3 : BitVec 32 := pf.at 0 (Rect.unit (s := S2x1408) ![0, v2.toNat] S1x1.size (k0_off1_inb i 50)) numel1_S1x1
  let c0_i32 : BitVec 32 := 0#32
  let c0_i32_0 : BitVec 32 := 0#32
  let c0_i32_1 : BitVec 32 := 0#32
  ![v3.toNat, c0_i32.toNat, c0_i32_0.toNat]

def cc0_transform_105 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c50_i32 : BitVec 32 := 50#32
  let v1 : BitVec 32 := Scalar.addi v0 c50_i32
  let c1 : Index := 1#32
  let v2 : Index := Scalar.indexCast v1
  let v3 : BitVec 32 := pf.at 0 (Rect.unit (s := S2x1408) ![1, v2.toNat] S1x1.size (k0_off2_inb i 50)) numel1_S1x1
  let c0_i32 : BitVec 32 := 0#32
  let c0_i32_0 : BitVec 32 := 0#32
  let c0_i32_1 : BitVec 32 := 0#32
  ![v3.toNat, c0_i32.toNat, c0_i32_0.toNat]

def cc0_transform_106 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c51_i32 : BitVec 32 := 51#32
  let v1 : BitVec 32 := Scalar.addi v0 c51_i32
  let c0 : Index := 0#32
  let v2 : Index := Scalar.indexCast v1
  let v3 : BitVec 32 := pf.at 0 (Rect.unit (s := S2x1408) ![0, v2.toNat] S1x1.size (k0_off1_inb i 51)) numel1_S1x1
  let c0_i32 : BitVec 32 := 0#32
  let c0_i32_0 : BitVec 32 := 0#32
  let c0_i32_1 : BitVec 32 := 0#32
  ![v3.toNat, c0_i32.toNat, c0_i32_0.toNat]

def cc0_transform_107 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c51_i32 : BitVec 32 := 51#32
  let v1 : BitVec 32 := Scalar.addi v0 c51_i32
  let c1 : Index := 1#32
  let v2 : Index := Scalar.indexCast v1
  let v3 : BitVec 32 := pf.at 0 (Rect.unit (s := S2x1408) ![1, v2.toNat] S1x1.size (k0_off2_inb i 51)) numel1_S1x1
  let c0_i32 : BitVec 32 := 0#32
  let c0_i32_0 : BitVec 32 := 0#32
  let c0_i32_1 : BitVec 32 := 0#32
  ![v3.toNat, c0_i32.toNat, c0_i32_0.toNat]

def cc0_transform_108 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c52_i32 : BitVec 32 := 52#32
  let v1 : BitVec 32 := Scalar.addi v0 c52_i32
  let c0 : Index := 0#32
  let v2 : Index := Scalar.indexCast v1
  let v3 : BitVec 32 := pf.at 0 (Rect.unit (s := S2x1408) ![0, v2.toNat] S1x1.size (k0_off1_inb i 52)) numel1_S1x1
  let c0_i32 : BitVec 32 := 0#32
  let c0_i32_0 : BitVec 32 := 0#32
  let c0_i32_1 : BitVec 32 := 0#32
  ![v3.toNat, c0_i32.toNat, c0_i32_0.toNat]

def cc0_transform_109 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c52_i32 : BitVec 32 := 52#32
  let v1 : BitVec 32 := Scalar.addi v0 c52_i32
  let c1 : Index := 1#32
  let v2 : Index := Scalar.indexCast v1
  let v3 : BitVec 32 := pf.at 0 (Rect.unit (s := S2x1408) ![1, v2.toNat] S1x1.size (k0_off2_inb i 52)) numel1_S1x1
  let c0_i32 : BitVec 32 := 0#32
  let c0_i32_0 : BitVec 32 := 0#32
  let c0_i32_1 : BitVec 32 := 0#32
  ![v3.toNat, c0_i32.toNat, c0_i32_0.toNat]

def cc0_transform_110 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c53_i32 : BitVec 32 := 53#32
  let v1 : BitVec 32 := Scalar.addi v0 c53_i32
  let c0 : Index := 0#32
  let v2 : Index := Scalar.indexCast v1
  let v3 : BitVec 32 := pf.at 0 (Rect.unit (s := S2x1408) ![0, v2.toNat] S1x1.size (k0_off1_inb i 53)) numel1_S1x1
  let c0_i32 : BitVec 32 := 0#32
  let c0_i32_0 : BitVec 32 := 0#32
  let c0_i32_1 : BitVec 32 := 0#32
  ![v3.toNat, c0_i32.toNat, c0_i32_0.toNat]

def cc0_transform_111 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c53_i32 : BitVec 32 := 53#32
  let v1 : BitVec 32 := Scalar.addi v0 c53_i32
  let c1 : Index := 1#32
  let v2 : Index := Scalar.indexCast v1
  let v3 : BitVec 32 := pf.at 0 (Rect.unit (s := S2x1408) ![1, v2.toNat] S1x1.size (k0_off2_inb i 53)) numel1_S1x1
  let c0_i32 : BitVec 32 := 0#32
  let c0_i32_0 : BitVec 32 := 0#32
  let c0_i32_1 : BitVec 32 := 0#32
  ![v3.toNat, c0_i32.toNat, c0_i32_0.toNat]

def cc0_transform_112 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c54_i32 : BitVec 32 := 54#32
  let v1 : BitVec 32 := Scalar.addi v0 c54_i32
  let c0 : Index := 0#32
  let v2 : Index := Scalar.indexCast v1
  let v3 : BitVec 32 := pf.at 0 (Rect.unit (s := S2x1408) ![0, v2.toNat] S1x1.size (k0_off1_inb i 54)) numel1_S1x1
  let c0_i32 : BitVec 32 := 0#32
  let c0_i32_0 : BitVec 32 := 0#32
  let c0_i32_1 : BitVec 32 := 0#32
  ![v3.toNat, c0_i32.toNat, c0_i32_0.toNat]

def cc0_transform_113 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c54_i32 : BitVec 32 := 54#32
  let v1 : BitVec 32 := Scalar.addi v0 c54_i32
  let c1 : Index := 1#32
  let v2 : Index := Scalar.indexCast v1
  let v3 : BitVec 32 := pf.at 0 (Rect.unit (s := S2x1408) ![1, v2.toNat] S1x1.size (k0_off2_inb i 54)) numel1_S1x1
  let c0_i32 : BitVec 32 := 0#32
  let c0_i32_0 : BitVec 32 := 0#32
  let c0_i32_1 : BitVec 32 := 0#32
  ![v3.toNat, c0_i32.toNat, c0_i32_0.toNat]

def cc0_transform_114 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c55_i32 : BitVec 32 := 55#32
  let v1 : BitVec 32 := Scalar.addi v0 c55_i32
  let c0 : Index := 0#32
  let v2 : Index := Scalar.indexCast v1
  let v3 : BitVec 32 := pf.at 0 (Rect.unit (s := S2x1408) ![0, v2.toNat] S1x1.size (k0_off1_inb i 55)) numel1_S1x1
  let c0_i32 : BitVec 32 := 0#32
  let c0_i32_0 : BitVec 32 := 0#32
  let c0_i32_1 : BitVec 32 := 0#32
  ![v3.toNat, c0_i32.toNat, c0_i32_0.toNat]

def cc0_transform_115 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c55_i32 : BitVec 32 := 55#32
  let v1 : BitVec 32 := Scalar.addi v0 c55_i32
  let c1 : Index := 1#32
  let v2 : Index := Scalar.indexCast v1
  let v3 : BitVec 32 := pf.at 0 (Rect.unit (s := S2x1408) ![1, v2.toNat] S1x1.size (k0_off2_inb i 55)) numel1_S1x1
  let c0_i32 : BitVec 32 := 0#32
  let c0_i32_0 : BitVec 32 := 0#32
  let c0_i32_1 : BitVec 32 := 0#32
  ![v3.toNat, c0_i32.toNat, c0_i32_0.toNat]

def cc0_transform_116 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c56_i32 : BitVec 32 := 56#32
  let v1 : BitVec 32 := Scalar.addi v0 c56_i32
  let c0 : Index := 0#32
  let v2 : Index := Scalar.indexCast v1
  let v3 : BitVec 32 := pf.at 0 (Rect.unit (s := S2x1408) ![0, v2.toNat] S1x1.size (k0_off1_inb i 56)) numel1_S1x1
  let c0_i32 : BitVec 32 := 0#32
  let c0_i32_0 : BitVec 32 := 0#32
  let c0_i32_1 : BitVec 32 := 0#32
  ![v3.toNat, c0_i32.toNat, c0_i32_0.toNat]

def cc0_transform_117 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c56_i32 : BitVec 32 := 56#32
  let v1 : BitVec 32 := Scalar.addi v0 c56_i32
  let c1 : Index := 1#32
  let v2 : Index := Scalar.indexCast v1
  let v3 : BitVec 32 := pf.at 0 (Rect.unit (s := S2x1408) ![1, v2.toNat] S1x1.size (k0_off2_inb i 56)) numel1_S1x1
  let c0_i32 : BitVec 32 := 0#32
  let c0_i32_0 : BitVec 32 := 0#32
  let c0_i32_1 : BitVec 32 := 0#32
  ![v3.toNat, c0_i32.toNat, c0_i32_0.toNat]

def cc0_transform_118 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c57_i32 : BitVec 32 := 57#32
  let v1 : BitVec 32 := Scalar.addi v0 c57_i32
  let c0 : Index := 0#32
  let v2 : Index := Scalar.indexCast v1
  let v3 : BitVec 32 := pf.at 0 (Rect.unit (s := S2x1408) ![0, v2.toNat] S1x1.size (k0_off1_inb i 57)) numel1_S1x1
  let c0_i32 : BitVec 32 := 0#32
  let c0_i32_0 : BitVec 32 := 0#32
  let c0_i32_1 : BitVec 32 := 0#32
  ![v3.toNat, c0_i32.toNat, c0_i32_0.toNat]

def cc0_transform_119 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c57_i32 : BitVec 32 := 57#32
  let v1 : BitVec 32 := Scalar.addi v0 c57_i32
  let c1 : Index := 1#32
  let v2 : Index := Scalar.indexCast v1
  let v3 : BitVec 32 := pf.at 0 (Rect.unit (s := S2x1408) ![1, v2.toNat] S1x1.size (k0_off2_inb i 57)) numel1_S1x1
  let c0_i32 : BitVec 32 := 0#32
  let c0_i32_0 : BitVec 32 := 0#32
  let c0_i32_1 : BitVec 32 := 0#32
  ![v3.toNat, c0_i32.toNat, c0_i32_0.toNat]

def cc0_transform_120 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c58_i32 : BitVec 32 := 58#32
  let v1 : BitVec 32 := Scalar.addi v0 c58_i32
  let c0 : Index := 0#32
  let v2 : Index := Scalar.indexCast v1
  let v3 : BitVec 32 := pf.at 0 (Rect.unit (s := S2x1408) ![0, v2.toNat] S1x1.size (k0_off1_inb i 58)) numel1_S1x1
  let c0_i32 : BitVec 32 := 0#32
  let c0_i32_0 : BitVec 32 := 0#32
  let c0_i32_1 : BitVec 32 := 0#32
  ![v3.toNat, c0_i32.toNat, c0_i32_0.toNat]

def cc0_transform_121 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c58_i32 : BitVec 32 := 58#32
  let v1 : BitVec 32 := Scalar.addi v0 c58_i32
  let c1 : Index := 1#32
  let v2 : Index := Scalar.indexCast v1
  let v3 : BitVec 32 := pf.at 0 (Rect.unit (s := S2x1408) ![1, v2.toNat] S1x1.size (k0_off2_inb i 58)) numel1_S1x1
  let c0_i32 : BitVec 32 := 0#32
  let c0_i32_0 : BitVec 32 := 0#32
  let c0_i32_1 : BitVec 32 := 0#32
  ![v3.toNat, c0_i32.toNat, c0_i32_0.toNat]

def cc0_transform_122 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c59_i32 : BitVec 32 := 59#32
  let v1 : BitVec 32 := Scalar.addi v0 c59_i32
  let c0 : Index := 0#32
  let v2 : Index := Scalar.indexCast v1
  let v3 : BitVec 32 := pf.at 0 (Rect.unit (s := S2x1408) ![0, v2.toNat] S1x1.size (k0_off1_inb i 59)) numel1_S1x1
  let c0_i32 : BitVec 32 := 0#32
  let c0_i32_0 : BitVec 32 := 0#32
  let c0_i32_1 : BitVec 32 := 0#32
  ![v3.toNat, c0_i32.toNat, c0_i32_0.toNat]

def cc0_transform_123 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c59_i32 : BitVec 32 := 59#32
  let v1 : BitVec 32 := Scalar.addi v0 c59_i32
  let c1 : Index := 1#32
  let v2 : Index := Scalar.indexCast v1
  let v3 : BitVec 32 := pf.at 0 (Rect.unit (s := S2x1408) ![1, v2.toNat] S1x1.size (k0_off2_inb i 59)) numel1_S1x1
  let c0_i32 : BitVec 32 := 0#32
  let c0_i32_0 : BitVec 32 := 0#32
  let c0_i32_1 : BitVec 32 := 0#32
  ![v3.toNat, c0_i32.toNat, c0_i32_0.toNat]

def cc0_transform_124 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c60_i32 : BitVec 32 := 60#32
  let v1 : BitVec 32 := Scalar.addi v0 c60_i32
  let c0 : Index := 0#32
  let v2 : Index := Scalar.indexCast v1
  let v3 : BitVec 32 := pf.at 0 (Rect.unit (s := S2x1408) ![0, v2.toNat] S1x1.size (k0_off1_inb i 60)) numel1_S1x1
  let c0_i32 : BitVec 32 := 0#32
  let c0_i32_0 : BitVec 32 := 0#32
  let c0_i32_1 : BitVec 32 := 0#32
  ![v3.toNat, c0_i32.toNat, c0_i32_0.toNat]

def cc0_transform_125 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c60_i32 : BitVec 32 := 60#32
  let v1 : BitVec 32 := Scalar.addi v0 c60_i32
  let c1 : Index := 1#32
  let v2 : Index := Scalar.indexCast v1
  let v3 : BitVec 32 := pf.at 0 (Rect.unit (s := S2x1408) ![1, v2.toNat] S1x1.size (k0_off2_inb i 60)) numel1_S1x1
  let c0_i32 : BitVec 32 := 0#32
  let c0_i32_0 : BitVec 32 := 0#32
  let c0_i32_1 : BitVec 32 := 0#32
  ![v3.toNat, c0_i32.toNat, c0_i32_0.toNat]

def cc0_transform_126 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c61_i32 : BitVec 32 := 61#32
  let v1 : BitVec 32 := Scalar.addi v0 c61_i32
  let c0 : Index := 0#32
  let v2 : Index := Scalar.indexCast v1
  let v3 : BitVec 32 := pf.at 0 (Rect.unit (s := S2x1408) ![0, v2.toNat] S1x1.size (k0_off1_inb i 61)) numel1_S1x1
  let c0_i32 : BitVec 32 := 0#32
  let c0_i32_0 : BitVec 32 := 0#32
  let c0_i32_1 : BitVec 32 := 0#32
  ![v3.toNat, c0_i32.toNat, c0_i32_0.toNat]

def cc0_transform_127 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c61_i32 : BitVec 32 := 61#32
  let v1 : BitVec 32 := Scalar.addi v0 c61_i32
  let c1 : Index := 1#32
  let v2 : Index := Scalar.indexCast v1
  let v3 : BitVec 32 := pf.at 0 (Rect.unit (s := S2x1408) ![1, v2.toNat] S1x1.size (k0_off2_inb i 61)) numel1_S1x1
  let c0_i32 : BitVec 32 := 0#32
  let c0_i32_0 : BitVec 32 := 0#32
  let c0_i32_1 : BitVec 32 := 0#32
  ![v3.toNat, c0_i32.toNat, c0_i32_0.toNat]

def cc0_transform_128 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c62_i32 : BitVec 32 := 62#32
  let v1 : BitVec 32 := Scalar.addi v0 c62_i32
  let c0 : Index := 0#32
  let v2 : Index := Scalar.indexCast v1
  let v3 : BitVec 32 := pf.at 0 (Rect.unit (s := S2x1408) ![0, v2.toNat] S1x1.size (k0_off1_inb i 62)) numel1_S1x1
  let c0_i32 : BitVec 32 := 0#32
  let c0_i32_0 : BitVec 32 := 0#32
  let c0_i32_1 : BitVec 32 := 0#32
  ![v3.toNat, c0_i32.toNat, c0_i32_0.toNat]

def cc0_transform_129 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c62_i32 : BitVec 32 := 62#32
  let v1 : BitVec 32 := Scalar.addi v0 c62_i32
  let c1 : Index := 1#32
  let v2 : Index := Scalar.indexCast v1
  let v3 : BitVec 32 := pf.at 0 (Rect.unit (s := S2x1408) ![1, v2.toNat] S1x1.size (k0_off2_inb i 62)) numel1_S1x1
  let c0_i32 : BitVec 32 := 0#32
  let c0_i32_0 : BitVec 32 := 0#32
  let c0_i32_1 : BitVec 32 := 0#32
  ![v3.toNat, c0_i32.toNat, c0_i32_0.toNat]

def cc0_transform_130 (k0_off1_inb : ∀ i : grid0.Coords, ∀ (r : Fin 64), ∀ a, (k0_off1 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c63_i32 : BitVec 32 := 63#32
  let v1 : BitVec 32 := Scalar.addi v0 c63_i32
  let c0 : Index := 0#32
  let v2 : Index := Scalar.indexCast v1
  let v3 : BitVec 32 := pf.at 0 (Rect.unit (s := S2x1408) ![0, v2.toNat] S1x1.size (k0_off1_inb i 63)) numel1_S1x1
  let c0_i32 : BitVec 32 := 0#32
  let c0_i32_0 : BitVec 32 := 0#32
  let c0_i32_1 : BitVec 32 := 0#32
  ![v3.toNat, c0_i32.toNat, c0_i32_0.toNat]

def cc0_transform_131 (k0_off2_inb : ∀ i : grid0.Coords, ∀ (r : Fin 64), ∀ a, (k0_off2 i (BitVec.ofNat 32 r.val)) a + S1x1.size a ≤ S2x1408.size a) (numel1_S1x1 : S1x1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c63_i32 : BitVec 32 := 63#32
  let v1 : BitVec 32 := Scalar.addi v0 c63_i32
  let c1 : Index := 1#32
  let v2 : Index := Scalar.indexCast v1
  let v3 : BitVec 32 := pf.at 0 (Rect.unit (s := S2x1408) ![1, v2.toNat] S1x1.size (k0_off2_inb i 63)) numel1_S1x1
  let c0_i32 : BitVec 32 := 0#32
  let c0_i32_0 : BitVec 32 := 0#32
  let c0_i32_1 : BitVec 32 := 0#32
  ![v3.toNat, c0_i32.toNat, c0_i32_0.toNat]

def cc0_transform_132 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_133 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x128x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x128x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x128x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x128x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x128x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x128x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x128x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x128x128 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x128x128 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x128x128 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x128x128 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x128x128 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x128x128 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x128x128 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x128x128 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x128x128 .bf16 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S1x128x128 .bf16 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S1x128x128 .bf16 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S1x128x128 .bf16 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S1x128x128 .bf16 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S1x128x128 .bf16 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S1x128x128 .bf16 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S1x128x128 .bf16 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

abbrev stage0_39 : Fin 2 → Memref sig .tc .vmem S1x128x128 .bf16 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]

abbrev stage0_40 : Fin 2 → Memref sig .tc .vmem S1x128x128 .bf16 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true]

abbrev stage0_41 : Fin 2 → Memref sig .tc .vmem S1x128x128 .bf16 := fun | 0 => Memref.whole cc0_stg41_0 | 1 => Memref.whole cc0_stg41_1 | ⟨_ + 2, h⟩ => absurd h (Nat.not_lt.2 (Nat.le_add_left _ _))
abbrev sem0_41 : Fin 2 → DmaSem sig := fun | 0 => cc0_sem41_0 | 1 => cc0_sem41_1 | ⟨_ + 2, h⟩ => absurd h (Nat.not_lt.2 (Nat.le_add_left _ _))
abbrev reads0_41 : Fin grid0.rank → Bool := ![true]

abbrev stage0_42 : Fin 2 → Memref sig .tc .vmem S1x128x128 .bf16 := fun | 0 => Memref.whole cc0_stg42_0 | 1 => Memref.whole cc0_stg42_1 | ⟨_ + 2, h⟩ => absurd h (Nat.not_lt.2 (Nat.le_add_left _ _))
abbrev sem0_42 : Fin 2 → DmaSem sig := fun | 0 => cc0_sem42_0 | 1 => cc0_sem42_1 | ⟨_ + 2, h⟩ => absurd h (Nat.not_lt.2 (Nat.le_add_left _ _))
abbrev reads0_42 : Fin grid0.rank → Bool := ![true]

abbrev stage0_43 : Fin 2 → Memref sig .tc .vmem S1x128x128 .bf16 := fun | 0 => Memref.whole cc0_stg43_0 | 1 => Memref.whole cc0_stg43_1 | ⟨_ + 2, h⟩ => absurd h (Nat.not_lt.2 (Nat.le_add_left _ _))
abbrev sem0_43 : Fin 2 → DmaSem sig := fun | 0 => cc0_sem43_0 | 1 => cc0_sem43_1 | ⟨_ + 2, h⟩ => absurd h (Nat.not_lt.2 (Nat.le_add_left _ _))
abbrev reads0_43 : Fin grid0.rank → Bool := ![true]

abbrev stage0_44 : Fin 2 → Memref sig .tc .vmem S1x128x128 .bf16 := fun | 0 => Memref.whole cc0_stg44_0 | 1 => Memref.whole cc0_stg44_1 | ⟨_ + 2, h⟩ => absurd h (Nat.not_lt.2 (Nat.le_add_left _ _))
abbrev sem0_44 : Fin 2 → DmaSem sig := fun | 0 => cc0_sem44_0 | 1 => cc0_sem44_1 | ⟨_ + 2, h⟩ => absurd h (Nat.not_lt.2 (Nat.le_add_left _ _))
abbrev reads0_44 : Fin grid0.rank → Bool := ![true]

abbrev stage0_45 : Fin 2 → Memref sig .tc .vmem S1x128x128 .bf16 := fun | 0 => Memref.whole cc0_stg45_0 | 1 => Memref.whole cc0_stg45_1 | ⟨_ + 2, h⟩ => absurd h (Nat.not_lt.2 (Nat.le_add_left _ _))
abbrev sem0_45 : Fin 2 → DmaSem sig := fun | 0 => cc0_sem45_0 | 1 => cc0_sem45_1 | ⟨_ + 2, h⟩ => absurd h (Nat.not_lt.2 (Nat.le_add_left _ _))
abbrev reads0_45 : Fin grid0.rank → Bool := ![true]

abbrev stage0_46 : Fin 2 → Memref sig .tc .vmem S1x128x128 .bf16 := fun | 0 => Memref.whole cc0_stg46_0 | 1 => Memref.whole cc0_stg46_1 | ⟨_ + 2, h⟩ => absurd h (Nat.not_lt.2 (Nat.le_add_left _ _))
abbrev sem0_46 : Fin 2 → DmaSem sig := fun | 0 => cc0_sem46_0 | 1 => cc0_sem46_1 | ⟨_ + 2, h⟩ => absurd h (Nat.not_lt.2 (Nat.le_add_left _ _))
abbrev reads0_46 : Fin grid0.rank → Bool := ![true]

abbrev stage0_47 : Fin 2 → Memref sig .tc .vmem S1x128x128 .bf16 := fun | 0 => Memref.whole cc0_stg47_0 | 1 => Memref.whole cc0_stg47_1 | ⟨_ + 2, h⟩ => absurd h (Nat.not_lt.2 (Nat.le_add_left _ _))
abbrev sem0_47 : Fin 2 → DmaSem sig := fun | 0 => cc0_sem47_0 | 1 => cc0_sem47_1 | ⟨_ + 2, h⟩ => absurd h (Nat.not_lt.2 (Nat.le_add_left _ _))
abbrev reads0_47 : Fin grid0.rank → Bool := ![true]

abbrev stage0_48 : Fin 2 → Memref sig .tc .vmem S1x128x128 .bf16 := fun | 0 => Memref.whole cc0_stg48_0 | 1 => Memref.whole cc0_stg48_1 | ⟨_ + 2, h⟩ => absurd h (Nat.not_lt.2 (Nat.le_add_left _ _))
abbrev sem0_48 : Fin 2 → DmaSem sig := fun | 0 => cc0_sem48_0 | 1 => cc0_sem48_1 | ⟨_ + 2, h⟩ => absurd h (Nat.not_lt.2 (Nat.le_add_left _ _))
abbrev reads0_48 : Fin grid0.rank → Bool := ![true]

abbrev stage0_49 : Fin 2 → Memref sig .tc .vmem S1x128x128 .bf16 := fun | 0 => Memref.whole cc0_stg49_0 | 1 => Memref.whole cc0_stg49_1 | ⟨_ + 2, h⟩ => absurd h (Nat.not_lt.2 (Nat.le_add_left _ _))
abbrev sem0_49 : Fin 2 → DmaSem sig := fun | 0 => cc0_sem49_0 | 1 => cc0_sem49_1 | ⟨_ + 2, h⟩ => absurd h (Nat.not_lt.2 (Nat.le_add_left _ _))
abbrev reads0_49 : Fin grid0.rank → Bool := ![true]

abbrev stage0_50 : Fin 2 → Memref sig .tc .vmem S1x128x128 .bf16 := fun | 0 => Memref.whole cc0_stg50_0 | 1 => Memref.whole cc0_stg50_1 | ⟨_ + 2, h⟩ => absurd h (Nat.not_lt.2 (Nat.le_add_left _ _))
abbrev sem0_50 : Fin 2 → DmaSem sig := fun | 0 => cc0_sem50_0 | 1 => cc0_sem50_1 | ⟨_ + 2, h⟩ => absurd h (Nat.not_lt.2 (Nat.le_add_left _ _))
abbrev reads0_50 : Fin grid0.rank → Bool := ![true]

abbrev stage0_51 : Fin 2 → Memref sig .tc .vmem S1x128x128 .bf16 := fun | 0 => Memref.whole cc0_stg51_0 | 1 => Memref.whole cc0_stg51_1 | ⟨_ + 2, h⟩ => absurd h (Nat.not_lt.2 (Nat.le_add_left _ _))
abbrev sem0_51 : Fin 2 → DmaSem sig := fun | 0 => cc0_sem51_0 | 1 => cc0_sem51_1 | ⟨_ + 2, h⟩ => absurd h (Nat.not_lt.2 (Nat.le_add_left _ _))
abbrev reads0_51 : Fin grid0.rank → Bool := ![true]

abbrev stage0_52 : Fin 2 → Memref sig .tc .vmem S1x128x128 .bf16 := fun | 0 => Memref.whole cc0_stg52_0 | 1 => Memref.whole cc0_stg52_1 | ⟨_ + 2, h⟩ => absurd h (Nat.not_lt.2 (Nat.le_add_left _ _))
abbrev sem0_52 : Fin 2 → DmaSem sig := fun | 0 => cc0_sem52_0 | 1 => cc0_sem52_1 | ⟨_ + 2, h⟩ => absurd h (Nat.not_lt.2 (Nat.le_add_left _ _))
abbrev reads0_52 : Fin grid0.rank → Bool := ![true]

abbrev stage0_53 : Fin 2 → Memref sig .tc .vmem S1x128x128 .bf16 := fun | 0 => Memref.whole cc0_stg53_0 | 1 => Memref.whole cc0_stg53_1 | ⟨_ + 2, h⟩ => absurd h (Nat.not_lt.2 (Nat.le_add_left _ _))
abbrev sem0_53 : Fin 2 → DmaSem sig := fun | 0 => cc0_sem53_0 | 1 => cc0_sem53_1 | ⟨_ + 2, h⟩ => absurd h (Nat.not_lt.2 (Nat.le_add_left _ _))
abbrev reads0_53 : Fin grid0.rank → Bool := ![true]

abbrev stage0_54 : Fin 2 → Memref sig .tc .vmem S1x128x128 .bf16 := fun | 0 => Memref.whole cc0_stg54_0 | 1 => Memref.whole cc0_stg54_1 | ⟨_ + 2, h⟩ => absurd h (Nat.not_lt.2 (Nat.le_add_left _ _))
abbrev sem0_54 : Fin 2 → DmaSem sig := fun | 0 => cc0_sem54_0 | 1 => cc0_sem54_1 | ⟨_ + 2, h⟩ => absurd h (Nat.not_lt.2 (Nat.le_add_left _ _))
abbrev reads0_54 : Fin grid0.rank → Bool := ![true]

abbrev stage0_55 : Fin 2 → Memref sig .tc .vmem S1x128x128 .bf16 := fun | 0 => Memref.whole cc0_stg55_0 | 1 => Memref.whole cc0_stg55_1 | ⟨_ + 2, h⟩ => absurd h (Nat.not_lt.2 (Nat.le_add_left _ _))
abbrev sem0_55 : Fin 2 → DmaSem sig := fun | 0 => cc0_sem55_0 | 1 => cc0_sem55_1 | ⟨_ + 2, h⟩ => absurd h (Nat.not_lt.2 (Nat.le_add_left _ _))
abbrev reads0_55 : Fin grid0.rank → Bool := ![true]

abbrev stage0_56 : Fin 2 → Memref sig .tc .vmem S1x128x128 .bf16 := fun | 0 => Memref.whole cc0_stg56_0 | 1 => Memref.whole cc0_stg56_1 | ⟨_ + 2, h⟩ => absurd h (Nat.not_lt.2 (Nat.le_add_left _ _))
abbrev sem0_56 : Fin 2 → DmaSem sig := fun | 0 => cc0_sem56_0 | 1 => cc0_sem56_1 | ⟨_ + 2, h⟩ => absurd h (Nat.not_lt.2 (Nat.le_add_left _ _))
abbrev reads0_56 : Fin grid0.rank → Bool := ![true]

abbrev stage0_57 : Fin 2 → Memref sig .tc .vmem S1x128x128 .bf16 := fun | 0 => Memref.whole cc0_stg57_0 | 1 => Memref.whole cc0_stg57_1 | ⟨_ + 2, h⟩ => absurd h (Nat.not_lt.2 (Nat.le_add_left _ _))
abbrev sem0_57 : Fin 2 → DmaSem sig := fun | 0 => cc0_sem57_0 | 1 => cc0_sem57_1 | ⟨_ + 2, h⟩ => absurd h (Nat.not_lt.2 (Nat.le_add_left _ _))
abbrev reads0_57 : Fin grid0.rank → Bool := ![true]

abbrev stage0_58 : Fin 2 → Memref sig .tc .vmem S1x128x128 .bf16 := fun | 0 => Memref.whole cc0_stg58_0 | 1 => Memref.whole cc0_stg58_1 | ⟨_ + 2, h⟩ => absurd h (Nat.not_lt.2 (Nat.le_add_left _ _))
abbrev sem0_58 : Fin 2 → DmaSem sig := fun | 0 => cc0_sem58_0 | 1 => cc0_sem58_1 | ⟨_ + 2, h⟩ => absurd h (Nat.not_lt.2 (Nat.le_add_left _ _))
abbrev reads0_58 : Fin grid0.rank → Bool := ![true]

abbrev stage0_59 : Fin 2 → Memref sig .tc .vmem S1x128x128 .bf16 := fun | 0 => Memref.whole cc0_stg59_0 | 1 => Memref.whole cc0_stg59_1 | ⟨_ + 2, h⟩ => absurd h (Nat.not_lt.2 (Nat.le_add_left _ _))
abbrev sem0_59 : Fin 2 → DmaSem sig := fun | 0 => cc0_sem59_0 | 1 => cc0_sem59_1 | ⟨_ + 2, h⟩ => absurd h (Nat.not_lt.2 (Nat.le_add_left _ _))
abbrev reads0_59 : Fin grid0.rank → Bool := ![true]

abbrev stage0_60 : Fin 2 → Memref sig .tc .vmem S1x128x128 .bf16 := fun | 0 => Memref.whole cc0_stg60_0 | 1 => Memref.whole cc0_stg60_1 | ⟨_ + 2, h⟩ => absurd h (Nat.not_lt.2 (Nat.le_add_left _ _))
abbrev sem0_60 : Fin 2 → DmaSem sig := fun | 0 => cc0_sem60_0 | 1 => cc0_sem60_1 | ⟨_ + 2, h⟩ => absurd h (Nat.not_lt.2 (Nat.le_add_left _ _))
abbrev reads0_60 : Fin grid0.rank → Bool := ![true]

abbrev stage0_61 : Fin 2 → Memref sig .tc .vmem S1x128x128 .bf16 := fun | 0 => Memref.whole cc0_stg61_0 | 1 => Memref.whole cc0_stg61_1 | ⟨_ + 2, h⟩ => absurd h (Nat.not_lt.2 (Nat.le_add_left _ _))
abbrev sem0_61 : Fin 2 → DmaSem sig := fun | 0 => cc0_sem61_0 | 1 => cc0_sem61_1 | ⟨_ + 2, h⟩ => absurd h (Nat.not_lt.2 (Nat.le_add_left _ _))
abbrev reads0_61 : Fin grid0.rank → Bool := ![true]

abbrev stage0_62 : Fin 2 → Memref sig .tc .vmem S1x128x128 .bf16 := fun | 0 => Memref.whole cc0_stg62_0 | 1 => Memref.whole cc0_stg62_1 | ⟨_ + 2, h⟩ => absurd h (Nat.not_lt.2 (Nat.le_add_left _ _))
abbrev sem0_62 : Fin 2 → DmaSem sig := fun | 0 => cc0_sem62_0 | 1 => cc0_sem62_1 | ⟨_ + 2, h⟩ => absurd h (Nat.not_lt.2 (Nat.le_add_left _ _))
abbrev reads0_62 : Fin grid0.rank → Bool := ![true]

abbrev stage0_63 : Fin 2 → Memref sig .tc .vmem S1x128x128 .bf16 := fun | 0 => Memref.whole cc0_stg63_0 | 1 => Memref.whole cc0_stg63_1 | ⟨_ + 2, h⟩ => absurd h (Nat.not_lt.2 (Nat.le_add_left _ _))
abbrev sem0_63 : Fin 2 → DmaSem sig := fun | 0 => cc0_sem63_0 | 1 => cc0_sem63_1 | ⟨_ + 2, h⟩ => absurd h (Nat.not_lt.2 (Nat.le_add_left _ _))
abbrev reads0_63 : Fin grid0.rank → Bool := ![true]

abbrev stage0_64 : Fin 2 → Memref sig .tc .vmem S1x128x128 .bf16 := fun | 0 => Memref.whole cc0_stg64_0 | 1 => Memref.whole cc0_stg64_1 | ⟨_ + 2, h⟩ => absurd h (Nat.not_lt.2 (Nat.le_add_left _ _))
abbrev sem0_64 : Fin 2 → DmaSem sig := fun | 0 => cc0_sem64_0 | 1 => cc0_sem64_1 | ⟨_ + 2, h⟩ => absurd h (Nat.not_lt.2 (Nat.le_add_left _ _))
abbrev reads0_64 : Fin grid0.rank → Bool := ![true]

abbrev stage0_65 : Fin 2 → Memref sig .tc .vmem S1x128x128 .bf16 := fun | 0 => Memref.whole cc0_stg65_0 | 1 => Memref.whole cc0_stg65_1 | ⟨_ + 2, h⟩ => absurd h (Nat.not_lt.2 (Nat.le_add_left _ _))
abbrev sem0_65 : Fin 2 → DmaSem sig := fun | 0 => cc0_sem65_0 | 1 => cc0_sem65_1 | ⟨_ + 2, h⟩ => absurd h (Nat.not_lt.2 (Nat.le_add_left _ _))
abbrev reads0_65 : Fin grid0.rank → Bool := ![true]

abbrev stage0_66 : Fin 2 → Memref sig .tc .vmem S1x128x128 .bf16 := fun | 0 => Memref.whole cc0_stg66_0 | 1 => Memref.whole cc0_stg66_1 | ⟨_ + 2, h⟩ => absurd h (Nat.not_lt.2 (Nat.le_add_left _ _))
abbrev sem0_66 : Fin 2 → DmaSem sig := fun | 0 => cc0_sem66_0 | 1 => cc0_sem66_1 | ⟨_ + 2, h⟩ => absurd h (Nat.not_lt.2 (Nat.le_add_left _ _))
abbrev reads0_66 : Fin grid0.rank → Bool := ![true]

abbrev stage0_67 : Fin 2 → Memref sig .tc .vmem S1x128x128 .bf16 := fun | 0 => Memref.whole cc0_stg67_0 | 1 => Memref.whole cc0_stg67_1 | ⟨_ + 2, h⟩ => absurd h (Nat.not_lt.2 (Nat.le_add_left _ _))
abbrev sem0_67 : Fin 2 → DmaSem sig := fun | 0 => cc0_sem67_0 | 1 => cc0_sem67_1 | ⟨_ + 2, h⟩ => absurd h (Nat.not_lt.2 (Nat.le_add_left _ _))
abbrev reads0_67 : Fin grid0.rank → Bool := ![true]

abbrev stage0_68 : Fin 2 → Memref sig .tc .vmem S1x128x128 .bf16 := fun | 0 => Memref.whole cc0_stg68_0 | 1 => Memref.whole cc0_stg68_1 | ⟨_ + 2, h⟩ => absurd h (Nat.not_lt.2 (Nat.le_add_left _ _))
abbrev sem0_68 : Fin 2 → DmaSem sig := fun | 0 => cc0_sem68_0 | 1 => cc0_sem68_1 | ⟨_ + 2, h⟩ => absurd h (Nat.not_lt.2 (Nat.le_add_left _ _))
abbrev reads0_68 : Fin grid0.rank → Bool := ![true]

abbrev stage0_69 : Fin 2 → Memref sig .tc .vmem S1x128x128 .bf16 := fun | 0 => Memref.whole cc0_stg69_0 | 1 => Memref.whole cc0_stg69_1 | ⟨_ + 2, h⟩ => absurd h (Nat.not_lt.2 (Nat.le_add_left _ _))
abbrev sem0_69 : Fin 2 → DmaSem sig := fun | 0 => cc0_sem69_0 | 1 => cc0_sem69_1 | ⟨_ + 2, h⟩ => absurd h (Nat.not_lt.2 (Nat.le_add_left _ _))
abbrev reads0_69 : Fin grid0.rank → Bool := ![true]

abbrev stage0_70 : Fin 2 → Memref sig .tc .vmem S1x128x128 .bf16 := fun | 0 => Memref.whole cc0_stg70_0 | 1 => Memref.whole cc0_stg70_1 | ⟨_ + 2, h⟩ => absurd h (Nat.not_lt.2 (Nat.le_add_left _ _))
abbrev sem0_70 : Fin 2 → DmaSem sig := fun | 0 => cc0_sem70_0 | 1 => cc0_sem70_1 | ⟨_ + 2, h⟩ => absurd h (Nat.not_lt.2 (Nat.le_add_left _ _))
abbrev reads0_70 : Fin grid0.rank → Bool := ![true]

abbrev stage0_71 : Fin 2 → Memref sig .tc .vmem S1x128x128 .bf16 := fun | 0 => Memref.whole cc0_stg71_0 | 1 => Memref.whole cc0_stg71_1 | ⟨_ + 2, h⟩ => absurd h (Nat.not_lt.2 (Nat.le_add_left _ _))
abbrev sem0_71 : Fin 2 → DmaSem sig := fun | 0 => cc0_sem71_0 | 1 => cc0_sem71_1 | ⟨_ + 2, h⟩ => absurd h (Nat.not_lt.2 (Nat.le_add_left _ _))
abbrev reads0_71 : Fin grid0.rank → Bool := ![true]

abbrev stage0_72 : Fin 2 → Memref sig .tc .vmem S1x128x128 .bf16 := fun | 0 => Memref.whole cc0_stg72_0 | 1 => Memref.whole cc0_stg72_1 | ⟨_ + 2, h⟩ => absurd h (Nat.not_lt.2 (Nat.le_add_left _ _))
abbrev sem0_72 : Fin 2 → DmaSem sig := fun | 0 => cc0_sem72_0 | 1 => cc0_sem72_1 | ⟨_ + 2, h⟩ => absurd h (Nat.not_lt.2 (Nat.le_add_left _ _))
abbrev reads0_72 : Fin grid0.rank → Bool := ![true]

abbrev stage0_73 : Fin 2 → Memref sig .tc .vmem S1x128x128 .bf16 := fun | 0 => Memref.whole cc0_stg73_0 | 1 => Memref.whole cc0_stg73_1 | ⟨_ + 2, h⟩ => absurd h (Nat.not_lt.2 (Nat.le_add_left _ _))
abbrev sem0_73 : Fin 2 → DmaSem sig := fun | 0 => cc0_sem73_0 | 1 => cc0_sem73_1 | ⟨_ + 2, h⟩ => absurd h (Nat.not_lt.2 (Nat.le_add_left _ _))
abbrev reads0_73 : Fin grid0.rank → Bool := ![true]

abbrev stage0_74 : Fin 2 → Memref sig .tc .vmem S1x128x128 .bf16 := fun | 0 => Memref.whole cc0_stg74_0 | 1 => Memref.whole cc0_stg74_1 | ⟨_ + 2, h⟩ => absurd h (Nat.not_lt.2 (Nat.le_add_left _ _))
abbrev sem0_74 : Fin 2 → DmaSem sig := fun | 0 => cc0_sem74_0 | 1 => cc0_sem74_1 | ⟨_ + 2, h⟩ => absurd h (Nat.not_lt.2 (Nat.le_add_left _ _))
abbrev reads0_74 : Fin grid0.rank → Bool := ![true]

abbrev stage0_75 : Fin 2 → Memref sig .tc .vmem S1x128x128 .bf16 := fun | 0 => Memref.whole cc0_stg75_0 | 1 => Memref.whole cc0_stg75_1 | ⟨_ + 2, h⟩ => absurd h (Nat.not_lt.2 (Nat.le_add_left _ _))
abbrev sem0_75 : Fin 2 → DmaSem sig := fun | 0 => cc0_sem75_0 | 1 => cc0_sem75_1 | ⟨_ + 2, h⟩ => absurd h (Nat.not_lt.2 (Nat.le_add_left _ _))
abbrev reads0_75 : Fin grid0.rank → Bool := ![true]

abbrev stage0_76 : Fin 2 → Memref sig .tc .vmem S1x128x128 .bf16 := fun | 0 => Memref.whole cc0_stg76_0 | 1 => Memref.whole cc0_stg76_1 | ⟨_ + 2, h⟩ => absurd h (Nat.not_lt.2 (Nat.le_add_left _ _))
abbrev sem0_76 : Fin 2 → DmaSem sig := fun | 0 => cc0_sem76_0 | 1 => cc0_sem76_1 | ⟨_ + 2, h⟩ => absurd h (Nat.not_lt.2 (Nat.le_add_left _ _))
abbrev reads0_76 : Fin grid0.rank → Bool := ![true]

abbrev stage0_77 : Fin 2 → Memref sig .tc .vmem S1x128x128 .bf16 := fun | 0 => Memref.whole cc0_stg77_0 | 1 => Memref.whole cc0_stg77_1 | ⟨_ + 2, h⟩ => absurd h (Nat.not_lt.2 (Nat.le_add_left _ _))
abbrev sem0_77 : Fin 2 → DmaSem sig := fun | 0 => cc0_sem77_0 | 1 => cc0_sem77_1 | ⟨_ + 2, h⟩ => absurd h (Nat.not_lt.2 (Nat.le_add_left _ _))
abbrev reads0_77 : Fin grid0.rank → Bool := ![true]

abbrev stage0_78 : Fin 2 → Memref sig .tc .vmem S1x128x128 .bf16 := fun | 0 => Memref.whole cc0_stg78_0 | 1 => Memref.whole cc0_stg78_1 | ⟨_ + 2, h⟩ => absurd h (Nat.not_lt.2 (Nat.le_add_left _ _))
abbrev sem0_78 : Fin 2 → DmaSem sig := fun | 0 => cc0_sem78_0 | 1 => cc0_sem78_1 | ⟨_ + 2, h⟩ => absurd h (Nat.not_lt.2 (Nat.le_add_left _ _))
abbrev reads0_78 : Fin grid0.rank → Bool := ![true]

abbrev stage0_79 : Fin 2 → Memref sig .tc .vmem S1x128x128 .bf16 := fun | 0 => Memref.whole cc0_stg79_0 | 1 => Memref.whole cc0_stg79_1 | ⟨_ + 2, h⟩ => absurd h (Nat.not_lt.2 (Nat.le_add_left _ _))
abbrev sem0_79 : Fin 2 → DmaSem sig := fun | 0 => cc0_sem79_0 | 1 => cc0_sem79_1 | ⟨_ + 2, h⟩ => absurd h (Nat.not_lt.2 (Nat.le_add_left _ _))
abbrev reads0_79 : Fin grid0.rank → Bool := ![true]

abbrev stage0_80 : Fin 2 → Memref sig .tc .vmem S1x128x128 .bf16 := fun | 0 => Memref.whole cc0_stg80_0 | 1 => Memref.whole cc0_stg80_1 | ⟨_ + 2, h⟩ => absurd h (Nat.not_lt.2 (Nat.le_add_left _ _))
abbrev sem0_80 : Fin 2 → DmaSem sig := fun | 0 => cc0_sem80_0 | 1 => cc0_sem80_1 | ⟨_ + 2, h⟩ => absurd h (Nat.not_lt.2 (Nat.le_add_left _ _))
abbrev reads0_80 : Fin grid0.rank → Bool := ![true]

abbrev stage0_81 : Fin 2 → Memref sig .tc .vmem S1x128x128 .bf16 := fun | 0 => Memref.whole cc0_stg81_0 | 1 => Memref.whole cc0_stg81_1 | ⟨_ + 2, h⟩ => absurd h (Nat.not_lt.2 (Nat.le_add_left _ _))
abbrev sem0_81 : Fin 2 → DmaSem sig := fun | 0 => cc0_sem81_0 | 1 => cc0_sem81_1 | ⟨_ + 2, h⟩ => absurd h (Nat.not_lt.2 (Nat.le_add_left _ _))
abbrev reads0_81 : Fin grid0.rank → Bool := ![true]

abbrev stage0_82 : Fin 2 → Memref sig .tc .vmem S1x128x128 .bf16 := fun | 0 => Memref.whole cc0_stg82_0 | 1 => Memref.whole cc0_stg82_1 | ⟨_ + 2, h⟩ => absurd h (Nat.not_lt.2 (Nat.le_add_left _ _))
abbrev sem0_82 : Fin 2 → DmaSem sig := fun | 0 => cc0_sem82_0 | 1 => cc0_sem82_1 | ⟨_ + 2, h⟩ => absurd h (Nat.not_lt.2 (Nat.le_add_left _ _))
abbrev reads0_82 : Fin grid0.rank → Bool := ![true]

abbrev stage0_83 : Fin 2 → Memref sig .tc .vmem S1x128x128 .bf16 := fun | 0 => Memref.whole cc0_stg83_0 | 1 => Memref.whole cc0_stg83_1 | ⟨_ + 2, h⟩ => absurd h (Nat.not_lt.2 (Nat.le_add_left _ _))
abbrev sem0_83 : Fin 2 → DmaSem sig := fun | 0 => cc0_sem83_0 | 1 => cc0_sem83_1 | ⟨_ + 2, h⟩ => absurd h (Nat.not_lt.2 (Nat.le_add_left _ _))
abbrev reads0_83 : Fin grid0.rank → Bool := ![true]

abbrev stage0_84 : Fin 2 → Memref sig .tc .vmem S1x128x128 .bf16 := fun | 0 => Memref.whole cc0_stg84_0 | 1 => Memref.whole cc0_stg84_1 | ⟨_ + 2, h⟩ => absurd h (Nat.not_lt.2 (Nat.le_add_left _ _))
abbrev sem0_84 : Fin 2 → DmaSem sig := fun | 0 => cc0_sem84_0 | 1 => cc0_sem84_1 | ⟨_ + 2, h⟩ => absurd h (Nat.not_lt.2 (Nat.le_add_left _ _))
abbrev reads0_84 : Fin grid0.rank → Bool := ![true]

abbrev stage0_85 : Fin 2 → Memref sig .tc .vmem S1x128x128 .bf16 := fun | 0 => Memref.whole cc0_stg85_0 | 1 => Memref.whole cc0_stg85_1 | ⟨_ + 2, h⟩ => absurd h (Nat.not_lt.2 (Nat.le_add_left _ _))
abbrev sem0_85 : Fin 2 → DmaSem sig := fun | 0 => cc0_sem85_0 | 1 => cc0_sem85_1 | ⟨_ + 2, h⟩ => absurd h (Nat.not_lt.2 (Nat.le_add_left _ _))
abbrev reads0_85 : Fin grid0.rank → Bool := ![true]

abbrev stage0_86 : Fin 2 → Memref sig .tc .vmem S1x128x128 .bf16 := fun | 0 => Memref.whole cc0_stg86_0 | 1 => Memref.whole cc0_stg86_1 | ⟨_ + 2, h⟩ => absurd h (Nat.not_lt.2 (Nat.le_add_left _ _))
abbrev sem0_86 : Fin 2 → DmaSem sig := fun | 0 => cc0_sem86_0 | 1 => cc0_sem86_1 | ⟨_ + 2, h⟩ => absurd h (Nat.not_lt.2 (Nat.le_add_left _ _))
abbrev reads0_86 : Fin grid0.rank → Bool := ![true]

abbrev stage0_87 : Fin 2 → Memref sig .tc .vmem S1x128x128 .bf16 := fun | 0 => Memref.whole cc0_stg87_0 | 1 => Memref.whole cc0_stg87_1 | ⟨_ + 2, h⟩ => absurd h (Nat.not_lt.2 (Nat.le_add_left _ _))
abbrev sem0_87 : Fin 2 → DmaSem sig := fun | 0 => cc0_sem87_0 | 1 => cc0_sem87_1 | ⟨_ + 2, h⟩ => absurd h (Nat.not_lt.2 (Nat.le_add_left _ _))
abbrev reads0_87 : Fin grid0.rank → Bool := ![true]

abbrev stage0_88 : Fin 2 → Memref sig .tc .vmem S1x128x128 .bf16 := fun | 0 => Memref.whole cc0_stg88_0 | 1 => Memref.whole cc0_stg88_1 | ⟨_ + 2, h⟩ => absurd h (Nat.not_lt.2 (Nat.le_add_left _ _))
abbrev sem0_88 : Fin 2 → DmaSem sig := fun | 0 => cc0_sem88_0 | 1 => cc0_sem88_1 | ⟨_ + 2, h⟩ => absurd h (Nat.not_lt.2 (Nat.le_add_left _ _))
abbrev reads0_88 : Fin grid0.rank → Bool := ![true]

abbrev stage0_89 : Fin 2 → Memref sig .tc .vmem S1x128x128 .bf16 := fun | 0 => Memref.whole cc0_stg89_0 | 1 => Memref.whole cc0_stg89_1 | ⟨_ + 2, h⟩ => absurd h (Nat.not_lt.2 (Nat.le_add_left _ _))
abbrev sem0_89 : Fin 2 → DmaSem sig := fun | 0 => cc0_sem89_0 | 1 => cc0_sem89_1 | ⟨_ + 2, h⟩ => absurd h (Nat.not_lt.2 (Nat.le_add_left _ _))
abbrev reads0_89 : Fin grid0.rank → Bool := ![true]

abbrev stage0_90 : Fin 2 → Memref sig .tc .vmem S1x128x128 .bf16 := fun | 0 => Memref.whole cc0_stg90_0 | 1 => Memref.whole cc0_stg90_1 | ⟨_ + 2, h⟩ => absurd h (Nat.not_lt.2 (Nat.le_add_left _ _))
abbrev sem0_90 : Fin 2 → DmaSem sig := fun | 0 => cc0_sem90_0 | 1 => cc0_sem90_1 | ⟨_ + 2, h⟩ => absurd h (Nat.not_lt.2 (Nat.le_add_left _ _))
abbrev reads0_90 : Fin grid0.rank → Bool := ![true]

abbrev stage0_91 : Fin 2 → Memref sig .tc .vmem S1x128x128 .bf16 := fun | 0 => Memref.whole cc0_stg91_0 | 1 => Memref.whole cc0_stg91_1 | ⟨_ + 2, h⟩ => absurd h (Nat.not_lt.2 (Nat.le_add_left _ _))
abbrev sem0_91 : Fin 2 → DmaSem sig := fun | 0 => cc0_sem91_0 | 1 => cc0_sem91_1 | ⟨_ + 2, h⟩ => absurd h (Nat.not_lt.2 (Nat.le_add_left _ _))
abbrev reads0_91 : Fin grid0.rank → Bool := ![true]

abbrev stage0_92 : Fin 2 → Memref sig .tc .vmem S1x128x128 .bf16 := fun | 0 => Memref.whole cc0_stg92_0 | 1 => Memref.whole cc0_stg92_1 | ⟨_ + 2, h⟩ => absurd h (Nat.not_lt.2 (Nat.le_add_left _ _))
abbrev sem0_92 : Fin 2 → DmaSem sig := fun | 0 => cc0_sem92_0 | 1 => cc0_sem92_1 | ⟨_ + 2, h⟩ => absurd h (Nat.not_lt.2 (Nat.le_add_left _ _))
abbrev reads0_92 : Fin grid0.rank → Bool := ![true]

abbrev stage0_93 : Fin 2 → Memref sig .tc .vmem S1x128x128 .bf16 := fun | 0 => Memref.whole cc0_stg93_0 | 1 => Memref.whole cc0_stg93_1 | ⟨_ + 2, h⟩ => absurd h (Nat.not_lt.2 (Nat.le_add_left _ _))
abbrev sem0_93 : Fin 2 → DmaSem sig := fun | 0 => cc0_sem93_0 | 1 => cc0_sem93_1 | ⟨_ + 2, h⟩ => absurd h (Nat.not_lt.2 (Nat.le_add_left _ _))
abbrev reads0_93 : Fin grid0.rank → Bool := ![true]

abbrev stage0_94 : Fin 2 → Memref sig .tc .vmem S1x128x128 .bf16 := fun | 0 => Memref.whole cc0_stg94_0 | 1 => Memref.whole cc0_stg94_1 | ⟨_ + 2, h⟩ => absurd h (Nat.not_lt.2 (Nat.le_add_left _ _))
abbrev sem0_94 : Fin 2 → DmaSem sig := fun | 0 => cc0_sem94_0 | 1 => cc0_sem94_1 | ⟨_ + 2, h⟩ => absurd h (Nat.not_lt.2 (Nat.le_add_left _ _))
abbrev reads0_94 : Fin grid0.rank → Bool := ![true]

abbrev stage0_95 : Fin 2 → Memref sig .tc .vmem S1x128x128 .bf16 := fun | 0 => Memref.whole cc0_stg95_0 | 1 => Memref.whole cc0_stg95_1 | ⟨_ + 2, h⟩ => absurd h (Nat.not_lt.2 (Nat.le_add_left _ _))
abbrev sem0_95 : Fin 2 → DmaSem sig := fun | 0 => cc0_sem95_0 | 1 => cc0_sem95_1 | ⟨_ + 2, h⟩ => absurd h (Nat.not_lt.2 (Nat.le_add_left _ _))
abbrev reads0_95 : Fin grid0.rank → Bool := ![true]

abbrev stage0_96 : Fin 2 → Memref sig .tc .vmem S1x128x128 .bf16 := fun | 0 => Memref.whole cc0_stg96_0 | 1 => Memref.whole cc0_stg96_1 | ⟨_ + 2, h⟩ => absurd h (Nat.not_lt.2 (Nat.le_add_left _ _))
abbrev sem0_96 : Fin 2 → DmaSem sig := fun | 0 => cc0_sem96_0 | 1 => cc0_sem96_1 | ⟨_ + 2, h⟩ => absurd h (Nat.not_lt.2 (Nat.le_add_left _ _))
abbrev reads0_96 : Fin grid0.rank → Bool := ![true]

abbrev stage0_97 : Fin 2 → Memref sig .tc .vmem S1x128x128 .bf16 := fun | 0 => Memref.whole cc0_stg97_0 | 1 => Memref.whole cc0_stg97_1 | ⟨_ + 2, h⟩ => absurd h (Nat.not_lt.2 (Nat.le_add_left _ _))
abbrev sem0_97 : Fin 2 → DmaSem sig := fun | 0 => cc0_sem97_0 | 1 => cc0_sem97_1 | ⟨_ + 2, h⟩ => absurd h (Nat.not_lt.2 (Nat.le_add_left _ _))
abbrev reads0_97 : Fin grid0.rank → Bool := ![true]

abbrev stage0_98 : Fin 2 → Memref sig .tc .vmem S1x128x128 .bf16 := fun | 0 => Memref.whole cc0_stg98_0 | 1 => Memref.whole cc0_stg98_1 | ⟨_ + 2, h⟩ => absurd h (Nat.not_lt.2 (Nat.le_add_left _ _))
abbrev sem0_98 : Fin 2 → DmaSem sig := fun | 0 => cc0_sem98_0 | 1 => cc0_sem98_1 | ⟨_ + 2, h⟩ => absurd h (Nat.not_lt.2 (Nat.le_add_left _ _))
abbrev reads0_98 : Fin grid0.rank → Bool := ![true]

abbrev stage0_99 : Fin 2 → Memref sig .tc .vmem S1x128x128 .bf16 := fun | 0 => Memref.whole cc0_stg99_0 | 1 => Memref.whole cc0_stg99_1 | ⟨_ + 2, h⟩ => absurd h (Nat.not_lt.2 (Nat.le_add_left _ _))
abbrev sem0_99 : Fin 2 → DmaSem sig := fun | 0 => cc0_sem99_0 | 1 => cc0_sem99_1 | ⟨_ + 2, h⟩ => absurd h (Nat.not_lt.2 (Nat.le_add_left _ _))
abbrev reads0_99 : Fin grid0.rank → Bool := ![true]

abbrev stage0_100 : Fin 2 → Memref sig .tc .vmem S1x128x128 .bf16 := fun | 0 => Memref.whole cc0_stg100_0 | 1 => Memref.whole cc0_stg100_1 | ⟨_ + 2, h⟩ => absurd h (Nat.not_lt.2 (Nat.le_add_left _ _))
abbrev sem0_100 : Fin 2 → DmaSem sig := fun | 0 => cc0_sem100_0 | 1 => cc0_sem100_1 | ⟨_ + 2, h⟩ => absurd h (Nat.not_lt.2 (Nat.le_add_left _ _))
abbrev reads0_100 : Fin grid0.rank → Bool := ![true]

abbrev stage0_101 : Fin 2 → Memref sig .tc .vmem S1x128x128 .bf16 := fun | 0 => Memref.whole cc0_stg101_0 | 1 => Memref.whole cc0_stg101_1 | ⟨_ + 2, h⟩ => absurd h (Nat.not_lt.2 (Nat.le_add_left _ _))
abbrev sem0_101 : Fin 2 → DmaSem sig := fun | 0 => cc0_sem101_0 | 1 => cc0_sem101_1 | ⟨_ + 2, h⟩ => absurd h (Nat.not_lt.2 (Nat.le_add_left _ _))
abbrev reads0_101 : Fin grid0.rank → Bool := ![true]

abbrev stage0_102 : Fin 2 → Memref sig .tc .vmem S1x128x128 .bf16 := fun | 0 => Memref.whole cc0_stg102_0 | 1 => Memref.whole cc0_stg102_1 | ⟨_ + 2, h⟩ => absurd h (Nat.not_lt.2 (Nat.le_add_left _ _))
abbrev sem0_102 : Fin 2 → DmaSem sig := fun | 0 => cc0_sem102_0 | 1 => cc0_sem102_1 | ⟨_ + 2, h⟩ => absurd h (Nat.not_lt.2 (Nat.le_add_left _ _))
abbrev reads0_102 : Fin grid0.rank → Bool := ![true]

abbrev stage0_103 : Fin 2 → Memref sig .tc .vmem S1x128x128 .bf16 := fun | 0 => Memref.whole cc0_stg103_0 | 1 => Memref.whole cc0_stg103_1 | ⟨_ + 2, h⟩ => absurd h (Nat.not_lt.2 (Nat.le_add_left _ _))
abbrev sem0_103 : Fin 2 → DmaSem sig := fun | 0 => cc0_sem103_0 | 1 => cc0_sem103_1 | ⟨_ + 2, h⟩ => absurd h (Nat.not_lt.2 (Nat.le_add_left _ _))
abbrev reads0_103 : Fin grid0.rank → Bool := ![true]

abbrev stage0_104 : Fin 2 → Memref sig .tc .vmem S1x128x128 .bf16 := fun | 0 => Memref.whole cc0_stg104_0 | 1 => Memref.whole cc0_stg104_1 | ⟨_ + 2, h⟩ => absurd h (Nat.not_lt.2 (Nat.le_add_left _ _))
abbrev sem0_104 : Fin 2 → DmaSem sig := fun | 0 => cc0_sem104_0 | 1 => cc0_sem104_1 | ⟨_ + 2, h⟩ => absurd h (Nat.not_lt.2 (Nat.le_add_left _ _))
abbrev reads0_104 : Fin grid0.rank → Bool := ![true]

abbrev stage0_105 : Fin 2 → Memref sig .tc .vmem S1x128x128 .bf16 := fun | 0 => Memref.whole cc0_stg105_0 | 1 => Memref.whole cc0_stg105_1 | ⟨_ + 2, h⟩ => absurd h (Nat.not_lt.2 (Nat.le_add_left _ _))
abbrev sem0_105 : Fin 2 → DmaSem sig := fun | 0 => cc0_sem105_0 | 1 => cc0_sem105_1 | ⟨_ + 2, h⟩ => absurd h (Nat.not_lt.2 (Nat.le_add_left _ _))
abbrev reads0_105 : Fin grid0.rank → Bool := ![true]

abbrev stage0_106 : Fin 2 → Memref sig .tc .vmem S1x128x128 .bf16 := fun | 0 => Memref.whole cc0_stg106_0 | 1 => Memref.whole cc0_stg106_1 | ⟨_ + 2, h⟩ => absurd h (Nat.not_lt.2 (Nat.le_add_left _ _))
abbrev sem0_106 : Fin 2 → DmaSem sig := fun | 0 => cc0_sem106_0 | 1 => cc0_sem106_1 | ⟨_ + 2, h⟩ => absurd h (Nat.not_lt.2 (Nat.le_add_left _ _))
abbrev reads0_106 : Fin grid0.rank → Bool := ![true]

abbrev stage0_107 : Fin 2 → Memref sig .tc .vmem S1x128x128 .bf16 := fun | 0 => Memref.whole cc0_stg107_0 | 1 => Memref.whole cc0_stg107_1 | ⟨_ + 2, h⟩ => absurd h (Nat.not_lt.2 (Nat.le_add_left _ _))
abbrev sem0_107 : Fin 2 → DmaSem sig := fun | 0 => cc0_sem107_0 | 1 => cc0_sem107_1 | ⟨_ + 2, h⟩ => absurd h (Nat.not_lt.2 (Nat.le_add_left _ _))
abbrev reads0_107 : Fin grid0.rank → Bool := ![true]

abbrev stage0_108 : Fin 2 → Memref sig .tc .vmem S1x128x128 .bf16 := fun | 0 => Memref.whole cc0_stg108_0 | 1 => Memref.whole cc0_stg108_1 | ⟨_ + 2, h⟩ => absurd h (Nat.not_lt.2 (Nat.le_add_left _ _))
abbrev sem0_108 : Fin 2 → DmaSem sig := fun | 0 => cc0_sem108_0 | 1 => cc0_sem108_1 | ⟨_ + 2, h⟩ => absurd h (Nat.not_lt.2 (Nat.le_add_left _ _))
abbrev reads0_108 : Fin grid0.rank → Bool := ![true]

abbrev stage0_109 : Fin 2 → Memref sig .tc .vmem S1x128x128 .bf16 := fun | 0 => Memref.whole cc0_stg109_0 | 1 => Memref.whole cc0_stg109_1 | ⟨_ + 2, h⟩ => absurd h (Nat.not_lt.2 (Nat.le_add_left _ _))
abbrev sem0_109 : Fin 2 → DmaSem sig := fun | 0 => cc0_sem109_0 | 1 => cc0_sem109_1 | ⟨_ + 2, h⟩ => absurd h (Nat.not_lt.2 (Nat.le_add_left _ _))
abbrev reads0_109 : Fin grid0.rank → Bool := ![true]

abbrev stage0_110 : Fin 2 → Memref sig .tc .vmem S1x128x128 .bf16 := fun | 0 => Memref.whole cc0_stg110_0 | 1 => Memref.whole cc0_stg110_1 | ⟨_ + 2, h⟩ => absurd h (Nat.not_lt.2 (Nat.le_add_left _ _))
abbrev sem0_110 : Fin 2 → DmaSem sig := fun | 0 => cc0_sem110_0 | 1 => cc0_sem110_1 | ⟨_ + 2, h⟩ => absurd h (Nat.not_lt.2 (Nat.le_add_left _ _))
abbrev reads0_110 : Fin grid0.rank → Bool := ![true]

abbrev stage0_111 : Fin 2 → Memref sig .tc .vmem S1x128x128 .bf16 := fun | 0 => Memref.whole cc0_stg111_0 | 1 => Memref.whole cc0_stg111_1 | ⟨_ + 2, h⟩ => absurd h (Nat.not_lt.2 (Nat.le_add_left _ _))
abbrev sem0_111 : Fin 2 → DmaSem sig := fun | 0 => cc0_sem111_0 | 1 => cc0_sem111_1 | ⟨_ + 2, h⟩ => absurd h (Nat.not_lt.2 (Nat.le_add_left _ _))
abbrev reads0_111 : Fin grid0.rank → Bool := ![true]

abbrev stage0_112 : Fin 2 → Memref sig .tc .vmem S1x128x128 .bf16 := fun | 0 => Memref.whole cc0_stg112_0 | 1 => Memref.whole cc0_stg112_1 | ⟨_ + 2, h⟩ => absurd h (Nat.not_lt.2 (Nat.le_add_left _ _))
abbrev sem0_112 : Fin 2 → DmaSem sig := fun | 0 => cc0_sem112_0 | 1 => cc0_sem112_1 | ⟨_ + 2, h⟩ => absurd h (Nat.not_lt.2 (Nat.le_add_left _ _))
abbrev reads0_112 : Fin grid0.rank → Bool := ![true]

abbrev stage0_113 : Fin 2 → Memref sig .tc .vmem S1x128x128 .bf16 := fun | 0 => Memref.whole cc0_stg113_0 | 1 => Memref.whole cc0_stg113_1 | ⟨_ + 2, h⟩ => absurd h (Nat.not_lt.2 (Nat.le_add_left _ _))
abbrev sem0_113 : Fin 2 → DmaSem sig := fun | 0 => cc0_sem113_0 | 1 => cc0_sem113_1 | ⟨_ + 2, h⟩ => absurd h (Nat.not_lt.2 (Nat.le_add_left _ _))
abbrev reads0_113 : Fin grid0.rank → Bool := ![true]

abbrev stage0_114 : Fin 2 → Memref sig .tc .vmem S1x128x128 .bf16 := fun | 0 => Memref.whole cc0_stg114_0 | 1 => Memref.whole cc0_stg114_1 | ⟨_ + 2, h⟩ => absurd h (Nat.not_lt.2 (Nat.le_add_left _ _))
abbrev sem0_114 : Fin 2 → DmaSem sig := fun | 0 => cc0_sem114_0 | 1 => cc0_sem114_1 | ⟨_ + 2, h⟩ => absurd h (Nat.not_lt.2 (Nat.le_add_left _ _))
abbrev reads0_114 : Fin grid0.rank → Bool := ![true]

abbrev stage0_115 : Fin 2 → Memref sig .tc .vmem S1x128x128 .bf16 := fun | 0 => Memref.whole cc0_stg115_0 | 1 => Memref.whole cc0_stg115_1 | ⟨_ + 2, h⟩ => absurd h (Nat.not_lt.2 (Nat.le_add_left _ _))
abbrev sem0_115 : Fin 2 → DmaSem sig := fun | 0 => cc0_sem115_0 | 1 => cc0_sem115_1 | ⟨_ + 2, h⟩ => absurd h (Nat.not_lt.2 (Nat.le_add_left _ _))
abbrev reads0_115 : Fin grid0.rank → Bool := ![true]

abbrev stage0_116 : Fin 2 → Memref sig .tc .vmem S1x128x128 .bf16 := fun | 0 => Memref.whole cc0_stg116_0 | 1 => Memref.whole cc0_stg116_1 | ⟨_ + 2, h⟩ => absurd h (Nat.not_lt.2 (Nat.le_add_left _ _))
abbrev sem0_116 : Fin 2 → DmaSem sig := fun | 0 => cc0_sem116_0 | 1 => cc0_sem116_1 | ⟨_ + 2, h⟩ => absurd h (Nat.not_lt.2 (Nat.le_add_left _ _))
abbrev reads0_116 : Fin grid0.rank → Bool := ![true]

abbrev stage0_117 : Fin 2 → Memref sig .tc .vmem S1x128x128 .bf16 := fun | 0 => Memref.whole cc0_stg117_0 | 1 => Memref.whole cc0_stg117_1 | ⟨_ + 2, h⟩ => absurd h (Nat.not_lt.2 (Nat.le_add_left _ _))
abbrev sem0_117 : Fin 2 → DmaSem sig := fun | 0 => cc0_sem117_0 | 1 => cc0_sem117_1 | ⟨_ + 2, h⟩ => absurd h (Nat.not_lt.2 (Nat.le_add_left _ _))
abbrev reads0_117 : Fin grid0.rank → Bool := ![true]

abbrev stage0_118 : Fin 2 → Memref sig .tc .vmem S1x128x128 .bf16 := fun | 0 => Memref.whole cc0_stg118_0 | 1 => Memref.whole cc0_stg118_1 | ⟨_ + 2, h⟩ => absurd h (Nat.not_lt.2 (Nat.le_add_left _ _))
abbrev sem0_118 : Fin 2 → DmaSem sig := fun | 0 => cc0_sem118_0 | 1 => cc0_sem118_1 | ⟨_ + 2, h⟩ => absurd h (Nat.not_lt.2 (Nat.le_add_left _ _))
abbrev reads0_118 : Fin grid0.rank → Bool := ![true]

abbrev stage0_119 : Fin 2 → Memref sig .tc .vmem S1x128x128 .bf16 := fun | 0 => Memref.whole cc0_stg119_0 | 1 => Memref.whole cc0_stg119_1 | ⟨_ + 2, h⟩ => absurd h (Nat.not_lt.2 (Nat.le_add_left _ _))
abbrev sem0_119 : Fin 2 → DmaSem sig := fun | 0 => cc0_sem119_0 | 1 => cc0_sem119_1 | ⟨_ + 2, h⟩ => absurd h (Nat.not_lt.2 (Nat.le_add_left _ _))
abbrev reads0_119 : Fin grid0.rank → Bool := ![true]

abbrev stage0_120 : Fin 2 → Memref sig .tc .vmem S1x128x128 .bf16 := fun | 0 => Memref.whole cc0_stg120_0 | 1 => Memref.whole cc0_stg120_1 | ⟨_ + 2, h⟩ => absurd h (Nat.not_lt.2 (Nat.le_add_left _ _))
abbrev sem0_120 : Fin 2 → DmaSem sig := fun | 0 => cc0_sem120_0 | 1 => cc0_sem120_1 | ⟨_ + 2, h⟩ => absurd h (Nat.not_lt.2 (Nat.le_add_left _ _))
abbrev reads0_120 : Fin grid0.rank → Bool := ![true]

abbrev stage0_121 : Fin 2 → Memref sig .tc .vmem S1x128x128 .bf16 := fun | 0 => Memref.whole cc0_stg121_0 | 1 => Memref.whole cc0_stg121_1 | ⟨_ + 2, h⟩ => absurd h (Nat.not_lt.2 (Nat.le_add_left _ _))
abbrev sem0_121 : Fin 2 → DmaSem sig := fun | 0 => cc0_sem121_0 | 1 => cc0_sem121_1 | ⟨_ + 2, h⟩ => absurd h (Nat.not_lt.2 (Nat.le_add_left _ _))
abbrev reads0_121 : Fin grid0.rank → Bool := ![true]

abbrev stage0_122 : Fin 2 → Memref sig .tc .vmem S1x128x128 .bf16 := fun | 0 => Memref.whole cc0_stg122_0 | 1 => Memref.whole cc0_stg122_1 | ⟨_ + 2, h⟩ => absurd h (Nat.not_lt.2 (Nat.le_add_left _ _))
abbrev sem0_122 : Fin 2 → DmaSem sig := fun | 0 => cc0_sem122_0 | 1 => cc0_sem122_1 | ⟨_ + 2, h⟩ => absurd h (Nat.not_lt.2 (Nat.le_add_left _ _))
abbrev reads0_122 : Fin grid0.rank → Bool := ![true]

abbrev stage0_123 : Fin 2 → Memref sig .tc .vmem S1x128x128 .bf16 := fun | 0 => Memref.whole cc0_stg123_0 | 1 => Memref.whole cc0_stg123_1 | ⟨_ + 2, h⟩ => absurd h (Nat.not_lt.2 (Nat.le_add_left _ _))
abbrev sem0_123 : Fin 2 → DmaSem sig := fun | 0 => cc0_sem123_0 | 1 => cc0_sem123_1 | ⟨_ + 2, h⟩ => absurd h (Nat.not_lt.2 (Nat.le_add_left _ _))
abbrev reads0_123 : Fin grid0.rank → Bool := ![true]

abbrev stage0_124 : Fin 2 → Memref sig .tc .vmem S1x128x128 .bf16 := fun | 0 => Memref.whole cc0_stg124_0 | 1 => Memref.whole cc0_stg124_1 | ⟨_ + 2, h⟩ => absurd h (Nat.not_lt.2 (Nat.le_add_left _ _))
abbrev sem0_124 : Fin 2 → DmaSem sig := fun | 0 => cc0_sem124_0 | 1 => cc0_sem124_1 | ⟨_ + 2, h⟩ => absurd h (Nat.not_lt.2 (Nat.le_add_left _ _))
abbrev reads0_124 : Fin grid0.rank → Bool := ![true]

abbrev stage0_125 : Fin 2 → Memref sig .tc .vmem S1x128x128 .bf16 := fun | 0 => Memref.whole cc0_stg125_0 | 1 => Memref.whole cc0_stg125_1 | ⟨_ + 2, h⟩ => absurd h (Nat.not_lt.2 (Nat.le_add_left _ _))
abbrev sem0_125 : Fin 2 → DmaSem sig := fun | 0 => cc0_sem125_0 | 1 => cc0_sem125_1 | ⟨_ + 2, h⟩ => absurd h (Nat.not_lt.2 (Nat.le_add_left _ _))
abbrev reads0_125 : Fin grid0.rank → Bool := ![true]

abbrev stage0_126 : Fin 2 → Memref sig .tc .vmem S1x128x128 .bf16 := fun | 0 => Memref.whole cc0_stg126_0 | 1 => Memref.whole cc0_stg126_1 | ⟨_ + 2, h⟩ => absurd h (Nat.not_lt.2 (Nat.le_add_left _ _))
abbrev sem0_126 : Fin 2 → DmaSem sig := fun | 0 => cc0_sem126_0 | 1 => cc0_sem126_1 | ⟨_ + 2, h⟩ => absurd h (Nat.not_lt.2 (Nat.le_add_left _ _))
abbrev reads0_126 : Fin grid0.rank → Bool := ![true]

abbrev stage0_127 : Fin 2 → Memref sig .tc .vmem S1x128x128 .bf16 := fun | 0 => Memref.whole cc0_stg127_0 | 1 => Memref.whole cc0_stg127_1 | ⟨_ + 2, h⟩ => absurd h (Nat.not_lt.2 (Nat.le_add_left _ _))
abbrev sem0_127 : Fin 2 → DmaSem sig := fun | 0 => cc0_sem127_0 | 1 => cc0_sem127_1 | ⟨_ + 2, h⟩ => absurd h (Nat.not_lt.2 (Nat.le_add_left _ _))
abbrev reads0_127 : Fin grid0.rank → Bool := ![true]

abbrev stage0_128 : Fin 2 → Memref sig .tc .vmem S1x128x128 .bf16 := fun | 0 => Memref.whole cc0_stg128_0 | 1 => Memref.whole cc0_stg128_1 | ⟨_ + 2, h⟩ => absurd h (Nat.not_lt.2 (Nat.le_add_left _ _))
abbrev sem0_128 : Fin 2 → DmaSem sig := fun | 0 => cc0_sem128_0 | 1 => cc0_sem128_1 | ⟨_ + 2, h⟩ => absurd h (Nat.not_lt.2 (Nat.le_add_left _ _))
abbrev reads0_128 : Fin grid0.rank → Bool := ![true]

abbrev stage0_129 : Fin 2 → Memref sig .tc .vmem S1x128x128 .bf16 := fun | 0 => Memref.whole cc0_stg129_0 | 1 => Memref.whole cc0_stg129_1 | ⟨_ + 2, h⟩ => absurd h (Nat.not_lt.2 (Nat.le_add_left _ _))
abbrev sem0_129 : Fin 2 → DmaSem sig := fun | 0 => cc0_sem129_0 | 1 => cc0_sem129_1 | ⟨_ + 2, h⟩ => absurd h (Nat.not_lt.2 (Nat.le_add_left _ _))
abbrev reads0_129 : Fin grid0.rank → Bool := ![true]

abbrev stage0_130 : Fin 2 → Memref sig .tc .vmem S1x128x128 .bf16 := fun | 0 => Memref.whole cc0_stg130_0 | 1 => Memref.whole cc0_stg130_1 | ⟨_ + 2, h⟩ => absurd h (Nat.not_lt.2 (Nat.le_add_left _ _))
abbrev sem0_130 : Fin 2 → DmaSem sig := fun | 0 => cc0_sem130_0 | 1 => cc0_sem130_1 | ⟨_ + 2, h⟩ => absurd h (Nat.not_lt.2 (Nat.le_add_left _ _))
abbrev reads0_130 : Fin grid0.rank → Bool := ![true]

abbrev stage0_131 : Fin 2 → Memref sig .tc .vmem S1x128x128 .bf16 := fun | 0 => Memref.whole cc0_stg131_0 | 1 => Memref.whole cc0_stg131_1 | ⟨_ + 2, h⟩ => absurd h (Nat.not_lt.2 (Nat.le_add_left _ _))
abbrev sem0_131 : Fin 2 → DmaSem sig := fun | 0 => cc0_sem131_0 | 1 => cc0_sem131_1 | ⟨_ + 2, h⟩ => absurd h (Nat.not_lt.2 (Nat.le_add_left _ _))
abbrev reads0_131 : Fin grid0.rank → Bool := ![true]

abbrev stage0_132 : Fin 2 → Memref sig .tc .vmem S1x1x512 .f32 := fun | 0 => Memref.whole cc0_stg132_0 | 1 => Memref.whole cc0_stg132_1 | ⟨_ + 2, h⟩ => absurd h (Nat.not_lt.2 (Nat.le_add_left _ _))
abbrev sem0_132 : Fin 2 → DmaSem sig := fun | 0 => cc0_sem132_0 | 1 => cc0_sem132_1 | ⟨_ + 2, h⟩ => absurd h (Nat.not_lt.2 (Nat.le_add_left _ _))
abbrev reads0_132 : Fin grid0.rank → Bool := ![true]

abbrev stage0_133 : Fin 2 → Memref sig .tc .vmem S1x1x512 .f32 := fun | 0 => Memref.whole cc0_stg133_0 | 1 => Memref.whole cc0_stg133_1 | ⟨_ + 2, h⟩ => absurd h (Nat.not_lt.2 (Nat.le_add_left _ _))
abbrev sem0_133 : Fin 2 → DmaSem sig := fun | 0 => cc0_sem133_0 | 1 => cc0_sem133_1 | ⟨_ + 2, h⟩ => absurd h (Nat.not_lt.2 (Nat.le_add_left _ _))
abbrev reads0_133 : Fin grid0.rank → Bool := ![true]
-- ==== ProjReferenceIdeal.lean ====
abbrev S2x1408 : Shape := ⟨2, ![2, 1408]⟩
abbrev S11264x128 : Shape := ⟨2, ![11264, 128]⟩
abbrev S1000x16384 : Shape := ⟨2, ![1000, 16384]⟩
abbrev S1x1408 : Shape := ⟨2, ![1, 1408]⟩
abbrev S1408 : Shape := ⟨1, ![1408]⟩
abbrev S1000x128x128 : Shape := ⟨3, ![1000, 128, 128]⟩
abbrev S1408x8 : Shape := ⟨2, ![1408, 8]⟩
abbrev S11264 : Shape := ⟨1, ![11264]⟩
abbrev S_ : Shape := ⟨0, ![]⟩
abbrev S11264x1 : Shape := ⟨2, ![11264, 1]⟩
abbrev S11264x128x128 : Shape := ⟨3, ![11264, 128, 128]⟩
abbrev S22x1x512 : Shape := ⟨3, ![22, 1, 512]⟩

abbrev nBuf : Space → Nat
  | .hbm => 50
  | .vmem => 0
  | .smem => 0
  | _ => 0

abbrev bufTy : (tb : Table) → Fin (tcTables nBuf tb) → BufTy
  | .hbm, ⟨0, _⟩ => ⟨S2x1408, .i32⟩
  | .hbm, ⟨1, _⟩ => ⟨S11264x128, .bf16⟩
  | .hbm, ⟨2, _⟩ => ⟨S11264x128, .f32⟩
  | .hbm, ⟨3, _⟩ => ⟨S11264x128, .bf16⟩
  | .hbm, ⟨4, _⟩ => ⟨S11264x128, .f32⟩
  | .hbm, ⟨5, _⟩ => ⟨S1000x16384, .f32⟩
  | .hbm, ⟨6, _⟩ => ⟨S1x1408, .i32⟩
  | .hbm, ⟨7, _⟩ => ⟨S1408, .i32⟩
  | .hbm, ⟨8, _⟩ => ⟨S1000x128x128, .f32⟩
  | .hbm, ⟨9, _⟩ => ⟨S1408x8, .i32⟩
  | .hbm, ⟨10, _⟩ => ⟨S11264, .i32⟩
  | .hbm, ⟨11, _⟩ => ⟨S_, .i32⟩
  | .hbm, ⟨12, _⟩ => ⟨S11264, .i32⟩
  | .hbm, ⟨13, _⟩ => ⟨S11264, .i1⟩
  | .hbm, ⟨14, _⟩ => ⟨S_, .i32⟩
  | .hbm, ⟨15, _⟩ => ⟨S11264, .i32⟩
  | .hbm, ⟨16, _⟩ => ⟨S11264, .i32⟩
  | .hbm, ⟨17, _⟩ => ⟨S11264, .i32⟩
  | .hbm, ⟨18, _⟩ => ⟨S11264x1, .i32⟩
  | .hbm, ⟨19, _⟩ => ⟨S11264x128x128, .f32⟩
  | .hbm, ⟨20, _⟩ => ⟨S11264x128, .f32⟩
  | .hbm, ⟨21, _⟩ => ⟨S11264x128, .f32⟩
  | .hbm, ⟨22, _⟩ => ⟨S11264x128, .f32⟩
  | .hbm, ⟨23, _⟩ => ⟨S11264x128, .f32⟩
  | .hbm, ⟨24, _⟩ => ⟨S_, .f32⟩
  | .hbm, ⟨25, _⟩ => ⟨S11264, .f32⟩
  | .hbm, ⟨26, _⟩ => ⟨S11264, .f32⟩
  | .hbm, ⟨27, _⟩ => ⟨S1x1408, .i32⟩
  | .hbm, ⟨28, _⟩ => ⟨S1408, .i32⟩
  | .hbm, ⟨29, _⟩ => ⟨S1000x128x128, .f32⟩
  | .hbm, ⟨30, _⟩ => ⟨S1408x8, .i32⟩
  | .hbm, ⟨31, _⟩ => ⟨S11264, .i32⟩
  | .hbm, ⟨32, _⟩ => ⟨S_, .i32⟩
  | .hbm, ⟨33, _⟩ => ⟨S11264, .i32⟩
  | .hbm, ⟨34, _⟩ => ⟨S11264, .i1⟩
  | .hbm, ⟨35, _⟩ => ⟨S_, .i32⟩
  | .hbm, ⟨36, _⟩ => ⟨S11264, .i32⟩
  | .hbm, ⟨37, _⟩ => ⟨S11264, .i32⟩
  | .hbm, ⟨38, _⟩ => ⟨S11264, .i32⟩
  | .hbm, ⟨39, _⟩ => ⟨S11264x1, .i32⟩
  | .hbm, ⟨40, _⟩ => ⟨S11264x128x128, .f32⟩
  | .hbm, ⟨41, _⟩ => ⟨S11264x128, .f32⟩
  | .hbm, ⟨42, _⟩ => ⟨S11264x128, .f32⟩
  | .hbm, ⟨43, _⟩ => ⟨S11264x128, .f32⟩
  | .hbm, ⟨44, _⟩ => ⟨S11264x128, .f32⟩
  | .hbm, ⟨45, _⟩ => ⟨S_, .f32⟩
  | .hbm, ⟨46, _⟩ => ⟨S11264, .f32⟩
  | .hbm, ⟨47, _⟩ => ⟨S11264, .f32⟩
  | .hbm, ⟨48, _⟩ => ⟨S22x1x512, .f32⟩
  | .hbm, ⟨49, _⟩ => ⟨S22x1x512, .f32⟩
  | _, _ => ⟨S2x1408, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_cst : Ref sig .tc := ⟨.hbm, 24, rfl⟩
abbrev main_call0_v1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_1 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call1_v0 : Ref sig .tc := ⟨.hbm, 44, rfl⟩
abbrev main_call1_cst : Ref sig .tc := ⟨.hbm, 45, rfl⟩
abbrev main_call1_v1 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== Loss.lean ====
abbrev S22x1x512 : Shape := ⟨3, ![22, 1, 512]⟩
abbrev S2x4096x1 : Shape := ⟨3, ![2, 4096, 1]⟩
abbrev S1x4096x1 : Shape := ⟨3, ![1, 4096, 1]⟩
abbrev S4096x1 : Shape := ⟨2, ![4096, 1]⟩
abbrev S1x1 : Shape := ⟨2, ![1, 1]⟩
abbrev S128x1 : Shape := ⟨2, ![128, 1]⟩
abbrev S128x22 : Shape := ⟨2, ![128, 22]⟩
abbrev S128x512 : Shape := ⟨2, ![128, 512]⟩
abbrev S22x512 : Shape := ⟨2, ![22, 512]⟩
abbrev S128 : Shape := ⟨1, ![128]⟩
abbrev S1 : Shape := ⟨1, ![1]⟩

abbrev nBuf : Space → Nat
  | .hbm => 13
  | .vmem => 11
  | .smem => 0
  | _ => 0

abbrev bufTy : (tb : Table) → Fin (tcTables nBuf tb) → BufTy
  | .hbm, ⟨0, _⟩ => ⟨S22x1x512, .f32⟩
  | .hbm, ⟨1, _⟩ => ⟨S22x1x512, .f32⟩
  | .hbm, ⟨2, _⟩ => ⟨S2x4096x1, .i32⟩
  | .hbm, ⟨3, _⟩ => ⟨S2x4096x1, .i32⟩
  | .hbm, ⟨4, _⟩ => ⟨S1x4096x1, .i32⟩
  | .hbm, ⟨5, _⟩ => ⟨S4096x1, .i32⟩
  | .hbm, ⟨6, _⟩ => ⟨S1x4096x1, .i32⟩
  | .hbm, ⟨7, _⟩ => ⟨S4096x1, .i32⟩
  | .hbm, ⟨8, _⟩ => ⟨S1x4096x1, .i32⟩
  | .hbm, ⟨9, _⟩ => ⟨S4096x1, .i32⟩
  | .hbm, ⟨10, _⟩ => ⟨S1x4096x1, .i32⟩
  | .hbm, ⟨11, _⟩ => ⟨S4096x1, .i32⟩
  | .hbm, ⟨12, _⟩ => ⟨S1x1, .f32⟩
  | .local _ .vmem, ⟨0, _⟩ => ⟨S22x1x512, .f32⟩
  | .local _ .vmem, ⟨1, _⟩ => ⟨S22x1x512, .f32⟩
  | .local _ .vmem, ⟨2, _⟩ => ⟨S128x1, .i32⟩
  | .local _ .vmem, ⟨3, _⟩ => ⟨S128x1, .i32⟩
  | .local _ .vmem, ⟨4, _⟩ => ⟨S128x1, .i32⟩
  | .local _ .vmem, ⟨5, _⟩ => ⟨S128x1, .i32⟩
  | .local _ .vmem, ⟨6, _⟩ => ⟨S128x1, .i32⟩
  | .local _ .vmem, ⟨7, _⟩ => ⟨S128x1, .i32⟩
  | .local _ .vmem, ⟨8, _⟩ => ⟨S128x1, .i32⟩
  | .local _ .vmem, ⟨9, _⟩ => ⟨S128x1, .i32⟩
  | .local _ .vmem, ⟨10, _⟩ => ⟨S1x1, .f32⟩
  | _, _ => ⟨S22x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S22x1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S22x1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossReferenceIdeal.lean ====
abbrev S22x1x512 : Shape := ⟨3, ![22, 1, 512]⟩
abbrev S2x4096x1 : Shape := ⟨3, ![2, 4096, 1]⟩
abbrev S2x4096 : Shape := ⟨2, ![2, 4096]⟩
abbrev S_ : Shape := ⟨0, ![]⟩
abbrev S11264 : Shape := ⟨1, ![11264]⟩
abbrev S1x4096 : Shape := ⟨2, ![1, 4096]⟩
abbrev S4096 : Shape := ⟨1, ![4096]⟩
abbrev S4096x1 : Shape := ⟨2, ![4096, 1]⟩
abbrev S1x1 : Shape := ⟨2, ![1, 1]⟩

abbrev nBuf : Space → Nat
  | .hbm => 46
  | .vmem => 0
  | .smem => 0
  | _ => 0

abbrev bufTy : (tb : Table) → Fin (tcTables nBuf tb) → BufTy
  | .hbm, ⟨0, _⟩ => ⟨S22x1x512, .f32⟩
  | .hbm, ⟨1, _⟩ => ⟨S22x1x512, .f32⟩
  | .hbm, ⟨2, _⟩ => ⟨S2x4096x1, .i32⟩
  | .hbm, ⟨3, _⟩ => ⟨S2x4096x1, .i32⟩
  | .hbm, ⟨4, _⟩ => ⟨S2x4096, .i32⟩
  | .hbm, ⟨5, _⟩ => ⟨S_, .i32⟩
  | .hbm, ⟨6, _⟩ => ⟨S2x4096, .i32⟩
  | .hbm, ⟨7, _⟩ => ⟨S2x4096, .i32⟩
  | .hbm, ⟨8, _⟩ => ⟨S2x4096, .i32⟩
  | .hbm, ⟨9, _⟩ => ⟨S2x4096, .i32⟩
  | .hbm, ⟨10, _⟩ => ⟨S11264, .f32⟩
  | .hbm, ⟨11, _⟩ => ⟨S1x4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S4096x1, .i32⟩
  | .hbm, ⟨21, _⟩ => ⟨S4096, .f32⟩
  | .hbm, ⟨22, _⟩ => ⟨S11264, .f32⟩
  | .hbm, ⟨23, _⟩ => ⟨S1x4096, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S4096x1, .i32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S1x1, .f32⟩
  | _, _ => ⟨S22x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Proof.Gather.Term.lean ====
/-
  The gather in plain mathematics: rows of two tables named by words, and the difference of two rows scaled to length one.
-/
module

public import Idealize.ShloMosaic.PureOps
public import Idealize.ShloMosaic.Lib.Pointwise

@[expose] public section

noncomputable section

namespace Embed

open Idealize.ShloMosaic

/-- The row that a word below 1000 names. -/
def rowOf (x : BitVec 32) : Fin 100000 := ⟨min x.toNat 999, by omega⟩

/-- A row's entry over its length, the length being at least the word of 1e-12. -/
def unit (v : Fin 128 → EReal) (k : Fin 128) : EReal :=
  Ideal.div (v k) (max (Ideal.sqrt (∑ j, v j * v j)) (Ideal.ofBits .f32 0x2B8CBCCC#32))

/-- The difference of two rows of the entity table, each scaled to length one; rows `h` and `t` of the words name them. -/
def diff (h t : Fin 8) (idx : (⟨2, ![8, 11264]⟩ : Shape).Idx → BitVec 32) (e : (⟨2, ![100000, 128]⟩ : Shape).Idx → EReal) :
    (⟨2, ![11264, 128]⟩ : Shape).Idx → EReal := fun i =>
  unit (fun j => e (ix2 (rowOf (idx (ix2 h (i 0)))) j)) (i 1) - unit (fun j => e (ix2 (rowOf (idx (ix2 t (i 0)))) j)) (i 1)

/-- Rows of the relation table, named by row `r` of the words. -/
def rel (r : Fin 8) (idx : (⟨2, ![8, 11264]⟩ : Shape).Idx → BitVec 32) (w : (⟨2, ![100000, 128]⟩ : Shape).Idx → EReal) :
    (⟨2, ![11264, 128]⟩ : Shape).Idx → EReal := fun i => w (ix2 (rowOf (idx (ix2 r (i 0)))) (i 1))

/-- A comparison of a word with a small number, widened and read as a number, is 1 where they agree and 0 elsewhere. -/
theorem hit_eq (x : BitVec 32) (k : Nat) (hk : k < 2 ^ 32) :
    FloatOps.sitofp (F := Ideal) .f32 (BitVec.setWidth 32 (IntOp.cmpi CmpIPredicate.eq x (BitVec.ofNat 32 k))) = if x.toNat = k then (1 : EReal) else 0 := by
  by_cases h : x.toNat = k
  · have : x = BitVec.ofNat 32 k := by apply BitVec.eq_of_toNat_eq; simp [h]; omega
    rw [if_pos h, ← this]
    have c : IntOp.cmpi CmpIPredicate.eq x x = 1#1 := by simp [IntOp.cmpi]
    rw [c]
    show (((BitVec.setWidth 32 1#1).toInt : ℝ) : EReal) = 1
    rw [show (BitVec.setWidth 32 1#1).toInt = 1 from by decide]
    norm_num
  · have n : x ≠ BitVec.ofNat 32 k := fun e => h (by rw [e, BitVec.toNat_ofNat, Nat.mod_eq_of_lt hk])
    rw [if_neg h]
    have c : IntOp.cmpi CmpIPredicate.eq x (BitVec.ofNat 32 k) = 0#1 := by
      show BitVec.ofBool (x == BitVec.ofNat 32 k) = 0#1
      rw [beq_false_of_ne n]; rfl
    rw [c]
    show (((BitVec.setWidth 32 0#1).toInt : ℝ) : EReal) = 0
    rw [show (BitVec.setWidth 32 0#1).toInt = 0 from by decide]
    norm_num

/-- A one-hot product picks the row that the word names. -/
theorem picked (v : Fin 1000 → EReal) (x : BitVec 32) (hx : x.toNat < 1000) :
    ∑ k : Fin 1000, FloatOps.sitofp (F := Ideal) .f32 (BitVec.setWidth 32 (IntOp.cmpi CmpIPredicate.eq x (BitVec.ofNat 32 k.val))) * v k
      = v ⟨min x.toNat 999, by omega⟩ := by
  rw [Finset.sum_eq_single ⟨min x.toNat 999, by omega⟩]
  · rw [hit_eq _ _ (by show min x.toNat 999 < _; omega), if_pos (by show x.toNat = min x.toNat 999; omega), one_mul]
  · intro k _ hk
    rw [hit_eq _ _ (by omega), if_neg (fun h => hk (Fin.ext (by show k.val = min x.toNat 999; omega))), zero_mul]
  · exact fun h => absurd (Finset.mem_univ _) h

end Embed

end
-- ==== Proof.Gather.Pick.lean ====
/-
  The gather call's payloads read at an index.
-/
module

public import proofs.«01_k».proof.Proof.Gather.Term
public import proofs.«01_k».proof.Proof.Gen.GatherIdeal.Skeleton
public import Idealize.ShloMosaic.Lib.Pointwise

@[expose] public section

set_option maxRecDepth 16384

noncomputable section

namespace Cert.GatherIdeal.Own

open Cert.GatherIdeal Cert.GatherIdeal.Gen Idealize.ShloMosaic Idealize.ShloMosaic.TcCoe

/-- The one-hot matrix of a column of words. -/
def hot (x : IVec S512x1 32) : FVec Ideal S512x1000 .f32 :=
  sitofp .f32 (extui 32 (cmpi .eq (broadcastTo S512x1000 x broadcasts_S512x1_S512x1000) (iota .tc S512x1000 32 [1] iota_S512x1000_d1_w32)) natLt_1_32)

/-- Its product with a table. -/
def taken (x : IVec S512x1 32) (v : FVec Ideal S1000x128 .f32) : FVec Ideal S512x128 .f32 :=
  matmul dot_S512x1000_S1000x128_S512x128_1_0_0_1_n_n none (hot x) v (constant S512x128 .f32 0x00000000#32)

/-- Every row over its length. -/
def scaled (y : FVec Ideal S512x128 .f32) : FVec Ideal S512x128 .f32 :=
  divf y (broadcastTo S512x128 (maximumf (sqrt (shapeCast S512x1
    (multiReduction .add [1] S512 (mulf y y) 0x00000000#32 reduces_S512x128_S512 (.inl rfl) rfl) shapeCasts_S512_S512x1))
    (broadcast S512x1 (Scalar.ofBits .f32 0x2B8CBCCC#32))) broadcasts_S512x1_S512x128)

theorem taken_at (x : IVec S512x1 32) (v : FVec Ideal S1000x128 .f32) (a : Fin 512) (k : Fin 128) (hx : (x (ix2 a 0)).toNat < 1000) :
    taken x v (ix2 a k) = v (ix2 ⟨min (x (ix2 a 0)).toNat 999, by omega⟩ k) := by
  unfold taken hot
  pointwise
  exact Embed.picked (fun n => v (ix2 n k)) _ hx

theorem scaled_at (y : FVec Ideal S512x128 .f32) (a : Fin 512) (k : Fin 128) : scaled y (ix2 a k) = Embed.unit (fun j => y (ix2 a j)) k := by
  unfold scaled
  pointwise
  rfl

/-- Column `q` of the transposed words. -/
theorem col_at (x : IVec S8x512 32) (q : Fin 8) (o : Fin 2 → Nat) (h : S512x8.Slices o S512x1) (h0 : o 0 = 0) (h1 : o 1 = q.val) (a : Fin 512) :
    extractStridedSlice S512x1 o (k0_pay2 (F := Ideal) x) h (ix2 a 0) = x (ix2 q a) := by
  obtain rfl : o = ![0, q.val] := by
    funext b
    match b with
    | 0 => exact h0
    | 1 => exact h1
  unfold k0_pay2
  pointwise

end Cert.GatherIdeal.Own

end
-- ==== Proof.Gather.Value.lean ====
/-
  The gather call's run: its four outputs end at the differences and the relation rows that the words name.
-/
module

public import proofs.«01_k».proof.Proof.Gather.Pick
public import proofs.«01_k».proof.Proof.Gen.GatherIdeal.Value
public import Idealize.ShloMosaic.Lib.Pipeline.Value
public import Idealize.ShloMosaic.Lib.Pipeline.ValueKit.Basic
public import Idealize.ShloMosaic.Lib.Tactic

@[expose] public section

set_option maxRecDepth 16384

noncomputable section

namespace Cert.GatherIdeal.Own

open Cert.GatherIdeal Cert.GatherIdeal.Gen Cert.GatherIdeal.Value Idealize.ShloMosaic Idealize.ShloMosaic.TcCoe Idealize.SL.Sem
open Idealize.ShloMosaic.Pipeline (Dat)

variable (m : (ℓ : Loc nD τ sig) → Buf (Elt Ideal) ℓ)

/-- Every word names a row of the first thousand. -/
def Words (x : IVec S8x11264 32) : Prop := ∀ j, (x j).toNat < 1000

/-! ## The stores -/

theorem out3 (x0 : Vec Ideal S8x512 .i32) (x1 x2 : Vec Ideal S1000x128 .f32) :
    out0_3 x0 x1 x2 = truncf .bf16 (subf (scaled (taken (extractStridedSlice S512x1 ![0, 0] (k0_pay2 (F := Ideal) x0) slices_S512x8_o0_0_S512x1) x1))
      (scaled (taken (extractStridedSlice S512x1 ![0, 2] (k0_pay2 (F := Ideal) x0) slices_S512x8_o0_2_S512x1) x1))) bitsLt_bf16_f32 := by
  unfold_out out0_3
  rw [View.canon_cons_unit_lit _ _ _ (by decide), View.ld_unit_lit _ x0 (by decide), View.ld_unit_lit _ x1 (by decide)]
  rfl

theorem out4 (x0 : Vec Ideal S8x512 .i32) (x1 x2 : Vec Ideal S1000x128 .f32) :
    out0_4 x0 x1 x2 = taken (extractStridedSlice S512x1 ![0, 1] (k0_pay2 (F := Ideal) x0) slices_S512x8_o0_1_S512x1) x2 := by
  unfold_out out0_4
  rw [View.canon_cons_unit_lit _ _ _ (by decide), View.ld_unit_lit _ x0 (by decide), View.ld_unit_lit _ x2 (by decide)]
  rfl

theorem out5 (x0 : Vec Ideal S8x512 .i32) (x1 x2 : Vec Ideal S1000x128 .f32) :
    out0_5 x0 x1 x2 = truncf .bf16 (subf (scaled (taken (extractStridedSlice S512x1 ![0, 4] (k0_pay2 (F := Ideal) x0) slices_S512x8_o0_4_S512x1) x1))
      (scaled (taken (extractStridedSlice S512x1 ![0, 6] (k0_pay2 (F := Ideal) x0) slices_S512x8_o0_6_S512x1) x1))) bitsLt_bf16_f32 := by
  unfold_out out0_5
  rw [View.canon_cons_unit_lit _ _ _ (by decide), View.ld_unit_lit _ x0 (by decide), View.ld_unit_lit _ x1 (by decide)]
  rfl

theorem out6 (x0 : Vec Ideal S8x512 .i32) (x1 x2 : Vec Ideal S1000x128 .f32) :
    out0_6 x0 x1 x2 = taken (extractStridedSlice S512x1 ![0, 5] (k0_pay2 (F := Ideal) x0) slices_S512x8_o0_5_S512x1) x2 := by
  unfold_out out0_6
  rw [View.canon_cons_unit_lit _ _ _ (by decide), View.ld_unit_lit _ x0 (by decide), View.ld_unit_lit _ x2 (by decide)]
  rfl

/-! ## The blocks -/

/-- A grid point as a number below 22. -/
def pt (t : Fin cfg0.N) : Fin 22 := t.cast N_0

theorem point_word (t : Fin cfg0.N) : (BitVec.ofNat 32 (grid0.coords t 0).val).toNat = (pt t).val := by
  revert t
  exact (by decide +kernel : ∀ t : Fin grid0.N, (BitVec.ofNat 32 (grid0.coords t 0).val).toNat = t.val)

/-- Row `a` of block `t` of an output. -/
def at512 (t : Fin 22) (a : Fin 512) : Fin 11264 := ⟨t.val * 512 + a.val, by omega⟩

theorem words_read (x : Vec Ideal S8x11264 .i32) (t : Fin 22) (T : Fin 2 → Nat) (h : ∀ a, (T a + 1) * S8x512.size a ≤ S8x11264.size a)
    (h0 : T 0 = 0) (h1 : T 1 = t.val) (q : Fin 8) (a : Fin 512) :
    x ((Rect.block (s := S8x11264) S8x512.size T h).emb (ix2 q a)) = x (ix2 q (at512 t a)) := by
  congr 1
  funext b
  refine Fin.ext ?_
  match b with
  | 0 => show T 0 * 8 + 1 * q.val = q.val; omega
  | 1 => show T 1 * 512 + 1 * a.val = t.val * 512 + a.val; omega

theorem table_read (x : Vec Ideal S100000x128 .f32) (T : Fin 2 → Nat) (h : ∀ a, (T a + 1) * S1000x128.size a ≤ S100000x128.size a)
    (h0 : T 0 = 0) (h1 : T 1 = 0) (r : Fin 1000) (k : Fin 128) :
    x ((Rect.block (s := S100000x128) S1000x128.size T h).emb (ix2 r k)) = x (ix2 ⟨r.val, by omega⟩ k) := by
  congr 1
  funext b
  refine Fin.ext ?_
  match b with
  | 0 => show T 0 * 1000 + 1 * r.val = r.val; omega
  | 1 => show T 1 * 128 + 1 * k.val = k.val; omega

theorem block0 (c : Dev nD) (t : Fin cfg0.N) (q : Fin 8) (a : Fin 512) :
    iblk m c 0 t (ix2 q a) = (m ((c : Thread nD τ).loc main_arg0) : IVec S8x11264 32) (ix2 q (at512 (pt t) a)) :=
  words_read (V m c main_arg0) (pt t) (cc0_transform_0 (grid0.coords t)) (hinb0_0 (grid0.coords t)) rfl (point_word t) q a
theorem block1 (c : Dev nD) (t : Fin cfg0.N) (r : Fin 1000) (k : Fin 128) :
    iblk m c 1 t (ix2 r k) = (m ((c : Thread nD τ).loc main_arg1) : FVec Ideal S100000x128 .f32) (ix2 ⟨r.val, by omega⟩ k) :=
  table_read (V m c main_arg1) (cc0_transform_1 (grid0.coords t)) (hinb0_1 (grid0.coords t)) rfl rfl r k
theorem block2 (c : Dev nD) (t : Fin cfg0.N) (r : Fin 1000) (k : Fin 128) :
    iblk m c 2 t (ix2 r k) = (m ((c : Thread nD τ).loc main_arg2) : FVec Ideal S100000x128 .f32) (ix2 ⟨r.val, by omega⟩ k) :=
  table_read (V m c main_arg2) (cc0_transform_2 (grid0.coords t)) (hinb0_2 (grid0.coords t)) rfl rfl r k

/-- Row `a` of what a one-hot product takes of the first table's block, for the words' row `q`. -/
theorem taken1 (hW : ∀ c : Dev nD, Words (m ((c : Thread nD τ).loc main_arg0))) (c : Dev nD) (t : Fin cfg0.N) (q : Fin 8) (o : Fin 2 → Nat)
    (h : S512x8.Slices o S512x1) (h0 : o 0 = 0) (h1 : o 1 = q.val) (a : Fin 512) (k : Fin 128) :
    taken (extractStridedSlice S512x1 o (k0_pay2 (F := Ideal) (iblk m c 0 t)) h) (iblk m c 1 t) (ix2 a k)
      = (m ((c : Thread nD τ).loc main_arg1) : FVec Ideal S100000x128 .f32)
          (ix2 (Embed.rowOf ((m ((c : Thread nD τ).loc main_arg0) : IVec S8x11264 32) (ix2 q (at512 (pt t) a)))) k) := by
  have e := (col_at (iblk m c 0 t) q o h h0 h1 a).trans (block0 m c t q a)
  rw [taken_at _ _ _ _ (by rw [e]; exact hW c _), block1]
  simp only [e]
  rfl

/-- The same of the second table's block. -/
theorem taken2 (hW : ∀ c : Dev nD, Words (m ((c : Thread nD τ).loc main_arg0))) (c : Dev nD) (t : Fin cfg0.N) (q : Fin 8) (o : Fin 2 → Nat)
    (h : S512x8.Slices o S512x1) (h0 : o 0 = 0) (h1 : o 1 = q.val) (a : Fin 512) (k : Fin 128) :
    taken (extractStridedSlice S512x1 o (k0_pay2 (F := Ideal) (iblk m c 0 t)) h) (iblk m c 2 t) (ix2 a k)
      = (m ((c : Thread nD τ).loc main_arg2) : FVec Ideal S100000x128 .f32)
          (ix2 (Embed.rowOf ((m ((c : Thread nD τ).loc main_arg0) : IVec S8x11264 32) (ix2 q (at512 (pt t) a)))) k) := by
  have e := (col_at (iblk m c 0 t) q o h h0 h1 a).trans (block0 m c t q a)
  rw [taken_at _ _ _ _ (by rw [e]; exact hW c _), block2]
  simp only [e]
  rfl

/-! ## The outputs -/

/-- The difference output of the words' rows `h` and `t`. -/
def diffs (h t : Fin 8) (c : Dev nD) : S11264x128.Idx → EReal :=
  Embed.diff h t (m ((c : Thread nD τ).loc main_arg0)) (m ((c : Thread nD τ).loc main_arg1))

/-- The relation output of the words' row `r`. -/
def rels (r : Fin 8) (c : Dev nD) : S11264x128.Idx → EReal :=
  Embed.rel r (m ((c : Thread nD τ).loc main_arg0)) (m ((c : Thread nD τ).loc main_arg2))

theorem diff_at (hW : ∀ c : Dev nD, Words (m ((c : Thread nD τ).loc main_arg0))) (c : Dev nD) (t : Fin cfg0.N) (p q : Fin 8) (o o' : Fin 2 → Nat)
    (h : S512x8.Slices o S512x1) (h0 : o 0 = 0) (h1 : o 1 = p.val) (h' : S512x8.Slices o' S512x1) (h0' : o' 0 = 0) (h1' : o' 1 = q.val)
    (a : Fin 512) (k : Fin 128) :
    (truncf .bf16 (subf (scaled (taken (extractStridedSlice S512x1 o (k0_pay2 (F := Ideal) (iblk m c 0 t)) h) (iblk m c 1 t)))
      (scaled (taken (extractStridedSlice S512x1 o' (k0_pay2 (F := Ideal) (iblk m c 0 t)) h') (iblk m c 1 t)))) bitsLt_bf16_f32 : FVec Ideal S512x128 .bf16) (ix2 a k)
      = diffs m p q c (ix2 (at512 (pt t) a) k) := by
  show scaled (taken _ _) (ix2 a k) - scaled (taken _ _) (ix2 a k) = _
  rw [scaled_at, scaled_at]
  simp only [taken1 m hW c t p o h h0 h1, taken1 m hW c t q o' h' h0' h1']
  rfl

/-- Block `t` of an output. -/
theorem block_of (g : S11264x128.Idx → EReal) (t : Fin 22) (T : Fin 2 → Nat) (h : ∀ a, (T a + 1) * S512x128.size a ≤ S11264x128.size a)
    (h0 : T 0 = t.val) (h1 : T 1 = 0) (f : S512x128.Idx → EReal) (hf : ∀ a k, f (ix2 a k) = g (ix2 (at512 t a) k)) :
    f = fun j => g ((Rect.block (s := S11264x128) S512x128.size T h).emb j) := by
  funext j
  obtain ⟨a, k, rfl⟩ : ∃ (a : Fin 512) (k : Fin 128), j = ix2 a k := ⟨j 0, j 1, eq_ix2 j⟩
  rw [hf]
  congr 1
  funext b
  refine Fin.ext ?_
  match b with
  | 0 => show t.val * 512 + a.val = T 0 * 512 + 1 * a.val; omega
  | 1 => show k.val = T 1 * 128 + 1 * k.val; omega

theorem mem_block (i : S11264x128.Idx) (t : Fin 22) (T : Fin 2 → Nat) (h : ∀ a, (T a + 1) * S512x128.size a ≤ S11264x128.size a)
    (h0 : T 0 = t.val) (h1 : T 1 = 0) (hi : (i 0).val / 512 = t.val) :
    i ∈ (Rect.block (s := S11264x128) S512x128.size T h).set := by
  unfold Rect.block
  rw [Rect.mem_set_unit]
  have hi1 : (i 1).val < 128 := (i 1).isLt
  intro a
  match a with
  | ⟨0, _⟩ => show T 0 * 512 ≤ (i 0).val ∧ (i 0).val < T 0 * 512 + 512; omega
  | ⟨1, _⟩ => show T 1 * 128 ≤ (i 1).val ∧ (i 1).val < T 1 * 128 + 128; omega

/-- The point whose block holds an index. -/
def home (i : S11264x128.Idx) : Fin cfg0.N := Fin.cast N_0.symm ⟨(i 0).val / 512, by have : (i 0).val < 11264 := (i 0).isLt; omega⟩

theorem final3 (hW : ∀ c : Dev nD, Words (m ((c : Thread nD τ).loc main_arg0))) (c : Dev nD) : (dats m 0 c).arrAt 3 cfg0.N = diffs m 0 2 c :=
  (dats m 0 c).arrAt_eq_of_cover 3 (diffs m 0 2 c) (fun t _ => by
      rw [flushed3, out3]
      exact block_of (diffs m 0 2 c) (pt t) (cc0_transform_3 (grid0.coords t)) (hinb0_3 (grid0.coords t)) (point_word t) rfl _
        (diff_at m hW c t 0 2 _ _ _ rfl rfl _ rfl rfl)) fun i =>
    ⟨home i, flush0_3 _, by
      show i ∈ ((View.whole main_v0_0).slice ((cfg0.win 3).rect (home i))).set
      rw [View.set_slice_whole]
      exact mem_block i (pt (home i)) (cc0_transform_3 (grid0.coords (home i))) (hinb0_3 _) (point_word _) rfl rfl⟩

theorem final5 (hW : ∀ c : Dev nD, Words (m ((c : Thread nD τ).loc main_arg0))) (c : Dev nD) : (dats m 0 c).arrAt 5 cfg0.N = diffs m 4 6 c :=
  (dats m 0 c).arrAt_eq_of_cover 5 (diffs m 4 6 c) (fun t _ => by
      rw [flushed5, out5]
      exact block_of (diffs m 4 6 c) (pt t) (cc0_transform_5 (grid0.coords t)) (hinb0_5 (grid0.coords t)) (point_word t) rfl _
        (diff_at m hW c t 4 6 _ _ _ rfl rfl _ rfl rfl)) fun i =>
    ⟨home i, flush0_5 _, by
      show i ∈ ((View.whole main_v0_2).slice ((cfg0.win 5).rect (home i))).set
      rw [View.set_slice_whole]
      exact mem_block i (pt (home i)) (cc0_transform_5 (grid0.coords (home i))) (hinb0_5 _) (point_word _) rfl rfl⟩

theorem final4 (hW : ∀ c : Dev nD, Words (m ((c : Thread nD τ).loc main_arg0))) (c : Dev nD) : (dats m 0 c).arrAt 4 cfg0.N = rels m 1 c :=
  (dats m 0 c).arrAt_eq_of_cover 4 (rels m 1 c) (fun t _ => by
      rw [flushed4, out4]
      exact block_of (rels m 1 c) (pt t) (cc0_transform_4 (grid0.coords t)) (hinb0_4 (grid0.coords t)) (point_word t) rfl _
        (taken2 m hW c t 1 _ _ rfl rfl)) fun i =>
    ⟨home i, flush0_4 _, by
      show i ∈ ((View.whole main_v0_1).slice ((cfg0.win 4).rect (home i))).set
      rw [View.set_slice_whole]
      exact mem_block i (pt (home i)) (cc0_transform_4 (grid0.coords (home i))) (hinb0_4 _) (point_word _) rfl rfl⟩

theorem final6 (hW : ∀ c : Dev nD, Words (m ((c : Thread nD τ).loc main_arg0))) (c : Dev nD) : (dats m 0 c).arrAt 6 cfg0.N = rels m 5 c :=
  (dats m 0 c).arrAt_eq_of_cover 6 (rels m 5 c) (fun t _ => by
      rw [flushed6, out6]
      exact block_of (rels m 5 c) (pt t) (cc0_transform_6 (grid0.coords t)) (hinb0_6 (grid0.coords t)) (point_word t) rfl _
        (taken2 m hW c t 5 _ _ rfl rfl)) fun i =>
    ⟨home i, flush0_6 _, by
      show i ∈ ((View.whole main_v0_3).slice ((cfg0.win 6).rect (home i))).set
      rw [View.set_slice_whole]
      exact mem_block i (pt (home i)) (cc0_transform_6 (grid0.coords (home i))) (hinb0_6 _) (point_word _) rfl rfl⟩

end Cert.GatherIdeal.Own

end
-- ==== Proof.Gather.Ref.lean ====
/-
  The gather reference read at an index: rows of the tables, taken by plain indexing, and their scaled differences.
-/
module

public import proofs.«01_k».proof.Proof.Gather.Term
public import proofs.«01_k».proof.Proof.Gen.GatherReferenceIdeal.Run
public import Idealize.ShloMosaic.Lib.Tactic

@[expose] public section

set_option maxRecDepth 16384

noncomputable section

namespace Cert.GatherReferenceIdeal.Own

open Cert.GatherReferenceIdeal Cert.GatherReferenceIdeal.Gen Cert.GatherReferenceIdeal.Value Idealize.ShloMosaic Idealize.ShloMosaic.TcCoe Idealize.SL.Sem

/-- A row of words. -/
def words (q : Fin 8) (h : S8x11264.Slices ![q.val, 0] S1x11264) (x : IVec S8x11264 32) : IVec S11264 32 :=
  shapeCast _ (extractStridedSlice S1x11264 ![q.val, 0] x h) shapeCasts_S1x11264_S11264

/-- A table indexed by words, a negative one counted from the table's end. -/
def rows (e : FVec Ideal S100000x128 .f32) (s : IVec S11264 32) : FVec Ideal S11264x128 .f32 :=
  Host.gather gather_S100000x128_S11264x1_S11264x128_1_0_n_n_0_1_1128 e
    (broadcastInDim S11264x1 ![0] bcast_S11264_S11264x1_0
      (select (cmpi .slt s (broadcastInDim S11264 ![] bcast_S_S11264 (constantI S_ 32 0#32)))
        (addi s (broadcastInDim S11264 ![] bcast_S_S11264 (constantI S_ 32 100000#32))) s))

/-- Every row over its length. -/
def scaled (y : FVec Ideal S11264x128 .f32) : FVec Ideal S11264x128 .f32 :=
  Host.divf y (broadcastInDim S11264x128 ![0, 1] bcast_S11264x1_S11264x128_0_1
    (maximumf (Host.sqrt (broadcastInDim S11264x1 ![0] bcast_S11264_S11264x1_0
        (Host.reduceAdd (mulf y y) (constant (F := Ideal) S_ .f32 0x00000000#32) reducesTo_S11264x128_S11264_d1 h_S_)))
      (broadcastInDim S11264x1 ![] bcast_S_S11264x1 (constant (F := Ideal) S_ .f32 0x2B8CBCCC#32))))

theorem words_at (q : Fin 8) (h : S8x11264.Slices ![q.val, 0] S1x11264) (x : IVec S8x11264 32) (n : Fin 11264) :
    words q h x (ix1 n) = x (ix2 q n) := by
  unfold words
  pointwise

theorem scaled_at (y : FVec Ideal S11264x128 .f32) (n : Fin 11264) (k : Fin 128) :
    scaled y (ix2 n k) = Embed.unit (fun j => y (ix2 n j)) k := by
  unfold scaled
  pointwise
  rfl

theorem gather_at {α : Type} (x : S100000x128.Idx → α) (idx : IVec S11264x1 32) (p : Fin 11264) (k : Fin 128) :
    Host.gather gather_S100000x128_S11264x1_S11264x128_1_0_n_n_0_1_1128 x idx (ix2 p k)
      = x (ix2 ⟨min (idx (ix2 p 0)).toInt.toNat 99999, by omega⟩ k) := by
  unfold Host.gather
  congr 1
  funext a
  refine Fin.ext ?_
  show gather_S100000x128_S11264x1_S11264x128_1_0_n_n_0_1_1128.start (ix2 p k) idx a
      + gather_S100000x128_S11264x1_S11264x128_1_0_n_n_0_1_1128.batchCoord (ix2 p k) a
      + gather_S100000x128_S11264x1_S11264x128_1_0_n_n_0_1_1128.offCoord (ix2 p k) a = _
  have h2 : a = 0 ∨ a = 1 := by
    match a with
    | ⟨0, _⟩ => exact Or.inl rfl
    | ⟨1, _⟩ => exact Or.inr rfl
  rcases h2 with rfl | rfl
  · rw [GatherDims.batchCoord_eq_zero _ _ _ (fun h => by simp [gather_S100000x128_S11264x1_S11264x128_1_0_n_n_0_1_1128] at h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S11264x1_S11264x128_1_0_n_n_0_1_1128.startIndexMap from List.mem_singleton.mpr rfl)]
    have hsi : gather_S100000x128_S11264x1_S11264x128_1_0_n_n_0_1_1128.siIdx (ix2 p k)
        ⟨List.idxOf (0 : Fin 2) gather_S100000x128_S11264x1_S11264x128_1_0_n_n_0_1_1128.startIndexMap,
          List.idxOf_lt_length_iff.2 (List.mem_singleton.mpr rfl)⟩ = ix2 p 0 := by
      funext b; refine Fin.ext ?_
      match b with
      | ⟨0, _⟩ => rfl
      | ⟨1, _⟩ => rfl
    erw [hsi]; rfl
  · simp [GatherDims.start, GatherDims.batchCoord, gather_S100000x128_S11264x1_S11264x128_1_0_n_n_0_1_1128]; rfl

theorem wrap_word (x : BitVec 32) (h : x.toNat < 1000) :
    (Scalar.select (IntOp.cmpi .slt x 0#32) (IntOp.addi x 100000#32) x).toInt.toNat = x.toNat := by
  have hx : x.slt 0#32 = false := by
    rw [BitVec.slt, decide_eq_false_iff_not, BitVec.toInt_eq_toNat_of_lt (by omega)]
    simp
  have : IntOp.cmpi .slt x 0#32 = 0#1 := by
    show BitVec.ofBool (x.slt 0#32) = _
    rw [hx]; rfl
  rw [this]
  show x.toInt.toNat = x.toNat
  rw [BitVec.toInt_eq_toNat_of_lt (by omega)]; rfl

theorem rows_at (e : FVec Ideal S100000x128 .f32) (s : IVec S11264 32) (n : Fin 11264) (k : Fin 128) (hs : (s (ix1 n)).toNat < 1000) :
    rows e s (ix2 n k) = e (ix2 (Embed.rowOf (s (ix1 n))) k) := by
  unfold rows
  rw [gather_at]
  congr 2
  refine Fin.ext ?_
  have hi : (broadcastInDim S11264x1 ![0] bcast_S11264_S11264x1_0
      (select (cmpi .slt s (broadcastInDim S11264 ![] bcast_S_S11264 (constantI S_ 32 0#32)))
        (addi s (broadcastInDim S11264 ![] bcast_S_S11264 (constantI S_ 32 100000#32))) s)) (ix2 n 0)
      = Scalar.select (IntOp.cmpi .slt (s (ix1 n)) 0#32) (IntOp.addi (s (ix1 n)) 100000#32) (s (ix1 n)) := by
    pointwise
  show min (BitVec.toInt _).toNat 99999 = min (s (ix1 n)).toNat 999
  rw [hi, wrap_word _ hs]
  omega

/-- The reference's relation rows. -/
theorem rel_eq (q : Fin 8) (h : S8x11264.Slices ![q.val, 0] S1x11264) (x : IVec S8x11264 32) (w : FVec Ideal S100000x128 .f32)
    (hW : ∀ j, (x j).toNat < 1000) : rows w (words q h x) = Embed.rel q x w := by
  funext i
  obtain ⟨n, k, rfl⟩ : ∃ (n : Fin 11264) (k : Fin 128), i = ix2 n k := ⟨i 0, i 1, eq_ix2 i⟩
  rw [rows_at _ _ _ _ (by rw [words_at]; exact hW _), words_at]
  rfl

/-- The reference's differences. -/
theorem diff_eq (p q : Fin 8) (h : S8x11264.Slices ![p.val, 0] S1x11264) (h' : S8x11264.Slices ![q.val, 0] S1x11264)
    (x : IVec S8x11264 32) (e : FVec Ideal S100000x128 .f32) (hW : ∀ j, (x j).toNat < 1000) :
    (truncf .bf16 (subf (scaled (rows e (words p h x))) (scaled (rows e (words q h' x)))) bitsLt_bf16_f32 : FVec Ideal S11264x128 .bf16)
      = Embed.diff p q x e := by
  rw [rel_eq p h x e hW, rel_eq q h' x e hW]
  funext i
  obtain ⟨n, k, rfl⟩ : ∃ (n : Fin 11264) (k : Fin 128), i = ix2 n k := ⟨i 0, i 1, eq_ix2 i⟩
  show scaled _ (ix2 n k) - scaled _ (ix2 n k) = _
  rw [scaled_at, scaled_at]
  rfl

end Cert.GatherReferenceIdeal.Own

end
-- ==== Proof.Gather.Claim.lean ====
/-
  The gather call and its reference give the same rows and differences, for words that name rows of the first thousand.
-/
module

public import proofs.«01_k».proof.Defs
public import proofs.«01_k».proof.Proof.Gather.Value
public import proofs.«01_k».proof.Proof.Gather.Ref
public import proofs.«01_k».proof.Proof.Gen.Pre_pre4
public import Idealize.ShloMosaic.Lib.ReduceAll
public import Idealize.ShloMosaic.Adequacy
public import Idealize.ShloMosaic.Init
public import Idealize.ShloMosaic.Lib.Quiescent

@[expose] public section

set_option maxRecDepth 16384

noncomputable section

namespace Embed

open Idealize.ShloMosaic Idealize.ShloMosaic.TcCoe Idealize.SL.Sem

/-- A word between 0 and 1000 as a signed number is below 1000 as a natural number. -/
theorem word_below (x : BitVec 32) (h0 : IntOp.cmpi .sge x 0#32 = 1#1) (h1 : IntOp.cmpi .slt x 1000#32 = 1#1) : x.toNat < 1000 := by
  have of_one (b : Bool) (h : BitVec.ofBool b = 1#1) : b = true := by revert h; cases b <;> decide
  have h0' : (0#32).sle x = true := of_one _ h0
  have h1' : x.slt 1000#32 = true := of_one _ h1
  rw [BitVec.sle_iff_toInt_le] at h0'
  rw [BitVec.slt_iff_toInt_lt] at h1'
  have e0 : (0#32).toInt = 0 := by decide
  have eK : (1000#32).toInt = 1000 := by decide
  rw [e0] at h0'
  rw [eK] at h1'
  rw [BitVec.toInt_eq_toNat_cond] at h0' h1'
  split at h0' <;> omega

theorem andi_one (a b : BitVec 1) : IntOp.andi a b = 1#1 ↔ a = 1#1 ∧ b = 1#1 := by revert a b; decide

/-- What the precondition says of the words. -/
theorem words_of_fn [Cert.Pre_pre4.Facts] (x : IVec Cert.Pre_pre4.S8x11264 32) (e w : FVec Ideal Cert.Pre_pre4.S100000x128 .f32)
    (h : Cert.Pre_pre4.fn (F := Ideal) x e w = fun _ => 1#1) : Cert.GatherIdeal.Own.Words x := by
  have : Subsingleton Cert.Pre_pre4.S_.Idx := ⟨fun a b => funext fun k => k.elim0⟩
  intro j
  have k := Host.reduce_andi_all _ _ _ _ _ (congrFun h (fun k => k.elim0)) j
  simp only [andi, andi_one] at k
  exact word_below _ k.1 k.2

end Embed

namespace Cert.Proof

open Idealize.ShloMosaic Idealize.ShloMosaic.TcCoe Idealize.SL.Sem

theorem gather_reference_quiescent : quiescent_GatherReferenceIdeal := fun m ρ _ =>
  (θ_run Cert.GatherReferenceIdeal.defs _ _).mono (fun r h => ⟨fun c => (h c).2.2.2.2, sem_eq_zero_of_no_sems (by decide) r.2⟩)
    (Cert.GatherReferenceIdeal.Value.run (F := Ideal) m ρ)

theorem gather_reference_quiescent_words : quiescent_GatherReferenceIdeal_pre_pre4 := fun m ρ _ => gather_reference_quiescent m ρ trivial

theorem gather_value : algebraic_GatherIdeal_GatherReferenceIdeal_pre_pre4 := by
  intro m ρ m' ρ' hp hagree
  have hW : ∀ c : Dev Cert.GatherIdeal.nD,
      Cert.GatherIdeal.Own.Words (m ((c : Thread Cert.GatherIdeal.nD Cert.GatherIdeal.τ).loc Cert.GatherIdeal.main_arg0)) :=
    fun c => Embed.words_of_fn _ _ _ (hp c)
  refine ⟨_, _, _, _, Cert.GatherIdeal.Value.run_blocks (F := Ideal) m ρ, ?_⟩
  refine (θ_run Cert.GatherReferenceIdeal.defs _ _).mono (fun _ h c => ⟨?_, ?_, ?_, ?_, (h c).2.2.2.2⟩) (Cert.GatherReferenceIdeal.Value.run (F := Ideal) m' ρ')
  · rw [(h c).1, Cert.GatherIdeal.Own.final3 m hW c]
    unfold Cert.GatherReferenceIdeal.Value.res_main_v29
    simp only [hagree c]
    exact Cert.GatherReferenceIdeal.Own.diff_eq 0 2 _ _ _ _ (hW c)
  · rw [(h c).2.1, Cert.GatherIdeal.Own.final4 m hW c]
    simp only [hagree c]
    exact Cert.GatherReferenceIdeal.Own.rel_eq 1 _ _ _ (hW c)
  · rw [(h c).2.2.1, Cert.GatherIdeal.Own.final5 m hW c]
    unfold Cert.GatherReferenceIdeal.Value.res_main_v68
    simp only [hagree c]
    exact Cert.GatherReferenceIdeal.Own.diff_eq 4 6 _ _ _ _ (hW c)
  · rw [(h c).2.2.2.1, Cert.GatherIdeal.Own.final6 m hW c]
    simp only [hagree c]
    exact Cert.GatherReferenceIdeal.Own.rel_eq 5 _ _ _ (hW c)

end Cert.Proof

end
-- ==== Proof.Call.Launch.lean ====
module

public import proofs.«01_k».proof.Proof.Gen.ProjIdeal
public import Idealize.ShloMosaic.Lib.Pipeline.Kit
public import Idealize.ShloMosaic.Lib.Pipeline.Regions

@[expose] public section

-- the decided enumerations over 278 references and 134 windows recurse past the default depth
set_option maxRecDepth 18776

noncomputable section

namespace Cert.ProjIdeal.Call

open Cert.ProjIdeal.Gen Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## The staging cells -/

/-- Each custom_call's staging semaphores, listed window by window and slot by slot. -/
abbrev semTab : Fin 1 → List (DmaSem sig) :=
  fun | 0 => Pipeline.specSems spec0 | ⟨_ + 1, h⟩ => absurd h (Nat.not_lt.2 (Nat.le_add_left _ _))
/-- The custom_calls' staging semaphores, joined in the calls' order, strictly increase: no two are one. -/
theorem semsIncrease : ((List.finRange 1).flatMap semTab).IsChain (· < ·) := by decide +kernel
/-- The program's staging cells are pairwise distinct, its pipelines pinned at any contents of their tables. -/
theorem cellOf_inj (a : (p : Fin 1) → (pcfgs (F := F) p).Adm) :
    Function.Injective (Pipeline.cellOf (nD := nD) (τ := τ) (Pipeline.pin (pcfgs (F := F)) a)) :=
  Pipeline.cellOf_injective_of_isChain (Pipeline.pin (pcfgs (F := F)) a) semTab (fun | 0 => rfl | ⟨_ + 1, h⟩ => absurd h (Nat.not_lt.2 (Nat.le_add_left _ _))) (List.finRange 1) List.mem_finRange semsIncrease

/-! ## custom_call 0 (pipeline 0 of @main) -/

/-- The layout the launch needs, the arrays' distinctness apart: custom_call 0 hands one array to several windows. -/
theorem winFacts₀0 : Pipeline.WinFacts₀ spec0 := by decide +kernel
/-- Every window on an array another window is on is an input window. -/
theorem sharedIn0 : Pipeline.SharedIn spec0 := by decide +kernel
/-- The prefetched tables unscoped, distinct, and no window's array. -/
theorem preFacts0 : Pipeline.PreFacts spec0 pre0 := by decide +kernel
/-- No window's block is empty. -/
theorem block_pos0 : ∀ w : Fin 134, 0 < (spec0 w).block.numel := by decide +kernel
/-- The windows' arrays and the staging memrefs are whole buffers. -/
theorem arr_whole0 : ∀ w : Fin 134, (spec0 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | 10 => Memref.isWhole_whole _ | 11 => Memref.isWhole_whole _ | 12 => Memref.isWhole_whole _ | 13 => Memref.isWhole_whole _ | 14 => Memref.isWhole_whole _ | 15 => Memref.isWhole_whole _ | 16 => Memref.isWhole_whole _ | 17 => Memref.isWhole_whole _ | 18 => Memref.isWhole_whole _ | 19 => Memref.isWhole_whole _ | 20 => Memref.isWhole_whole _ | 21 => Memref.isWhole_whole _ | 22 => Memref.isWhole_whole _ | 23 => Memref.isWhole_whole _ | 24 => Memref.isWhole_whole _ | 25 => Memref.isWhole_whole _ | 26 => Memref.isWhole_whole _ | 27 => Memref.isWhole_whole _ | 28 => Memref.isWhole_whole _ | 29 => Memref.isWhole_whole _ | 30 => Memref.isWhole_whole _ | 31 => Memref.isWhole_whole _ | 32 => Memref.isWhole_whole _ | 33 => Memref.isWhole_whole _ | 34 => Memref.isWhole_whole _ | 35 => Memref.isWhole_whole _ | 36 => Memref.isWhole_whole _ | 37 => Memref.isWhole_whole _ | 38 => Memref.isWhole_whole _ | 39 => Memref.isWhole_whole _ | 40 => Memref.isWhole_whole _ | 41 => Memref.isWhole_whole _ | 42 => Memref.isWhole_whole _ | 43 => Memref.isWhole_whole _ | 44 => Memref.isWhole_whole _ | 45 => Memref.isWhole_whole _ | 46 => Memref.isWhole_whole _ | 47 => Memref.isWhole_whole _ | 48 => Memref.isWhole_whole _ | 49 => Memref.isWhole_whole _ | 50 => Memref.isWhole_whole _ | 51 => Memref.isWhole_whole _ | 52 => Memref.isWhole_whole _ | 53 => Memref.isWhole_whole _ | 54 => Memref.isWhole_whole _ | 55 => Memref.isWhole_whole _ | 56 => Memref.isWhole_whole _ | 57 => Memref.isWhole_whole _ | 58 => Memref.isWhole_whole _ | 59 => Memref.isWhole_whole _ | 60 => Memref.isWhole_whole _ | 61 => Memref.isWhole_whole _ | 62 => Memref.isWhole_whole _ | 63 => Memref.isWhole_whole _ | 64 => Memref.isWhole_whole _ | 65 => Memref.isWhole_whole _ | 66 => Memref.isWhole_whole _ | 67 => Memref.isWhole_whole _ | 68 => Memref.isWhole_whole _ | 69 => Memref.isWhole_whole _ | 70 => Memref.isWhole_whole _ | 71 => Memref.isWhole_whole _ | 72 => Memref.isWhole_whole _ | 73 => Memref.isWhole_whole _ | 74 => Memref.isWhole_whole _ | 75 => Memref.isWhole_whole _ | 76 => Memref.isWhole_whole _ | 77 => Memref.isWhole_whole _ | 78 => Memref.isWhole_whole _ | 79 => Memref.isWhole_whole _ | 80 => Memref.isWhole_whole _ | 81 => Memref.isWhole_whole _ | 82 => Memref.isWhole_whole _ | 83 => Memref.isWhole_whole _ | 84 => Memref.isWhole_whole _ | 85 => Memref.isWhole_whole _ | 86 => Memref.isWhole_whole _ | 87 => Memref.isWhole_whole _ | 88 => Memref.isWhole_whole _ | 89 => Memref.isWhole_whole _ | 90 => Memref.isWhole_whole _ | 91 => Memref.isWhole_whole _ | 92 => Memref.isWhole_whole _ | 93 => Memref.isWhole_whole _ | 94 => Memref.isWhole_whole _ | 95 => Memref.isWhole_whole _ | 96 => Memref.isWhole_whole _ | 97 => Memref.isWhole_whole _ | 98 => Memref.isWhole_whole _ | 99 => Memref.isWhole_whole _ | 100 => Memref.isWhole_whole _ | 101 => Memref.isWhole_whole _ | 102 => Memref.isWhole_whole _ | 103 => Memref.isWhole_whole _ | 104 => Memref.isWhole_whole _ | 105 => Memref.isWhole_whole _ | 106 => Memref.isWhole_whole _ | 107 => Memref.isWhole_whole _ | 108 => Memref.isWhole_whole _ | 109 => Memref.isWhole_whole _ | 110 => Memref.isWhole_whole _ | 111 => Memref.isWhole_whole _ | 112 => Memref.isWhole_whole _ | 113 => Memref.isWhole_whole _ | 114 => Memref.isWhole_whole _ | 115 => Memref.isWhole_whole _ | 116 => Memref.isWhole_whole _ | 117 => Memref.isWhole_whole _ | 118 => Memref.isWhole_whole _ | 119 => Memref.isWhole_whole _ | 120 => Memref.isWhole_whole _ | 121 => Memref.isWhole_whole _ | 122 => Memref.isWhole_whole _ | 123 => Memref.isWhole_whole _ | 124 => Memref.isWhole_whole _ | 125 => Memref.isWhole_whole _ | 126 => Memref.isWhole_whole _ | 127 => Memref.isWhole_whole _ | 128 => Memref.isWhole_whole _ | 129 => Memref.isWhole_whole _ | 130 => Memref.isWhole_whole _ | 131 => Memref.isWhole_whole _ | 132 => Memref.isWhole_whole _ | 133 => Memref.isWhole_whole _ | ⟨_ + 134, h⟩ => absurd h (Nat.not_lt.2 (Nat.le_add_left _ _))
theorem stage_whole0 : ∀ (w : Fin 134) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | 5 => fun s => hstage0_5 (s.cast nbuf0_5) | 6 => fun s => hstage0_6 (s.cast nbuf0_6) | 7 => fun s => hstage0_7 (s.cast nbuf0_7) | 8 => fun s => hstage0_8 (s.cast nbuf0_8) | 9 => fun s => hstage0_9 (s.cast nbuf0_9) | 10 => fun s => hstage0_10 (s.cast nbuf0_10) | 11 => fun s => hstage0_11 (s.cast nbuf0_11) | 12 => fun s => hstage0_12 (s.cast nbuf0_12) | 13 => fun s => hstage0_13 (s.cast nbuf0_13) | 14 => fun s => hstage0_14 (s.cast nbuf0_14) | 15 => fun s => hstage0_15 (s.cast nbuf0_15) | 16 => fun s => hstage0_16 (s.cast nbuf0_16) | 17 => fun s => hstage0_17 (s.cast nbuf0_17) | 18 => fun s => hstage0_18 (s.cast nbuf0_18) | 19 => fun s => hstage0_19 (s.cast nbuf0_19) | 20 => fun s => hstage0_20 (s.cast nbuf0_20) | 21 => fun s => hstage0_21 (s.cast nbuf0_21) | 22 => fun s => hstage0_22 (s.cast nbuf0_22) | 23 => fun s => hstage0_23 (s.cast nbuf0_23) | 24 => fun s => hstage0_24 (s.cast nbuf0_24) | 25 => fun s => hstage0_25 (s.cast nbuf0_25) | 26 => fun s => hstage0_26 (s.cast nbuf0_26) | 27 => fun s => hstage0_27 (s.cast nbuf0_27) | 28 => fun s => hstage0_28 (s.cast nbuf0_28) | 29 => fun s => hstage0_29 (s.cast nbuf0_29) | 30 => fun s => hstage0_30 (s.cast nbuf0_30) | 31 => fun s => hstage0_31 (s.cast nbuf0_31) | 32 => fun s => hstage0_32 (s.cast nbuf0_32) | 33 => fun s => hstage0_33 (s.cast nbuf0_33) | 34 => fun s => hstage0_34 (s.cast nbuf0_34) | 35 => fun s => hstage0_35 (s.cast nbuf0_35) | 36 => fun s => hstage0_36 (s.cast nbuf0_36) | 37 => fun s => hstage0_37 (s.cast nbuf0_37) | 38 => fun s => hstage0_38 (s.cast nbuf0_38) | 39 => fun s => hstage0_39 (s.cast nbuf0_39) | 40 => fun s => hstage0_40 (s.cast nbuf0_40) | 41 => fun s => hstage0_41 (s.cast nbuf0_41) | 42 => fun s => hstage0_42 (s.cast nbuf0_42) | 43 => fun s => hstage0_43 (s.cast nbuf0_43) | 44 => fun s => hstage0_44 (s.cast nbuf0_44) | 45 => fun s => hstage0_45 (s.cast nbuf0_45) | 46 => fun s => hstage0_46 (s.cast nbuf0_46) | 47 => fun s => hstage0_47 (s.cast nbuf0_47) | 48 => fun s => hstage0_48 (s.cast nbuf0_48) | 49 => fun s => hstage0_49 (s.cast nbuf0_49) | 50 => fun s => hstage0_50 (s.cast nbuf0_50) | 51 => fun s => hstage0_51 (s.cast nbuf0_51) | 52 => fun s => hstage0_52 (s.cast nbuf0_52) | 53 => fun s => hstage0_53 (s.cast nbuf0_53) | 54 => fun s => hstage0_54 (s.cast nbuf0_54) | 55 => fun s => hstage0_55 (s.cast nbuf0_55) | 56 => fun s => hstage0_56 (s.cast nbuf0_56) | 57 => fun s => hstage0_57 (s.cast nbuf0_57) | 58 => fun s => hstage0_58 (s.cast nbuf0_58) | 59 => fun s => hstage0_59 (s.cast nbuf0_59) | 60 => fun s => hstage0_60 (s.cast nbuf0_60) | 61 => fun s => hstage0_61 (s.cast nbuf0_61) | 62 => fun s => hstage0_62 (s.cast nbuf0_62) | 63 => fun s => hstage0_63 (s.cast nbuf0_63) | 64 => fun s => hstage0_64 (s.cast nbuf0_64) | 65 => fun s => hstage0_65 (s.cast nbuf0_65) | 66 => fun s => hstage0_66 (s.cast nbuf0_66) | 67 => fun s => hstage0_67 (s.cast nbuf0_67) | 68 => fun s => hstage0_68 (s.cast nbuf0_68) | 69 => fun s => hstage0_69 (s.cast nbuf0_69) | 70 => fun s => hstage0_70 (s.cast nbuf0_70) | 71 => fun s => hstage0_71 (s.cast nbuf0_71) | 72 => fun s => hstage0_72 (s.cast nbuf0_72) | 73 => fun s => hstage0_73 (s.cast nbuf0_73) | 74 => fun s => hstage0_74 (s.cast nbuf0_74) | 75 => fun s => hstage0_75 (s.cast nbuf0_75) | 76 => fun s => hstage0_76 (s.cast nbuf0_76) | 77 => fun s => hstage0_77 (s.cast nbuf0_77) | 78 => fun s => hstage0_78 (s.cast nbuf0_78) | 79 => fun s => hstage0_79 (s.cast nbuf0_79) | 80 => fun s => hstage0_80 (s.cast nbuf0_80) | 81 => fun s => hstage0_81 (s.cast nbuf0_81) | 82 => fun s => hstage0_82 (s.cast nbuf0_82) | 83 => fun s => hstage0_83 (s.cast nbuf0_83) | 84 => fun s => hstage0_84 (s.cast nbuf0_84) | 85 => fun s => hstage0_85 (s.cast nbuf0_85) | 86 => fun s => hstage0_86 (s.cast nbuf0_86) | 87 => fun s => hstage0_87 (s.cast nbuf0_87) | 88 => fun s => hstage0_88 (s.cast nbuf0_88) | 89 => fun s => hstage0_89 (s.cast nbuf0_89) | 90 => fun s => hstage0_90 (s.cast nbuf0_90) | 91 => fun s => hstage0_91 (s.cast nbuf0_91) | 92 => fun s => hstage0_92 (s.cast nbuf0_92) | 93 => fun s => hstage0_93 (s.cast nbuf0_93) | 94 => fun s => hstage0_94 (s.cast nbuf0_94) | 95 => fun s => hstage0_95 (s.cast nbuf0_95) | 96 => fun s => hstage0_96 (s.cast nbuf0_96) | 97 => fun s => hstage0_97 (s.cast nbuf0_97) | 98 => fun s => hstage0_98 (s.cast nbuf0_98) | 99 => fun s => hstage0_99 (s.cast nbuf0_99) | 100 => fun s => hstage0_100 (s.cast nbuf0_100) | 101 => fun s => hstage0_101 (s.cast nbuf0_101) | 102 => fun s => hstage0_102 (s.cast nbuf0_102) | 103 => fun s => hstage0_103 (s.cast nbuf0_103) | 104 => fun s => hstage0_104 (s.cast nbuf0_104) | 105 => fun s => hstage0_105 (s.cast nbuf0_105) | 106 => fun s => hstage0_106 (s.cast nbuf0_106) | 107 => fun s => hstage0_107 (s.cast nbuf0_107) | 108 => fun s => hstage0_108 (s.cast nbuf0_108) | 109 => fun s => hstage0_109 (s.cast nbuf0_109) | 110 => fun s => hstage0_110 (s.cast nbuf0_110) | 111 => fun s => hstage0_111 (s.cast nbuf0_111) | 112 => fun s => hstage0_112 (s.cast nbuf0_112) | 113 => fun s => hstage0_113 (s.cast nbuf0_113) | 114 => fun s => hstage0_114 (s.cast nbuf0_114) | 115 => fun s => hstage0_115 (s.cast nbuf0_115) | 116 => fun s => hstage0_116 (s.cast nbuf0_116) | 117 => fun s => hstage0_117 (s.cast nbuf0_117) | 118 => fun s => hstage0_118 (s.cast nbuf0_118) | 119 => fun s => hstage0_119 (s.cast nbuf0_119) | 120 => fun s => hstage0_120 (s.cast nbuf0_120) | 121 => fun s => hstage0_121 (s.cast nbuf0_121) | 122 => fun s => hstage0_122 (s.cast nbuf0_122) | 123 => fun s => hstage0_123 (s.cast nbuf0_123) | 124 => fun s => hstage0_124 (s.cast nbuf0_124) | 125 => fun s => hstage0_125 (s.cast nbuf0_125) | 126 => fun s => hstage0_126 (s.cast nbuf0_126) | 127 => fun s => hstage0_127 (s.cast nbuf0_127) | 128 => fun s => hstage0_128 (s.cast nbuf0_128) | 129 => fun s => hstage0_129 (s.cast nbuf0_129) | 130 => fun s => hstage0_130 (s.cast nbuf0_130) | 131 => fun s => hstage0_131 (s.cast nbuf0_131) | 132 => fun s => hstage0_132 (s.cast nbuf0_132) | 133 => fun s => hstage0_133 (s.cast nbuf0_133) | ⟨_ + 134, h⟩ => absurd h (Nat.not_lt.2 (Nat.le_add_left _ _))
/-- The layout facts bundled, the input windows' sharing of arrays stated in place of their distinctness. -/
theorem launch₀0 : Pipeline.PLaunchFacts₀ (nD := nD) (τ := τ) (pcfgs (F := F)) 0 :=
  ⟨cellOf_inj, winFacts₀0, sharedIn0, preFacts0, block_pos0, arr_whole0, stage_whole0⟩

/-- The grid has 22 points. -/
theorem N_0 : grid0.N = 22 := by decide +kernel

/-- The windows conjoined one by one. -/
theorem bigSep_W0 {M : Type} [URA M] (Φ : Fin 134 → sProp M) : bigSep Finset.univ Φ = iprop(Φ (0 : Fin 134) ∗ Φ (1 : Fin 134) ∗ Φ (2 : Fin 134) ∗ Φ (3 : Fin 134) ∗ Φ (4 : Fin 134) ∗ Φ (5 : Fin 134) ∗ Φ (6 : Fin 134) ∗ Φ (7 : Fin 134) ∗ Φ (8 : Fin 134) ∗ Φ (9 : Fin 134) ∗ Φ (10 : Fin 134) ∗ Φ (11 : Fin 134) ∗ Φ (12 : Fin 134) ∗ Φ (13 : Fin 134) ∗ Φ (14 : Fin 134) ∗ Φ (15 : Fin 134) ∗ Φ (16 : Fin 134) ∗ Φ (17 : Fin 134) ∗ Φ (18 : Fin 134) ∗ Φ (19 : Fin 134) ∗ Φ (20 : Fin 134) ∗ Φ (21 : Fin 134) ∗ Φ (22 : Fin 134) ∗ Φ (23 : Fin 134) ∗ Φ (24 : Fin 134) ∗ Φ (25 : Fin 134) ∗ Φ (26 : Fin 134) ∗ Φ (27 : Fin 134) ∗ Φ (28 : Fin 134) ∗ Φ (29 : Fin 134) ∗ Φ (30 : Fin 134) ∗ Φ (31 : Fin 134) ∗ Φ (32 : Fin 134) ∗ Φ (33 : Fin 134) ∗ Φ (34 : Fin 134) ∗ Φ (35 : Fin 134) ∗ Φ (36 : Fin 134) ∗ Φ (37 : Fin 134) ∗ Φ (38 : Fin 134) ∗ Φ (39 : Fin 134) ∗ Φ (40 : Fin 134) ∗ Φ (41 : Fin 134) ∗ Φ (42 : Fin 134) ∗ Φ (43 : Fin 134) ∗ Φ (44 : Fin 134) ∗ Φ (45 : Fin 134) ∗ Φ (46 : Fin 134) ∗ Φ (47 : Fin 134) ∗ Φ (48 : Fin 134) ∗ Φ (49 : Fin 134) ∗ Φ (50 : Fin 134) ∗ Φ (51 : Fin 134) ∗ Φ (52 : Fin 134) ∗ Φ (53 : Fin 134) ∗ Φ (54 : Fin 134) ∗ Φ (55 : Fin 134) ∗ Φ (56 : Fin 134) ∗ Φ (57 : Fin 134) ∗ Φ (58 : Fin 134) ∗ Φ (59 : Fin 134) ∗ Φ (60 : Fin 134) ∗ Φ (61 : Fin 134) ∗ Φ (62 : Fin 134) ∗ Φ (63 : Fin 134) ∗ Φ (64 : Fin 134) ∗ Φ (65 : Fin 134) ∗ Φ (66 : Fin 134) ∗ Φ (67 : Fin 134) ∗ Φ (68 : Fin 134) ∗ Φ (69 : Fin 134) ∗ Φ (70 : Fin 134) ∗ Φ (71 : Fin 134) ∗ Φ (72 : Fin 134) ∗ Φ (73 : Fin 134) ∗ Φ (74 : Fin 134) ∗ Φ (75 : Fin 134) ∗ Φ (76 : Fin 134) ∗ Φ (77 : Fin 134) ∗ Φ (78 : Fin 134) ∗ Φ (79 : Fin 134) ∗ Φ (80 : Fin 134) ∗ Φ (81 : Fin 134) ∗ Φ (82 : Fin 134) ∗ Φ (83 : Fin 134) ∗ Φ (84 : Fin 134) ∗ Φ (85 : Fin 134) ∗ Φ (86 : Fin 134) ∗ Φ (87 : Fin 134) ∗ Φ (88 : Fin 134) ∗ Φ (89 : Fin 134) ∗ Φ (90 : Fin 134) ∗ Φ (91 : Fin 134) ∗ Φ (92 : Fin 134) ∗ Φ (93 : Fin 134) ∗ Φ (94 : Fin 134) ∗ Φ (95 : Fin 134) ∗ Φ (96 : Fin 134) ∗ Φ (97 : Fin 134) ∗ Φ (98 : Fin 134) ∗ Φ (99 : Fin 134) ∗ Φ (100 : Fin 134) ∗ Φ (101 : Fin 134) ∗ Φ (102 : Fin 134) ∗ Φ (103 : Fin 134) ∗ Φ (104 : Fin 134) ∗ Φ (105 : Fin 134) ∗ Φ (106 : Fin 134) ∗ Φ (107 : Fin 134) ∗ Φ (108 : Fin 134) ∗ Φ (109 : Fin 134) ∗ Φ (110 : Fin 134) ∗ Φ (111 : Fin 134) ∗ Φ (112 : Fin 134) ∗ Φ (113 : Fin 134) ∗ Φ (114 : Fin 134) ∗ Φ (115 : Fin 134) ∗ Φ (116 : Fin 134) ∗ Φ (117 : Fin 134) ∗ Φ (118 : Fin 134) ∗ Φ (119 : Fin 134) ∗ Φ (120 : Fin 134) ∗ Φ (121 : Fin 134) ∗ Φ (122 : Fin 134) ∗ Φ (123 : Fin 134) ∗ Φ (124 : Fin 134) ∗ Φ (125 : Fin 134) ∗ Φ (126 : Fin 134) ∗ Φ (127 : Fin 134) ∗ Φ (128 : Fin 134) ∗ Φ (129 : Fin 134) ∗ Φ (130 : Fin 134) ∗ Φ (131 : Fin 134) ∗ Φ (132 : Fin 134) ∗ Φ (133 : Fin 134)) :=
  bigSep_univ_eq_bigSepL [(0 : Fin 134), (1 : Fin 134), (2 : Fin 134), (3 : Fin 134), (4 : Fin 134), (5 : Fin 134), (6 : Fin 134), (7 : Fin 134), (8 : Fin 134), (9 : Fin 134), (10 : Fin 134), (11 : Fin 134), (12 : Fin 134), (13 : Fin 134), (14 : Fin 134), (15 : Fin 134), (16 : Fin 134), (17 : Fin 134), (18 : Fin 134), (19 : Fin 134), (20 : Fin 134), (21 : Fin 134), (22 : Fin 134), (23 : Fin 134), (24 : Fin 134), (25 : Fin 134), (26 : Fin 134), (27 : Fin 134), (28 : Fin 134), (29 : Fin 134), (30 : Fin 134), (31 : Fin 134), (32 : Fin 134), (33 : Fin 134), (34 : Fin 134), (35 : Fin 134), (36 : Fin 134), (37 : Fin 134), (38 : Fin 134), (39 : Fin 134), (40 : Fin 134), (41 : Fin 134), (42 : Fin 134), (43 : Fin 134), (44 : Fin 134), (45 : Fin 134), (46 : Fin 134), (47 : Fin 134), (48 : Fin 134), (49 : Fin 134), (50 : Fin 134), (51 : Fin 134), (52 : Fin 134), (53 : Fin 134), (54 : Fin 134), (55 : Fin 134), (56 : Fin 134), (57 : Fin 134), (58 : Fin 134), (59 : Fin 134), (60 : Fin 134), (61 : Fin 134), (62 : Fin 134), (63 : Fin 134), (64 : Fin 134), (65 : Fin 134), (66 : Fin 134), (67 : Fin 134), (68 : Fin 134), (69 : Fin 134), (70 : Fin 134), (71 : Fin 134), (72 : Fin 134), (73 : Fin 134), (74 : Fin 134), (75 : Fin 134), (76 : Fin 134), (77 : Fin 134), (78 : Fin 134), (79 : Fin 134), (80 : Fin 134), (81 : Fin 134), (82 : Fin 134), (83 : Fin 134), (84 : Fin 134), (85 : Fin 134), (86 : Fin 134), (87 : Fin 134), (88 : Fin 134), (89 : Fin 134), (90 : Fin 134), (91 : Fin 134), (92 : Fin 134), (93 : Fin 134), (94 : Fin 134), (95 : Fin 134), (96 : Fin 134), (97 : Fin 134), (98 : Fin 134), (99 : Fin 134), (100 : Fin 134), (101 : Fin 134), (102 : Fin 134), (103 : Fin 134), (104 : Fin 134), (105 : Fin 134), (106 : Fin 134), (107 : Fin 134), (108 : Fin 134), (109 : Fin 134), (110 : Fin 134), (111 : Fin 134), (112 : Fin 134), (113 : Fin 134), (114 : Fin 134), (115 : Fin 134), (116 : Fin 134), (117 : Fin 134), (118 : Fin 134), (119 : Fin 134), (120 : Fin 134), (121 : Fin 134), (122 : Fin 134), (123 : Fin 134), (124 : Fin 134), (125 : Fin 134), (126 : Fin 134), (127 : Fin 134), (128 : Fin 134), (129 : Fin 134), (130 : Fin 134), (131 : Fin 134), (132 : Fin 134), (133 : Fin 134)] (by decide +kernel) (by decide +kernel) Φ
/-- The core's scoped buffers that are no staging buffer of custom_call 0, each whole at some contents:
    none. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = (BI.emp : sProp (MT nD τ sig Ix Val Name U Lvl)) :=
  Pipeline.scopedRest_eq_of_list spec0 c [] (by decide +kernel) (by decide +kernel)
/-- Its unscoped buffers that are neither a window's array nor a prefetched table, each whole at contents `V`:
    `main_arg5`, `main_v0`. -/
theorem unscopedRestP0_eq {Ix : Type} [DecidableEq Ix] {Val : EltTy → Type} {Name : Type} [DecidableEq Name] {U : Type} [URA U] {Lvl : Type} (c : Dev nD) (V : (b : Ref sig .tc) → Buf Val ((c : Thread nD τ).loc b)) :
    (Pipeline.unscopedRestP (Ix := Ix) (Name := Name) (U := U) (Lvl := Lvl) pre0 spec0 c V : sProp (MT nD τ sig Ix Val Name U Lvl))
      = iprop((((c : Thread nD τ).loc main_arg5) ↦{fullShare} V main_arg5) ∗ (((c : Thread nD τ).loc main_v0) ↦{fullShare} V main_v0)) :=
  Pipeline.unscopedRestP_eq_of_list spec0 c pre0 V [main_arg5, main_v0] (by decide +kernel) (by decide +kernel)

/-! ## The program as a sequence of steps -/

/-- The two host operations before the call: the table of matrices reshaped and cast. -/
abbrev hostOps0 : List (HloOp τ sig (Elt F)) :=
  [ StableHlo.reshape main_arg5 main_v0 (rfl : (.f32 : EltTy) = .f32) shapeCasts_S1000x16384_S1000x128x128,
    StableHlo.unary main_v0 main_v1 ((truncf .bf16 · bitsLt_bf16_f32) : (⟨S1000x128x128, .f32⟩ : BufTy).Contents (Elt F) → (⟨S1000x128x128, .bf16⟩ : BufTy).Contents (Elt F)) ]
/-- Both operations use the core's own buffers only. -/
theorem hostOps0_sub : (hostOps0 : List (HloOp τ sig (Elt F))).Forall fun op => op.bufs ⊆ StableHlo.tcRefs τ sig :=
  ⟨StableHlo.reshape_bufs_sub .., StableHlo.unary_bufs_sub ..⟩
/-- The program is its two host operations followed by the call. -/
theorem main_chain (c : Dev nD) : main (F := F) c = (Pipeline.chain
  [ StableHlo.seq hostOps0,
    Prog.lift (.customCall (Pipeline.entry 0) ()) ] : Prog (TpuEff nD τ sig (Elt F) (Pipeline.Sig Λ₀ (Fin 1) fun p => (pcfgs (F := F) p).Adm) .tc) PUnit) := by
  rewrite [StableHlo.chain_seq_cons, Pipeline.chain_cons]
  chain_rfl

/-- The program as a run of two segments, the host operations and the call's region. -/
theorem main_segs {Ix : Type} [DecidableEq Ix] {Name : Type} [DecidableEq Name] {U : Type} [URA U] {Lvl : Type} [Preorder Lvl]
    (a : (p : Fin 1) → (pcfgs (F := F) p).Adm) (pdats : (p : Fin 1) → (c : Dev nD) → Pipeline.Dat τ (Elt F) Ix Name U Lvl (Pipeline.pin (pcfgs (F := F)) a p) c)
    (ι : Ix) (𝒱 : Variants) (L : GSem nD τ sig → Finset Ix) (lv : GSem nD τ sig → Ix → Lvl)
    (H0 : Pipeline.HostSeg (Ix := Ix) (Name := Name) (U := U) (Lvl := Lvl) (pcfgs (F := F)) defs₀ 𝒱 L lv)
    (R0 : Pipeline.RegionSeg (pcfgs (F := F)) a pdats ι defs₀ 𝒱 L lv 0)
    (h0 : H0.prog = StableHlo.seq hostOps0)
    (c : Dev nD) :
    main c = Pipeline.Seg.run [.host H0, .region R0] := by
  simp only [Pipeline.Seg.run]
  rw [h0]
  rfl

end Cert.ProjIdeal.Call

end
-- ==== Proof.Dist.lean ====
/-
  The problem's distance, written once as a number: a 128 by 128 matrix (one row of the projection table, row-major)
  applied to a vector, plus another vector, and the Euclidean norm of the sum, over the extended reals.
-/
module

public import Idealize.ShloMosaic.Lib.Pointwise
public import Idealize.ShloMosaic.PureOps

@[expose] public section

noncomputable section

namespace Transe

open Idealize.ShloMosaic

/-- The projection table's shape. -/
abbrev Table : Shape := ⟨2, ![1000, 16384]⟩
/-- The padded positions' vectors. -/
abbrev Padded : Shape := ⟨2, ![11264, 128]⟩
/-- The table of relations: one entry per 8 padded positions and side. -/
abbrev Units : Shape := ⟨2, ![2, 1408]⟩
/-- The distances, 22 blocks of 512. -/
abbrev Dists : Shape := ⟨3, ![22, 1, 512]⟩

/-- Row-major entry `(o, c)` of a 128 by 128 matrix in a row of 16384. -/
def flat (o c : Fin 128) : Fin 16384 := ⟨o.val * 128 + c.val, by omega⟩

/-- `‖M d + r‖₂` where `M` is row `rel` of the projection table. -/
def dist (w : Table.Idx → EReal) (rel : Fin 1000) (d r : Fin 128 → EReal) : EReal :=
  Ideal.sqrt (∑ o : Fin 128,
    ((∑ c : Fin 128, w (ix2 rel (flat o c)) * d c) + r o) * ((∑ c : Fin 128, w (ix2 rel (flat o c)) * d c) + r o))

/-- A word as a row of the table: the word itself below 1000. -/
def relOf (x : BitVec 32) : Fin 1000 := ⟨min x.toNat 999, by omega⟩

/-- The distances of one side, at block `t` and lane `p`: padded position `512 t + p`, whose relation is entry
    `(512 t + p) / 8` of the side's row of the table of relations. -/
def distAt (u : Units.Idx → BitVec 32) (side : Fin 2) (d r : Padded.Idx → EReal) (w : Table.Idx → EReal) (t : Fin 22) (p : Fin 512) : EReal :=
  dist w (relOf (u (ix2 side ⟨t.val * 64 + p.val / 8, by omega⟩))) (fun c => d (ix2 ⟨t.val * 512 + p.val, by omega⟩ c))
    (fun c => r (ix2 ⟨t.val * 512 + p.val, by omega⟩ c))

/-- The same as an array. -/
def dists (u : Units.Idx → BitVec 32) (side : Fin 2) (d r : Padded.Idx → EReal) (w : Table.Idx → EReal) : Dists.Idx → EReal :=
  fun j => distAt u side d r w (j 0) (j 2)

end Transe

end
-- ==== Proof.Block.lean ====
/-
  One grid point of the distance kernel over the reals: what each of its two outputs holds, as the distances of the 512
  positions of the point's block.
-/
module

public import proofs.«01_k».proof.Proof.Gen.ProjIdeal
public import proofs.«01_k».proof.Proof.Dist
public import Idealize.ShloMosaic.Lib.Pointwise
public import Idealize.ShloMosaic.Lib.Pipeline.Value

@[expose] public section

set_option maxRecDepth 16384

noncomputable section

namespace Cert.ProjIdeal.Own

open Cert.ProjIdeal Cert.ProjIdeal.Gen Idealize.ShloMosaic

variable {F : FTy → Type} [FloatOps F]

theorem rows8_inb (g : Fin 64) (a : Fin 2) : (![8 * g.val, 0] : Fin 2 → Nat) a + S8x128.size a ≤ S512x128.size a := by
  match a with
  | 0 => show 8 * g.val + 8 ≤ 512; omega
  | 1 => show 0 + 128 ≤ 128; omega

/-- The eight rows of unit `g`. -/
def rows8 (x : Vec F S512x128 .bf16) (g : Fin 64) : Vec F S8x128 .bf16 :=
  fun j => x ((Rect.unit (s := S512x128) ![8 * g.val, 0] S8x128.size (rows8_inb g)).emb j)

/-- The product of unit `g`: its eight rows by its matrix, transposed. -/
def unitProd (x : Vec F S512x128 .bf16) (X : Fin 64 → Vec F S1x128x128 .bf16) (g : Fin 64) : FVec F S8x128 .f32 :=
  matmul dot_S8x128_S128x128_S8x128_1_1_0_0_n_n none (rows8 x g) (shapeCast S128x128 (X g) shapeCasts_S1x128x128_S128x128)
    (constant S8x128 .f32 0x00000000#32)

theorem units_concat (f : Fin 64 → FVec F S8x128 .f32) :
    Shape.Concatenates ((List.ofFn fun g : Fin 64 => (⟨S8x128, f g⟩ : (s : Shape) × (s.Idx → F .f32))).map (·.1)) S512x128 0 := by
  rw [List.map_ofFn]
  exact (by decide : Shape.Concatenates (List.ofFn fun _ : Fin 64 => S8x128) S512x128 0)

/-- The units' products, one below the other. -/
def stacked (f : Fin 64 → FVec F S8x128 .f32) : FVec F S512x128 .f32 :=
  concatenate S512x128 0 (List.ofFn fun g : Fin 64 => (⟨S8x128, f g⟩ : (s : Shape) × (s.Idx → F .f32))) (units_concat f)

/-- The distances of the rows of `y + r`. -/
def norms (y r : FVec F S512x128 .f32) : FVec F S1x1x512 .f32 :=
  shapeCast S1x1x512 (shapeCast S1x512 (sqrt (shapeCast S512x1 (multiReduction .add [1] S512 (mulf (addf y r) (addf y r)) 0x00000000#32
    reduces_S512x128_S512 (.inl rfl) rfl) shapeCasts_S512_S512x1)) shapeCasts_S512x1_S1x512) shapeCasts_S1x512_S1x1x512

/-- One side's output at a point, from its block of rows and its units' matrices. -/
def sideBlock (x : Vec F S512x128 .bf16) (r : Vec F S512x128 .f32) (X : Fin 64 → Vec F S1x128x128 .bf16) : FVec F S1x1x512 .f32 :=
  norms (stacked (unitProd x X)) r

/-- What a load of a whole block of rows reads. -/
def readRows (x : Vec F S512x128 .f32) : Vec F S512x128 .f32 :=
  fun j => x ((Rect.unit (s := S512x128) ![0, 0] S512x128.size inb_S512x128_S512x128_0_0).toLoadRect.idx j)

/-- What a load of a whole matrix reads. -/
def readMat (x : Vec F S1x128x128 .bf16) : Vec F S1x128x128 .bf16 :=
  fun j => x ((Rect.unit (s := S1x128x128) ![0, 0, 0] S1x128x128.size inb_S1x128x128_S1x128x128_0_0_0).toLoadRect.idx j)

theorem readRows_eq (x : Vec F S512x128 .f32) : readRows x = x := by
  funext j
  unfold readRows
  congr 1
  funext a
  refine Fin.ext ?_
  match a with
  | 0 => show 0 + 1 * (j 0).val = (j 0).val; omega
  | 1 => show 0 + 1 * (j 1).val = (j 1).val; omega

theorem readMat_eq (x : Vec F S1x128x128 .bf16) : readMat x = x := by
  funext j
  unfold readMat
  congr 1
  funext a
  refine Fin.ext ?_
  match a with
  | 0 => show 0 + 1 * (j 0).val = (j 0).val; omega
  | 1 => show 0 + 1 * (j 1).val = (j 1).val; omega
  | 2 => show 0 + 1 * (j 2).val = (j 2).val; omega

/-- The output from what the body's loads read is the output from the blocks. -/
theorem sideBlock_read (x : Vec F S512x128 .bf16) (r : Vec F S512x128 .f32) (X : Fin 64 → Vec F S1x128x128 .bf16) :
    sideBlock x (readRows r) (fun g => readMat (X g)) = sideBlock x r X := by
  rw [readRows_eq]
  congr 1
  funext g
  exact readMat_eq _

/-! ## Over the reals -/

theorem norms_at (y r : FVec Ideal S512x128 .f32) (z z' : Fin 1) (p : Fin 512) :
    norms y r (ix3 z z' p) = Ideal.sqrt (∑ o : Fin 128, (y (ix2 p o) + r (ix2 p o)) * (y (ix2 p o) + r (ix2 p o))) := by
  unfold norms
  pointwise

theorem unitProd_at (x : Vec Ideal S512x128 .bf16) (X : Fin 64 → Vec Ideal S1x128x128 .bf16) (g : Fin 64) (e : Fin 8) (o : Fin 128) :
    unitProd x X g (ix2 e o) = ∑ c : Fin 128, X g (ix3 0 o c) * x (ix2 ⟨8 * g.val + e.val, by omega⟩ c) := by
  unfold unitProd
  pointwise
  refine Finset.sum_congr rfl fun c _ => ?_
  rw [mul_comm]
  have e : rows8 x g (ix2 e c) = x (ix2 ⟨8 * g.val + e.val, by omega⟩ c) := by
    unfold rows8
    congr 1
    funext a
    refine Fin.ext ?_
    match a with
    | 0 => show 8 * g.val + 1 * e.val = 8 * g.val + e.val; omega
    | 1 => show 0 + 1 * c.val = c.val; omega
  rw [e]

theorem stacked_at (f : Fin 64 → FVec Ideal S8x128 .f32) (p : Fin 512) (o : Fin 128) :
    stacked f (ix2 p o) = f ⟨p.val / 8, by omega⟩ (ix2 ⟨p.val % 8, by omega⟩ o) := by
  unfold stacked
  refine concatenate_ofFn_apply (s₁ := S8x128) (t := S512x128) 0 f _ rfl 8 rfl (ix2 p o) ⟨p.val / 8, by omega⟩ rfl (ix2 ⟨p.val % 8, by omega⟩ o) rfl ?_
  intro b hb
  match b with
  | 0 => exact absurd rfl hb
  | 1 => rfl

theorem sideBlock_at (x : Vec Ideal S512x128 .bf16) (r : Vec Ideal S512x128 .f32) (X : Fin 64 → Vec Ideal S1x128x128 .bf16)
    (w : Transe.Table.Idx → EReal) (rel : Fin 64 → Fin 1000) (hX : ∀ g z o c, X g (ix3 z o c) = w (ix2 (rel g) (Transe.flat o c)))
    (z z' : Fin 1) (p : Fin 512) :
    sideBlock x r X (ix3 z z' p)
      = Transe.dist w (rel ⟨p.val / 8, by omega⟩) (fun c => x (ix2 p c)) (fun c => r (ix2 p c)) := by
  unfold sideBlock Transe.dist
  rw [norms_at]
  have e (o : Fin 128) : stacked (unitProd x X) (ix2 p o)
      = ∑ c : Fin 128, w (ix2 (rel ⟨p.val / 8, by omega⟩) (Transe.flat o c)) * x (ix2 p c) := by
    rw [stacked_at, unitProd_at]
    refine Finset.sum_congr rfl fun c _ => ?_
    rw [hX]
    have : (⟨8 * (p.val / 8) + p.val % 8, by omega⟩ : Fin 512) = p := Fin.ext (Nat.div_add_mod _ _)
    rw [show (ix2 (⟨8 * (p.val / 8) + p.val % 8, by omega⟩ : Fin 512) c) = ix2 p c from by rw [this]]
  simp only [e]

end Cert.ProjIdeal.Own

end
-- ==== Proof.Steps.lean ====
/-
  Programs run step by step over one bundle of buffers: what a program computes from a bundle, and the bundle it leaves.
-/
module

public import Idealize.ShloMosaic.Lib.VecWindow
public import Idealize.ShloMosaic.Lib.Pipeline.FrameBody
public import Idealize.ShloMosaic.Lib.Claim

@[expose] public section

noncomputable section

namespace Bundle

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

section chain

variable {M : Type} [URA M]

/-- The separating conjunction of a list's entries, without a last `emp`. -/
def chain : List (sProp M) → sProp M
  | [] => iprop(emp)
  | [a] => a
  | a :: b :: l => iprop(a ∗ chain (b :: l))

theorem chain_cons (a : sProp M) (l : List (sProp M)) : chain (a :: l) ⊣⊢ iprop(a ∗ chain l) := by
  match l with
  | [] => exact ⟨Laws.sep_emp.2, Laws.sep_emp.1⟩
  | _ :: _ => exact ⟨.rfl, .rfl⟩

/-- Entry `k` comes out of the bundle, and anything put back in its place gives the bundle with that entry. -/
theorem chain_set (l : List (sProp M)) (k : Nat) (hk : k < l.length) (A' : sProp M) :
    chain l ⊢ iprop(l[k] ∗ (A' -∗ chain (l.set k A'))) := by
  induction l generalizing k with
  | nil => exact absurd hk (Nat.not_lt_zero _)
  | cons a l ih =>
    match k with
    | 0 =>
      refine (chain_cons a l).1.trans (BIClass.sep_mono .rfl (BIClass.wand_intro ?_))
      exact Laws.sep_comm.1.trans (chain_cons A' l).2
    | k + 1 =>
      refine (chain_cons a l).1.trans ((BIClass.sep_mono .rfl (ih k (Nat.lt_of_succ_lt_succ hk))).trans ?_)
      refine Laws.sep_left_comm.1.trans (BIClass.sep_mono .rfl (BIClass.wand_intro ?_))
      refine Laws.sep_assoc.1.trans ((BIClass.sep_mono .rfl Laws.wand_elim_left).trans ?_)
      exact (chain_cons a _).2

theorem chain_mono {l l' : List (sProp M)} (h : List.Forall₂ (· ⊢ ·) l l') : chain l ⊢ chain l' := by
  induction h with
  | nil => exact .rfl
  | cons h _ ih => exact (chain_cons _ _).1.trans ((BIClass.sep_mono h ih).trans (chain_cons _ _).2)

end chain

section does

variable {nD : Nat} {τ : Topo} {sig : RefSig} {Val : EltTy → Type} {Λ : Labels} (defs : Defs nD τ sig Val Λ)

local notation "𝕄" => MT nD τ sig Unit Val ℕ (UR sig nD τ) ℕ

/-- From the bundle `P` the program computes `v` and leaves the bundle `Q`. -/
def Does (c : Thread nD τ) {α : Type} (P : sProp 𝕄) (p : Prog (TpuEff nD τ sig Val Λ c.2) α) (v : α) (Q : sProp 𝕄) : Prop :=
  ∀ (E : Set ℕ) (K : α → sProp 𝕄), iprop(P ∗ (Q -∗ K v)) ⊢ wp frame (wpE defs Variants.none c none) E p K

variable {defs} {c : Thread nD τ} {α β : Type}

theorem Does.pure {P : sProp 𝕄} (v : α) : Does defs c P (.ret v) v P := by
  intro E K
  refine Laws.wand_elim_right.trans ?_
  exact le_wp_ret _ _ _ v K

theorem Does.of_eq {P Q Q' : sProp 𝕄} {p : Prog (TpuEff nD τ sig Val Λ c.2) α} {v : α} (h : Q = Q') (hp : Does defs c P p v Q) :
    Does defs c P p v Q' := h ▸ hp

theorem Does.bind {P Q R : sProp 𝕄} {p : Prog (TpuEff nD τ sig Val Λ c.2) α} {k : α → Prog (TpuEff nD τ sig Val Λ c.2) β} {v : α} {w : β}
    (hp : Does defs c P p v Q) (hk : Does defs c Q (k v) w R) : Does defs c P (p >>= k) w R := by
  intro E K
  rw [wp_bind]
  refine Entails.trans (BIClass.sep_mono .rfl (BIClass.wand_intro ?_)) (hp E _)
  exact Laws.sep_comm.1.trans (hk E K)

theorem Does.same {P R : sProp 𝕄} {p : Prog (TpuEff nD τ sig Val Λ c.2) α} {k : α → Prog (TpuEff nD τ sig Val Λ c.2) β} {v : α} {w : β}
    (hp : Does defs c P p v P) (hk : Does defs c P (k v) w R) : Does defs c P (p >>= k) w R := hp.bind hk

/-- A load reads what the bundle's entry for the memref reads at the load's indices. -/
theorem Does.load {P : sProp 𝕄} {cs : CoreSpace} {s : Shape} {e : EltTy} {m : Memref sig c.2.kind cs s e} {q : PosShare TreeShare} {X : s.Idx → Val e}
    (hm : P ⊢ iprop(owns c m q X ∗ (owns c m q X -∗ P))) (r : LoadRect s) (hl : m.view.LoadsAt r) :
    Does defs c P (Prog.lift (.load m r hl)) (fun x => X (r.idx x)) P := fun E K => by
  refine (BIClass.sep_mono hm .rfl).trans ?_
  unfold owns
  iintro ⟨⟨⟨%f, %hf, H⟩, Hb⟩, Hk⟩
  subst hf
  rw [show (fun x => m.view.read Val f (r.idx x)) = m.view.readAt Val r f from rfl]
  iapply (wp_load Variants.none c none E (k := Prog.ret) (hl := hl) (View.setOn_subset_set _ _)) $$ H
  iintro H
  iapply (le_wp_ret _ _ _ _ K)
  iapply Hk
  iapply Hb
  iexists f
  isplitr; · ipureintro; rfl
  iexact H

/-- A load whose value is not used, of a memref the bundle holds at some contents. -/
theorem Does.skip {P R : sProp 𝕄} {cs : CoreSpace} {s : Shape} {e : EltTy} {m : Memref sig c.2.kind cs s e} {q : PosShare TreeShare}
    {k : Prog (TpuEff nD τ sig Val Λ c.2) β} {w : β}
    (hm : P ⊢ iprop((∃ d, owns c m q d) ∗ ((∃ d, owns c m q d) -∗ P))) (r : LoadRect s) (hl : m.view.LoadsAt r)
    (hk : Does defs c P k w R) : Does defs c P (Prog.lift (.load m r hl) >>= fun _ => k) w R := fun E K => by
  refine (BIClass.sep_mono hm .rfl).trans ?_
  rw [wp_bind]
  unfold owns
  iintro ⟨⟨⟨%d, %f, %hf, H⟩, Hb⟩, Hk⟩
  iapply (wp_load Variants.none c none E (k := Prog.ret) (hl := hl) (View.setOn_subset_set _ _)) $$ H
  iintro H
  iapply (le_wp_ret _ _ _ _ (fun _ => wp frame (wpE defs Variants.none c none) E k K))
  iapply (hk E K)
  isplitr [Hk]
  · iapply Hb
    iexists d, f
    isplitr; · ipureintro; exact hf
    iexact H
  · iexact Hk

/-- A store of a memref's own sizes leaves the stored value in the bundle's entry for it. -/
theorem Does.store {P Q : sProp 𝕄} {cs : CoreSpace} {s : Shape} {e : EltTy} {m : Memref sig c.2.kind cs s e}
    {off : Fin s.rank → ℕ} {inb : ∀ a, off a + s.size a ≤ s.size a} (w : (Rect.unit off s.size inb).shape.Idx → Val e)
    (hm : P ⊢ iprop((∃ d, owns c m fullShare d) ∗ (owns c m fullShare (w : s.Idx → Val e) -∗ Q)))
    (hx : (m.access (Rect.unit off s.size inb)).Stores Finset.univ)
    (hM : (Finset.univ : Finset (Rect.unit off s.size inb).shape.Idx) = Finset.univ ∨ ∀ a, (Rect.unit off s.size inb).stride a = 1) :
    Does defs c P (Prog.lift (.store m (Rect.unit off s.size inb) w Finset.univ hx hM)) ⟨⟩ Q := fun E K => by
  refine (BIClass.sep_mono hm .rfl).trans ?_
  unfold owns
  iintro ⟨⟨⟨%d, %f, -, H⟩, Hb⟩, Hk⟩
  iapply (wp_store_writes₀ Variants.none c none E (k := Prog.ret) (w := w) (hx := hx) (hm := hM) (View.set_slice_subset _ _)) $$ H
  iintro H
  iapply (le_wp_ret _ _ _ _ K)
  iapply Hk
  iapply Hb
  iexists _
  isplitr
  swap; · iexact H
  ipureintro
  exact View.read_writes_full m.view f inb w []

end does

end Bundle

end
-- ==== Proof.Call.Core.lean ====
/-
  The kernel's body run over one bundle of buffers: from the blocks of its inputs it leaves each side's distances.
-/
module

public import proofs.«01_k».proof.Proof.Call.Launch
public import proofs.«01_k».proof.Proof.Gen.ProjIdeal.Skeleton
public import proofs.«01_k».proof.Proof.Block
public import proofs.«01_k».proof.Proof.Steps

@[expose] public section

set_option maxRecDepth 16384

noncomputable section

namespace Cert.ProjIdeal.Call

open Cert.ProjIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Bundle

variable {F : FTy → Type} [FloatOps F]

local notation "𝕄" => MT nD τ sig Unit (Elt F) ℕ (UR sig nD τ) ℕ

set_option maxHeartbeats 4000000 in
/-- The body over any bundle `P` of its buffers: `g` takes an input's buffer out and puts it back, `o` and `s` an output's. -/
theorem body_does (c : Dev nD) (i : grid0.Coords) (arg1 : Memref sig .tc .smem S2x1408 .i32) (harg1 : arg1.IsWhole) (arg2 : Memref sig .tc .vmem S512x128 .bf16) (harg2 : arg2.IsWhole) (arg3 : Memref sig .tc .vmem S512x128 .f32) (harg3 : arg3.IsWhole) (arg4 : Memref sig .tc .vmem S512x128 .bf16) (harg4 : arg4.IsWhole) (arg5 : Memref sig .tc .vmem S512x128 .f32) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S1x128x128 .bf16) (harg9 : arg9.IsWhole) (arg10 : Memref sig .tc .vmem S1x128x128 .bf16) (harg10 : arg10.IsWhole) (arg11 : Memref sig .tc .vmem S1x128x128 .bf16) (harg11 : arg11.IsWhole) (arg12 : Memref sig .tc .vmem S1x128x128 .bf16) (harg12 : arg12.IsWhole) (arg13 : Memref sig .tc .vmem S1x128x128 .bf16) (harg13 : arg13.IsWhole) (arg14 : Memref sig .tc .vmem S1x128x128 .bf16) (harg14 : arg14.IsWhole) (arg15 : Memref sig .tc .vmem S1x128x128 .bf16) (harg15 : arg15.IsWhole) (arg16 : Memref sig .tc .vmem S1x128x128 .bf16) (harg16 : arg16.IsWhole) (arg17 : Memref sig .tc .vmem S1x128x128 .bf16) (harg17 : arg17.IsWhole) (arg18 : Memref sig .tc .vmem S1x128x128 .bf16) (harg18 : arg18.IsWhole) (arg19 : Memref sig .tc .vmem S1x128x128 .bf16) (harg19 : arg19.IsWhole) (arg20 : Memref sig .tc .vmem S1x128x128 .bf16) (harg20 : arg20.IsWhole) (arg21 : Memref sig .tc .vmem S1x128x128 .bf16) (harg21 : arg21.IsWhole) (arg22 : Memref sig .tc .vmem S1x128x128 .bf16) (harg22 : arg22.IsWhole) (arg23 : Memref sig .tc .vmem S1x128x128 .bf16) (harg23 : arg23.IsWhole) (arg24 : Memref sig .tc .vmem S1x128x128 .bf16) (harg24 : arg24.IsWhole) (arg25 : Memref sig .tc .vmem S1x128x128 .bf16) (harg25 : arg25.IsWhole) (arg26 : Memref sig .tc .vmem S1x128x128 .bf16) (harg26 : arg26.IsWhole) (arg27 : Memref sig .tc .vmem S1x128x128 .bf16) (harg27 : arg27.IsWhole) (arg28 : Memref sig .tc .vmem S1x128x128 .bf16) (harg28 : arg28.IsWhole) (arg29 : Memref sig .tc .vmem S1x128x128 .bf16) (harg29 : arg29.IsWhole) (arg30 : Memref sig .tc .vmem S1x128x128 .bf16) (harg30 : arg30.IsWhole) (arg31 : Memref sig .tc .vmem S1x128x128 .bf16) (harg31 : arg31.IsWhole) (arg32 : Memref sig .tc .vmem S1x128x128 .bf16) (harg32 : arg32.IsWhole) (arg33 : Memref sig .tc .vmem S1x128x128 .bf16) (harg33 : arg33.IsWhole) (arg34 : Memref sig .tc .vmem S1x128x128 .bf16) (harg34 : arg34.IsWhole) (arg35 : Memref sig .tc .vmem S1x128x128 .bf16) (harg35 : arg35.IsWhole) (arg36 : Memref sig .tc .vmem S1x128x128 .bf16) (harg36 : arg36.IsWhole) (arg37 : Memref sig .tc .vmem S1x128x128 .bf16) (harg37 : arg37.IsWhole) (arg38 : Memref sig .tc .vmem S1x128x128 .bf16) (harg38 : arg38.IsWhole) (arg39 : Memref sig .tc .vmem S1x128x128 .bf16) (harg39 : arg39.IsWhole) (arg40 : Memref sig .tc .vmem S1x128x128 .bf16) (harg40 : arg40.IsWhole) (arg41 : Memref sig .tc .vmem S1x128x128 .bf16) (harg41 : arg41.IsWhole) (arg42 : Memref sig .tc .vmem S1x128x128 .bf16) (harg42 : arg42.IsWhole) (arg43 : Memref sig .tc .vmem S1x128x128 .bf16) (harg43 : arg43.IsWhole) (arg44 : Memref sig .tc .vmem S1x128x128 .bf16) (harg44 : arg44.IsWhole) (arg45 : Memref sig .tc .vmem S1x128x128 .bf16) (harg45 : arg45.IsWhole) (arg46 : Memref sig .tc .vmem S1x128x128 .bf16) (harg46 : arg46.IsWhole) (arg47 : Memref sig .tc .vmem S1x128x128 .bf16) (harg47 : arg47.IsWhole) (arg48 : Memref sig .tc .vmem S1x128x128 .bf16) (harg48 : arg48.IsWhole) (arg49 : Memref sig .tc .vmem S1x128x128 .bf16) (harg49 : arg49.IsWhole) (arg50 : Memref sig .tc .vmem S1x128x128 .bf16) (harg50 : arg50.IsWhole) (arg51 : Memref sig .tc .vmem S1x128x128 .bf16) (harg51 : arg51.IsWhole) (arg52 : Memref sig .tc .vmem S1x128x128 .bf16) (harg52 : arg52.IsWhole) (arg53 : Memref sig .tc .vmem S1x128x128 .bf16) (harg53 : arg53.IsWhole) (arg54 : Memref sig .tc .vmem S1x128x128 .bf16) (harg54 : arg54.IsWhole) (arg55 : Memref sig .tc .vmem S1x128x128 .bf16) (harg55 : arg55.IsWhole) (arg56 : Memref sig .tc .vmem S1x128x128 .bf16) (harg56 : arg56.IsWhole) (arg57 : Memref sig .tc .vmem S1x128x128 .bf16) (harg57 : arg57.IsWhole) (arg58 : Memref sig .tc .vmem S1x128x128 .bf16) (harg58 : arg58.IsWhole) (arg59 : Memref sig .tc .vmem S1x128x128 .bf16) (harg59 : arg59.IsWhole) (arg60 : Memref sig .tc .vmem S1x128x128 .bf16) (harg60 : arg60.IsWhole) (arg61 : Memref sig .tc .vmem S1x128x128 .bf16) (harg61 : arg61.IsWhole) (arg62 : Memref sig .tc .vmem S1x128x128 .bf16) (harg62 : arg62.IsWhole) (arg63 : Memref sig .tc .vmem S1x128x128 .bf16) (harg63 : arg63.IsWhole) (arg64 : Memref sig .tc .vmem S1x128x128 .bf16) (harg64 : arg64.IsWhole) (arg65 : Memref sig .tc .vmem S1x128x128 .bf16) (harg65 : arg65.IsWhole) (arg66 : Memref sig .tc .vmem S1x128x128 .bf16) (harg66 : arg66.IsWhole) (arg67 : Memref sig .tc .vmem S1x128x128 .bf16) (harg67 : arg67.IsWhole) (arg68 : Memref sig .tc .vmem S1x128x128 .bf16) (harg68 : arg68.IsWhole) (arg69 : Memref sig .tc .vmem S1x128x128 .bf16) (harg69 : arg69.IsWhole) (arg70 : Memref sig .tc .vmem S1x128x128 .bf16) (harg70 : arg70.IsWhole) (arg71 : Memref sig .tc .vmem S1x128x128 .bf16) (harg71 : arg71.IsWhole) (arg72 : Memref sig .tc .vmem S1x128x128 .bf16) (harg72 : arg72.IsWhole) (arg73 : Memref sig .tc .vmem S1x128x128 .bf16) (harg73 : arg73.IsWhole) (arg74 : Memref sig .tc .vmem S1x128x128 .bf16) (harg74 : arg74.IsWhole) (arg75 : Memref sig .tc .vmem S1x128x128 .bf16) (harg75 : arg75.IsWhole) (arg76 : Memref sig .tc .vmem S1x128x128 .bf16) (harg76 : arg76.IsWhole) (arg77 : Memref sig .tc .vmem S1x128x128 .bf16) (harg77 : arg77.IsWhole) (arg78 : Memref sig .tc .vmem S1x128x128 .bf16) (harg78 : arg78.IsWhole) (arg79 : Memref sig .tc .vmem S1x128x128 .bf16) (harg79 : arg79.IsWhole) (arg80 : Memref sig .tc .vmem S1x128x128 .bf16) (harg80 : arg80.IsWhole) (arg81 : Memref sig .tc .vmem S1x128x128 .bf16) (harg81 : arg81.IsWhole) (arg82 : Memref sig .tc .vmem S1x128x128 .bf16) (harg82 : arg82.IsWhole) (arg83 : Memref sig .tc .vmem S1x128x128 .bf16) (harg83 : arg83.IsWhole) (arg84 : Memref sig .tc .vmem S1x128x128 .bf16) (harg84 : arg84.IsWhole) (arg85 : Memref sig .tc .vmem S1x128x128 .bf16) (harg85 : arg85.IsWhole) (arg86 : Memref sig .tc .vmem S1x128x128 .bf16) (harg86 : arg86.IsWhole) (arg87 : Memref sig .tc .vmem S1x128x128 .bf16) (harg87 : arg87.IsWhole) (arg88 : Memref sig .tc .vmem S1x128x128 .bf16) (harg88 : arg88.IsWhole) (arg89 : Memref sig .tc .vmem S1x128x128 .bf16) (harg89 : arg89.IsWhole) (arg90 : Memref sig .tc .vmem S1x128x128 .bf16) (harg90 : arg90.IsWhole) (arg91 : Memref sig .tc .vmem S1x128x128 .bf16) (harg91 : arg91.IsWhole) (arg92 : Memref sig .tc .vmem S1x128x128 .bf16) (harg92 : arg92.IsWhole) (arg93 : Memref sig .tc .vmem S1x128x128 .bf16) (harg93 : arg93.IsWhole) (arg94 : Memref sig .tc .vmem S1x128x128 .bf16) (harg94 : arg94.IsWhole) (arg95 : Memref sig .tc .vmem S1x128x128 .bf16) (harg95 : arg95.IsWhole) (arg96 : Memref sig .tc .vmem S1x128x128 .bf16) (harg96 : arg96.IsWhole) (arg97 : Memref sig .tc .vmem S1x128x128 .bf16) (harg97 : arg97.IsWhole) (arg98 : Memref sig .tc .vmem S1x128x128 .bf16) (harg98 : arg98.IsWhole) (arg99 : Memref sig .tc .vmem S1x128x128 .bf16) (harg99 : arg99.IsWhole) (arg100 : Memref sig .tc .vmem S1x128x128 .bf16) (harg100 : arg100.IsWhole) (arg101 : Memref sig .tc .vmem S1x128x128 .bf16) (harg101 : arg101.IsWhole) (arg102 : Memref sig .tc .vmem S1x128x128 .bf16) (harg102 : arg102.IsWhole) (arg103 : Memref sig .tc .vmem S1x128x128 .bf16) (harg103 : arg103.IsWhole) (arg104 : Memref sig .tc .vmem S1x128x128 .bf16) (harg104 : arg104.IsWhole) (arg105 : Memref sig .tc .vmem S1x128x128 .bf16) (harg105 : arg105.IsWhole) (arg106 : Memref sig .tc .vmem S1x128x128 .bf16) (harg106 : arg106.IsWhole) (arg107 : Memref sig .tc .vmem S1x128x128 .bf16) (harg107 : arg107.IsWhole) (arg108 : Memref sig .tc .vmem S1x128x128 .bf16) (harg108 : arg108.IsWhole) (arg109 : Memref sig .tc .vmem S1x128x128 .bf16) (harg109 : arg109.IsWhole) (arg110 : Memref sig .tc .vmem S1x128x128 .bf16) (harg110 : arg110.IsWhole) (arg111 : Memref sig .tc .vmem S1x128x128 .bf16) (harg111 : arg111.IsWhole) (arg112 : Memref sig .tc .vmem S1x128x128 .bf16) (harg112 : arg112.IsWhole) (arg113 : Memref sig .tc .vmem S1x128x128 .bf16) (harg113 : arg113.IsWhole) (arg114 : Memref sig .tc .vmem S1x128x128 .bf16) (harg114 : arg114.IsWhole) (arg115 : Memref sig .tc .vmem S1x128x128 .bf16) (harg115 : arg115.IsWhole) (arg116 : Memref sig .tc .vmem S1x128x128 .bf16) (harg116 : arg116.IsWhole) (arg117 : Memref sig .tc .vmem S1x128x128 .bf16) (harg117 : arg117.IsWhole) (arg118 : Memref sig .tc .vmem S1x128x128 .bf16) (harg118 : arg118.IsWhole) (arg119 : Memref sig .tc .vmem S1x128x128 .bf16) (harg119 : arg119.IsWhole) (arg120 : Memref sig .tc .vmem S1x128x128 .bf16) (harg120 : arg120.IsWhole) (arg121 : Memref sig .tc .vmem S1x128x128 .bf16) (harg121 : arg121.IsWhole) (arg122 : Memref sig .tc .vmem S1x128x128 .bf16) (harg122 : arg122.IsWhole) (arg123 : Memref sig .tc .vmem S1x128x128 .bf16) (harg123 : arg123.IsWhole) (arg124 : Memref sig .tc .vmem S1x128x128 .bf16) (harg124 : arg124.IsWhole) (arg125 : Memref sig .tc .vmem S1x128x128 .bf16) (harg125 : arg125.IsWhole) (arg126 : Memref sig .tc .vmem S1x128x128 .bf16) (harg126 : arg126.IsWhole) (arg127 : Memref sig .tc .vmem S1x128x128 .bf16) (harg127 : arg127.IsWhole) (arg128 : Memref sig .tc .vmem S1x128x128 .bf16) (harg128 : arg128.IsWhole) (arg129 : Memref sig .tc .vmem S1x128x128 .bf16) (harg129 : arg129.IsWhole) (arg130 : Memref sig .tc .vmem S1x128x128 .bf16) (harg130 : arg130.IsWhole) (arg131 : Memref sig .tc .vmem S1x128x128 .bf16) (harg131 : arg131.IsWhole) (arg132 : Memref sig .tc .vmem S1x128x128 .bf16) (harg132 : arg132.IsWhole) (arg133 : Memref sig .tc .vmem S1x128x128 .bf16) (harg133 : arg133.IsWhole) (arg134 : Memref sig .tc .vmem S1x1x512 .f32) (harg134 : arg134.IsWhole) (arg135 : Memref sig .tc .vmem S1x1x512 .f32) (harg135 : arg135.IsWhole)
    (x0 : Vec F S512x128 .bf16) (x1 : Vec F S512x128 .f32) (x2 : Vec F S512x128 .bf16) (x3 : Vec F S512x128 .f32) (x4 : Vec F S1x128x128 .bf16) (x5 : Vec F S1x128x128 .bf16) (x6 : Vec F S1x128x128 .bf16) (x7 : Vec F S1x128x128 .bf16) (x8 : Vec F S1x128x128 .bf16) (x9 : Vec F S1x128x128 .bf16) (x10 : Vec F S1x128x128 .bf16) (x11 : Vec F S1x128x128 .bf16) (x12 : Vec F S1x128x128 .bf16) (x13 : Vec F S1x128x128 .bf16) (x14 : Vec F S1x128x128 .bf16) (x15 : Vec F S1x128x128 .bf16) (x16 : Vec F S1x128x128 .bf16) (x17 : Vec F S1x128x128 .bf16) (x18 : Vec F S1x128x128 .bf16) (x19 : Vec F S1x128x128 .bf16) (x20 : Vec F S1x128x128 .bf16) (x21 : Vec F S1x128x128 .bf16) (x22 : Vec F S1x128x128 .bf16) (x23 : Vec F S1x128x128 .bf16) (x24 : Vec F S1x128x128 .bf16) (x25 : Vec F S1x128x128 .bf16) (x26 : Vec F S1x128x128 .bf16) (x27 : Vec F S1x128x128 .bf16) (x28 : Vec F S1x128x128 .bf16) (x29 : Vec F S1x128x128 .bf16) (x30 : Vec F S1x128x128 .bf16) (x31 : Vec F S1x128x128 .bf16) (x32 : Vec F S1x128x128 .bf16) (x33 : Vec F S1x128x128 .bf16) (x34 : Vec F S1x128x128 .bf16) (x35 : Vec F S1x128x128 .bf16) (x36 : Vec F S1x128x128 .bf16) (x37 : Vec F S1x128x128 .bf16) (x38 : Vec F S1x128x128 .bf16) (x39 : Vec F S1x128x128 .bf16) (x40 : Vec F S1x128x128 .bf16) (x41 : Vec F S1x128x128 .bf16) (x42 : Vec F S1x128x128 .bf16) (x43 : Vec F S1x128x128 .bf16) (x44 : Vec F S1x128x128 .bf16) (x45 : Vec F S1x128x128 .bf16) (x46 : Vec F S1x128x128 .bf16) (x47 : Vec F S1x128x128 .bf16) (x48 : Vec F S1x128x128 .bf16) (x49 : Vec F S1x128x128 .bf16) (x50 : Vec F S1x128x128 .bf16) (x51 : Vec F S1x128x128 .bf16) (x52 : Vec F S1x128x128 .bf16) (x53 : Vec F S1x128x128 .bf16) (x54 : Vec F S1x128x128 .bf16) (x55 : Vec F S1x128x128 .bf16) (x56 : Vec F S1x128x128 .bf16) (x57 : Vec F S1x128x128 .bf16) (x58 : Vec F S1x128x128 .bf16) (x59 : Vec F S1x128x128 .bf16) (x60 : Vec F S1x128x128 .bf16) (x61 : Vec F S1x128x128 .bf16) (x62 : Vec F S1x128x128 .bf16) (x63 : Vec F S1x128x128 .bf16) (x64 : Vec F S1x128x128 .bf16) (x65 : Vec F S1x128x128 .bf16) (x66 : Vec F S1x128x128 .bf16) (x67 : Vec F S1x128x128 .bf16) (x68 : Vec F S1x128x128 .bf16) (x69 : Vec F S1x128x128 .bf16) (x70 : Vec F S1x128x128 .bf16) (x71 : Vec F S1x128x128 .bf16) (x72 : Vec F S1x128x128 .bf16) (x73 : Vec F S1x128x128 .bf16) (x74 : Vec F S1x128x128 .bf16) (x75 : Vec F S1x128x128 .bf16) (x76 : Vec F S1x128x128 .bf16) (x77 : Vec F S1x128x128 .bf16) (x78 : Vec F S1x128x128 .bf16) (x79 : Vec F S1x128x128 .bf16) (x80 : Vec F S1x128x128 .bf16) (x81 : Vec F S1x128x128 .bf16) (x82 : Vec F S1x128x128 .bf16) (x83 : Vec F S1x128x128 .bf16) (x84 : Vec F S1x128x128 .bf16) (x85 : Vec F S1x128x128 .bf16) (x86 : Vec F S1x128x128 .bf16) (x87 : Vec F S1x128x128 .bf16) (x88 : Vec F S1x128x128 .bf16) (x89 : Vec F S1x128x128 .bf16) (x90 : Vec F S1x128x128 .bf16) (x91 : Vec F S1x128x128 .bf16) (x92 : Vec F S1x128x128 .bf16) (x93 : Vec F S1x128x128 .bf16) (x94 : Vec F S1x128x128 .bf16) (x95 : Vec F S1x128x128 .bf16) (x96 : Vec F S1x128x128 .bf16) (x97 : Vec F S1x128x128 .bf16) (x98 : Vec F S1x128x128 .bf16) (x99 : Vec F S1x128x128 .bf16) (x100 : Vec F S1x128x128 .bf16) (x101 : Vec F S1x128x128 .bf16) (x102 : Vec F S1x128x128 .bf16) (x103 : Vec F S1x128x128 .bf16) (x104 : Vec F S1x128x128 .bf16) (x105 : Vec F S1x128x128 .bf16) (x106 : Vec F S1x128x128 .bf16) (x107 : Vec F S1x128x128 .bf16) (x108 : Vec F S1x128x128 .bf16) (x109 : Vec F S1x128x128 .bf16) (x110 : Vec F S1x128x128 .bf16) (x111 : Vec F S1x128x128 .bf16) (x112 : Vec F S1x128x128 .bf16) (x113 : Vec F S1x128x128 .bf16) (x114 : Vec F S1x128x128 .bf16) (x115 : Vec F S1x128x128 .bf16) (x116 : Vec F S1x128x128 .bf16) (x117 : Vec F S1x128x128 .bf16) (x118 : Vec F S1x128x128 .bf16) (x119 : Vec F S1x128x128 .bf16) (x120 : Vec F S1x128x128 .bf16) (x121 : Vec F S1x128x128 .bf16) (x122 : Vec F S1x128x128 .bf16) (x123 : Vec F S1x128x128 .bf16) (x124 : Vec F S1x128x128 .bf16) (x125 : Vec F S1x128x128 .bf16) (x126 : Vec F S1x128x128 .bf16) (x127 : Vec F S1x128x128 .bf16) (x128 : Vec F S1x128x128 .bf16) (x129 : Vec F S1x128x128 .bf16) (x130 : Vec F S1x128x128 .bf16) (x131 : Vec F S1x128x128 .bf16)
    (P : sProp 𝕄 → sProp 𝕄 → sProp 𝕄)
    (g2 : ∀ A B, P A B ⊢ iprop(owns (c : Thread nD τ) arg2 fullShare x0 ∗ (owns (c : Thread nD τ) arg2 fullShare x0 -∗ P A B)))
    (g3 : ∀ A B, P A B ⊢ iprop(owns (c : Thread nD τ) arg3 fullShare x1 ∗ (owns (c : Thread nD τ) arg3 fullShare x1 -∗ P A B)))
    (g4 : ∀ A B, P A B ⊢ iprop(owns (c : Thread nD τ) arg4 fullShare x2 ∗ (owns (c : Thread nD τ) arg4 fullShare x2 -∗ P A B)))
    (g5 : ∀ A B, P A B ⊢ iprop(owns (c : Thread nD τ) arg5 fullShare x3 ∗ (owns (c : Thread nD τ) arg5 fullShare x3 -∗ P A B)))
    (g6 : ∀ A B, P A B ⊢ iprop(owns (c : Thread nD τ) arg6 fullShare x4 ∗ (owns (c : Thread nD τ) arg6 fullShare x4 -∗ P A B)))
    (g7 : ∀ A B, P A B ⊢ iprop(owns (c : Thread nD τ) arg7 fullShare x5 ∗ (owns (c : Thread nD τ) arg7 fullShare x5 -∗ P A B)))
    (g8 : ∀ A B, P A B ⊢ iprop(owns (c : Thread nD τ) arg8 fullShare x6 ∗ (owns (c : Thread nD τ) arg8 fullShare x6 -∗ P A B)))
    (g9 : ∀ A B, P A B ⊢ iprop(owns (c : Thread nD τ) arg9 fullShare x7 ∗ (owns (c : Thread nD τ) arg9 fullShare x7 -∗ P A B)))
    (g10 : ∀ A B, P A B ⊢ iprop(owns (c : Thread nD τ) arg10 fullShare x8 ∗ (owns (c : Thread nD τ) arg10 fullShare x8 -∗ P A B)))
    (g11 : ∀ A B, P A B ⊢ iprop(owns (c : Thread nD τ) arg11 fullShare x9 ∗ (owns (c : Thread nD τ) arg11 fullShare x9 -∗ P A B)))
    (g12 : ∀ A B, P A B ⊢ iprop(owns (c : Thread nD τ) arg12 fullShare x10 ∗ (owns (c : Thread nD τ) arg12 fullShare x10 -∗ P A B)))
    (g13 : ∀ A B, P A B ⊢ iprop(owns (c : Thread nD τ) arg13 fullShare x11 ∗ (owns (c : Thread nD τ) arg13 fullShare x11 -∗ P A B)))
    (g14 : ∀ A B, P A B ⊢ iprop(owns (c : Thread nD τ) arg14 fullShare x12 ∗ (owns (c : Thread nD τ) arg14 fullShare x12 -∗ P A B)))
    (g15 : ∀ A B, P A B ⊢ iprop(owns (c : Thread nD τ) arg15 fullShare x13 ∗ (owns (c : Thread nD τ) arg15 fullShare x13 -∗ P A B)))
    (g16 : ∀ A B, P A B ⊢ iprop(owns (c : Thread nD τ) arg16 fullShare x14 ∗ (owns (c : Thread nD τ) arg16 fullShare x14 -∗ P A B)))
    (g17 : ∀ A B, P A B ⊢ iprop(owns (c : Thread nD τ) arg17 fullShare x15 ∗ (owns (c : Thread nD τ) arg17 fullShare x15 -∗ P A B)))
    (g18 : ∀ A B, P A B ⊢ iprop(owns (c : Thread nD τ) arg18 fullShare x16 ∗ (owns (c : Thread nD τ) arg18 fullShare x16 -∗ P A B)))
    (g19 : ∀ A B, P A B ⊢ iprop(owns (c : Thread nD τ) arg19 fullShare x17 ∗ (owns (c : Thread nD τ) arg19 fullShare x17 -∗ P A B)))
    (g20 : ∀ A B, P A B ⊢ iprop(owns (c : Thread nD τ) arg20 fullShare x18 ∗ (owns (c : Thread nD τ) arg20 fullShare x18 -∗ P A B)))
    (g21 : ∀ A B, P A B ⊢ iprop(owns (c : Thread nD τ) arg21 fullShare x19 ∗ (owns (c : Thread nD τ) arg21 fullShare x19 -∗ P A B)))
    (g22 : ∀ A B, P A B ⊢ iprop(owns (c : Thread nD τ) arg22 fullShare x20 ∗ (owns (c : Thread nD τ) arg22 fullShare x20 -∗ P A B)))
    (g23 : ∀ A B, P A B ⊢ iprop(owns (c : Thread nD τ) arg23 fullShare x21 ∗ (owns (c : Thread nD τ) arg23 fullShare x21 -∗ P A B)))
    (g24 : ∀ A B, P A B ⊢ iprop(owns (c : Thread nD τ) arg24 fullShare x22 ∗ (owns (c : Thread nD τ) arg24 fullShare x22 -∗ P A B)))
    (g25 : ∀ A B, P A B ⊢ iprop(owns (c : Thread nD τ) arg25 fullShare x23 ∗ (owns (c : Thread nD τ) arg25 fullShare x23 -∗ P A B)))
    (g26 : ∀ A B, P A B ⊢ iprop(owns (c : Thread nD τ) arg26 fullShare x24 ∗ (owns (c : Thread nD τ) arg26 fullShare x24 -∗ P A B)))
    (g27 : ∀ A B, P A B ⊢ iprop(owns (c : Thread nD τ) arg27 fullShare x25 ∗ (owns (c : Thread nD τ) arg27 fullShare x25 -∗ P A B)))
    (g28 : ∀ A B, P A B ⊢ iprop(owns (c : Thread nD τ) arg28 fullShare x26 ∗ (owns (c : Thread nD τ) arg28 fullShare x26 -∗ P A B)))
    (g29 : ∀ A B, P A B ⊢ iprop(owns (c : Thread nD τ) arg29 fullShare x27 ∗ (owns (c : Thread nD τ) arg29 fullShare x27 -∗ P A B)))
    (g30 : ∀ A B, P A B ⊢ iprop(owns (c : Thread nD τ) arg30 fullShare x28 ∗ (owns (c : Thread nD τ) arg30 fullShare x28 -∗ P A B)))
    (g31 : ∀ A B, P A B ⊢ iprop(owns (c : Thread nD τ) arg31 fullShare x29 ∗ (owns (c : Thread nD τ) arg31 fullShare x29 -∗ P A B)))
    (g32 : ∀ A B, P A B ⊢ iprop(owns (c : Thread nD τ) arg32 fullShare x30 ∗ (owns (c : Thread nD τ) arg32 fullShare x30 -∗ P A B)))
    (g33 : ∀ A B, P A B ⊢ iprop(owns (c : Thread nD τ) arg33 fullShare x31 ∗ (owns (c : Thread nD τ) arg33 fullShare x31 -∗ P A B)))
    (g34 : ∀ A B, P A B ⊢ iprop(owns (c : Thread nD τ) arg34 fullShare x32 ∗ (owns (c : Thread nD τ) arg34 fullShare x32 -∗ P A B)))
    (g35 : ∀ A B, P A B ⊢ iprop(owns (c : Thread nD τ) arg35 fullShare x33 ∗ (owns (c : Thread nD τ) arg35 fullShare x33 -∗ P A B)))
    (g36 : ∀ A B, P A B ⊢ iprop(owns (c : Thread nD τ) arg36 fullShare x34 ∗ (owns (c : Thread nD τ) arg36 fullShare x34 -∗ P A B)))
    (g37 : ∀ A B, P A B ⊢ iprop(owns (c : Thread nD τ) arg37 fullShare x35 ∗ (owns (c : Thread nD τ) arg37 fullShare x35 -∗ P A B)))
    (g38 : ∀ A B, P A B ⊢ iprop(owns (c : Thread nD τ) arg38 fullShare x36 ∗ (owns (c : Thread nD τ) arg38 fullShare x36 -∗ P A B)))
    (g39 : ∀ A B, P A B ⊢ iprop(owns (c : Thread nD τ) arg39 fullShare x37 ∗ (owns (c : Thread nD τ) arg39 fullShare x37 -∗ P A B)))
    (g40 : ∀ A B, P A B ⊢ iprop(owns (c : Thread nD τ) arg40 fullShare x38 ∗ (owns (c : Thread nD τ) arg40 fullShare x38 -∗ P A B)))
    (g41 : ∀ A B, P A B ⊢ iprop(owns (c : Thread nD τ) arg41 fullShare x39 ∗ (owns (c : Thread nD τ) arg41 fullShare x39 -∗ P A B)))
    (g42 : ∀ A B, P A B ⊢ iprop(owns (c : Thread nD τ) arg42 fullShare x40 ∗ (owns (c : Thread nD τ) arg42 fullShare x40 -∗ P A B)))
    (g43 : ∀ A B, P A B ⊢ iprop(owns (c : Thread nD τ) arg43 fullShare x41 ∗ (owns (c : Thread nD τ) arg43 fullShare x41 -∗ P A B)))
    (g44 : ∀ A B, P A B ⊢ iprop(owns (c : Thread nD τ) arg44 fullShare x42 ∗ (owns (c : Thread nD τ) arg44 fullShare x42 -∗ P A B)))
    (g45 : ∀ A B, P A B ⊢ iprop(owns (c : Thread nD τ) arg45 fullShare x43 ∗ (owns (c : Thread nD τ) arg45 fullShare x43 -∗ P A B)))
    (g46 : ∀ A B, P A B ⊢ iprop(owns (c : Thread nD τ) arg46 fullShare x44 ∗ (owns (c : Thread nD τ) arg46 fullShare x44 -∗ P A B)))
    (g47 : ∀ A B, P A B ⊢ iprop(owns (c : Thread nD τ) arg47 fullShare x45 ∗ (owns (c : Thread nD τ) arg47 fullShare x45 -∗ P A B)))
    (g48 : ∀ A B, P A B ⊢ iprop(owns (c : Thread nD τ) arg48 fullShare x46 ∗ (owns (c : Thread nD τ) arg48 fullShare x46 -∗ P A B)))
    (g49 : ∀ A B, P A B ⊢ iprop(owns (c : Thread nD τ) arg49 fullShare x47 ∗ (owns (c : Thread nD τ) arg49 fullShare x47 -∗ P A B)))
    (g50 : ∀ A B, P A B ⊢ iprop(owns (c : Thread nD τ) arg50 fullShare x48 ∗ (owns (c : Thread nD τ) arg50 fullShare x48 -∗ P A B)))
    (g51 : ∀ A B, P A B ⊢ iprop(owns (c : Thread nD τ) arg51 fullShare x49 ∗ (owns (c : Thread nD τ) arg51 fullShare x49 -∗ P A B)))
    (g52 : ∀ A B, P A B ⊢ iprop(owns (c : Thread nD τ) arg52 fullShare x50 ∗ (owns (c : Thread nD τ) arg52 fullShare x50 -∗ P A B)))
    (g53 : ∀ A B, P A B ⊢ iprop(owns (c : Thread nD τ) arg53 fullShare x51 ∗ (owns (c : Thread nD τ) arg53 fullShare x51 -∗ P A B)))
    (g54 : ∀ A B, P A B ⊢ iprop(owns (c : Thread nD τ) arg54 fullShare x52 ∗ (owns (c : Thread nD τ) arg54 fullShare x52 -∗ P A B)))
    (g55 : ∀ A B, P A B ⊢ iprop(owns (c : Thread nD τ) arg55 fullShare x53 ∗ (owns (c : Thread nD τ) arg55 fullShare x53 -∗ P A B)))
    (g56 : ∀ A B, P A B ⊢ iprop(owns (c : Thread nD τ) arg56 fullShare x54 ∗ (owns (c : Thread nD τ) arg56 fullShare x54 -∗ P A B)))
    (g57 : ∀ A B, P A B ⊢ iprop(owns (c : Thread nD τ) arg57 fullShare x55 ∗ (owns (c : Thread nD τ) arg57 fullShare x55 -∗ P A B)))
    (g58 : ∀ A B, P A B ⊢ iprop(owns (c : Thread nD τ) arg58 fullShare x56 ∗ (owns (c : Thread nD τ) arg58 fullShare x56 -∗ P A B)))
    (g59 : ∀ A B, P A B ⊢ iprop(owns (c : Thread nD τ) arg59 fullShare x57 ∗ (owns (c : Thread nD τ) arg59 fullShare x57 -∗ P A B)))
    (g60 : ∀ A B, P A B ⊢ iprop(owns (c : Thread nD τ) arg60 fullShare x58 ∗ (owns (c : Thread nD τ) arg60 fullShare x58 -∗ P A B)))
    (g61 : ∀ A B, P A B ⊢ iprop(owns (c : Thread nD τ) arg61 fullShare x59 ∗ (owns (c : Thread nD τ) arg61 fullShare x59 -∗ P A B)))
    (g62 : ∀ A B, P A B ⊢ iprop(owns (c : Thread nD τ) arg62 fullShare x60 ∗ (owns (c : Thread nD τ) arg62 fullShare x60 -∗ P A B)))
    (g63 : ∀ A B, P A B ⊢ iprop(owns (c : Thread nD τ) arg63 fullShare x61 ∗ (owns (c : Thread nD τ) arg63 fullShare x61 -∗ P A B)))
    (g64 : ∀ A B, P A B ⊢ iprop(owns (c : Thread nD τ) arg64 fullShare x62 ∗ (owns (c : Thread nD τ) arg64 fullShare x62 -∗ P A B)))
    (g65 : ∀ A B, P A B ⊢ iprop(owns (c : Thread nD τ) arg65 fullShare x63 ∗ (owns (c : Thread nD τ) arg65 fullShare x63 -∗ P A B)))
    (g66 : ∀ A B, P A B ⊢ iprop(owns (c : Thread nD τ) arg66 fullShare x64 ∗ (owns (c : Thread nD τ) arg66 fullShare x64 -∗ P A B)))
    (g67 : ∀ A B, P A B ⊢ iprop(owns (c : Thread nD τ) arg67 fullShare x65 ∗ (owns (c : Thread nD τ) arg67 fullShare x65 -∗ P A B)))
    (g68 : ∀ A B, P A B ⊢ iprop(owns (c : Thread nD τ) arg68 fullShare x66 ∗ (owns (c : Thread nD τ) arg68 fullShare x66 -∗ P A B)))
    (g69 : ∀ A B, P A B ⊢ iprop(owns (c : Thread nD τ) arg69 fullShare x67 ∗ (owns (c : Thread nD τ) arg69 fullShare x67 -∗ P A B)))
    (g70 : ∀ A B, P A B ⊢ iprop(owns (c : Thread nD τ) arg70 fullShare x68 ∗ (owns (c : Thread nD τ) arg70 fullShare x68 -∗ P A B)))
    (g71 : ∀ A B, P A B ⊢ iprop(owns (c : Thread nD τ) arg71 fullShare x69 ∗ (owns (c : Thread nD τ) arg71 fullShare x69 -∗ P A B)))
    (g72 : ∀ A B, P A B ⊢ iprop(owns (c : Thread nD τ) arg72 fullShare x70 ∗ (owns (c : Thread nD τ) arg72 fullShare x70 -∗ P A B)))
    (g73 : ∀ A B, P A B ⊢ iprop(owns (c : Thread nD τ) arg73 fullShare x71 ∗ (owns (c : Thread nD τ) arg73 fullShare x71 -∗ P A B)))
    (g74 : ∀ A B, P A B ⊢ iprop(owns (c : Thread nD τ) arg74 fullShare x72 ∗ (owns (c : Thread nD τ) arg74 fullShare x72 -∗ P A B)))
    (g75 : ∀ A B, P A B ⊢ iprop(owns (c : Thread nD τ) arg75 fullShare x73 ∗ (owns (c : Thread nD τ) arg75 fullShare x73 -∗ P A B)))
    (g76 : ∀ A B, P A B ⊢ iprop(owns (c : Thread nD τ) arg76 fullShare x74 ∗ (owns (c : Thread nD τ) arg76 fullShare x74 -∗ P A B)))
    (g77 : ∀ A B, P A B ⊢ iprop(owns (c : Thread nD τ) arg77 fullShare x75 ∗ (owns (c : Thread nD τ) arg77 fullShare x75 -∗ P A B)))
    (g78 : ∀ A B, P A B ⊢ iprop(owns (c : Thread nD τ) arg78 fullShare x76 ∗ (owns (c : Thread nD τ) arg78 fullShare x76 -∗ P A B)))
    (g79 : ∀ A B, P A B ⊢ iprop(owns (c : Thread nD τ) arg79 fullShare x77 ∗ (owns (c : Thread nD τ) arg79 fullShare x77 -∗ P A B)))
    (g80 : ∀ A B, P A B ⊢ iprop(owns (c : Thread nD τ) arg80 fullShare x78 ∗ (owns (c : Thread nD τ) arg80 fullShare x78 -∗ P A B)))
    (g81 : ∀ A B, P A B ⊢ iprop(owns (c : Thread nD τ) arg81 fullShare x79 ∗ (owns (c : Thread nD τ) arg81 fullShare x79 -∗ P A B)))
    (g82 : ∀ A B, P A B ⊢ iprop(owns (c : Thread nD τ) arg82 fullShare x80 ∗ (owns (c : Thread nD τ) arg82 fullShare x80 -∗ P A B)))
    (g83 : ∀ A B, P A B ⊢ iprop(owns (c : Thread nD τ) arg83 fullShare x81 ∗ (owns (c : Thread nD τ) arg83 fullShare x81 -∗ P A B)))
    (g84 : ∀ A B, P A B ⊢ iprop(owns (c : Thread nD τ) arg84 fullShare x82 ∗ (owns (c : Thread nD τ) arg84 fullShare x82 -∗ P A B)))
    (g85 : ∀ A B, P A B ⊢ iprop(owns (c : Thread nD τ) arg85 fullShare x83 ∗ (owns (c : Thread nD τ) arg85 fullShare x83 -∗ P A B)))
    (g86 : ∀ A B, P A B ⊢ iprop(owns (c : Thread nD τ) arg86 fullShare x84 ∗ (owns (c : Thread nD τ) arg86 fullShare x84 -∗ P A B)))
    (g87 : ∀ A B, P A B ⊢ iprop(owns (c : Thread nD τ) arg87 fullShare x85 ∗ (owns (c : Thread nD τ) arg87 fullShare x85 -∗ P A B)))
    (g88 : ∀ A B, P A B ⊢ iprop(owns (c : Thread nD τ) arg88 fullShare x86 ∗ (owns (c : Thread nD τ) arg88 fullShare x86 -∗ P A B)))
    (g89 : ∀ A B, P A B ⊢ iprop(owns (c : Thread nD τ) arg89 fullShare x87 ∗ (owns (c : Thread nD τ) arg89 fullShare x87 -∗ P A B)))
    (g90 : ∀ A B, P A B ⊢ iprop(owns (c : Thread nD τ) arg90 fullShare x88 ∗ (owns (c : Thread nD τ) arg90 fullShare x88 -∗ P A B)))
    (g91 : ∀ A B, P A B ⊢ iprop(owns (c : Thread nD τ) arg91 fullShare x89 ∗ (owns (c : Thread nD τ) arg91 fullShare x89 -∗ P A B)))
    (g92 : ∀ A B, P A B ⊢ iprop(owns (c : Thread nD τ) arg92 fullShare x90 ∗ (owns (c : Thread nD τ) arg92 fullShare x90 -∗ P A B)))
    (g93 : ∀ A B, P A B ⊢ iprop(owns (c : Thread nD τ) arg93 fullShare x91 ∗ (owns (c : Thread nD τ) arg93 fullShare x91 -∗ P A B)))
    (g94 : ∀ A B, P A B ⊢ iprop(owns (c : Thread nD τ) arg94 fullShare x92 ∗ (owns (c : Thread nD τ) arg94 fullShare x92 -∗ P A B)))
    (g95 : ∀ A B, P A B ⊢ iprop(owns (c : Thread nD τ) arg95 fullShare x93 ∗ (owns (c : Thread nD τ) arg95 fullShare x93 -∗ P A B)))
    (g96 : ∀ A B, P A B ⊢ iprop(owns (c : Thread nD τ) arg96 fullShare x94 ∗ (owns (c : Thread nD τ) arg96 fullShare x94 -∗ P A B)))
    (g97 : ∀ A B, P A B ⊢ iprop(owns (c : Thread nD τ) arg97 fullShare x95 ∗ (owns (c : Thread nD τ) arg97 fullShare x95 -∗ P A B)))
    (g98 : ∀ A B, P A B ⊢ iprop(owns (c : Thread nD τ) arg98 fullShare x96 ∗ (owns (c : Thread nD τ) arg98 fullShare x96 -∗ P A B)))
    (g99 : ∀ A B, P A B ⊢ iprop(owns (c : Thread nD τ) arg99 fullShare x97 ∗ (owns (c : Thread nD τ) arg99 fullShare x97 -∗ P A B)))
    (g100 : ∀ A B, P A B ⊢ iprop(owns (c : Thread nD τ) arg100 fullShare x98 ∗ (owns (c : Thread nD τ) arg100 fullShare x98 -∗ P A B)))
    (g101 : ∀ A B, P A B ⊢ iprop(owns (c : Thread nD τ) arg101 fullShare x99 ∗ (owns (c : Thread nD τ) arg101 fullShare x99 -∗ P A B)))
    (g102 : ∀ A B, P A B ⊢ iprop(owns (c : Thread nD τ) arg102 fullShare x100 ∗ (owns (c : Thread nD τ) arg102 fullShare x100 -∗ P A B)))
    (g103 : ∀ A B, P A B ⊢ iprop(owns (c : Thread nD τ) arg103 fullShare x101 ∗ (owns (c : Thread nD τ) arg103 fullShare x101 -∗ P A B)))
    (g104 : ∀ A B, P A B ⊢ iprop(owns (c : Thread nD τ) arg104 fullShare x102 ∗ (owns (c : Thread nD τ) arg104 fullShare x102 -∗ P A B)))
    (g105 : ∀ A B, P A B ⊢ iprop(owns (c : Thread nD τ) arg105 fullShare x103 ∗ (owns (c : Thread nD τ) arg105 fullShare x103 -∗ P A B)))
    (g106 : ∀ A B, P A B ⊢ iprop(owns (c : Thread nD τ) arg106 fullShare x104 ∗ (owns (c : Thread nD τ) arg106 fullShare x104 -∗ P A B)))
    (g107 : ∀ A B, P A B ⊢ iprop(owns (c : Thread nD τ) arg107 fullShare x105 ∗ (owns (c : Thread nD τ) arg107 fullShare x105 -∗ P A B)))
    (g108 : ∀ A B, P A B ⊢ iprop(owns (c : Thread nD τ) arg108 fullShare x106 ∗ (owns (c : Thread nD τ) arg108 fullShare x106 -∗ P A B)))
    (g109 : ∀ A B, P A B ⊢ iprop(owns (c : Thread nD τ) arg109 fullShare x107 ∗ (owns (c : Thread nD τ) arg109 fullShare x107 -∗ P A B)))
    (g110 : ∀ A B, P A B ⊢ iprop(owns (c : Thread nD τ) arg110 fullShare x108 ∗ (owns (c : Thread nD τ) arg110 fullShare x108 -∗ P A B)))
    (g111 : ∀ A B, P A B ⊢ iprop(owns (c : Thread nD τ) arg111 fullShare x109 ∗ (owns (c : Thread nD τ) arg111 fullShare x109 -∗ P A B)))
    (g112 : ∀ A B, P A B ⊢ iprop(owns (c : Thread nD τ) arg112 fullShare x110 ∗ (owns (c : Thread nD τ) arg112 fullShare x110 -∗ P A B)))
    (g113 : ∀ A B, P A B ⊢ iprop(owns (c : Thread nD τ) arg113 fullShare x111 ∗ (owns (c : Thread nD τ) arg113 fullShare x111 -∗ P A B)))
    (g114 : ∀ A B, P A B ⊢ iprop(owns (c : Thread nD τ) arg114 fullShare x112 ∗ (owns (c : Thread nD τ) arg114 fullShare x112 -∗ P A B)))
    (g115 : ∀ A B, P A B ⊢ iprop(owns (c : Thread nD τ) arg115 fullShare x113 ∗ (owns (c : Thread nD τ) arg115 fullShare x113 -∗ P A B)))
    (g116 : ∀ A B, P A B ⊢ iprop(owns (c : Thread nD τ) arg116 fullShare x114 ∗ (owns (c : Thread nD τ) arg116 fullShare x114 -∗ P A B)))
    (g117 : ∀ A B, P A B ⊢ iprop(owns (c : Thread nD τ) arg117 fullShare x115 ∗ (owns (c : Thread nD τ) arg117 fullShare x115 -∗ P A B)))
    (g118 : ∀ A B, P A B ⊢ iprop(owns (c : Thread nD τ) arg118 fullShare x116 ∗ (owns (c : Thread nD τ) arg118 fullShare x116 -∗ P A B)))
    (g119 : ∀ A B, P A B ⊢ iprop(owns (c : Thread nD τ) arg119 fullShare x117 ∗ (owns (c : Thread nD τ) arg119 fullShare x117 -∗ P A B)))
    (g120 : ∀ A B, P A B ⊢ iprop(owns (c : Thread nD τ) arg120 fullShare x118 ∗ (owns (c : Thread nD τ) arg120 fullShare x118 -∗ P A B)))
    (g121 : ∀ A B, P A B ⊢ iprop(owns (c : Thread nD τ) arg121 fullShare x119 ∗ (owns (c : Thread nD τ) arg121 fullShare x119 -∗ P A B)))
    (g122 : ∀ A B, P A B ⊢ iprop(owns (c : Thread nD τ) arg122 fullShare x120 ∗ (owns (c : Thread nD τ) arg122 fullShare x120 -∗ P A B)))
    (g123 : ∀ A B, P A B ⊢ iprop(owns (c : Thread nD τ) arg123 fullShare x121 ∗ (owns (c : Thread nD τ) arg123 fullShare x121 -∗ P A B)))
    (g124 : ∀ A B, P A B ⊢ iprop(owns (c : Thread nD τ) arg124 fullShare x122 ∗ (owns (c : Thread nD τ) arg124 fullShare x122 -∗ P A B)))
    (g125 : ∀ A B, P A B ⊢ iprop(owns (c : Thread nD τ) arg125 fullShare x123 ∗ (owns (c : Thread nD τ) arg125 fullShare x123 -∗ P A B)))
    (g126 : ∀ A B, P A B ⊢ iprop(owns (c : Thread nD τ) arg126 fullShare x124 ∗ (owns (c : Thread nD τ) arg126 fullShare x124 -∗ P A B)))
    (g127 : ∀ A B, P A B ⊢ iprop(owns (c : Thread nD τ) arg127 fullShare x125 ∗ (owns (c : Thread nD τ) arg127 fullShare x125 -∗ P A B)))
    (g128 : ∀ A B, P A B ⊢ iprop(owns (c : Thread nD τ) arg128 fullShare x126 ∗ (owns (c : Thread nD τ) arg128 fullShare x126 -∗ P A B)))
    (g129 : ∀ A B, P A B ⊢ iprop(owns (c : Thread nD τ) arg129 fullShare x127 ∗ (owns (c : Thread nD τ) arg129 fullShare x127 -∗ P A B)))
    (g130 : ∀ A B, P A B ⊢ iprop(owns (c : Thread nD τ) arg130 fullShare x128 ∗ (owns (c : Thread nD τ) arg130 fullShare x128 -∗ P A B)))
    (g131 : ∀ A B, P A B ⊢ iprop(owns (c : Thread nD τ) arg131 fullShare x129 ∗ (owns (c : Thread nD τ) arg131 fullShare x129 -∗ P A B)))
    (g132 : ∀ A B, P A B ⊢ iprop(owns (c : Thread nD τ) arg132 fullShare x130 ∗ (owns (c : Thread nD τ) arg132 fullShare x130 -∗ P A B)))
    (g133 : ∀ A B, P A B ⊢ iprop(owns (c : Thread nD τ) arg133 fullShare x131 ∗ (owns (c : Thread nD τ) arg133 fullShare x131 -∗ P A B)))
    (o134 : ∀ B, P iprop(∃ d, owns (c : Thread nD τ) arg134 fullShare d) B ⊢ iprop((∃ d, owns (c : Thread nD τ) arg134 fullShare d) ∗ ((∃ d, owns (c : Thread nD τ) arg134 fullShare d) -∗ P iprop(∃ d, owns (c : Thread nD τ) arg134 fullShare d) B)))
    (o135 : ∀ A, P A iprop(∃ d, owns (c : Thread nD τ) arg135 fullShare d) ⊢ iprop((∃ d, owns (c : Thread nD τ) arg135 fullShare d) ∗ ((∃ d, owns (c : Thread nD τ) arg135 fullShare d) -∗ P A iprop(∃ d, owns (c : Thread nD τ) arg135 fullShare d))))
    (s134 : ∀ A' B, P iprop(∃ d, owns (c : Thread nD τ) arg134 fullShare d) B ⊢ iprop((∃ d, owns (c : Thread nD τ) arg134 fullShare d) ∗ (A' -∗ P A' B)))
    (s135 : ∀ A B', P A iprop(∃ d, owns (c : Thread nD τ) arg135 fullShare d) ⊢ iprop((∃ d, owns (c : Thread nD τ) arg135 fullShare d) ∗ (B' -∗ P A B'))) :
    Does defs₀ (c : Thread nD τ) (P iprop(∃ d, owns (c : Thread nD τ) arg134 fullShare d) iprop(∃ d, owns (c : Thread nD τ) arg135 fullShare d))
      (cc0__proj_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 arg73 harg73 arg74 harg74 arg75 harg75 arg76 harg76 arg77 harg77 arg78 harg78 arg79 harg79 arg80 harg80 arg81 harg81 arg82 harg82 arg83 harg83 arg84 harg84 arg85 harg85 arg86 harg86 arg87 harg87 arg88 harg88 arg89 harg89 arg90 harg90 arg91 harg91 arg92 harg92 arg93 harg93 arg94 harg94 arg95 harg95 arg96 harg96 arg97 harg97 arg98 harg98 arg99 harg99 arg100 harg100 arg101 harg101 arg102 harg102 arg103 harg103 arg104 harg104 arg105 harg105 arg106 harg106 arg107 harg107 arg108 harg108 arg109 harg109 arg110 harg110 arg111 harg111 arg112 harg112 arg113 harg113 arg114 harg114 arg115 harg115 arg116 harg116 arg117 harg117 arg118 harg118 arg119 harg119 arg120 harg120 arg121 harg121 arg122 harg122 arg123 harg123 arg124 harg124 arg125 harg125 arg126 harg126 arg127 harg127 arg128 harg128 arg129 harg129 arg130 harg130 arg131 harg131 arg132 harg132 arg133 harg133 arg134 harg134 arg135 harg135) ⟨⟩
      (P (owns (c : Thread nD τ) arg134 fullShare (Own.sideBlock x0 x1 ![x4, x6, x8, x10, x12, x14, x16, x18, x20, x22, x24, x26, x28, x30, x32, x34, x36, x38, x40, x42, x44, x46, x48, x50, x52, x54, x56, x58, x60, x62, x64, x66, x68, x70, x72, x74, x76, x78, x80, x82, x84, x86, x88, x90, x92, x94, x96, x98, x100, x102, x104, x106, x108, x110, x112, x114, x116, x118, x120, x122, x124, x126, x128, x130]))
        (owns (c : Thread nD τ) arg135 fullShare (Own.sideBlock x2 x3 ![x5, x7, x9, x11, x13, x15, x17, x19, x21, x23, x25, x27, x29, x31, x33, x35, x37, x39, x41, x43, x45, x47, x49, x51, x53, x55, x57, x59, x61, x63, x65, x67, x69, x71, x73, x75, x77, x79, x81, x83, x85, x87, x89, x91, x93, x95, x97, x99, x101, x103, x105, x107, x109, x111, x113, x115, x117, x119, x121, x123, x125, x127, x129, x131]))) := by
  simp only [cc0__proj_kernel_eq_skeleton]; unfold cc0__proj_kernel_skel
  eapply Does.bind (Q := P (owns (c : Thread nD τ) arg134 fullShare (Own.sideBlock x0 x1 ![x4, x6, x8, x10, x12, x14, x16, x18, x20, x22, x24, x26, x28, x30, x32, x34, x36, x38, x40, x42, x44, x46, x48, x50, x52, x54, x56, x58, x60, x62, x64, x66, x68, x70, x72, x74, x76, x78, x80, x82, x84, x86, x88, x90, x92, x94, x96, x98, x100, x102, x104, x106, x108, x110, x112, x114, x116, x118, x120, x122, x124, x126, x128, x130])) iprop(∃ d, owns (c : Thread nD τ) arg135 fullShare d))
  · simp only [k0_part22_eq_skeleton]; unfold k0_part22_skel
    eapply Does.same
    · simp only [k0_part1_eq_skeleton]; unfold k0_part1_skel
      eapply Does.bind (Does.load (g2 _ _) _ _)
      eapply Does.bind (Does.load (g6 _ _) _ _)
      eapply Does.bind (Does.load (g2 _ _) _ _)
      eapply Does.bind (Does.load (g8 _ _) _ _)
      eapply Does.bind (Does.load (g2 _ _) _ _)
      eapply Does.bind (Does.load (g10 _ _) _ _)
      eapply Does.bind (Does.load (g2 _ _) _ _)
      eapply Does.bind (Does.load (g12 _ _) _ _)
      eapply Does.bind (Does.load (g2 _ _) _ _)
      eapply Does.bind (Does.load (g14 _ _) _ _)
      eapply Does.bind (Does.load (g2 _ _) _ _)
      eapply Does.bind (Does.load (g16 _ _) _ _)
      dsimp only
      exact Does.pure _
    eapply Does.same
    · simp only [k0_part2_eq_skeleton]; unfold k0_part2_skel
      eapply Does.bind (Does.load (g2 _ _) _ _)
      eapply Does.bind (Does.load (g18 _ _) _ _)
      eapply Does.bind (Does.load (g2 _ _) _ _)
      eapply Does.bind (Does.load (g20 _ _) _ _)
      eapply Does.bind (Does.load (g2 _ _) _ _)
      eapply Does.bind (Does.load (g22 _ _) _ _)
      eapply Does.bind (Does.load (g2 _ _) _ _)
      eapply Does.bind (Does.load (g24 _ _) _ _)
      eapply Does.bind (Does.load (g2 _ _) _ _)
      eapply Does.bind (Does.load (g26 _ _) _ _)
      eapply Does.bind (Does.load (g2 _ _) _ _)
      eapply Does.bind (Does.load (g28 _ _) _ _)
      dsimp only
      exact Does.pure _
    eapply Does.same
    · simp only [k0_part3_eq_skeleton]; unfold k0_part3_skel
      eapply Does.bind (Does.load (g2 _ _) _ _)
      eapply Does.bind (Does.load (g30 _ _) _ _)
      eapply Does.bind (Does.load (g2 _ _) _ _)
      eapply Does.bind (Does.load (g32 _ _) _ _)
      eapply Does.bind (Does.load (g2 _ _) _ _)
      eapply Does.bind (Does.load (g34 _ _) _ _)
      eapply Does.bind (Does.load (g2 _ _) _ _)
      eapply Does.bind (Does.load (g36 _ _) _ _)
      eapply Does.bind (Does.load (g2 _ _) _ _)
      eapply Does.bind (Does.load (g38 _ _) _ _)
      eapply Does.bind (Does.load (g2 _ _) _ _)
      eapply Does.bind (Does.load (g40 _ _) _ _)
      dsimp only
      exact Does.pure _
    eapply Does.same
    · simp only [k0_part4_eq_skeleton]; unfold k0_part4_skel
      eapply Does.bind (Does.load (g2 _ _) _ _)
      eapply Does.bind (Does.load (g42 _ _) _ _)
      eapply Does.bind (Does.load (g2 _ _) _ _)
      eapply Does.bind (Does.load (g44 _ _) _ _)
      eapply Does.bind (Does.load (g2 _ _) _ _)
      eapply Does.bind (Does.load (g46 _ _) _ _)
      eapply Does.bind (Does.load (g2 _ _) _ _)
      eapply Does.bind (Does.load (g48 _ _) _ _)
      eapply Does.bind (Does.load (g2 _ _) _ _)
      eapply Does.bind (Does.load (g50 _ _) _ _)
      eapply Does.bind (Does.load (g2 _ _) _ _)
      eapply Does.bind (Does.load (g52 _ _) _ _)
      dsimp only
      exact Does.pure _
    eapply Does.same
    · simp only [k0_part5_eq_skeleton]; unfold k0_part5_skel
      eapply Does.bind (Does.load (g2 _ _) _ _)
      eapply Does.bind (Does.load (g54 _ _) _ _)
      eapply Does.bind (Does.load (g2 _ _) _ _)
      eapply Does.bind (Does.load (g56 _ _) _ _)
      eapply Does.bind (Does.load (g2 _ _) _ _)
      eapply Does.bind (Does.load (g58 _ _) _ _)
      eapply Does.bind (Does.load (g2 _ _) _ _)
      eapply Does.bind (Does.load (g60 _ _) _ _)
      eapply Does.bind (Does.load (g2 _ _) _ _)
      eapply Does.bind (Does.load (g62 _ _) _ _)
      eapply Does.bind (Does.load (g2 _ _) _ _)
      eapply Does.bind (Does.load (g64 _ _) _ _)
      dsimp only
      exact Does.pure _
    eapply Does.same
    · simp only [k0_part6_eq_skeleton]; unfold k0_part6_skel
      eapply Does.bind (Does.load (g2 _ _) _ _)
      eapply Does.bind (Does.load (g66 _ _) _ _)
      eapply Does.bind (Does.load (g2 _ _) _ _)
      eapply Does.bind (Does.load (g68 _ _) _ _)
      eapply Does.bind (Does.load (g2 _ _) _ _)
      eapply Does.bind (Does.load (g70 _ _) _ _)
      eapply Does.bind (Does.load (g2 _ _) _ _)
      eapply Does.bind (Does.load (g72 _ _) _ _)
      eapply Does.bind (Does.load (g2 _ _) _ _)
      eapply Does.bind (Does.load (g74 _ _) _ _)
      eapply Does.bind (Does.load (g2 _ _) _ _)
      eapply Does.bind (Does.load (g76 _ _) _ _)
      dsimp only
      exact Does.pure _
    eapply Does.same
    · simp only [k0_part7_eq_skeleton]; unfold k0_part7_skel
      eapply Does.bind (Does.load (g2 _ _) _ _)
      eapply Does.bind (Does.load (g78 _ _) _ _)
      eapply Does.bind (Does.load (g2 _ _) _ _)
      eapply Does.bind (Does.load (g80 _ _) _ _)
      eapply Does.bind (Does.load (g2 _ _) _ _)
      eapply Does.bind (Does.load (g82 _ _) _ _)
      eapply Does.bind (Does.load (g2 _ _) _ _)
      eapply Does.bind (Does.load (g84 _ _) _ _)
      eapply Does.bind (Does.load (g2 _ _) _ _)
      eapply Does.bind (Does.load (g86 _ _) _ _)
      eapply Does.bind (Does.load (g2 _ _) _ _)
      eapply Does.bind (Does.load (g88 _ _) _ _)
      dsimp only
      exact Does.pure _
    eapply Does.same
    · simp only [k0_part8_eq_skeleton]; unfold k0_part8_skel
      eapply Does.bind (Does.load (g2 _ _) _ _)
      eapply Does.bind (Does.load (g90 _ _) _ _)
      eapply Does.bind (Does.load (g2 _ _) _ _)
      eapply Does.bind (Does.load (g92 _ _) _ _)
      eapply Does.bind (Does.load (g2 _ _) _ _)
      eapply Does.bind (Does.load (g94 _ _) _ _)
      eapply Does.bind (Does.load (g2 _ _) _ _)
      eapply Does.bind (Does.load (g96 _ _) _ _)
      eapply Does.bind (Does.load (g2 _ _) _ _)
      eapply Does.bind (Does.load (g98 _ _) _ _)
      eapply Does.bind (Does.load (g2 _ _) _ _)
      eapply Does.bind (Does.load (g100 _ _) _ _)
      dsimp only
      exact Does.pure _
    eapply Does.same
    · simp only [k0_part9_eq_skeleton]; unfold k0_part9_skel
      eapply Does.bind (Does.load (g2 _ _) _ _)
      eapply Does.bind (Does.load (g102 _ _) _ _)
      eapply Does.bind (Does.load (g2 _ _) _ _)
      eapply Does.bind (Does.load (g104 _ _) _ _)
      eapply Does.bind (Does.load (g2 _ _) _ _)
      eapply Does.bind (Does.load (g106 _ _) _ _)
      eapply Does.bind (Does.load (g2 _ _) _ _)
      eapply Does.bind (Does.load (g108 _ _) _ _)
      eapply Does.bind (Does.load (g2 _ _) _ _)
      eapply Does.bind (Does.load (g110 _ _) _ _)
      eapply Does.bind (Does.load (g2 _ _) _ _)
      eapply Does.bind (Does.load (g112 _ _) _ _)
      dsimp only
      exact Does.pure _
    eapply Does.same
    · simp only [k0_part10_eq_skeleton]; unfold k0_part10_skel
      eapply Does.bind (Does.load (g2 _ _) _ _)
      eapply Does.bind (Does.load (g114 _ _) _ _)
      eapply Does.bind (Does.load (g2 _ _) _ _)
      eapply Does.bind (Does.load (g116 _ _) _ _)
      eapply Does.bind (Does.load (g2 _ _) _ _)
      eapply Does.bind (Does.load (g118 _ _) _ _)
      eapply Does.bind (Does.load (g2 _ _) _ _)
      eapply Does.bind (Does.load (g120 _ _) _ _)
      eapply Does.bind (Does.load (g2 _ _) _ _)
      eapply Does.bind (Does.load (g122 _ _) _ _)
      eapply Does.bind (Does.load (g2 _ _) _ _)
      eapply Does.bind (Does.load (g124 _ _) _ _)
      dsimp only
      exact Does.pure _
    eapply Does.bind (v := PUnit.unit) (Q := P (owns (c : Thread nD τ) arg134 fullShare (Own.sideBlock x0 x1 ![x4, x6, x8, x10, x12, x14, x16, x18, x20, x22, x24, x26, x28, x30, x32, x34, x36, x38, x40, x42, x44, x46, x48, x50, x52, x54, x56, x58, x60, x62, x64, x66, x68, x70, x72, x74, x76, x78, x80, x82, x84, x86, x88, x90, x92, x94, x96, x98, x100, x102, x104, x106, x108, x110, x112, x114, x116, x118, x120, x122, x124, x126, x128, x130])) iprop(∃ d, owns (c : Thread nD τ) arg135 fullShare d))
    · simp only [k0_part11_eq_skeleton]; unfold k0_part11_skel
      refine Does.bind (Does.load (g2 _ _) _ _) ?_
      refine Does.bind (Does.load (g126 _ _) _ _) ?_
      refine Does.bind (Does.load (g2 _ _) _ _) ?_
      refine Does.bind (Does.load (g128 _ _) _ _) ?_
      refine Does.bind (Does.load (g2 _ _) _ _) ?_
      refine Does.bind (Does.load (g130 _ _) _ _) ?_
      refine Does.bind (Does.load (g2 _ _) _ _) ?_
      refine Does.bind (Does.load (g132 _ _) _ _) ?_
      refine Does.bind (Does.load (g3 _ _) _ _) ?_
      refine Does.skip (o134 _) _ _ ?_
      refine Does.bind (Does.store _ (s134 _ _) _ _) ?_
      refine Does.of_eq ?_ (Does.pure _); rw [← Own.sideBlock_read x0 x1]; chain_rfl
    eapply Does.same
    · simp only [k0_part12_eq_skeleton]; unfold k0_part12_skel
      eapply Does.bind (Does.load (g4 _ _) _ _)
      eapply Does.bind (Does.load (g7 _ _) _ _)
      eapply Does.bind (Does.load (g4 _ _) _ _)
      eapply Does.bind (Does.load (g9 _ _) _ _)
      eapply Does.bind (Does.load (g4 _ _) _ _)
      eapply Does.bind (Does.load (g11 _ _) _ _)
      eapply Does.bind (Does.load (g4 _ _) _ _)
      eapply Does.bind (Does.load (g13 _ _) _ _)
      eapply Does.bind (Does.load (g4 _ _) _ _)
      eapply Does.bind (Does.load (g15 _ _) _ _)
      eapply Does.bind (Does.load (g4 _ _) _ _)
      eapply Does.bind (Does.load (g17 _ _) _ _)
      exact Does.pure _
    eapply Does.same
    · simp only [k0_part13_eq_skeleton]; unfold k0_part13_skel
      eapply Does.bind (Does.load (g4 _ _) _ _)
      eapply Does.bind (Does.load (g19 _ _) _ _)
      eapply Does.bind (Does.load (g4 _ _) _ _)
      eapply Does.bind (Does.load (g21 _ _) _ _)
      eapply Does.bind (Does.load (g4 _ _) _ _)
      eapply Does.bind (Does.load (g23 _ _) _ _)
      eapply Does.bind (Does.load (g4 _ _) _ _)
      eapply Does.bind (Does.load (g25 _ _) _ _)
      eapply Does.bind (Does.load (g4 _ _) _ _)
      eapply Does.bind (Does.load (g27 _ _) _ _)
      eapply Does.bind (Does.load (g4 _ _) _ _)
      eapply Does.bind (Does.load (g29 _ _) _ _)
      exact Does.pure _
    eapply Does.same
    · simp only [k0_part14_eq_skeleton]; unfold k0_part14_skel
      eapply Does.bind (Does.load (g4 _ _) _ _)
      eapply Does.bind (Does.load (g31 _ _) _ _)
      eapply Does.bind (Does.load (g4 _ _) _ _)
      eapply Does.bind (Does.load (g33 _ _) _ _)
      eapply Does.bind (Does.load (g4 _ _) _ _)
      eapply Does.bind (Does.load (g35 _ _) _ _)
      eapply Does.bind (Does.load (g4 _ _) _ _)
      eapply Does.bind (Does.load (g37 _ _) _ _)
      eapply Does.bind (Does.load (g4 _ _) _ _)
      eapply Does.bind (Does.load (g39 _ _) _ _)
      eapply Does.bind (Does.load (g4 _ _) _ _)
      eapply Does.bind (Does.load (g41 _ _) _ _)
      exact Does.pure _
    eapply Does.same
    · simp only [k0_part15_eq_skeleton]; unfold k0_part15_skel
      eapply Does.bind (Does.load (g4 _ _) _ _)
      eapply Does.bind (Does.load (g43 _ _) _ _)
      eapply Does.bind (Does.load (g4 _ _) _ _)
      eapply Does.bind (Does.load (g45 _ _) _ _)
      eapply Does.bind (Does.load (g4 _ _) _ _)
      eapply Does.bind (Does.load (g47 _ _) _ _)
      eapply Does.bind (Does.load (g4 _ _) _ _)
      eapply Does.bind (Does.load (g49 _ _) _ _)
      eapply Does.bind (Does.load (g4 _ _) _ _)
      eapply Does.bind (Does.load (g51 _ _) _ _)
      eapply Does.bind (Does.load (g4 _ _) _ _)
      eapply Does.bind (Does.load (g53 _ _) _ _)
      exact Does.pure _
    eapply Does.same
    · simp only [k0_part16_eq_skeleton]; unfold k0_part16_skel
      eapply Does.bind (Does.load (g4 _ _) _ _)
      eapply Does.bind (Does.load (g55 _ _) _ _)
      eapply Does.bind (Does.load (g4 _ _) _ _)
      eapply Does.bind (Does.load (g57 _ _) _ _)
      eapply Does.bind (Does.load (g4 _ _) _ _)
      eapply Does.bind (Does.load (g59 _ _) _ _)
      eapply Does.bind (Does.load (g4 _ _) _ _)
      eapply Does.bind (Does.load (g61 _ _) _ _)
      eapply Does.bind (Does.load (g4 _ _) _ _)
      eapply Does.bind (Does.load (g63 _ _) _ _)
      eapply Does.bind (Does.load (g4 _ _) _ _)
      eapply Does.bind (Does.load (g65 _ _) _ _)
      exact Does.pure _
    eapply Does.same
    · simp only [k0_part17_eq_skeleton]; unfold k0_part17_skel
      eapply Does.bind (Does.load (g4 _ _) _ _)
      eapply Does.bind (Does.load (g67 _ _) _ _)
      eapply Does.bind (Does.load (g4 _ _) _ _)
      eapply Does.bind (Does.load (g69 _ _) _ _)
      eapply Does.bind (Does.load (g4 _ _) _ _)
      eapply Does.bind (Does.load (g71 _ _) _ _)
      eapply Does.bind (Does.load (g4 _ _) _ _)
      eapply Does.bind (Does.load (g73 _ _) _ _)
      eapply Does.bind (Does.load (g4 _ _) _ _)
      eapply Does.bind (Does.load (g75 _ _) _ _)
      eapply Does.bind (Does.load (g4 _ _) _ _)
      eapply Does.bind (Does.load (g77 _ _) _ _)
      exact Does.pure _
    eapply Does.same
    · simp only [k0_part18_eq_skeleton]; unfold k0_part18_skel
      eapply Does.bind (Does.load (g4 _ _) _ _)
      eapply Does.bind (Does.load (g79 _ _) _ _)
      eapply Does.bind (Does.load (g4 _ _) _ _)
      eapply Does.bind (Does.load (g81 _ _) _ _)
      eapply Does.bind (Does.load (g4 _ _) _ _)
      eapply Does.bind (Does.load (g83 _ _) _ _)
      eapply Does.bind (Does.load (g4 _ _) _ _)
      eapply Does.bind (Does.load (g85 _ _) _ _)
      eapply Does.bind (Does.load (g4 _ _) _ _)
      eapply Does.bind (Does.load (g87 _ _) _ _)
      eapply Does.bind (Does.load (g4 _ _) _ _)
      eapply Does.bind (Does.load (g89 _ _) _ _)
      exact Does.pure _
    eapply Does.same
    · simp only [k0_part19_eq_skeleton]; unfold k0_part19_skel
      eapply Does.bind (Does.load (g4 _ _) _ _)
      eapply Does.bind (Does.load (g91 _ _) _ _)
      eapply Does.bind (Does.load (g4 _ _) _ _)
      eapply Does.bind (Does.load (g93 _ _) _ _)
      eapply Does.bind (Does.load (g4 _ _) _ _)
      eapply Does.bind (Does.load (g95 _ _) _ _)
      eapply Does.bind (Does.load (g4 _ _) _ _)
      eapply Does.bind (Does.load (g97 _ _) _ _)
      eapply Does.bind (Does.load (g4 _ _) _ _)
      eapply Does.bind (Does.load (g99 _ _) _ _)
      eapply Does.bind (Does.load (g4 _ _) _ _)
      eapply Does.bind (Does.load (g101 _ _) _ _)
      exact Does.pure _
    eapply Does.same
    · simp only [k0_part20_eq_skeleton]; unfold k0_part20_skel
      eapply Does.bind (Does.load (g4 _ _) _ _)
      eapply Does.bind (Does.load (g103 _ _) _ _)
      eapply Does.bind (Does.load (g4 _ _) _ _)
      eapply Does.bind (Does.load (g105 _ _) _ _)
      eapply Does.bind (Does.load (g4 _ _) _ _)
      eapply Does.bind (Does.load (g107 _ _) _ _)
      eapply Does.bind (Does.load (g4 _ _) _ _)
      eapply Does.bind (Does.load (g109 _ _) _ _)
      eapply Does.bind (Does.load (g4 _ _) _ _)
      eapply Does.bind (Does.load (g111 _ _) _ _)
      eapply Does.bind (Does.load (g4 _ _) _ _)
      eapply Does.bind (Does.load (g113 _ _) _ _)
      exact Does.pure _
    eapply Does.same
    · simp only [k0_part21_eq_skeleton]; unfold k0_part21_skel
      eapply Does.bind (Does.load (g4 _ _) _ _)
      eapply Does.bind (Does.load (g115 _ _) _ _)
      eapply Does.bind (Does.load (g4 _ _) _ _)
      eapply Does.bind (Does.load (g117 _ _) _ _)
      eapply Does.bind (Does.load (g4 _ _) _ _)
      eapply Does.bind (Does.load (g119 _ _) _ _)
      eapply Does.bind (Does.load (g4 _ _) _ _)
      eapply Does.bind (Does.load (g121 _ _) _ _)
      eapply Does.bind (Does.load (g4 _ _) _ _)
      eapply Does.bind (Does.load (g123 _ _) _ _)
      eapply Does.bind (Does.load (g4 _ _) _ _)
      eapply Does.bind (Does.load (g125 _ _) _ _)
      exact Does.pure _
    eapply Does.bind (Does.load (g4 _ _) _ _)
    eapply Does.bind (Does.load (g127 _ _) _ _)
    eapply Does.bind (Does.load (g4 _ _) _ _)
    eapply Does.bind (Does.load (g129 _ _) _ _)
    eapply Does.bind (Does.load (g4 _ _) _ _)
    eapply Does.bind (Does.load (g131 _ _) _ _)
    eapply Does.bind (Does.load (g4 _ _) _ _)
    eapply Does.bind (Does.load (g133 _ _) _ _)
    exact Does.pure _
  dsimp only
  refine Does.bind (Does.load (g5 _ _) _ _) ?_
  refine Does.skip (o135 _) _ _ ?_
  refine Does.bind (Does.store _ (s135 _ _) _ _) ?_
  refine Does.of_eq ?_ (Does.pure _)
  rw [← Own.sideBlock_read x2 x3]
  chain_rfl

end Cert.ProjIdeal.Call

end
-- ==== Proof.Call.Runs.lean ====
module

public import proofs.«01_k».proof.Proof.Call.Launch
public import proofs.«01_k».proof.Proof.Gen.ProjIdeal.Skeleton
public import proofs.«01_k».proof.Proof.Gen.ProjIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ProjIdeal.Call

open Cert.ProjIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s buffers when the call starts: after the host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The host operations before the call, then the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The table's contents when the call starts. -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The table's words keep every window's block inside its array, at every grid point. -/
abbrev Ok : Prop := ok0 (F := F) (tbl m)
/-- The pipeline at those contents. -/
abbrev adm (hO : Ok m) : (pcfg0 (F := F)).Adm := ⟨tbl m, hO⟩
abbrev cfgM (hO : Ok m) : Pipeline.Cfg sig Λ₀ := cfg0 (adm m hO)

/-- The table as the body is handed it: its whole buffer as a memref, and that memref's wholeness. -/
abbrev tbM0_0 : Memref sig .tc .smem S2x1408 .i32 := Memref.whole main_arg0
abbrev htbM0_0 : tbM0_0.IsWhole := Memref.isWhole_whole _

/-- The table's buffer on core `c`, held at half the full share at `f`; the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The half of the table the body is handed. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's current staging buffer holds its block at every point, fetched there or not, for any proof data whose
    array is the region's and whose body leaves the block in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of (hO : Ok m) {c : Dev nD} (dat : Dat τ (Elt F) Unit ℕ (UR sig nD τ) ℕ (cfgM m hO) c) (hA : dat.A 11 = V m c (Pipeline.arrRef spec0 11))
    (hafter : ∀ t, dat.after 11 t = iblk m hO c 11 t) (t : Fin (cfgM m hO).N) (d) : dat.before 11 t d = iblk m hO c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of (hO : Ok m) {c : Dev nD} (dat : Dat τ (Elt F) Unit ℕ (UR sig nD τ) ℕ (cfgM m hO) c) (hA : dat.A 12 = V m c (Pipeline.arrRef spec0 12))
    (hafter : ∀ t, dat.after 12 t = iblk m hO c 12 t) (t : Fin (cfgM m hO).N) (d) : dat.before 12 t d = iblk m hO c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of (hO : Ok m) {c : Dev nD} (dat : Dat τ (Elt F) Unit ℕ (UR sig nD τ) ℕ (cfgM m hO) c) (hA : dat.A 13 = V m c (Pipeline.arrRef spec0 13))
    (hafter : ∀ t, dat.after 13 t = iblk m hO c 13 t) (t : Fin (cfgM m hO).N) (d) : dat.before 13 t d = iblk m hO c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of (hO : Ok m) {c : Dev nD} (dat : Dat τ (Elt F) Unit ℕ (UR sig nD τ) ℕ (cfgM m hO) c) (hA : dat.A 14 = V m c (Pipeline.arrRef spec0 14))
    (hafter : ∀ t, dat.after 14 t = iblk m hO c 14 t) (t : Fin (cfgM m hO).N) (d) : dat.before 14 t d = iblk m hO c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of (hO : Ok m) {c : Dev nD} (dat : Dat τ (Elt F) Unit ℕ (UR sig nD τ) ℕ (cfgM m hO) c) (hA : dat.A 15 = V m c (Pipeline.arrRef spec0 15))
    (hafter : ∀ t, dat.after 15 t = iblk m hO c 15 t) (t : Fin (cfgM m hO).N) (d) : dat.before 15 t d = iblk m hO c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of (hO : Ok m) {c : Dev nD} (dat : Dat τ (Elt F) Unit ℕ (UR sig nD τ) ℕ (cfgM m hO) c) (hA : dat.A 16 = V m c (Pipeline.arrRef spec0 16))
    (hafter : ∀ t, dat.after 16 t = iblk m hO c 16 t) (t : Fin (cfgM m hO).N) (d) : dat.before 16 t d = iblk m hO c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of (hO : Ok m) {c : Dev nD} (dat : Dat τ (Elt F) Unit ℕ (UR sig nD τ) ℕ (cfgM m hO) c) (hA : dat.A 17 = V m c (Pipeline.arrRef spec0 17))
    (hafter : ∀ t, dat.after 17 t = iblk m hO c 17 t) (t : Fin (cfgM m hO).N) (d) : dat.before 17 t d = iblk m hO c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of (hO : Ok m) {c : Dev nD} (dat : Dat τ (Elt F) Unit ℕ (UR sig nD τ) ℕ (cfgM m hO) c) (hA : dat.A 18 = V m c (Pipeline.arrRef spec0 18))
    (hafter : ∀ t, dat.after 18 t = iblk m hO c 18 t) (t : Fin (cfgM m hO).N) (d) : dat.before 18 t d = iblk m hO c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of (hO : Ok m) {c : Dev nD} (dat : Dat τ (Elt F) Unit ℕ (UR sig nD τ) ℕ (cfgM m hO) c) (hA : dat.A 19 = V m c (Pipeline.arrRef spec0 19))
    (hafter : ∀ t, dat.after 19 t = iblk m hO c 19 t) (t : Fin (cfgM m hO).N) (d) : dat.before 19 t d = iblk m hO c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before0_20_of (hO : Ok m) {c : Dev nD} (dat : Dat τ (Elt F) Unit ℕ (UR sig nD τ) ℕ (cfgM m hO) c) (hA : dat.A 20 = V m c (Pipeline.arrRef spec0 20))
    (hafter : ∀ t, dat.after 20 t = iblk m hO c 20 t) (t : Fin (cfgM m hO).N) (d) : dat.before 20 t d = iblk m hO c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
theorem before0_21_of (hO : Ok m) {c : Dev nD} (dat : Dat τ (Elt F) Unit ℕ (UR sig nD τ) ℕ (cfgM m hO) c) (hA : dat.A 21 = V m c (Pipeline.arrRef spec0 21))
    (hafter : ∀ t, dat.after 21 t = iblk m hO c 21 t) (t : Fin (cfgM m hO).N) (d) : dat.before 21 t d = iblk m hO c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
theorem before0_22_of (hO : Ok m) {c : Dev nD} (dat : Dat τ (Elt F) Unit ℕ (UR sig nD τ) ℕ (cfgM m hO) c) (hA : dat.A 22 = V m c (Pipeline.arrRef spec0 22))
    (hafter : ∀ t, dat.after 22 t = iblk m hO c 22 t) (t : Fin (cfgM m hO).N) (d) : dat.before 22 t d = iblk m hO c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
theorem before0_23_of (hO : Ok m) {c : Dev nD} (dat : Dat τ (Elt F) Unit ℕ (UR sig nD τ) ℕ (cfgM m hO) c) (hA : dat.A 23 = V m c (Pipeline.arrRef spec0 23))
    (hafter : ∀ t, dat.after 23 t = iblk m hO c 23 t) (t : Fin (cfgM m hO).N) (d) : dat.before 23 t d = iblk m hO c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
theorem before0_24_of (hO : Ok m) {c : Dev nD} (dat : Dat τ (Elt F) Unit ℕ (UR sig nD τ) ℕ (cfgM m hO) c) (hA : dat.A 24 = V m c (Pipeline.arrRef spec0 24))
    (hafter : ∀ t, dat.after 24 t = iblk m hO c 24 t) (t : Fin (cfgM m hO).N) (d) : dat.before 24 t d = iblk m hO c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
theorem before0_25_of (hO : Ok m) {c : Dev nD} (dat : Dat τ (Elt F) Unit ℕ (UR sig nD τ) ℕ (cfgM m hO) c) (hA : dat.A 25 = V m c (Pipeline.arrRef spec0 25))
    (hafter : ∀ t, dat.after 25 t = iblk m hO c 25 t) (t : Fin (cfgM m hO).N) (d) : dat.before 25 t d = iblk m hO c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)
theorem before0_26_of (hO : Ok m) {c : Dev nD} (dat : Dat τ (Elt F) Unit ℕ (UR sig nD τ) ℕ (cfgM m hO) c) (hA : dat.A 26 = V m c (Pipeline.arrRef spec0 26))
    (hafter : ∀ t, dat.after 26 t = iblk m hO c 26 t) (t : Fin (cfgM m hO).N) (d) : dat.before 26 t d = iblk m hO c 26 t :=
  (dat.before_in_eq_fetched 26 rfl (fun _ => rfl) (fun _ _ _ => rfl) (fun t => by rw [hafter]; unfold Dat.blockOf iblk; rw [hA]; try rfl) t d).trans
    (by unfold Dat.fetched Dat.blockOf iblk; rw [hA]; try rfl)
theorem before0_27_of (hO : Ok m) {c : Dev nD} (dat : Dat τ (Elt F) Unit ℕ (UR sig nD τ) ℕ (cfgM m hO) c) (hA : dat.A 27 = V m c (Pipeline.arrRef spec0 27))
    (hafter : ∀ t, dat.after 27 t = iblk m hO c 27 t) (t : Fin (cfgM m hO).N) (d) : dat.before 27 t d = iblk m hO c 27 t :=
  (dat.before_in_eq_fetched 27 rfl (fun _ => rfl) (fun _ _ _ => rfl) (fun t => by rw [hafter]; unfold Dat.blockOf iblk; rw [hA]; try rfl) t d).trans
    (by unfold Dat.fetched Dat.blockOf iblk; rw [hA]; try rfl)
theorem before0_28_of (hO : Ok m) {c : Dev nD} (dat : Dat τ (Elt F) Unit ℕ (UR sig nD τ) ℕ (cfgM m hO) c) (hA : dat.A 28 = V m c (Pipeline.arrRef spec0 28))
    (hafter : ∀ t, dat.after 28 t = iblk m hO c 28 t) (t : Fin (cfgM m hO).N) (d) : dat.before 28 t d = iblk m hO c 28 t :=
  (dat.before_in_eq_fetched 28 rfl (fun _ => rfl) (fun _ _ _ => rfl) (fun t => by rw [hafter]; unfold Dat.blockOf iblk; rw [hA]; try rfl) t d).trans
    (by unfold Dat.fetched Dat.blockOf iblk; rw [hA]; try rfl)
theorem before0_29_of (hO : Ok m) {c : Dev nD} (dat : Dat τ (Elt F) Unit ℕ (UR sig nD τ) ℕ (cfgM m hO) c) (hA : dat.A 29 = V m c (Pipeline.arrRef spec0 29))
    (hafter : ∀ t, dat.after 29 t = iblk m hO c 29 t) (t : Fin (cfgM m hO).N) (d) : dat.before 29 t d = iblk m hO c 29 t :=
  (dat.before_in_eq_fetched 29 rfl (fun _ => rfl) (fun _ _ _ => rfl) (fun t => by rw [hafter]; unfold Dat.blockOf iblk; rw [hA]; try rfl) t d).trans
    (by unfold Dat.fetched Dat.blockOf iblk; rw [hA]; try rfl)
theorem before0_30_of (hO : Ok m) {c : Dev nD} (dat : Dat τ (Elt F) Unit ℕ (UR sig nD τ) ℕ (cfgM m hO) c) (hA : dat.A 30 = V m c (Pipeline.arrRef spec0 30))
    (hafter : ∀ t, dat.after 30 t = iblk m hO c 30 t) (t : Fin (cfgM m hO).N) (d) : dat.before 30 t d = iblk m hO c 30 t :=
  (dat.before_in_eq_fetched 30 rfl (fun _ => rfl) (fun _ _ _ => rfl) (fun t => by rw [hafter]; unfold Dat.blockOf iblk; rw [hA]; try rfl) t d).trans
    (by unfold Dat.fetched Dat.blockOf iblk; rw [hA]; try rfl)
theorem before0_31_of (hO : Ok m) {c : Dev nD} (dat : Dat τ (Elt F) Unit ℕ (UR sig nD τ) ℕ (cfgM m hO) c) (hA : dat.A 31 = V m c (Pipeline.arrRef spec0 31))
    (hafter : ∀ t, dat.after 31 t = iblk m hO c 31 t) (t : Fin (cfgM m hO).N) (d) : dat.before 31 t d = iblk m hO c 31 t :=
  (dat.before_in_eq_fetched 31 rfl (fun _ => rfl) (fun _ _ _ => rfl) (fun t => by rw [hafter]; unfold Dat.blockOf iblk; rw [hA]; try rfl) t d).trans
    (by unfold Dat.fetched Dat.blockOf iblk; rw [hA]; try rfl)
theorem before0_32_of (hO : Ok m) {c : Dev nD} (dat : Dat τ (Elt F) Unit ℕ (UR sig nD τ) ℕ (cfgM m hO) c) (hA : dat.A 32 = V m c (Pipeline.arrRef spec0 32))
    (hafter : ∀ t, dat.after 32 t = iblk m hO c 32 t) (t : Fin (cfgM m hO).N) (d) : dat.before 32 t d = iblk m hO c 32 t :=
  (dat.before_in_eq_fetched 32 rfl (fun _ => rfl) (fun _ _ _ => rfl) (fun t => by rw [hafter]; unfold Dat.blockOf iblk; rw [hA]; try rfl) t d).trans
    (by unfold Dat.fetched Dat.blockOf iblk; rw [hA]; try rfl)
theorem before0_33_of (hO : Ok m) {c : Dev nD} (dat : Dat τ (Elt F) Unit ℕ (UR sig nD τ) ℕ (cfgM m hO) c) (hA : dat.A 33 = V m c (Pipeline.arrRef spec0 33))
    (hafter : ∀ t, dat.after 33 t = iblk m hO c 33 t) (t : Fin (cfgM m hO).N) (d) : dat.before 33 t d = iblk m hO c 33 t :=
  (dat.before_in_eq_fetched 33 rfl (fun _ => rfl) (fun _ _ _ => rfl) (fun t => by rw [hafter]; unfold Dat.blockOf iblk; rw [hA]; try rfl) t d).trans
    (by unfold Dat.fetched Dat.blockOf iblk; rw [hA]; try rfl)
theorem before0_34_of (hO : Ok m) {c : Dev nD} (dat : Dat τ (Elt F) Unit ℕ (UR sig nD τ) ℕ (cfgM m hO) c) (hA : dat.A 34 = V m c (Pipeline.arrRef spec0 34))
    (hafter : ∀ t, dat.after 34 t = iblk m hO c 34 t) (t : Fin (cfgM m hO).N) (d) : dat.before 34 t d = iblk m hO c 34 t :=
  (dat.before_in_eq_fetched 34 rfl (fun _ => rfl) (fun _ _ _ => rfl) (fun t => by rw [hafter]; unfold Dat.blockOf iblk; rw [hA]; try rfl) t d).trans
    (by unfold Dat.fetched Dat.blockOf iblk; rw [hA]; try rfl)
theorem before0_35_of (hO : Ok m) {c : Dev nD} (dat : Dat τ (Elt F) Unit ℕ (UR sig nD τ) ℕ (cfgM m hO) c) (hA : dat.A 35 = V m c (Pipeline.arrRef spec0 35))
    (hafter : ∀ t, dat.after 35 t = iblk m hO c 35 t) (t : Fin (cfgM m hO).N) (d) : dat.before 35 t d = iblk m hO c 35 t :=
  (dat.before_in_eq_fetched 35 rfl (fun _ => rfl) (fun _ _ _ => rfl) (fun t => by rw [hafter]; unfold Dat.blockOf iblk; rw [hA]; try rfl) t d).trans
    (by unfold Dat.fetched Dat.blockOf iblk; rw [hA]; try rfl)
theorem before0_36_of (hO : Ok m) {c : Dev nD} (dat : Dat τ (Elt F) Unit ℕ (UR sig nD τ) ℕ (cfgM m hO) c) (hA : dat.A 36 = V m c (Pipeline.arrRef spec0 36))
    (hafter : ∀ t, dat.after 36 t = iblk m hO c 36 t) (t : Fin (cfgM m hO).N) (d) : dat.before 36 t d = iblk m hO c 36 t :=
  (dat.before_in_eq_fetched 36 rfl (fun _ => rfl) (fun _ _ _ => rfl) (fun t => by rw [hafter]; unfold Dat.blockOf iblk; rw [hA]; try rfl) t d).trans
    (by unfold Dat.fetched Dat.blockOf iblk; rw [hA]; try rfl)
theorem before0_37_of (hO : Ok m) {c : Dev nD} (dat : Dat τ (Elt F) Unit ℕ (UR sig nD τ) ℕ (cfgM m hO) c) (hA : dat.A 37 = V m c (Pipeline.arrRef spec0 37))
    (hafter : ∀ t, dat.after 37 t = iblk m hO c 37 t) (t : Fin (cfgM m hO).N) (d) : dat.before 37 t d = iblk m hO c 37 t :=
  (dat.before_in_eq_fetched 37 rfl (fun _ => rfl) (fun _ _ _ => rfl) (fun t => by rw [hafter]; unfold Dat.blockOf iblk; rw [hA]; try rfl) t d).trans
    (by unfold Dat.fetched Dat.blockOf iblk; rw [hA]; try rfl)
theorem before0_38_of (hO : Ok m) {c : Dev nD} (dat : Dat τ (Elt F) Unit ℕ (UR sig nD τ) ℕ (cfgM m hO) c) (hA : dat.A 38 = V m c (Pipeline.arrRef spec0 38))
    (hafter : ∀ t, dat.after 38 t = iblk m hO c 38 t) (t : Fin (cfgM m hO).N) (d) : dat.before 38 t d = iblk m hO c 38 t :=
  (dat.before_in_eq_fetched 38 rfl (fun _ => rfl) (fun _ _ _ => rfl) (fun t => by rw [hafter]; unfold Dat.blockOf iblk; rw [hA]; try rfl) t d).trans
    (by unfold Dat.fetched Dat.blockOf iblk; rw [hA]; try rfl)
theorem before0_39_of (hO : Ok m) {c : Dev nD} (dat : Dat τ (Elt F) Unit ℕ (UR sig nD τ) ℕ (cfgM m hO) c) (hA : dat.A 39 = V m c (Pipeline.arrRef spec0 39))
    (hafter : ∀ t, dat.after 39 t = iblk m hO c 39 t) (t : Fin (cfgM m hO).N) (d) : dat.before 39 t d = iblk m hO c 39 t :=
  (dat.before_in_eq_fetched 39 rfl (fun _ => rfl) (fun _ _ _ => rfl) (fun t => by rw [hafter]; unfold Dat.blockOf iblk; rw [hA]; try rfl) t d).trans
    (by unfold Dat.fetched Dat.blockOf iblk; rw [hA]; try rfl)
theorem before0_40_of (hO : Ok m) {c : Dev nD} (dat : Dat τ (Elt F) Unit ℕ (UR sig nD τ) ℕ (cfgM m hO) c) (hA : dat.A 40 = V m c (Pipeline.arrRef spec0 40))
    (hafter : ∀ t, dat.after 40 t = iblk m hO c 40 t) (t : Fin (cfgM m hO).N) (d) : dat.before 40 t d = iblk m hO c 40 t :=
  (dat.before_in_eq_fetched 40 rfl (fun _ => rfl) (fun _ _ _ => rfl) (fun t => by rw [hafter]; unfold Dat.blockOf iblk; rw [hA]; try rfl) t d).trans
    (by unfold Dat.fetched Dat.blockOf iblk; rw [hA]; try rfl)
theorem before0_41_of (hO : Ok m) {c : Dev nD} (dat : Dat τ (Elt F) Unit ℕ (UR sig nD τ) ℕ (cfgM m hO) c) (hA : dat.A 41 = V m c (Pipeline.arrRef spec0 41))
    (hafter : ∀ t, dat.after 41 t = iblk m hO c 41 t) (t : Fin (cfgM m hO).N) (d) : dat.before 41 t d = iblk m hO c 41 t :=
  (dat.before_in_eq_fetched 41 rfl (fun _ => rfl) (fun _ _ _ => rfl) (fun t => by rw [hafter]; unfold Dat.blockOf iblk; rw [hA]; try rfl) t d).trans
    (by unfold Dat.fetched Dat.blockOf iblk; rw [hA]; try rfl)
theorem before0_42_of (hO : Ok m) {c : Dev nD} (dat : Dat τ (Elt F) Unit ℕ (UR sig nD τ) ℕ (cfgM m hO) c) (hA : dat.A 42 = V m c (Pipeline.arrRef spec0 42))
    (hafter : ∀ t, dat.after 42 t = iblk m hO c 42 t) (t : Fin (cfgM m hO).N) (d) : dat.before 42 t d = iblk m hO c 42 t :=
  (dat.before_in_eq_fetched 42 rfl (fun _ => rfl) (fun _ _ _ => rfl) (fun t => by rw [hafter]; unfold Dat.blockOf iblk; rw [hA]; try rfl) t d).trans
    (by unfold Dat.fetched Dat.blockOf iblk; rw [hA]; try rfl)
theorem before0_43_of (hO : Ok m) {c : Dev nD} (dat : Dat τ (Elt F) Unit ℕ (UR sig nD τ) ℕ (cfgM m hO) c) (hA : dat.A 43 = V m c (Pipeline.arrRef spec0 43))
    (hafter : ∀ t, dat.after 43 t = iblk m hO c 43 t) (t : Fin (cfgM m hO).N) (d) : dat.before 43 t d = iblk m hO c 43 t :=
  (dat.before_in_eq_fetched 43 rfl (fun _ => rfl) (fun _ _ _ => rfl) (fun t => by rw [hafter]; unfold Dat.blockOf iblk; rw [hA]; try rfl) t d).trans
    (by unfold Dat.fetched Dat.blockOf iblk; rw [hA]; try rfl)
theorem before0_44_of (hO : Ok m) {c : Dev nD} (dat : Dat τ (Elt F) Unit ℕ (UR sig nD τ) ℕ (cfgM m hO) c) (hA : dat.A 44 = V m c (Pipeline.arrRef spec0 44))
    (hafter : ∀ t, dat.after 44 t = iblk m hO c 44 t) (t : Fin (cfgM m hO).N) (d) : dat.before 44 t d = iblk m hO c 44 t :=
  (dat.before_in_eq_fetched 44 rfl (fun _ => rfl) (fun _ _ _ => rfl) (fun t => by rw [hafter]; unfold Dat.blockOf iblk; rw [hA]; try rfl) t d).trans
    (by unfold Dat.fetched Dat.blockOf iblk; rw [hA]; try rfl)
theorem before0_45_of (hO : Ok m) {c : Dev nD} (dat : Dat τ (Elt F) Unit ℕ (UR sig nD τ) ℕ (cfgM m hO) c) (hA : dat.A 45 = V m c (Pipeline.arrRef spec0 45))
    (hafter : ∀ t, dat.after 45 t = iblk m hO c 45 t) (t : Fin (cfgM m hO).N) (d) : dat.before 45 t d = iblk m hO c 45 t :=
  (dat.before_in_eq_fetched 45 rfl (fun _ => rfl) (fun _ _ _ => rfl) (fun t => by rw [hafter]; unfold Dat.blockOf iblk; rw [hA]; try rfl) t d).trans
    (by unfold Dat.fetched Dat.blockOf iblk; rw [hA]; try rfl)
theorem before0_46_of (hO : Ok m) {c : Dev nD} (dat : Dat τ (Elt F) Unit ℕ (UR sig nD τ) ℕ (cfgM m hO) c) (hA : dat.A 46 = V m c (Pipeline.arrRef spec0 46))
    (hafter : ∀ t, dat.after 46 t = iblk m hO c 46 t) (t : Fin (cfgM m hO).N) (d) : dat.before 46 t d = iblk m hO c 46 t :=
  (dat.before_in_eq_fetched 46 rfl (fun _ => rfl) (fun _ _ _ => rfl) (fun t => by rw [hafter]; unfold Dat.blockOf iblk; rw [hA]; try rfl) t d).trans
    (by unfold Dat.fetched Dat.blockOf iblk; rw [hA]; try rfl)
theorem before0_47_of (hO : Ok m) {c : Dev nD} (dat : Dat τ (Elt F) Unit ℕ (UR sig nD τ) ℕ (cfgM m hO) c) (hA : dat.A 47 = V m c (Pipeline.arrRef spec0 47))
    (hafter : ∀ t, dat.after 47 t = iblk m hO c 47 t) (t : Fin (cfgM m hO).N) (d) : dat.before 47 t d = iblk m hO c 47 t :=
  (dat.before_in_eq_fetched 47 rfl (fun _ => rfl) (fun _ _ _ => rfl) (fun t => by rw [hafter]; unfold Dat.blockOf iblk; rw [hA]; try rfl) t d).trans
    (by unfold Dat.fetched Dat.blockOf iblk; rw [hA]; try rfl)
theorem before0_48_of (hO : Ok m) {c : Dev nD} (dat : Dat τ (Elt F) Unit ℕ (UR sig nD τ) ℕ (cfgM m hO) c) (hA : dat.A 48 = V m c (Pipeline.arrRef spec0 48))
    (hafter : ∀ t, dat.after 48 t = iblk m hO c 48 t) (t : Fin (cfgM m hO).N) (d) : dat.before 48 t d = iblk m hO c 48 t :=
  (dat.before_in_eq_fetched 48 rfl (fun _ => rfl) (fun _ _ _ => rfl) (fun t => by rw [hafter]; unfold Dat.blockOf iblk; rw [hA]; try rfl) t d).trans
    (by unfold Dat.fetched Dat.blockOf iblk; rw [hA]; try rfl)
theorem before0_49_of (hO : Ok m) {c : Dev nD} (dat : Dat τ (Elt F) Unit ℕ (UR sig nD τ) ℕ (cfgM m hO) c) (hA : dat.A 49 = V m c (Pipeline.arrRef spec0 49))
    (hafter : ∀ t, dat.after 49 t = iblk m hO c 49 t) (t : Fin (cfgM m hO).N) (d) : dat.before 49 t d = iblk m hO c 49 t :=
  (dat.before_in_eq_fetched 49 rfl (fun _ => rfl) (fun _ _ _ => rfl) (fun t => by rw [hafter]; unfold Dat.blockOf iblk; rw [hA]; try rfl) t d).trans
    (by unfold Dat.fetched Dat.blockOf iblk; rw [hA]; try rfl)
theorem before0_50_of (hO : Ok m) {c : Dev nD} (dat : Dat τ (Elt F) Unit ℕ (UR sig nD τ) ℕ (cfgM m hO) c) (hA : dat.A 50 = V m c (Pipeline.arrRef spec0 50))
    (hafter : ∀ t, dat.after 50 t = iblk m hO c 50 t) (t : Fin (cfgM m hO).N) (d) : dat.before 50 t d = iblk m hO c 50 t :=
  (dat.before_in_eq_fetched 50 rfl (fun _ => rfl) (fun _ _ _ => rfl) (fun t => by rw [hafter]; unfold Dat.blockOf iblk; rw [hA]; try rfl) t d).trans
    (by unfold Dat.fetched Dat.blockOf iblk; rw [hA]; try rfl)
theorem before0_51_of (hO : Ok m) {c : Dev nD} (dat : Dat τ (Elt F) Unit ℕ (UR sig nD τ) ℕ (cfgM m hO) c) (hA : dat.A 51 = V m c (Pipeline.arrRef spec0 51))
    (hafter : ∀ t, dat.after 51 t = iblk m hO c 51 t) (t : Fin (cfgM m hO).N) (d) : dat.before 51 t d = iblk m hO c 51 t :=
  (dat.before_in_eq_fetched 51 rfl (fun _ => rfl) (fun _ _ _ => rfl) (fun t => by rw [hafter]; unfold Dat.blockOf iblk; rw [hA]; try rfl) t d).trans
    (by unfold Dat.fetched Dat.blockOf iblk; rw [hA]; try rfl)
theorem before0_52_of (hO : Ok m) {c : Dev nD} (dat : Dat τ (Elt F) Unit ℕ (UR sig nD τ) ℕ (cfgM m hO) c) (hA : dat.A 52 = V m c (Pipeline.arrRef spec0 52))
    (hafter : ∀ t, dat.after 52 t = iblk m hO c 52 t) (t : Fin (cfgM m hO).N) (d) : dat.before 52 t d = iblk m hO c 52 t :=
  (dat.before_in_eq_fetched 52 rfl (fun _ => rfl) (fun _ _ _ => rfl) (fun t => by rw [hafter]; unfold Dat.blockOf iblk; rw [hA]; try rfl) t d).trans
    (by unfold Dat.fetched Dat.blockOf iblk; rw [hA]; try rfl)
theorem before0_53_of (hO : Ok m) {c : Dev nD} (dat : Dat τ (Elt F) Unit ℕ (UR sig nD τ) ℕ (cfgM m hO) c) (hA : dat.A 53 = V m c (Pipeline.arrRef spec0 53))
    (hafter : ∀ t, dat.after 53 t = iblk m hO c 53 t) (t : Fin (cfgM m hO).N) (d) : dat.before 53 t d = iblk m hO c 53 t :=
  (dat.before_in_eq_fetched 53 rfl (fun _ => rfl) (fun _ _ _ => rfl) (fun t => by rw [hafter]; unfold Dat.blockOf iblk; rw [hA]; try rfl) t d).trans
    (by unfold Dat.fetched Dat.blockOf iblk; rw [hA]; try rfl)
theorem before0_54_of (hO : Ok m) {c : Dev nD} (dat : Dat τ (Elt F) Unit ℕ (UR sig nD τ) ℕ (cfgM m hO) c) (hA : dat.A 54 = V m c (Pipeline.arrRef spec0 54))
    (hafter : ∀ t, dat.after 54 t = iblk m hO c 54 t) (t : Fin (cfgM m hO).N) (d) : dat.before 54 t d = iblk m hO c 54 t :=
  (dat.before_in_eq_fetched 54 rfl (fun _ => rfl) (fun _ _ _ => rfl) (fun t => by rw [hafter]; unfold Dat.blockOf iblk; rw [hA]; try rfl) t d).trans
    (by unfold Dat.fetched Dat.blockOf iblk; rw [hA]; try rfl)
theorem before0_55_of (hO : Ok m) {c : Dev nD} (dat : Dat τ (Elt F) Unit ℕ (UR sig nD τ) ℕ (cfgM m hO) c) (hA : dat.A 55 = V m c (Pipeline.arrRef spec0 55))
    (hafter : ∀ t, dat.after 55 t = iblk m hO c 55 t) (t : Fin (cfgM m hO).N) (d) : dat.before 55 t d = iblk m hO c 55 t :=
  (dat.before_in_eq_fetched 55 rfl (fun _ => rfl) (fun _ _ _ => rfl) (fun t => by rw [hafter]; unfold Dat.blockOf iblk; rw [hA]; try rfl) t d).trans
    (by unfold Dat.fetched Dat.blockOf iblk; rw [hA]; try rfl)
theorem before0_56_of (hO : Ok m) {c : Dev nD} (dat : Dat τ (Elt F) Unit ℕ (UR sig nD τ) ℕ (cfgM m hO) c) (hA : dat.A 56 = V m c (Pipeline.arrRef spec0 56))
    (hafter : ∀ t, dat.after 56 t = iblk m hO c 56 t) (t : Fin (cfgM m hO).N) (d) : dat.before 56 t d = iblk m hO c 56 t :=
  (dat.before_in_eq_fetched 56 rfl (fun _ => rfl) (fun _ _ _ => rfl) (fun t => by rw [hafter]; unfold Dat.blockOf iblk; rw [hA]; try rfl) t d).trans
    (by unfold Dat.fetched Dat.blockOf iblk; rw [hA]; try rfl)
theorem before0_57_of (hO : Ok m) {c : Dev nD} (dat : Dat τ (Elt F) Unit ℕ (UR sig nD τ) ℕ (cfgM m hO) c) (hA : dat.A 57 = V m c (Pipeline.arrRef spec0 57))
    (hafter : ∀ t, dat.after 57 t = iblk m hO c 57 t) (t : Fin (cfgM m hO).N) (d) : dat.before 57 t d = iblk m hO c 57 t :=
  (dat.before_in_eq_fetched 57 rfl (fun _ => rfl) (fun _ _ _ => rfl) (fun t => by rw [hafter]; unfold Dat.blockOf iblk; rw [hA]; try rfl) t d).trans
    (by unfold Dat.fetched Dat.blockOf iblk; rw [hA]; try rfl)
theorem before0_58_of (hO : Ok m) {c : Dev nD} (dat : Dat τ (Elt F) Unit ℕ (UR sig nD τ) ℕ (cfgM m hO) c) (hA : dat.A 58 = V m c (Pipeline.arrRef spec0 58))
    (hafter : ∀ t, dat.after 58 t = iblk m hO c 58 t) (t : Fin (cfgM m hO).N) (d) : dat.before 58 t d = iblk m hO c 58 t :=
  (dat.before_in_eq_fetched 58 rfl (fun _ => rfl) (fun _ _ _ => rfl) (fun t => by rw [hafter]; unfold Dat.blockOf iblk; rw [hA]; try rfl) t d).trans
    (by unfold Dat.fetched Dat.blockOf iblk; rw [hA]; try rfl)
theorem before0_59_of (hO : Ok m) {c : Dev nD} (dat : Dat τ (Elt F) Unit ℕ (UR sig nD τ) ℕ (cfgM m hO) c) (hA : dat.A 59 = V m c (Pipeline.arrRef spec0 59))
    (hafter : ∀ t, dat.after 59 t = iblk m hO c 59 t) (t : Fin (cfgM m hO).N) (d) : dat.before 59 t d = iblk m hO c 59 t :=
  (dat.before_in_eq_fetched 59 rfl (fun _ => rfl) (fun _ _ _ => rfl) (fun t => by rw [hafter]; unfold Dat.blockOf iblk; rw [hA]; try rfl) t d).trans
    (by unfold Dat.fetched Dat.blockOf iblk; rw [hA]; try rfl)
theorem before0_60_of (hO : Ok m) {c : Dev nD} (dat : Dat τ (Elt F) Unit ℕ (UR sig nD τ) ℕ (cfgM m hO) c) (hA : dat.A 60 = V m c (Pipeline.arrRef spec0 60))
    (hafter : ∀ t, dat.after 60 t = iblk m hO c 60 t) (t : Fin (cfgM m hO).N) (d) : dat.before 60 t d = iblk m hO c 60 t :=
  (dat.before_in_eq_fetched 60 rfl (fun _ => rfl) (fun _ _ _ => rfl) (fun t => by rw [hafter]; unfold Dat.blockOf iblk; rw [hA]; try rfl) t d).trans
    (by unfold Dat.fetched Dat.blockOf iblk; rw [hA]; try rfl)
theorem before0_61_of (hO : Ok m) {c : Dev nD} (dat : Dat τ (Elt F) Unit ℕ (UR sig nD τ) ℕ (cfgM m hO) c) (hA : dat.A 61 = V m c (Pipeline.arrRef spec0 61))
    (hafter : ∀ t, dat.after 61 t = iblk m hO c 61 t) (t : Fin (cfgM m hO).N) (d) : dat.before 61 t d = iblk m hO c 61 t :=
  (dat.before_in_eq_fetched 61 rfl (fun _ => rfl) (fun _ _ _ => rfl) (fun t => by rw [hafter]; unfold Dat.blockOf iblk; rw [hA]; try rfl) t d).trans
    (by unfold Dat.fetched Dat.blockOf iblk; rw [hA]; try rfl)
theorem before0_62_of (hO : Ok m) {c : Dev nD} (dat : Dat τ (Elt F) Unit ℕ (UR sig nD τ) ℕ (cfgM m hO) c) (hA : dat.A 62 = V m c (Pipeline.arrRef spec0 62))
    (hafter : ∀ t, dat.after 62 t = iblk m hO c 62 t) (t : Fin (cfgM m hO).N) (d) : dat.before 62 t d = iblk m hO c 62 t :=
  (dat.before_in_eq_fetched 62 rfl (fun _ => rfl) (fun _ _ _ => rfl) (fun t => by rw [hafter]; unfold Dat.blockOf iblk; rw [hA]; try rfl) t d).trans
    (by unfold Dat.fetched Dat.blockOf iblk; rw [hA]; try rfl)
theorem before0_63_of (hO : Ok m) {c : Dev nD} (dat : Dat τ (Elt F) Unit ℕ (UR sig nD τ) ℕ (cfgM m hO) c) (hA : dat.A 63 = V m c (Pipeline.arrRef spec0 63))
    (hafter : ∀ t, dat.after 63 t = iblk m hO c 63 t) (t : Fin (cfgM m hO).N) (d) : dat.before 63 t d = iblk m hO c 63 t :=
  (dat.before_in_eq_fetched 63 rfl (fun _ => rfl) (fun _ _ _ => rfl) (fun t => by rw [hafter]; unfold Dat.blockOf iblk; rw [hA]; try rfl) t d).trans
    (by unfold Dat.fetched Dat.blockOf iblk; rw [hA]; try rfl)
theorem before0_64_of (hO : Ok m) {c : Dev nD} (dat : Dat τ (Elt F) Unit ℕ (UR sig nD τ) ℕ (cfgM m hO) c) (hA : dat.A 64 = V m c (Pipeline.arrRef spec0 64))
    (hafter : ∀ t, dat.after 64 t = iblk m hO c 64 t) (t : Fin (cfgM m hO).N) (d) : dat.before 64 t d = iblk m hO c 64 t :=
  (dat.before_in_eq_fetched 64 rfl (fun _ => rfl) (fun _ _ _ => rfl) (fun t => by rw [hafter]; unfold Dat.blockOf iblk; rw [hA]; try rfl) t d).trans
    (by unfold Dat.fetched Dat.blockOf iblk; rw [hA]; try rfl)
theorem before0_65_of (hO : Ok m) {c : Dev nD} (dat : Dat τ (Elt F) Unit ℕ (UR sig nD τ) ℕ (cfgM m hO) c) (hA : dat.A 65 = V m c (Pipeline.arrRef spec0 65))
    (hafter : ∀ t, dat.after 65 t = iblk m hO c 65 t) (t : Fin (cfgM m hO).N) (d) : dat.before 65 t d = iblk m hO c 65 t :=
  (dat.before_in_eq_fetched 65 rfl (fun _ => rfl) (fun _ _ _ => rfl) (fun t => by rw [hafter]; unfold Dat.blockOf iblk; rw [hA]; try rfl) t d).trans
    (by unfold Dat.fetched Dat.blockOf iblk; rw [hA]; try rfl)
theorem before0_66_of (hO : Ok m) {c : Dev nD} (dat : Dat τ (Elt F) Unit ℕ (UR sig nD τ) ℕ (cfgM m hO) c) (hA : dat.A 66 = V m c (Pipeline.arrRef spec0 66))
    (hafter : ∀ t, dat.after 66 t = iblk m hO c 66 t) (t : Fin (cfgM m hO).N) (d) : dat.before 66 t d = iblk m hO c 66 t :=
  (dat.before_in_eq_fetched 66 rfl (fun _ => rfl) (fun _ _ _ => rfl) (fun t => by rw [hafter]; unfold Dat.blockOf iblk; rw [hA]; try rfl) t d).trans
    (by unfold Dat.fetched Dat.blockOf iblk; rw [hA]; try rfl)
theorem before0_67_of (hO : Ok m) {c : Dev nD} (dat : Dat τ (Elt F) Unit ℕ (UR sig nD τ) ℕ (cfgM m hO) c) (hA : dat.A 67 = V m c (Pipeline.arrRef spec0 67))
    (hafter : ∀ t, dat.after 67 t = iblk m hO c 67 t) (t : Fin (cfgM m hO).N) (d) : dat.before 67 t d = iblk m hO c 67 t :=
  (dat.before_in_eq_fetched 67 rfl (fun _ => rfl) (fun _ _ _ => rfl) (fun t => by rw [hafter]; unfold Dat.blockOf iblk; rw [hA]; try rfl) t d).trans
    (by unfold Dat.fetched Dat.blockOf iblk; rw [hA]; try rfl)
theorem before0_68_of (hO : Ok m) {c : Dev nD} (dat : Dat τ (Elt F) Unit ℕ (UR sig nD τ) ℕ (cfgM m hO) c) (hA : dat.A 68 = V m c (Pipeline.arrRef spec0 68))
    (hafter : ∀ t, dat.after 68 t = iblk m hO c 68 t) (t : Fin (cfgM m hO).N) (d) : dat.before 68 t d = iblk m hO c 68 t :=
  (dat.before_in_eq_fetched 68 rfl (fun _ => rfl) (fun _ _ _ => rfl) (fun t => by rw [hafter]; unfold Dat.blockOf iblk; rw [hA]; try rfl) t d).trans
    (by unfold Dat.fetched Dat.blockOf iblk; rw [hA]; try rfl)
theorem before0_69_of (hO : Ok m) {c : Dev nD} (dat : Dat τ (Elt F) Unit ℕ (UR sig nD τ) ℕ (cfgM m hO) c) (hA : dat.A 69 = V m c (Pipeline.arrRef spec0 69))
    (hafter : ∀ t, dat.after 69 t = iblk m hO c 69 t) (t : Fin (cfgM m hO).N) (d) : dat.before 69 t d = iblk m hO c 69 t :=
  (dat.before_in_eq_fetched 69 rfl (fun _ => rfl) (fun _ _ _ => rfl) (fun t => by rw [hafter]; unfold Dat.blockOf iblk; rw [hA]; try rfl) t d).trans
    (by unfold Dat.fetched Dat.blockOf iblk; rw [hA]; try rfl)
theorem before0_70_of (hO : Ok m) {c : Dev nD} (dat : Dat τ (Elt F) Unit ℕ (UR sig nD τ) ℕ (cfgM m hO) c) (hA : dat.A 70 = V m c (Pipeline.arrRef spec0 70))
    (hafter : ∀ t, dat.after 70 t = iblk m hO c 70 t) (t : Fin (cfgM m hO).N) (d) : dat.before 70 t d = iblk m hO c 70 t :=
  (dat.before_in_eq_fetched 70 rfl (fun _ => rfl) (fun _ _ _ => rfl) (fun t => by rw [hafter]; unfold Dat.blockOf iblk; rw [hA]; try rfl) t d).trans
    (by unfold Dat.fetched Dat.blockOf iblk; rw [hA]; try rfl)
theorem before0_71_of (hO : Ok m) {c : Dev nD} (dat : Dat τ (Elt F) Unit ℕ (UR sig nD τ) ℕ (cfgM m hO) c) (hA : dat.A 71 = V m c (Pipeline.arrRef spec0 71))
    (hafter : ∀ t, dat.after 71 t = iblk m hO c 71 t) (t : Fin (cfgM m hO).N) (d) : dat.before 71 t d = iblk m hO c 71 t :=
  (dat.before_in_eq_fetched 71 rfl (fun _ => rfl) (fun _ _ _ => rfl) (fun t => by rw [hafter]; unfold Dat.blockOf iblk; rw [hA]; try rfl) t d).trans
    (by unfold Dat.fetched Dat.blockOf iblk; rw [hA]; try rfl)
theorem before0_72_of (hO : Ok m) {c : Dev nD} (dat : Dat τ (Elt F) Unit ℕ (UR sig nD τ) ℕ (cfgM m hO) c) (hA : dat.A 72 = V m c (Pipeline.arrRef spec0 72))
    (hafter : ∀ t, dat.after 72 t = iblk m hO c 72 t) (t : Fin (cfgM m hO).N) (d) : dat.before 72 t d = iblk m hO c 72 t :=
  (dat.before_in_eq_fetched 72 rfl (fun _ => rfl) (fun _ _ _ => rfl) (fun t => by rw [hafter]; unfold Dat.blockOf iblk; rw [hA]; try rfl) t d).trans
    (by unfold Dat.fetched Dat.blockOf iblk; rw [hA]; try rfl)
theorem before0_73_of (hO : Ok m) {c : Dev nD} (dat : Dat τ (Elt F) Unit ℕ (UR sig nD τ) ℕ (cfgM m hO) c) (hA : dat.A 73 = V m c (Pipeline.arrRef spec0 73))
    (hafter : ∀ t, dat.after 73 t = iblk m hO c 73 t) (t : Fin (cfgM m hO).N) (d) : dat.before 73 t d = iblk m hO c 73 t :=
  (dat.before_in_eq_fetched 73 rfl (fun _ => rfl) (fun _ _ _ => rfl) (fun t => by rw [hafter]; unfold Dat.blockOf iblk; rw [hA]; try rfl) t d).trans
    (by unfold Dat.fetched Dat.blockOf iblk; rw [hA]; try rfl)
theorem before0_74_of (hO : Ok m) {c : Dev nD} (dat : Dat τ (Elt F) Unit ℕ (UR sig nD τ) ℕ (cfgM m hO) c) (hA : dat.A 74 = V m c (Pipeline.arrRef spec0 74))
    (hafter : ∀ t, dat.after 74 t = iblk m hO c 74 t) (t : Fin (cfgM m hO).N) (d) : dat.before 74 t d = iblk m hO c 74 t :=
  (dat.before_in_eq_fetched 74 rfl (fun _ => rfl) (fun _ _ _ => rfl) (fun t => by rw [hafter]; unfold Dat.blockOf iblk; rw [hA]; try rfl) t d).trans
    (by unfold Dat.fetched Dat.blockOf iblk; rw [hA]; try rfl)
theorem before0_75_of (hO : Ok m) {c : Dev nD} (dat : Dat τ (Elt F) Unit ℕ (UR sig nD τ) ℕ (cfgM m hO) c) (hA : dat.A 75 = V m c (Pipeline.arrRef spec0 75))
    (hafter : ∀ t, dat.after 75 t = iblk m hO c 75 t) (t : Fin (cfgM m hO).N) (d) : dat.before 75 t d = iblk m hO c 75 t :=
  (dat.before_in_eq_fetched 75 rfl (fun _ => rfl) (fun _ _ _ => rfl) (fun t => by rw [hafter]; unfold Dat.blockOf iblk; rw [hA]; try rfl) t d).trans
    (by unfold Dat.fetched Dat.blockOf iblk; rw [hA]; try rfl)
theorem before0_76_of (hO : Ok m) {c : Dev nD} (dat : Dat τ (Elt F) Unit ℕ (UR sig nD τ) ℕ (cfgM m hO) c) (hA : dat.A 76 = V m c (Pipeline.arrRef spec0 76))
    (hafter : ∀ t, dat.after 76 t = iblk m hO c 76 t) (t : Fin (cfgM m hO).N) (d) : dat.before 76 t d = iblk m hO c 76 t :=
  (dat.before_in_eq_fetched 76 rfl (fun _ => rfl) (fun _ _ _ => rfl) (fun t => by rw [hafter]; unfold Dat.blockOf iblk; rw [hA]; try rfl) t d).trans
    (by unfold Dat.fetched Dat.blockOf iblk; rw [hA]; try rfl)
theorem before0_77_of (hO : Ok m) {c : Dev nD} (dat : Dat τ (Elt F) Unit ℕ (UR sig nD τ) ℕ (cfgM m hO) c) (hA : dat.A 77 = V m c (Pipeline.arrRef spec0 77))
    (hafter : ∀ t, dat.after 77 t = iblk m hO c 77 t) (t : Fin (cfgM m hO).N) (d) : dat.before 77 t d = iblk m hO c 77 t :=
  (dat.before_in_eq_fetched 77 rfl (fun _ => rfl) (fun _ _ _ => rfl) (fun t => by rw [hafter]; unfold Dat.blockOf iblk; rw [hA]; try rfl) t d).trans
    (by unfold Dat.fetched Dat.blockOf iblk; rw [hA]; try rfl)
theorem before0_78_of (hO : Ok m) {c : Dev nD} (dat : Dat τ (Elt F) Unit ℕ (UR sig nD τ) ℕ (cfgM m hO) c) (hA : dat.A 78 = V m c (Pipeline.arrRef spec0 78))
    (hafter : ∀ t, dat.after 78 t = iblk m hO c 78 t) (t : Fin (cfgM m hO).N) (d) : dat.before 78 t d = iblk m hO c 78 t :=
  (dat.before_in_eq_fetched 78 rfl (fun _ => rfl) (fun _ _ _ => rfl) (fun t => by rw [hafter]; unfold Dat.blockOf iblk; rw [hA]; try rfl) t d).trans
    (by unfold Dat.fetched Dat.blockOf iblk; rw [hA]; try rfl)
theorem before0_79_of (hO : Ok m) {c : Dev nD} (dat : Dat τ (Elt F) Unit ℕ (UR sig nD τ) ℕ (cfgM m hO) c) (hA : dat.A 79 = V m c (Pipeline.arrRef spec0 79))
    (hafter : ∀ t, dat.after 79 t = iblk m hO c 79 t) (t : Fin (cfgM m hO).N) (d) : dat.before 79 t d = iblk m hO c 79 t :=
  (dat.before_in_eq_fetched 79 rfl (fun _ => rfl) (fun _ _ _ => rfl) (fun t => by rw [hafter]; unfold Dat.blockOf iblk; rw [hA]; try rfl) t d).trans
    (by unfold Dat.fetched Dat.blockOf iblk; rw [hA]; try rfl)
theorem before0_80_of (hO : Ok m) {c : Dev nD} (dat : Dat τ (Elt F) Unit ℕ (UR sig nD τ) ℕ (cfgM m hO) c) (hA : dat.A 80 = V m c (Pipeline.arrRef spec0 80))
    (hafter : ∀ t, dat.after 80 t = iblk m hO c 80 t) (t : Fin (cfgM m hO).N) (d) : dat.before 80 t d = iblk m hO c 80 t :=
  (dat.before_in_eq_fetched 80 rfl (fun _ => rfl) (fun _ _ _ => rfl) (fun t => by rw [hafter]; unfold Dat.blockOf iblk; rw [hA]; try rfl) t d).trans
    (by unfold Dat.fetched Dat.blockOf iblk; rw [hA]; try rfl)
theorem before0_81_of (hO : Ok m) {c : Dev nD} (dat : Dat τ (Elt F) Unit ℕ (UR sig nD τ) ℕ (cfgM m hO) c) (hA : dat.A 81 = V m c (Pipeline.arrRef spec0 81))
    (hafter : ∀ t, dat.after 81 t = iblk m hO c 81 t) (t : Fin (cfgM m hO).N) (d) : dat.before 81 t d = iblk m hO c 81 t :=
  (dat.before_in_eq_fetched 81 rfl (fun _ => rfl) (fun _ _ _ => rfl) (fun t => by rw [hafter]; unfold Dat.blockOf iblk; rw [hA]; try rfl) t d).trans
    (by unfold Dat.fetched Dat.blockOf iblk; rw [hA]; try rfl)
theorem before0_82_of (hO : Ok m) {c : Dev nD} (dat : Dat τ (Elt F) Unit ℕ (UR sig nD τ) ℕ (cfgM m hO) c) (hA : dat.A 82 = V m c (Pipeline.arrRef spec0 82))
    (hafter : ∀ t, dat.after 82 t = iblk m hO c 82 t) (t : Fin (cfgM m hO).N) (d) : dat.before 82 t d = iblk m hO c 82 t :=
  (dat.before_in_eq_fetched 82 rfl (fun _ => rfl) (fun _ _ _ => rfl) (fun t => by rw [hafter]; unfold Dat.blockOf iblk; rw [hA]; try rfl) t d).trans
    (by unfold Dat.fetched Dat.blockOf iblk; rw [hA]; try rfl)
theorem before0_83_of (hO : Ok m) {c : Dev nD} (dat : Dat τ (Elt F) Unit ℕ (UR sig nD τ) ℕ (cfgM m hO) c) (hA : dat.A 83 = V m c (Pipeline.arrRef spec0 83))
    (hafter : ∀ t, dat.after 83 t = iblk m hO c 83 t) (t : Fin (cfgM m hO).N) (d) : dat.before 83 t d = iblk m hO c 83 t :=
  (dat.before_in_eq_fetched 83 rfl (fun _ => rfl) (fun _ _ _ => rfl) (fun t => by rw [hafter]; unfold Dat.blockOf iblk; rw [hA]; try rfl) t d).trans
    (by unfold Dat.fetched Dat.blockOf iblk; rw [hA]; try rfl)
theorem before0_84_of (hO : Ok m) {c : Dev nD} (dat : Dat τ (Elt F) Unit ℕ (UR sig nD τ) ℕ (cfgM m hO) c) (hA : dat.A 84 = V m c (Pipeline.arrRef spec0 84))
    (hafter : ∀ t, dat.after 84 t = iblk m hO c 84 t) (t : Fin (cfgM m hO).N) (d) : dat.before 84 t d = iblk m hO c 84 t :=
  (dat.before_in_eq_fetched 84 rfl (fun _ => rfl) (fun _ _ _ => rfl) (fun t => by rw [hafter]; unfold Dat.blockOf iblk; rw [hA]; try rfl) t d).trans
    (by unfold Dat.fetched Dat.blockOf iblk; rw [hA]; try rfl)
theorem before0_85_of (hO : Ok m) {c : Dev nD} (dat : Dat τ (Elt F) Unit ℕ (UR sig nD τ) ℕ (cfgM m hO) c) (hA : dat.A 85 = V m c (Pipeline.arrRef spec0 85))
    (hafter : ∀ t, dat.after 85 t = iblk m hO c 85 t) (t : Fin (cfgM m hO).N) (d) : dat.before 85 t d = iblk m hO c 85 t :=
  (dat.before_in_eq_fetched 85 rfl (fun _ => rfl) (fun _ _ _ => rfl) (fun t => by rw [hafter]; unfold Dat.blockOf iblk; rw [hA]; try rfl) t d).trans
    (by unfold Dat.fetched Dat.blockOf iblk; rw [hA]; try rfl)
theorem before0_86_of (hO : Ok m) {c : Dev nD} (dat : Dat τ (Elt F) Unit ℕ (UR sig nD τ) ℕ (cfgM m hO) c) (hA : dat.A 86 = V m c (Pipeline.arrRef spec0 86))
    (hafter : ∀ t, dat.after 86 t = iblk m hO c 86 t) (t : Fin (cfgM m hO).N) (d) : dat.before 86 t d = iblk m hO c 86 t :=
  (dat.before_in_eq_fetched 86 rfl (fun _ => rfl) (fun _ _ _ => rfl) (fun t => by rw [hafter]; unfold Dat.blockOf iblk; rw [hA]; try rfl) t d).trans
    (by unfold Dat.fetched Dat.blockOf iblk; rw [hA]; try rfl)
theorem before0_87_of (hO : Ok m) {c : Dev nD} (dat : Dat τ (Elt F) Unit ℕ (UR sig nD τ) ℕ (cfgM m hO) c) (hA : dat.A 87 = V m c (Pipeline.arrRef spec0 87))
    (hafter : ∀ t, dat.after 87 t = iblk m hO c 87 t) (t : Fin (cfgM m hO).N) (d) : dat.before 87 t d = iblk m hO c 87 t :=
  (dat.before_in_eq_fetched 87 rfl (fun _ => rfl) (fun _ _ _ => rfl) (fun t => by rw [hafter]; unfold Dat.blockOf iblk; rw [hA]; try rfl) t d).trans
    (by unfold Dat.fetched Dat.blockOf iblk; rw [hA]; try rfl)
theorem before0_88_of (hO : Ok m) {c : Dev nD} (dat : Dat τ (Elt F) Unit ℕ (UR sig nD τ) ℕ (cfgM m hO) c) (hA : dat.A 88 = V m c (Pipeline.arrRef spec0 88))
    (hafter : ∀ t, dat.after 88 t = iblk m hO c 88 t) (t : Fin (cfgM m hO).N) (d) : dat.before 88 t d = iblk m hO c 88 t :=
  (dat.before_in_eq_fetched 88 rfl (fun _ => rfl) (fun _ _ _ => rfl) (fun t => by rw [hafter]; unfold Dat.blockOf iblk; rw [hA]; try rfl) t d).trans
    (by unfold Dat.fetched Dat.blockOf iblk; rw [hA]; try rfl)
theorem before0_89_of (hO : Ok m) {c : Dev nD} (dat : Dat τ (Elt F) Unit ℕ (UR sig nD τ) ℕ (cfgM m hO) c) (hA : dat.A 89 = V m c (Pipeline.arrRef spec0 89))
    (hafter : ∀ t, dat.after 89 t = iblk m hO c 89 t) (t : Fin (cfgM m hO).N) (d) : dat.before 89 t d = iblk m hO c 89 t :=
  (dat.before_in_eq_fetched 89 rfl (fun _ => rfl) (fun _ _ _ => rfl) (fun t => by rw [hafter]; unfold Dat.blockOf iblk; rw [hA]; try rfl) t d).trans
    (by unfold Dat.fetched Dat.blockOf iblk; rw [hA]; try rfl)
theorem before0_90_of (hO : Ok m) {c : Dev nD} (dat : Dat τ (Elt F) Unit ℕ (UR sig nD τ) ℕ (cfgM m hO) c) (hA : dat.A 90 = V m c (Pipeline.arrRef spec0 90))
    (hafter : ∀ t, dat.after 90 t = iblk m hO c 90 t) (t : Fin (cfgM m hO).N) (d) : dat.before 90 t d = iblk m hO c 90 t :=
  (dat.before_in_eq_fetched 90 rfl (fun _ => rfl) (fun _ _ _ => rfl) (fun t => by rw [hafter]; unfold Dat.blockOf iblk; rw [hA]; try rfl) t d).trans
    (by unfold Dat.fetched Dat.blockOf iblk; rw [hA]; try rfl)
theorem before0_91_of (hO : Ok m) {c : Dev nD} (dat : Dat τ (Elt F) Unit ℕ (UR sig nD τ) ℕ (cfgM m hO) c) (hA : dat.A 91 = V m c (Pipeline.arrRef spec0 91))
    (hafter : ∀ t, dat.after 91 t = iblk m hO c 91 t) (t : Fin (cfgM m hO).N) (d) : dat.before 91 t d = iblk m hO c 91 t :=
  (dat.before_in_eq_fetched 91 rfl (fun _ => rfl) (fun _ _ _ => rfl) (fun t => by rw [hafter]; unfold Dat.blockOf iblk; rw [hA]; try rfl) t d).trans
    (by unfold Dat.fetched Dat.blockOf iblk; rw [hA]; try rfl)
theorem before0_92_of (hO : Ok m) {c : Dev nD} (dat : Dat τ (Elt F) Unit ℕ (UR sig nD τ) ℕ (cfgM m hO) c) (hA : dat.A 92 = V m c (Pipeline.arrRef spec0 92))
    (hafter : ∀ t, dat.after 92 t = iblk m hO c 92 t) (t : Fin (cfgM m hO).N) (d) : dat.before 92 t d = iblk m hO c 92 t :=
  (dat.before_in_eq_fetched 92 rfl (fun _ => rfl) (fun _ _ _ => rfl) (fun t => by rw [hafter]; unfold Dat.blockOf iblk; rw [hA]; try rfl) t d).trans
    (by unfold Dat.fetched Dat.blockOf iblk; rw [hA]; try rfl)
theorem before0_93_of (hO : Ok m) {c : Dev nD} (dat : Dat τ (Elt F) Unit ℕ (UR sig nD τ) ℕ (cfgM m hO) c) (hA : dat.A 93 = V m c (Pipeline.arrRef spec0 93))
    (hafter : ∀ t, dat.after 93 t = iblk m hO c 93 t) (t : Fin (cfgM m hO).N) (d) : dat.before 93 t d = iblk m hO c 93 t :=
  (dat.before_in_eq_fetched 93 rfl (fun _ => rfl) (fun _ _ _ => rfl) (fun t => by rw [hafter]; unfold Dat.blockOf iblk; rw [hA]; try rfl) t d).trans
    (by unfold Dat.fetched Dat.blockOf iblk; rw [hA]; try rfl)
theorem before0_94_of (hO : Ok m) {c : Dev nD} (dat : Dat τ (Elt F) Unit ℕ (UR sig nD τ) ℕ (cfgM m hO) c) (hA : dat.A 94 = V m c (Pipeline.arrRef spec0 94))
    (hafter : ∀ t, dat.after 94 t = iblk m hO c 94 t) (t : Fin (cfgM m hO).N) (d) : dat.before 94 t d = iblk m hO c 94 t :=
  (dat.before_in_eq_fetched 94 rfl (fun _ => rfl) (fun _ _ _ => rfl) (fun t => by rw [hafter]; unfold Dat.blockOf iblk; rw [hA]; try rfl) t d).trans
    (by unfold Dat.fetched Dat.blockOf iblk; rw [hA]; try rfl)
theorem before0_95_of (hO : Ok m) {c : Dev nD} (dat : Dat τ (Elt F) Unit ℕ (UR sig nD τ) ℕ (cfgM m hO) c) (hA : dat.A 95 = V m c (Pipeline.arrRef spec0 95))
    (hafter : ∀ t, dat.after 95 t = iblk m hO c 95 t) (t : Fin (cfgM m hO).N) (d) : dat.before 95 t d = iblk m hO c 95 t :=
  (dat.before_in_eq_fetched 95 rfl (fun _ => rfl) (fun _ _ _ => rfl) (fun t => by rw [hafter]; unfold Dat.blockOf iblk; rw [hA]; try rfl) t d).trans
    (by unfold Dat.fetched Dat.blockOf iblk; rw [hA]; try rfl)
theorem before0_96_of (hO : Ok m) {c : Dev nD} (dat : Dat τ (Elt F) Unit ℕ (UR sig nD τ) ℕ (cfgM m hO) c) (hA : dat.A 96 = V m c (Pipeline.arrRef spec0 96))
    (hafter : ∀ t, dat.after 96 t = iblk m hO c 96 t) (t : Fin (cfgM m hO).N) (d) : dat.before 96 t d = iblk m hO c 96 t :=
  (dat.before_in_eq_fetched 96 rfl (fun _ => rfl) (fun _ _ _ => rfl) (fun t => by rw [hafter]; unfold Dat.blockOf iblk; rw [hA]; try rfl) t d).trans
    (by unfold Dat.fetched Dat.blockOf iblk; rw [hA]; try rfl)
theorem before0_97_of (hO : Ok m) {c : Dev nD} (dat : Dat τ (Elt F) Unit ℕ (UR sig nD τ) ℕ (cfgM m hO) c) (hA : dat.A 97 = V m c (Pipeline.arrRef spec0 97))
    (hafter : ∀ t, dat.after 97 t = iblk m hO c 97 t) (t : Fin (cfgM m hO).N) (d) : dat.before 97 t d = iblk m hO c 97 t :=
  (dat.before_in_eq_fetched 97 rfl (fun _ => rfl) (fun _ _ _ => rfl) (fun t => by rw [hafter]; unfold Dat.blockOf iblk; rw [hA]; try rfl) t d).trans
    (by unfold Dat.fetched Dat.blockOf iblk; rw [hA]; try rfl)
theorem before0_98_of (hO : Ok m) {c : Dev nD} (dat : Dat τ (Elt F) Unit ℕ (UR sig nD τ) ℕ (cfgM m hO) c) (hA : dat.A 98 = V m c (Pipeline.arrRef spec0 98))
    (hafter : ∀ t, dat.after 98 t = iblk m hO c 98 t) (t : Fin (cfgM m hO).N) (d) : dat.before 98 t d = iblk m hO c 98 t :=
  (dat.before_in_eq_fetched 98 rfl (fun _ => rfl) (fun _ _ _ => rfl) (fun t => by rw [hafter]; unfold Dat.blockOf iblk; rw [hA]; try rfl) t d).trans
    (by unfold Dat.fetched Dat.blockOf iblk; rw [hA]; try rfl)
theorem before0_99_of (hO : Ok m) {c : Dev nD} (dat : Dat τ (Elt F) Unit ℕ (UR sig nD τ) ℕ (cfgM m hO) c) (hA : dat.A 99 = V m c (Pipeline.arrRef spec0 99))
    (hafter : ∀ t, dat.after 99 t = iblk m hO c 99 t) (t : Fin (cfgM m hO).N) (d) : dat.before 99 t d = iblk m hO c 99 t :=
  (dat.before_in_eq_fetched 99 rfl (fun _ => rfl) (fun _ _ _ => rfl) (fun t => by rw [hafter]; unfold Dat.blockOf iblk; rw [hA]; try rfl) t d).trans
    (by unfold Dat.fetched Dat.blockOf iblk; rw [hA]; try rfl)
theorem before0_100_of (hO : Ok m) {c : Dev nD} (dat : Dat τ (Elt F) Unit ℕ (UR sig nD τ) ℕ (cfgM m hO) c) (hA : dat.A 100 = V m c (Pipeline.arrRef spec0 100))
    (hafter : ∀ t, dat.after 100 t = iblk m hO c 100 t) (t : Fin (cfgM m hO).N) (d) : dat.before 100 t d = iblk m hO c 100 t :=
  (dat.before_in_eq_fetched 100 rfl (fun _ => rfl) (fun _ _ _ => rfl) (fun t => by rw [hafter]; unfold Dat.blockOf iblk; rw [hA]; try rfl) t d).trans
    (by unfold Dat.fetched Dat.blockOf iblk; rw [hA]; try rfl)
theorem before0_101_of (hO : Ok m) {c : Dev nD} (dat : Dat τ (Elt F) Unit ℕ (UR sig nD τ) ℕ (cfgM m hO) c) (hA : dat.A 101 = V m c (Pipeline.arrRef spec0 101))
    (hafter : ∀ t, dat.after 101 t = iblk m hO c 101 t) (t : Fin (cfgM m hO).N) (d) : dat.before 101 t d = iblk m hO c 101 t :=
  (dat.before_in_eq_fetched 101 rfl (fun _ => rfl) (fun _ _ _ => rfl) (fun t => by rw [hafter]; unfold Dat.blockOf iblk; rw [hA]; try rfl) t d).trans
    (by unfold Dat.fetched Dat.blockOf iblk; rw [hA]; try rfl)
theorem before0_102_of (hO : Ok m) {c : Dev nD} (dat : Dat τ (Elt F) Unit ℕ (UR sig nD τ) ℕ (cfgM m hO) c) (hA : dat.A 102 = V m c (Pipeline.arrRef spec0 102))
    (hafter : ∀ t, dat.after 102 t = iblk m hO c 102 t) (t : Fin (cfgM m hO).N) (d) : dat.before 102 t d = iblk m hO c 102 t :=
  (dat.before_in_eq_fetched 102 rfl (fun _ => rfl) (fun _ _ _ => rfl) (fun t => by rw [hafter]; unfold Dat.blockOf iblk; rw [hA]; try rfl) t d).trans
    (by unfold Dat.fetched Dat.blockOf iblk; rw [hA]; try rfl)
theorem before0_103_of (hO : Ok m) {c : Dev nD} (dat : Dat τ (Elt F) Unit ℕ (UR sig nD τ) ℕ (cfgM m hO) c) (hA : dat.A 103 = V m c (Pipeline.arrRef spec0 103))
    (hafter : ∀ t, dat.after 103 t = iblk m hO c 103 t) (t : Fin (cfgM m hO).N) (d) : dat.before 103 t d = iblk m hO c 103 t :=
  (dat.before_in_eq_fetched 103 rfl (fun _ => rfl) (fun _ _ _ => rfl) (fun t => by rw [hafter]; unfold Dat.blockOf iblk; rw [hA]; try rfl) t d).trans
    (by unfold Dat.fetched Dat.blockOf iblk; rw [hA]; try rfl)
theorem before0_104_of (hO : Ok m) {c : Dev nD} (dat : Dat τ (Elt F) Unit ℕ (UR sig nD τ) ℕ (cfgM m hO) c) (hA : dat.A 104 = V m c (Pipeline.arrRef spec0 104))
    (hafter : ∀ t, dat.after 104 t = iblk m hO c 104 t) (t : Fin (cfgM m hO).N) (d) : dat.before 104 t d = iblk m hO c 104 t :=
  (dat.before_in_eq_fetched 104 rfl (fun _ => rfl) (fun _ _ _ => rfl) (fun t => by rw [hafter]; unfold Dat.blockOf iblk; rw [hA]; try rfl) t d).trans
    (by unfold Dat.fetched Dat.blockOf iblk; rw [hA]; try rfl)
theorem before0_105_of (hO : Ok m) {c : Dev nD} (dat : Dat τ (Elt F) Unit ℕ (UR sig nD τ) ℕ (cfgM m hO) c) (hA : dat.A 105 = V m c (Pipeline.arrRef spec0 105))
    (hafter : ∀ t, dat.after 105 t = iblk m hO c 105 t) (t : Fin (cfgM m hO).N) (d) : dat.before 105 t d = iblk m hO c 105 t :=
  (dat.before_in_eq_fetched 105 rfl (fun _ => rfl) (fun _ _ _ => rfl) (fun t => by rw [hafter]; unfold Dat.blockOf iblk; rw [hA]; try rfl) t d).trans
    (by unfold Dat.fetched Dat.blockOf iblk; rw [hA]; try rfl)
theorem before0_106_of (hO : Ok m) {c : Dev nD} (dat : Dat τ (Elt F) Unit ℕ (UR sig nD τ) ℕ (cfgM m hO) c) (hA : dat.A 106 = V m c (Pipeline.arrRef spec0 106))
    (hafter : ∀ t, dat.after 106 t = iblk m hO c 106 t) (t : Fin (cfgM m hO).N) (d) : dat.before 106 t d = iblk m hO c 106 t :=
  (dat.before_in_eq_fetched 106 rfl (fun _ => rfl) (fun _ _ _ => rfl) (fun t => by rw [hafter]; unfold Dat.blockOf iblk; rw [hA]; try rfl) t d).trans
    (by unfold Dat.fetched Dat.blockOf iblk; rw [hA]; try rfl)
theorem before0_107_of (hO : Ok m) {c : Dev nD} (dat : Dat τ (Elt F) Unit ℕ (UR sig nD τ) ℕ (cfgM m hO) c) (hA : dat.A 107 = V m c (Pipeline.arrRef spec0 107))
    (hafter : ∀ t, dat.after 107 t = iblk m hO c 107 t) (t : Fin (cfgM m hO).N) (d) : dat.before 107 t d = iblk m hO c 107 t :=
  (dat.before_in_eq_fetched 107 rfl (fun _ => rfl) (fun _ _ _ => rfl) (fun t => by rw [hafter]; unfold Dat.blockOf iblk; rw [hA]; try rfl) t d).trans
    (by unfold Dat.fetched Dat.blockOf iblk; rw [hA]; try rfl)
theorem before0_108_of (hO : Ok m) {c : Dev nD} (dat : Dat τ (Elt F) Unit ℕ (UR sig nD τ) ℕ (cfgM m hO) c) (hA : dat.A 108 = V m c (Pipeline.arrRef spec0 108))
    (hafter : ∀ t, dat.after 108 t = iblk m hO c 108 t) (t : Fin (cfgM m hO).N) (d) : dat.before 108 t d = iblk m hO c 108 t :=
  (dat.before_in_eq_fetched 108 rfl (fun _ => rfl) (fun _ _ _ => rfl) (fun t => by rw [hafter]; unfold Dat.blockOf iblk; rw [hA]; try rfl) t d).trans
    (by unfold Dat.fetched Dat.blockOf iblk; rw [hA]; try rfl)
theorem before0_109_of (hO : Ok m) {c : Dev nD} (dat : Dat τ (Elt F) Unit ℕ (UR sig nD τ) ℕ (cfgM m hO) c) (hA : dat.A 109 = V m c (Pipeline.arrRef spec0 109))
    (hafter : ∀ t, dat.after 109 t = iblk m hO c 109 t) (t : Fin (cfgM m hO).N) (d) : dat.before 109 t d = iblk m hO c 109 t :=
  (dat.before_in_eq_fetched 109 rfl (fun _ => rfl) (fun _ _ _ => rfl) (fun t => by rw [hafter]; unfold Dat.blockOf iblk; rw [hA]; try rfl) t d).trans
    (by unfold Dat.fetched Dat.blockOf iblk; rw [hA]; try rfl)
theorem before0_110_of (hO : Ok m) {c : Dev nD} (dat : Dat τ (Elt F) Unit ℕ (UR sig nD τ) ℕ (cfgM m hO) c) (hA : dat.A 110 = V m c (Pipeline.arrRef spec0 110))
    (hafter : ∀ t, dat.after 110 t = iblk m hO c 110 t) (t : Fin (cfgM m hO).N) (d) : dat.before 110 t d = iblk m hO c 110 t :=
  (dat.before_in_eq_fetched 110 rfl (fun _ => rfl) (fun _ _ _ => rfl) (fun t => by rw [hafter]; unfold Dat.blockOf iblk; rw [hA]; try rfl) t d).trans
    (by unfold Dat.fetched Dat.blockOf iblk; rw [hA]; try rfl)
theorem before0_111_of (hO : Ok m) {c : Dev nD} (dat : Dat τ (Elt F) Unit ℕ (UR sig nD τ) ℕ (cfgM m hO) c) (hA : dat.A 111 = V m c (Pipeline.arrRef spec0 111))
    (hafter : ∀ t, dat.after 111 t = iblk m hO c 111 t) (t : Fin (cfgM m hO).N) (d) : dat.before 111 t d = iblk m hO c 111 t :=
  (dat.before_in_eq_fetched 111 rfl (fun _ => rfl) (fun _ _ _ => rfl) (fun t => by rw [hafter]; unfold Dat.blockOf iblk; rw [hA]; try rfl) t d).trans
    (by unfold Dat.fetched Dat.blockOf iblk; rw [hA]; try rfl)
theorem before0_112_of (hO : Ok m) {c : Dev nD} (dat : Dat τ (Elt F) Unit ℕ (UR sig nD τ) ℕ (cfgM m hO) c) (hA : dat.A 112 = V m c (Pipeline.arrRef spec0 112))
    (hafter : ∀ t, dat.after 112 t = iblk m hO c 112 t) (t : Fin (cfgM m hO).N) (d) : dat.before 112 t d = iblk m hO c 112 t :=
  (dat.before_in_eq_fetched 112 rfl (fun _ => rfl) (fun _ _ _ => rfl) (fun t => by rw [hafter]; unfold Dat.blockOf iblk; rw [hA]; try rfl) t d).trans
    (by unfold Dat.fetched Dat.blockOf iblk; rw [hA]; try rfl)
theorem before0_113_of (hO : Ok m) {c : Dev nD} (dat : Dat τ (Elt F) Unit ℕ (UR sig nD τ) ℕ (cfgM m hO) c) (hA : dat.A 113 = V m c (Pipeline.arrRef spec0 113))
    (hafter : ∀ t, dat.after 113 t = iblk m hO c 113 t) (t : Fin (cfgM m hO).N) (d) : dat.before 113 t d = iblk m hO c 113 t :=
  (dat.before_in_eq_fetched 113 rfl (fun _ => rfl) (fun _ _ _ => rfl) (fun t => by rw [hafter]; unfold Dat.blockOf iblk; rw [hA]; try rfl) t d).trans
    (by unfold Dat.fetched Dat.blockOf iblk; rw [hA]; try rfl)
theorem before0_114_of (hO : Ok m) {c : Dev nD} (dat : Dat τ (Elt F) Unit ℕ (UR sig nD τ) ℕ (cfgM m hO) c) (hA : dat.A 114 = V m c (Pipeline.arrRef spec0 114))
    (hafter : ∀ t, dat.after 114 t = iblk m hO c 114 t) (t : Fin (cfgM m hO).N) (d) : dat.before 114 t d = iblk m hO c 114 t :=
  (dat.before_in_eq_fetched 114 rfl (fun _ => rfl) (fun _ _ _ => rfl) (fun t => by rw [hafter]; unfold Dat.blockOf iblk; rw [hA]; try rfl) t d).trans
    (by unfold Dat.fetched Dat.blockOf iblk; rw [hA]; try rfl)
theorem before0_115_of (hO : Ok m) {c : Dev nD} (dat : Dat τ (Elt F) Unit ℕ (UR sig nD τ) ℕ (cfgM m hO) c) (hA : dat.A 115 = V m c (Pipeline.arrRef spec0 115))
    (hafter : ∀ t, dat.after 115 t = iblk m hO c 115 t) (t : Fin (cfgM m hO).N) (d) : dat.before 115 t d = iblk m hO c 115 t :=
  (dat.before_in_eq_fetched 115 rfl (fun _ => rfl) (fun _ _ _ => rfl) (fun t => by rw [hafter]; unfold Dat.blockOf iblk; rw [hA]; try rfl) t d).trans
    (by unfold Dat.fetched Dat.blockOf iblk; rw [hA]; try rfl)
theorem before0_116_of (hO : Ok m) {c : Dev nD} (dat : Dat τ (Elt F) Unit ℕ (UR sig nD τ) ℕ (cfgM m hO) c) (hA : dat.A 116 = V m c (Pipeline.arrRef spec0 116))
    (hafter : ∀ t, dat.after 116 t = iblk m hO c 116 t) (t : Fin (cfgM m hO).N) (d) : dat.before 116 t d = iblk m hO c 116 t :=
  (dat.before_in_eq_fetched 116 rfl (fun _ => rfl) (fun _ _ _ => rfl) (fun t => by rw [hafter]; unfold Dat.blockOf iblk; rw [hA]; try rfl) t d).trans
    (by unfold Dat.fetched Dat.blockOf iblk; rw [hA]; try rfl)
theorem before0_117_of (hO : Ok m) {c : Dev nD} (dat : Dat τ (Elt F) Unit ℕ (UR sig nD τ) ℕ (cfgM m hO) c) (hA : dat.A 117 = V m c (Pipeline.arrRef spec0 117))
    (hafter : ∀ t, dat.after 117 t = iblk m hO c 117 t) (t : Fin (cfgM m hO).N) (d) : dat.before 117 t d = iblk m hO c 117 t :=
  (dat.before_in_eq_fetched 117 rfl (fun _ => rfl) (fun _ _ _ => rfl) (fun t => by rw [hafter]; unfold Dat.blockOf iblk; rw [hA]; try rfl) t d).trans
    (by unfold Dat.fetched Dat.blockOf iblk; rw [hA]; try rfl)
theorem before0_118_of (hO : Ok m) {c : Dev nD} (dat : Dat τ (Elt F) Unit ℕ (UR sig nD τ) ℕ (cfgM m hO) c) (hA : dat.A 118 = V m c (Pipeline.arrRef spec0 118))
    (hafter : ∀ t, dat.after 118 t = iblk m hO c 118 t) (t : Fin (cfgM m hO).N) (d) : dat.before 118 t d = iblk m hO c 118 t :=
  (dat.before_in_eq_fetched 118 rfl (fun _ => rfl) (fun _ _ _ => rfl) (fun t => by rw [hafter]; unfold Dat.blockOf iblk; rw [hA]; try rfl) t d).trans
    (by unfold Dat.fetched Dat.blockOf iblk; rw [hA]; try rfl)
theorem before0_119_of (hO : Ok m) {c : Dev nD} (dat : Dat τ (Elt F) Unit ℕ (UR sig nD τ) ℕ (cfgM m hO) c) (hA : dat.A 119 = V m c (Pipeline.arrRef spec0 119))
    (hafter : ∀ t, dat.after 119 t = iblk m hO c 119 t) (t : Fin (cfgM m hO).N) (d) : dat.before 119 t d = iblk m hO c 119 t :=
  (dat.before_in_eq_fetched 119 rfl (fun _ => rfl) (fun _ _ _ => rfl) (fun t => by rw [hafter]; unfold Dat.blockOf iblk; rw [hA]; try rfl) t d).trans
    (by unfold Dat.fetched Dat.blockOf iblk; rw [hA]; try rfl)
theorem before0_120_of (hO : Ok m) {c : Dev nD} (dat : Dat τ (Elt F) Unit ℕ (UR sig nD τ) ℕ (cfgM m hO) c) (hA : dat.A 120 = V m c (Pipeline.arrRef spec0 120))
    (hafter : ∀ t, dat.after 120 t = iblk m hO c 120 t) (t : Fin (cfgM m hO).N) (d) : dat.before 120 t d = iblk m hO c 120 t :=
  (dat.before_in_eq_fetched 120 rfl (fun _ => rfl) (fun _ _ _ => rfl) (fun t => by rw [hafter]; unfold Dat.blockOf iblk; rw [hA]; try rfl) t d).trans
    (by unfold Dat.fetched Dat.blockOf iblk; rw [hA]; try rfl)
theorem before0_121_of (hO : Ok m) {c : Dev nD} (dat : Dat τ (Elt F) Unit ℕ (UR sig nD τ) ℕ (cfgM m hO) c) (hA : dat.A 121 = V m c (Pipeline.arrRef spec0 121))
    (hafter : ∀ t, dat.after 121 t = iblk m hO c 121 t) (t : Fin (cfgM m hO).N) (d) : dat.before 121 t d = iblk m hO c 121 t :=
  (dat.before_in_eq_fetched 121 rfl (fun _ => rfl) (fun _ _ _ => rfl) (fun t => by rw [hafter]; unfold Dat.blockOf iblk; rw [hA]; try rfl) t d).trans
    (by unfold Dat.fetched Dat.blockOf iblk; rw [hA]; try rfl)
theorem before0_122_of (hO : Ok m) {c : Dev nD} (dat : Dat τ (Elt F) Unit ℕ (UR sig nD τ) ℕ (cfgM m hO) c) (hA : dat.A 122 = V m c (Pipeline.arrRef spec0 122))
    (hafter : ∀ t, dat.after 122 t = iblk m hO c 122 t) (t : Fin (cfgM m hO).N) (d) : dat.before 122 t d = iblk m hO c 122 t :=
  (dat.before_in_eq_fetched 122 rfl (fun _ => rfl) (fun _ _ _ => rfl) (fun t => by rw [hafter]; unfold Dat.blockOf iblk; rw [hA]; try rfl) t d).trans
    (by unfold Dat.fetched Dat.blockOf iblk; rw [hA]; try rfl)
theorem before0_123_of (hO : Ok m) {c : Dev nD} (dat : Dat τ (Elt F) Unit ℕ (UR sig nD τ) ℕ (cfgM m hO) c) (hA : dat.A 123 = V m c (Pipeline.arrRef spec0 123))
    (hafter : ∀ t, dat.after 123 t = iblk m hO c 123 t) (t : Fin (cfgM m hO).N) (d) : dat.before 123 t d = iblk m hO c 123 t :=
  (dat.before_in_eq_fetched 123 rfl (fun _ => rfl) (fun _ _ _ => rfl) (fun t => by rw [hafter]; unfold Dat.blockOf iblk; rw [hA]; try rfl) t d).trans
    (by unfold Dat.fetched Dat.blockOf iblk; rw [hA]; try rfl)
theorem before0_124_of (hO : Ok m) {c : Dev nD} (dat : Dat τ (Elt F) Unit ℕ (UR sig nD τ) ℕ (cfgM m hO) c) (hA : dat.A 124 = V m c (Pipeline.arrRef spec0 124))
    (hafter : ∀ t, dat.after 124 t = iblk m hO c 124 t) (t : Fin (cfgM m hO).N) (d) : dat.before 124 t d = iblk m hO c 124 t :=
  (dat.before_in_eq_fetched 124 rfl (fun _ => rfl) (fun _ _ _ => rfl) (fun t => by rw [hafter]; unfold Dat.blockOf iblk; rw [hA]; try rfl) t d).trans
    (by unfold Dat.fetched Dat.blockOf iblk; rw [hA]; try rfl)
theorem before0_125_of (hO : Ok m) {c : Dev nD} (dat : Dat τ (Elt F) Unit ℕ (UR sig nD τ) ℕ (cfgM m hO) c) (hA : dat.A 125 = V m c (Pipeline.arrRef spec0 125))
    (hafter : ∀ t, dat.after 125 t = iblk m hO c 125 t) (t : Fin (cfgM m hO).N) (d) : dat.before 125 t d = iblk m hO c 125 t :=
  (dat.before_in_eq_fetched 125 rfl (fun _ => rfl) (fun _ _ _ => rfl) (fun t => by rw [hafter]; unfold Dat.blockOf iblk; rw [hA]; try rfl) t d).trans
    (by unfold Dat.fetched Dat.blockOf iblk; rw [hA]; try rfl)
theorem before0_126_of (hO : Ok m) {c : Dev nD} (dat : Dat τ (Elt F) Unit ℕ (UR sig nD τ) ℕ (cfgM m hO) c) (hA : dat.A 126 = V m c (Pipeline.arrRef spec0 126))
    (hafter : ∀ t, dat.after 126 t = iblk m hO c 126 t) (t : Fin (cfgM m hO).N) (d) : dat.before 126 t d = iblk m hO c 126 t :=
  (dat.before_in_eq_fetched 126 rfl (fun _ => rfl) (fun _ _ _ => rfl) (fun t => by rw [hafter]; unfold Dat.blockOf iblk; rw [hA]; try rfl) t d).trans
    (by unfold Dat.fetched Dat.blockOf iblk; rw [hA]; try rfl)
theorem before0_127_of (hO : Ok m) {c : Dev nD} (dat : Dat τ (Elt F) Unit ℕ (UR sig nD τ) ℕ (cfgM m hO) c) (hA : dat.A 127 = V m c (Pipeline.arrRef spec0 127))
    (hafter : ∀ t, dat.after 127 t = iblk m hO c 127 t) (t : Fin (cfgM m hO).N) (d) : dat.before 127 t d = iblk m hO c 127 t :=
  (dat.before_in_eq_fetched 127 rfl (fun _ => rfl) (fun _ _ _ => rfl) (fun t => by rw [hafter]; unfold Dat.blockOf iblk; rw [hA]; try rfl) t d).trans
    (by unfold Dat.fetched Dat.blockOf iblk; rw [hA]; try rfl)
theorem before0_128_of (hO : Ok m) {c : Dev nD} (dat : Dat τ (Elt F) Unit ℕ (UR sig nD τ) ℕ (cfgM m hO) c) (hA : dat.A 128 = V m c (Pipeline.arrRef spec0 128))
    (hafter : ∀ t, dat.after 128 t = iblk m hO c 128 t) (t : Fin (cfgM m hO).N) (d) : dat.before 128 t d = iblk m hO c 128 t :=
  (dat.before_in_eq_fetched 128 rfl (fun _ => rfl) (fun _ _ _ => rfl) (fun t => by rw [hafter]; unfold Dat.blockOf iblk; rw [hA]; try rfl) t d).trans
    (by unfold Dat.fetched Dat.blockOf iblk; rw [hA]; try rfl)
theorem before0_129_of (hO : Ok m) {c : Dev nD} (dat : Dat τ (Elt F) Unit ℕ (UR sig nD τ) ℕ (cfgM m hO) c) (hA : dat.A 129 = V m c (Pipeline.arrRef spec0 129))
    (hafter : ∀ t, dat.after 129 t = iblk m hO c 129 t) (t : Fin (cfgM m hO).N) (d) : dat.before 129 t d = iblk m hO c 129 t :=
  (dat.before_in_eq_fetched 129 rfl (fun _ => rfl) (fun _ _ _ => rfl) (fun t => by rw [hafter]; unfold Dat.blockOf iblk; rw [hA]; try rfl) t d).trans
    (by unfold Dat.fetched Dat.blockOf iblk; rw [hA]; try rfl)
theorem before0_130_of (hO : Ok m) {c : Dev nD} (dat : Dat τ (Elt F) Unit ℕ (UR sig nD τ) ℕ (cfgM m hO) c) (hA : dat.A 130 = V m c (Pipeline.arrRef spec0 130))
    (hafter : ∀ t, dat.after 130 t = iblk m hO c 130 t) (t : Fin (cfgM m hO).N) (d) : dat.before 130 t d = iblk m hO c 130 t :=
  (dat.before_in_eq_fetched 130 rfl (fun _ => rfl) (fun _ _ _ => rfl) (fun t => by rw [hafter]; unfold Dat.blockOf iblk; rw [hA]; try rfl) t d).trans
    (by unfold Dat.fetched Dat.blockOf iblk; rw [hA]; try rfl)
theorem before0_131_of (hO : Ok m) {c : Dev nD} (dat : Dat τ (Elt F) Unit ℕ (UR sig nD τ) ℕ (cfgM m hO) c) (hA : dat.A 131 = V m c (Pipeline.arrRef spec0 131))
    (hafter : ∀ t, dat.after 131 t = iblk m hO c 131 t) (t : Fin (cfgM m hO).N) (d) : dat.before 131 t d = iblk m hO c 131 t :=
  (dat.before_in_eq_fetched 131 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 8040000 in
/-- A run that ends as its proof data says leaves the argument arrays unchanged. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).1 3).trans (((dats 0 c).arrAt_in 3 rfl _).trans ((hA c 3).trans (V_main_arg4 m c))),
      ((h c).2 main_arg5 (by decide : main_arg5 ∈ Pipeline.restRefs sig spec0)).trans (V_main_arg5 m c)⟩) h

/-! ## The windows' staging memrefs -/

/-- Each window's current staging memref at point `t`, and its wholeness. -/
abbrev ms0_0 (hO : Ok m) (t : Fin (cfgM m hO).N) : Memref sig .tc .vmem S512x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S512x128 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S512x128 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S512x128 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x128x128 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x128x128 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x128x128 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x128x128 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x128x128 .bf16 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x128x128 .bf16 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x128x128 .bf16 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x128x128 .bf16 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x128x128 .bf16 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x128x128 .bf16 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S1x128x128 .bf16 := spec0_14.stage ((cfgM m hO).slots t 14)
abbrev hs0_14 (hO : Ok m) (t : Fin (cfgM m hO).N) : (ms0_14 m hO t).IsWhole := hstage0_14 (((cfgM m hO).slots t 14).cast nbuf0_14)
abbrev ms0_15 (hO : Ok m) (t : Fin (cfgM m hO).N) : Memref sig .tc .vmem S1x128x128 .bf16 := spec0_15.stage ((cfgM m hO).slots t 15)
abbrev hs0_15 (hO : Ok m) (t : Fin (cfgM m hO).N) : (ms0_15 m hO t).IsWhole := hstage0_15 (((cfgM m hO).slots t 15).cast nbuf0_15)
abbrev ms0_16 (hO : Ok m) (t : Fin (cfgM m hO).N) : Memref sig .tc .vmem S1x128x128 .bf16 := spec0_16.stage ((cfgM m hO).slots t 16)
abbrev hs0_16 (hO : Ok m) (t : Fin (cfgM m hO).N) : (ms0_16 m hO t).IsWhole := hstage0_16 (((cfgM m hO).slots t 16).cast nbuf0_16)
abbrev ms0_17 (hO : Ok m) (t : Fin (cfgM m hO).N) : Memref sig .tc .vmem S1x128x128 .bf16 := spec0_17.stage ((cfgM m hO).slots t 17)
abbrev hs0_17 (hO : Ok m) (t : Fin (cfgM m hO).N) : (ms0_17 m hO t).IsWhole := hstage0_17 (((cfgM m hO).slots t 17).cast nbuf0_17)
abbrev ms0_18 (hO : Ok m) (t : Fin (cfgM m hO).N) : Memref sig .tc .vmem S1x128x128 .bf16 := spec0_18.stage ((cfgM m hO).slots t 18)
abbrev hs0_18 (hO : Ok m) (t : Fin (cfgM m hO).N) : (ms0_18 m hO t).IsWhole := hstage0_18 (((cfgM m hO).slots t 18).cast nbuf0_18)
abbrev ms0_19 (hO : Ok m) (t : Fin (cfgM m hO).N) : Memref sig .tc .vmem S1x128x128 .bf16 := spec0_19.stage ((cfgM m hO).slots t 19)
abbrev hs0_19 (hO : Ok m) (t : Fin (cfgM m hO).N) : (ms0_19 m hO t).IsWhole := hstage0_19 (((cfgM m hO).slots t 19).cast nbuf0_19)
abbrev ms0_20 (hO : Ok m) (t : Fin (cfgM m hO).N) : Memref sig .tc .vmem S1x128x128 .bf16 := spec0_20.stage ((cfgM m hO).slots t 20)
abbrev hs0_20 (hO : Ok m) (t : Fin (cfgM m hO).N) : (ms0_20 m hO t).IsWhole := hstage0_20 (((cfgM m hO).slots t 20).cast nbuf0_20)
abbrev ms0_21 (hO : Ok m) (t : Fin (cfgM m hO).N) : Memref sig .tc .vmem S1x128x128 .bf16 := spec0_21.stage ((cfgM m hO).slots t 21)
abbrev hs0_21 (hO : Ok m) (t : Fin (cfgM m hO).N) : (ms0_21 m hO t).IsWhole := hstage0_21 (((cfgM m hO).slots t 21).cast nbuf0_21)
abbrev ms0_22 (hO : Ok m) (t : Fin (cfgM m hO).N) : Memref sig .tc .vmem S1x128x128 .bf16 := spec0_22.stage ((cfgM m hO).slots t 22)
abbrev hs0_22 (hO : Ok m) (t : Fin (cfgM m hO).N) : (ms0_22 m hO t).IsWhole := hstage0_22 (((cfgM m hO).slots t 22).cast nbuf0_22)
abbrev ms0_23 (hO : Ok m) (t : Fin (cfgM m hO).N) : Memref sig .tc .vmem S1x128x128 .bf16 := spec0_23.stage ((cfgM m hO).slots t 23)
abbrev hs0_23 (hO : Ok m) (t : Fin (cfgM m hO).N) : (ms0_23 m hO t).IsWhole := hstage0_23 (((cfgM m hO).slots t 23).cast nbuf0_23)
abbrev ms0_24 (hO : Ok m) (t : Fin (cfgM m hO).N) : Memref sig .tc .vmem S1x128x128 .bf16 := spec0_24.stage ((cfgM m hO).slots t 24)
abbrev hs0_24 (hO : Ok m) (t : Fin (cfgM m hO).N) : (ms0_24 m hO t).IsWhole := hstage0_24 (((cfgM m hO).slots t 24).cast nbuf0_24)
abbrev ms0_25 (hO : Ok m) (t : Fin (cfgM m hO).N) : Memref sig .tc .vmem S1x128x128 .bf16 := spec0_25.stage ((cfgM m hO).slots t 25)
abbrev hs0_25 (hO : Ok m) (t : Fin (cfgM m hO).N) : (ms0_25 m hO t).IsWhole := hstage0_25 (((cfgM m hO).slots t 25).cast nbuf0_25)
abbrev ms0_26 (hO : Ok m) (t : Fin (cfgM m hO).N) : Memref sig .tc .vmem S1x128x128 .bf16 := spec0_26.stage ((cfgM m hO).slots t 26)
abbrev hs0_26 (hO : Ok m) (t : Fin (cfgM m hO).N) : (ms0_26 m hO t).IsWhole := hstage0_26 (((cfgM m hO).slots t 26).cast nbuf0_26)
abbrev ms0_27 (hO : Ok m) (t : Fin (cfgM m hO).N) : Memref sig .tc .vmem S1x128x128 .bf16 := spec0_27.stage ((cfgM m hO).slots t 27)
abbrev hs0_27 (hO : Ok m) (t : Fin (cfgM m hO).N) : (ms0_27 m hO t).IsWhole := hstage0_27 (((cfgM m hO).slots t 27).cast nbuf0_27)
abbrev ms0_28 (hO : Ok m) (t : Fin (cfgM m hO).N) : Memref sig .tc .vmem S1x128x128 .bf16 := spec0_28.stage ((cfgM m hO).slots t 28)
abbrev hs0_28 (hO : Ok m) (t : Fin (cfgM m hO).N) : (ms0_28 m hO t).IsWhole := hstage0_28 (((cfgM m hO).slots t 28).cast nbuf0_28)
abbrev ms0_29 (hO : Ok m) (t : Fin (cfgM m hO).N) : Memref sig .tc .vmem S1x128x128 .bf16 := spec0_29.stage ((cfgM m hO).slots t 29)
abbrev hs0_29 (hO : Ok m) (t : Fin (cfgM m hO).N) : (ms0_29 m hO t).IsWhole := hstage0_29 (((cfgM m hO).slots t 29).cast nbuf0_29)
abbrev ms0_30 (hO : Ok m) (t : Fin (cfgM m hO).N) : Memref sig .tc .vmem S1x128x128 .bf16 := spec0_30.stage ((cfgM m hO).slots t 30)
abbrev hs0_30 (hO : Ok m) (t : Fin (cfgM m hO).N) : (ms0_30 m hO t).IsWhole := hstage0_30 (((cfgM m hO).slots t 30).cast nbuf0_30)
abbrev ms0_31 (hO : Ok m) (t : Fin (cfgM m hO).N) : Memref sig .tc .vmem S1x128x128 .bf16 := spec0_31.stage ((cfgM m hO).slots t 31)
abbrev hs0_31 (hO : Ok m) (t : Fin (cfgM m hO).N) : (ms0_31 m hO t).IsWhole := hstage0_31 (((cfgM m hO).slots t 31).cast nbuf0_31)
abbrev ms0_32 (hO : Ok m) (t : Fin (cfgM m hO).N) : Memref sig .tc .vmem S1x128x128 .bf16 := spec0_32.stage ((cfgM m hO).slots t 32)
abbrev hs0_32 (hO : Ok m) (t : Fin (cfgM m hO).N) : (ms0_32 m hO t).IsWhole := hstage0_32 (((cfgM m hO).slots t 32).cast nbuf0_32)
abbrev ms0_33 (hO : Ok m) (t : Fin (cfgM m hO).N) : Memref sig .tc .vmem S1x128x128 .bf16 := spec0_33.stage ((cfgM m hO).slots t 33)
abbrev hs0_33 (hO : Ok m) (t : Fin (cfgM m hO).N) : (ms0_33 m hO t).IsWhole := hstage0_33 (((cfgM m hO).slots t 33).cast nbuf0_33)
abbrev ms0_34 (hO : Ok m) (t : Fin (cfgM m hO).N) : Memref sig .tc .vmem S1x128x128 .bf16 := spec0_34.stage ((cfgM m hO).slots t 34)
abbrev hs0_34 (hO : Ok m) (t : Fin (cfgM m hO).N) : (ms0_34 m hO t).IsWhole := hstage0_34 (((cfgM m hO).slots t 34).cast nbuf0_34)
abbrev ms0_35 (hO : Ok m) (t : Fin (cfgM m hO).N) : Memref sig .tc .vmem S1x128x128 .bf16 := spec0_35.stage ((cfgM m hO).slots t 35)
abbrev hs0_35 (hO : Ok m) (t : Fin (cfgM m hO).N) : (ms0_35 m hO t).IsWhole := hstage0_35 (((cfgM m hO).slots t 35).cast nbuf0_35)
abbrev ms0_36 (hO : Ok m) (t : Fin (cfgM m hO).N) : Memref sig .tc .vmem S1x128x128 .bf16 := spec0_36.stage ((cfgM m hO).slots t 36)
abbrev hs0_36 (hO : Ok m) (t : Fin (cfgM m hO).N) : (ms0_36 m hO t).IsWhole := hstage0_36 (((cfgM m hO).slots t 36).cast nbuf0_36)
abbrev ms0_37 (hO : Ok m) (t : Fin (cfgM m hO).N) : Memref sig .tc .vmem S1x128x128 .bf16 := spec0_37.stage ((cfgM m hO).slots t 37)
abbrev hs0_37 (hO : Ok m) (t : Fin (cfgM m hO).N) : (ms0_37 m hO t).IsWhole := hstage0_37 (((cfgM m hO).slots t 37).cast nbuf0_37)
abbrev ms0_38 (hO : Ok m) (t : Fin (cfgM m hO).N) : Memref sig .tc .vmem S1x128x128 .bf16 := spec0_38.stage ((cfgM m hO).slots t 38)
abbrev hs0_38 (hO : Ok m) (t : Fin (cfgM m hO).N) : (ms0_38 m hO t).IsWhole := hstage0_38 (((cfgM m hO).slots t 38).cast nbuf0_38)
abbrev ms0_39 (hO : Ok m) (t : Fin (cfgM m hO).N) : Memref sig .tc .vmem S1x128x128 .bf16 := spec0_39.stage ((cfgM m hO).slots t 39)
abbrev hs0_39 (hO : Ok m) (t : Fin (cfgM m hO).N) : (ms0_39 m hO t).IsWhole := hstage0_39 (((cfgM m hO).slots t 39).cast nbuf0_39)
abbrev ms0_40 (hO : Ok m) (t : Fin (cfgM m hO).N) : Memref sig .tc .vmem S1x128x128 .bf16 := spec0_40.stage ((cfgM m hO).slots t 40)
abbrev hs0_40 (hO : Ok m) (t : Fin (cfgM m hO).N) : (ms0_40 m hO t).IsWhole := hstage0_40 (((cfgM m hO).slots t 40).cast nbuf0_40)
abbrev ms0_41 (hO : Ok m) (t : Fin (cfgM m hO).N) : Memref sig .tc .vmem S1x128x128 .bf16 := spec0_41.stage ((cfgM m hO).slots t 41)
abbrev hs0_41 (hO : Ok m) (t : Fin (cfgM m hO).N) : (ms0_41 m hO t).IsWhole := hstage0_41 (((cfgM m hO).slots t 41).cast nbuf0_41)
abbrev ms0_42 (hO : Ok m) (t : Fin (cfgM m hO).N) : Memref sig .tc .vmem S1x128x128 .bf16 := spec0_42.stage ((cfgM m hO).slots t 42)
abbrev hs0_42 (hO : Ok m) (t : Fin (cfgM m hO).N) : (ms0_42 m hO t).IsWhole := hstage0_42 (((cfgM m hO).slots t 42).cast nbuf0_42)
abbrev ms0_43 (hO : Ok m) (t : Fin (cfgM m hO).N) : Memref sig .tc .vmem S1x128x128 .bf16 := spec0_43.stage ((cfgM m hO).slots t 43)
abbrev hs0_43 (hO : Ok m) (t : Fin (cfgM m hO).N) : (ms0_43 m hO t).IsWhole := hstage0_43 (((cfgM m hO).slots t 43).cast nbuf0_43)
abbrev ms0_44 (hO : Ok m) (t : Fin (cfgM m hO).N) : Memref sig .tc .vmem S1x128x128 .bf16 := spec0_44.stage ((cfgM m hO).slots t 44)
abbrev hs0_44 (hO : Ok m) (t : Fin (cfgM m hO).N) : (ms0_44 m hO t).IsWhole := hstage0_44 (((cfgM m hO).slots t 44).cast nbuf0_44)
abbrev ms0_45 (hO : Ok m) (t : Fin (cfgM m hO).N) : Memref sig .tc .vmem S1x128x128 .bf16 := spec0_45.stage ((cfgM m hO).slots t 45)
abbrev hs0_45 (hO : Ok m) (t : Fin (cfgM m hO).N) : (ms0_45 m hO t).IsWhole := hstage0_45 (((cfgM m hO).slots t 45).cast nbuf0_45)
abbrev ms0_46 (hO : Ok m) (t : Fin (cfgM m hO).N) : Memref sig .tc .vmem S1x128x128 .bf16 := spec0_46.stage ((cfgM m hO).slots t 46)
abbrev hs0_46 (hO : Ok m) (t : Fin (cfgM m hO).N) : (ms0_46 m hO t).IsWhole := hstage0_46 (((cfgM m hO).slots t 46).cast nbuf0_46)
abbrev ms0_47 (hO : Ok m) (t : Fin (cfgM m hO).N) : Memref sig .tc .vmem S1x128x128 .bf16 := spec0_47.stage ((cfgM m hO).slots t 47)
abbrev hs0_47 (hO : Ok m) (t : Fin (cfgM m hO).N) : (ms0_47 m hO t).IsWhole := hstage0_47 (((cfgM m hO).slots t 47).cast nbuf0_47)
abbrev ms0_48 (hO : Ok m) (t : Fin (cfgM m hO).N) : Memref sig .tc .vmem S1x128x128 .bf16 := spec0_48.stage ((cfgM m hO).slots t 48)
abbrev hs0_48 (hO : Ok m) (t : Fin (cfgM m hO).N) : (ms0_48 m hO t).IsWhole := hstage0_48 (((cfgM m hO).slots t 48).cast nbuf0_48)
abbrev ms0_49 (hO : Ok m) (t : Fin (cfgM m hO).N) : Memref sig .tc .vmem S1x128x128 .bf16 := spec0_49.stage ((cfgM m hO).slots t 49)
abbrev hs0_49 (hO : Ok m) (t : Fin (cfgM m hO).N) : (ms0_49 m hO t).IsWhole := hstage0_49 (((cfgM m hO).slots t 49).cast nbuf0_49)
abbrev ms0_50 (hO : Ok m) (t : Fin (cfgM m hO).N) : Memref sig .tc .vmem S1x128x128 .bf16 := spec0_50.stage ((cfgM m hO).slots t 50)
abbrev hs0_50 (hO : Ok m) (t : Fin (cfgM m hO).N) : (ms0_50 m hO t).IsWhole := hstage0_50 (((cfgM m hO).slots t 50).cast nbuf0_50)
abbrev ms0_51 (hO : Ok m) (t : Fin (cfgM m hO).N) : Memref sig .tc .vmem S1x128x128 .bf16 := spec0_51.stage ((cfgM m hO).slots t 51)
abbrev hs0_51 (hO : Ok m) (t : Fin (cfgM m hO).N) : (ms0_51 m hO t).IsWhole := hstage0_51 (((cfgM m hO).slots t 51).cast nbuf0_51)
abbrev ms0_52 (hO : Ok m) (t : Fin (cfgM m hO).N) : Memref sig .tc .vmem S1x128x128 .bf16 := spec0_52.stage ((cfgM m hO).slots t 52)
abbrev hs0_52 (hO : Ok m) (t : Fin (cfgM m hO).N) : (ms0_52 m hO t).IsWhole := hstage0_52 (((cfgM m hO).slots t 52).cast nbuf0_52)
abbrev ms0_53 (hO : Ok m) (t : Fin (cfgM m hO).N) : Memref sig .tc .vmem S1x128x128 .bf16 := spec0_53.stage ((cfgM m hO).slots t 53)
abbrev hs0_53 (hO : Ok m) (t : Fin (cfgM m hO).N) : (ms0_53 m hO t).IsWhole := hstage0_53 (((cfgM m hO).slots t 53).cast nbuf0_53)
abbrev ms0_54 (hO : Ok m) (t : Fin (cfgM m hO).N) : Memref sig .tc .vmem S1x128x128 .bf16 := spec0_54.stage ((cfgM m hO).slots t 54)
abbrev hs0_54 (hO : Ok m) (t : Fin (cfgM m hO).N) : (ms0_54 m hO t).IsWhole := hstage0_54 (((cfgM m hO).slots t 54).cast nbuf0_54)
abbrev ms0_55 (hO : Ok m) (t : Fin (cfgM m hO).N) : Memref sig .tc .vmem S1x128x128 .bf16 := spec0_55.stage ((cfgM m hO).slots t 55)
abbrev hs0_55 (hO : Ok m) (t : Fin (cfgM m hO).N) : (ms0_55 m hO t).IsWhole := hstage0_55 (((cfgM m hO).slots t 55).cast nbuf0_55)
abbrev ms0_56 (hO : Ok m) (t : Fin (cfgM m hO).N) : Memref sig .tc .vmem S1x128x128 .bf16 := spec0_56.stage ((cfgM m hO).slots t 56)
abbrev hs0_56 (hO : Ok m) (t : Fin (cfgM m hO).N) : (ms0_56 m hO t).IsWhole := hstage0_56 (((cfgM m hO).slots t 56).cast nbuf0_56)
abbrev ms0_57 (hO : Ok m) (t : Fin (cfgM m hO).N) : Memref sig .tc .vmem S1x128x128 .bf16 := spec0_57.stage ((cfgM m hO).slots t 57)
abbrev hs0_57 (hO : Ok m) (t : Fin (cfgM m hO).N) : (ms0_57 m hO t).IsWhole := hstage0_57 (((cfgM m hO).slots t 57).cast nbuf0_57)
abbrev ms0_58 (hO : Ok m) (t : Fin (cfgM m hO).N) : Memref sig .tc .vmem S1x128x128 .bf16 := spec0_58.stage ((cfgM m hO).slots t 58)
abbrev hs0_58 (hO : Ok m) (t : Fin (cfgM m hO).N) : (ms0_58 m hO t).IsWhole := hstage0_58 (((cfgM m hO).slots t 58).cast nbuf0_58)
abbrev ms0_59 (hO : Ok m) (t : Fin (cfgM m hO).N) : Memref sig .tc .vmem S1x128x128 .bf16 := spec0_59.stage ((cfgM m hO).slots t 59)
abbrev hs0_59 (hO : Ok m) (t : Fin (cfgM m hO).N) : (ms0_59 m hO t).IsWhole := hstage0_59 (((cfgM m hO).slots t 59).cast nbuf0_59)
abbrev ms0_60 (hO : Ok m) (t : Fin (cfgM m hO).N) : Memref sig .tc .vmem S1x128x128 .bf16 := spec0_60.stage ((cfgM m hO).slots t 60)
abbrev hs0_60 (hO : Ok m) (t : Fin (cfgM m hO).N) : (ms0_60 m hO t).IsWhole := hstage0_60 (((cfgM m hO).slots t 60).cast nbuf0_60)
abbrev ms0_61 (hO : Ok m) (t : Fin (cfgM m hO).N) : Memref sig .tc .vmem S1x128x128 .bf16 := spec0_61.stage ((cfgM m hO).slots t 61)
abbrev hs0_61 (hO : Ok m) (t : Fin (cfgM m hO).N) : (ms0_61 m hO t).IsWhole := hstage0_61 (((cfgM m hO).slots t 61).cast nbuf0_61)
abbrev ms0_62 (hO : Ok m) (t : Fin (cfgM m hO).N) : Memref sig .tc .vmem S1x128x128 .bf16 := spec0_62.stage ((cfgM m hO).slots t 62)
abbrev hs0_62 (hO : Ok m) (t : Fin (cfgM m hO).N) : (ms0_62 m hO t).IsWhole := hstage0_62 (((cfgM m hO).slots t 62).cast nbuf0_62)
abbrev ms0_63 (hO : Ok m) (t : Fin (cfgM m hO).N) : Memref sig .tc .vmem S1x128x128 .bf16 := spec0_63.stage ((cfgM m hO).slots t 63)
abbrev hs0_63 (hO : Ok m) (t : Fin (cfgM m hO).N) : (ms0_63 m hO t).IsWhole := hstage0_63 (((cfgM m hO).slots t 63).cast nbuf0_63)
abbrev ms0_64 (hO : Ok m) (t : Fin (cfgM m hO).N) : Memref sig .tc .vmem S1x128x128 .bf16 := spec0_64.stage ((cfgM m hO).slots t 64)
abbrev hs0_64 (hO : Ok m) (t : Fin (cfgM m hO).N) : (ms0_64 m hO t).IsWhole := hstage0_64 (((cfgM m hO).slots t 64).cast nbuf0_64)
abbrev ms0_65 (hO : Ok m) (t : Fin (cfgM m hO).N) : Memref sig .tc .vmem S1x128x128 .bf16 := spec0_65.stage ((cfgM m hO).slots t 65)
abbrev hs0_65 (hO : Ok m) (t : Fin (cfgM m hO).N) : (ms0_65 m hO t).IsWhole := hstage0_65 (((cfgM m hO).slots t 65).cast nbuf0_65)
abbrev ms0_66 (hO : Ok m) (t : Fin (cfgM m hO).N) : Memref sig .tc .vmem S1x128x128 .bf16 := spec0_66.stage ((cfgM m hO).slots t 66)
abbrev hs0_66 (hO : Ok m) (t : Fin (cfgM m hO).N) : (ms0_66 m hO t).IsWhole := hstage0_66 (((cfgM m hO).slots t 66).cast nbuf0_66)
abbrev ms0_67 (hO : Ok m) (t : Fin (cfgM m hO).N) : Memref sig .tc .vmem S1x128x128 .bf16 := spec0_67.stage ((cfgM m hO).slots t 67)
abbrev hs0_67 (hO : Ok m) (t : Fin (cfgM m hO).N) : (ms0_67 m hO t).IsWhole := hstage0_67 (((cfgM m hO).slots t 67).cast nbuf0_67)
abbrev ms0_68 (hO : Ok m) (t : Fin (cfgM m hO).N) : Memref sig .tc .vmem S1x128x128 .bf16 := spec0_68.stage ((cfgM m hO).slots t 68)
abbrev hs0_68 (hO : Ok m) (t : Fin (cfgM m hO).N) : (ms0_68 m hO t).IsWhole := hstage0_68 (((cfgM m hO).slots t 68).cast nbuf0_68)
abbrev ms0_69 (hO : Ok m) (t : Fin (cfgM m hO).N) : Memref sig .tc .vmem S1x128x128 .bf16 := spec0_69.stage ((cfgM m hO).slots t 69)
abbrev hs0_69 (hO : Ok m) (t : Fin (cfgM m hO).N) : (ms0_69 m hO t).IsWhole := hstage0_69 (((cfgM m hO).slots t 69).cast nbuf0_69)
abbrev ms0_70 (hO : Ok m) (t : Fin (cfgM m hO).N) : Memref sig .tc .vmem S1x128x128 .bf16 := spec0_70.stage ((cfgM m hO).slots t 70)
abbrev hs0_70 (hO : Ok m) (t : Fin (cfgM m hO).N) : (ms0_70 m hO t).IsWhole := hstage0_70 (((cfgM m hO).slots t 70).cast nbuf0_70)
abbrev ms0_71 (hO : Ok m) (t : Fin (cfgM m hO).N) : Memref sig .tc .vmem S1x128x128 .bf16 := spec0_71.stage ((cfgM m hO).slots t 71)
abbrev hs0_71 (hO : Ok m) (t : Fin (cfgM m hO).N) : (ms0_71 m hO t).IsWhole := hstage0_71 (((cfgM m hO).slots t 71).cast nbuf0_71)
abbrev ms0_72 (hO : Ok m) (t : Fin (cfgM m hO).N) : Memref sig .tc .vmem S1x128x128 .bf16 := spec0_72.stage ((cfgM m hO).slots t 72)
abbrev hs0_72 (hO : Ok m) (t : Fin (cfgM m hO).N) : (ms0_72 m hO t).IsWhole := hstage0_72 (((cfgM m hO).slots t 72).cast nbuf0_72)
abbrev ms0_73 (hO : Ok m) (t : Fin (cfgM m hO).N) : Memref sig .tc .vmem S1x128x128 .bf16 := spec0_73.stage ((cfgM m hO).slots t 73)
abbrev hs0_73 (hO : Ok m) (t : Fin (cfgM m hO).N) : (ms0_73 m hO t).IsWhole := hstage0_73 (((cfgM m hO).slots t 73).cast nbuf0_73)
abbrev ms0_74 (hO : Ok m) (t : Fin (cfgM m hO).N) : Memref sig .tc .vmem S1x128x128 .bf16 := spec0_74.stage ((cfgM m hO).slots t 74)
abbrev hs0_74 (hO : Ok m) (t : Fin (cfgM m hO).N) : (ms0_74 m hO t).IsWhole := hstage0_74 (((cfgM m hO).slots t 74).cast nbuf0_74)
abbrev ms0_75 (hO : Ok m) (t : Fin (cfgM m hO).N) : Memref sig .tc .vmem S1x128x128 .bf16 := spec0_75.stage ((cfgM m hO).slots t 75)
abbrev hs0_75 (hO : Ok m) (t : Fin (cfgM m hO).N) : (ms0_75 m hO t).IsWhole := hstage0_75 (((cfgM m hO).slots t 75).cast nbuf0_75)
abbrev ms0_76 (hO : Ok m) (t : Fin (cfgM m hO).N) : Memref sig .tc .vmem S1x128x128 .bf16 := spec0_76.stage ((cfgM m hO).slots t 76)
abbrev hs0_76 (hO : Ok m) (t : Fin (cfgM m hO).N) : (ms0_76 m hO t).IsWhole := hstage0_76 (((cfgM m hO).slots t 76).cast nbuf0_76)
abbrev ms0_77 (hO : Ok m) (t : Fin (cfgM m hO).N) : Memref sig .tc .vmem S1x128x128 .bf16 := spec0_77.stage ((cfgM m hO).slots t 77)
abbrev hs0_77 (hO : Ok m) (t : Fin (cfgM m hO).N) : (ms0_77 m hO t).IsWhole := hstage0_77 (((cfgM m hO).slots t 77).cast nbuf0_77)
abbrev ms0_78 (hO : Ok m) (t : Fin (cfgM m hO).N) : Memref sig .tc .vmem S1x128x128 .bf16 := spec0_78.stage ((cfgM m hO).slots t 78)
abbrev hs0_78 (hO : Ok m) (t : Fin (cfgM m hO).N) : (ms0_78 m hO t).IsWhole := hstage0_78 (((cfgM m hO).slots t 78).cast nbuf0_78)
abbrev ms0_79 (hO : Ok m) (t : Fin (cfgM m hO).N) : Memref sig .tc .vmem S1x128x128 .bf16 := spec0_79.stage ((cfgM m hO).slots t 79)
abbrev hs0_79 (hO : Ok m) (t : Fin (cfgM m hO).N) : (ms0_79 m hO t).IsWhole := hstage0_79 (((cfgM m hO).slots t 79).cast nbuf0_79)
abbrev ms0_80 (hO : Ok m) (t : Fin (cfgM m hO).N) : Memref sig .tc .vmem S1x128x128 .bf16 := spec0_80.stage ((cfgM m hO).slots t 80)
abbrev hs0_80 (hO : Ok m) (t : Fin (cfgM m hO).N) : (ms0_80 m hO t).IsWhole := hstage0_80 (((cfgM m hO).slots t 80).cast nbuf0_80)
abbrev ms0_81 (hO : Ok m) (t : Fin (cfgM m hO).N) : Memref sig .tc .vmem S1x128x128 .bf16 := spec0_81.stage ((cfgM m hO).slots t 81)
abbrev hs0_81 (hO : Ok m) (t : Fin (cfgM m hO).N) : (ms0_81 m hO t).IsWhole := hstage0_81 (((cfgM m hO).slots t 81).cast nbuf0_81)
abbrev ms0_82 (hO : Ok m) (t : Fin (cfgM m hO).N) : Memref sig .tc .vmem S1x128x128 .bf16 := spec0_82.stage ((cfgM m hO).slots t 82)
abbrev hs0_82 (hO : Ok m) (t : Fin (cfgM m hO).N) : (ms0_82 m hO t).IsWhole := hstage0_82 (((cfgM m hO).slots t 82).cast nbuf0_82)
abbrev ms0_83 (hO : Ok m) (t : Fin (cfgM m hO).N) : Memref sig .tc .vmem S1x128x128 .bf16 := spec0_83.stage ((cfgM m hO).slots t 83)
abbrev hs0_83 (hO : Ok m) (t : Fin (cfgM m hO).N) : (ms0_83 m hO t).IsWhole := hstage0_83 (((cfgM m hO).slots t 83).cast nbuf0_83)
abbrev ms0_84 (hO : Ok m) (t : Fin (cfgM m hO).N) : Memref sig .tc .vmem S1x128x128 .bf16 := spec0_84.stage ((cfgM m hO).slots t 84)
abbrev hs0_84 (hO : Ok m) (t : Fin (cfgM m hO).N) : (ms0_84 m hO t).IsWhole := hstage0_84 (((cfgM m hO).slots t 84).cast nbuf0_84)
abbrev ms0_85 (hO : Ok m) (t : Fin (cfgM m hO).N) : Memref sig .tc .vmem S1x128x128 .bf16 := spec0_85.stage ((cfgM m hO).slots t 85)
abbrev hs0_85 (hO : Ok m) (t : Fin (cfgM m hO).N) : (ms0_85 m hO t).IsWhole := hstage0_85 (((cfgM m hO).slots t 85).cast nbuf0_85)
abbrev ms0_86 (hO : Ok m) (t : Fin (cfgM m hO).N) : Memref sig .tc .vmem S1x128x128 .bf16 := spec0_86.stage ((cfgM m hO).slots t 86)
abbrev hs0_86 (hO : Ok m) (t : Fin (cfgM m hO).N) : (ms0_86 m hO t).IsWhole := hstage0_86 (((cfgM m hO).slots t 86).cast nbuf0_86)
abbrev ms0_87 (hO : Ok m) (t : Fin (cfgM m hO).N) : Memref sig .tc .vmem S1x128x128 .bf16 := spec0_87.stage ((cfgM m hO).slots t 87)
abbrev hs0_87 (hO : Ok m) (t : Fin (cfgM m hO).N) : (ms0_87 m hO t).IsWhole := hstage0_87 (((cfgM m hO).slots t 87).cast nbuf0_87)
abbrev ms0_88 (hO : Ok m) (t : Fin (cfgM m hO).N) : Memref sig .tc .vmem S1x128x128 .bf16 := spec0_88.stage ((cfgM m hO).slots t 88)
abbrev hs0_88 (hO : Ok m) (t : Fin (cfgM m hO).N) : (ms0_88 m hO t).IsWhole := hstage0_88 (((cfgM m hO).slots t 88).cast nbuf0_88)
abbrev ms0_89 (hO : Ok m) (t : Fin (cfgM m hO).N) : Memref sig .tc .vmem S1x128x128 .bf16 := spec0_89.stage ((cfgM m hO).slots t 89)
abbrev hs0_89 (hO : Ok m) (t : Fin (cfgM m hO).N) : (ms0_89 m hO t).IsWhole := hstage0_89 (((cfgM m hO).slots t 89).cast nbuf0_89)
abbrev ms0_90 (hO : Ok m) (t : Fin (cfgM m hO).N) : Memref sig .tc .vmem S1x128x128 .bf16 := spec0_90.stage ((cfgM m hO).slots t 90)
abbrev hs0_90 (hO : Ok m) (t : Fin (cfgM m hO).N) : (ms0_90 m hO t).IsWhole := hstage0_90 (((cfgM m hO).slots t 90).cast nbuf0_90)
abbrev ms0_91 (hO : Ok m) (t : Fin (cfgM m hO).N) : Memref sig .tc .vmem S1x128x128 .bf16 := spec0_91.stage ((cfgM m hO).slots t 91)
abbrev hs0_91 (hO : Ok m) (t : Fin (cfgM m hO).N) : (ms0_91 m hO t).IsWhole := hstage0_91 (((cfgM m hO).slots t 91).cast nbuf0_91)
abbrev ms0_92 (hO : Ok m) (t : Fin (cfgM m hO).N) : Memref sig .tc .vmem S1x128x128 .bf16 := spec0_92.stage ((cfgM m hO).slots t 92)
abbrev hs0_92 (hO : Ok m) (t : Fin (cfgM m hO).N) : (ms0_92 m hO t).IsWhole := hstage0_92 (((cfgM m hO).slots t 92).cast nbuf0_92)
abbrev ms0_93 (hO : Ok m) (t : Fin (cfgM m hO).N) : Memref sig .tc .vmem S1x128x128 .bf16 := spec0_93.stage ((cfgM m hO).slots t 93)
abbrev hs0_93 (hO : Ok m) (t : Fin (cfgM m hO).N) : (ms0_93 m hO t).IsWhole := hstage0_93 (((cfgM m hO).slots t 93).cast nbuf0_93)
abbrev ms0_94 (hO : Ok m) (t : Fin (cfgM m hO).N) : Memref sig .tc .vmem S1x128x128 .bf16 := spec0_94.stage ((cfgM m hO).slots t 94)
abbrev hs0_94 (hO : Ok m) (t : Fin (cfgM m hO).N) : (ms0_94 m hO t).IsWhole := hstage0_94 (((cfgM m hO).slots t 94).cast nbuf0_94)
abbrev ms0_95 (hO : Ok m) (t : Fin (cfgM m hO).N) : Memref sig .tc .vmem S1x128x128 .bf16 := spec0_95.stage ((cfgM m hO).slots t 95)
abbrev hs0_95 (hO : Ok m) (t : Fin (cfgM m hO).N) : (ms0_95 m hO t).IsWhole := hstage0_95 (((cfgM m hO).slots t 95).cast nbuf0_95)
abbrev ms0_96 (hO : Ok m) (t : Fin (cfgM m hO).N) : Memref sig .tc .vmem S1x128x128 .bf16 := spec0_96.stage ((cfgM m hO).slots t 96)
abbrev hs0_96 (hO : Ok m) (t : Fin (cfgM m hO).N) : (ms0_96 m hO t).IsWhole := hstage0_96 (((cfgM m hO).slots t 96).cast nbuf0_96)
abbrev ms0_97 (hO : Ok m) (t : Fin (cfgM m hO).N) : Memref sig .tc .vmem S1x128x128 .bf16 := spec0_97.stage ((cfgM m hO).slots t 97)
abbrev hs0_97 (hO : Ok m) (t : Fin (cfgM m hO).N) : (ms0_97 m hO t).IsWhole := hstage0_97 (((cfgM m hO).slots t 97).cast nbuf0_97)
abbrev ms0_98 (hO : Ok m) (t : Fin (cfgM m hO).N) : Memref sig .tc .vmem S1x128x128 .bf16 := spec0_98.stage ((cfgM m hO).slots t 98)
abbrev hs0_98 (hO : Ok m) (t : Fin (cfgM m hO).N) : (ms0_98 m hO t).IsWhole := hstage0_98 (((cfgM m hO).slots t 98).cast nbuf0_98)
abbrev ms0_99 (hO : Ok m) (t : Fin (cfgM m hO).N) : Memref sig .tc .vmem S1x128x128 .bf16 := spec0_99.stage ((cfgM m hO).slots t 99)
abbrev hs0_99 (hO : Ok m) (t : Fin (cfgM m hO).N) : (ms0_99 m hO t).IsWhole := hstage0_99 (((cfgM m hO).slots t 99).cast nbuf0_99)
abbrev ms0_100 (hO : Ok m) (t : Fin (cfgM m hO).N) : Memref sig .tc .vmem S1x128x128 .bf16 := spec0_100.stage ((cfgM m hO).slots t 100)
abbrev hs0_100 (hO : Ok m) (t : Fin (cfgM m hO).N) : (ms0_100 m hO t).IsWhole := hstage0_100 (((cfgM m hO).slots t 100).cast nbuf0_100)
abbrev ms0_101 (hO : Ok m) (t : Fin (cfgM m hO).N) : Memref sig .tc .vmem S1x128x128 .bf16 := spec0_101.stage ((cfgM m hO).slots t 101)
abbrev hs0_101 (hO : Ok m) (t : Fin (cfgM m hO).N) : (ms0_101 m hO t).IsWhole := hstage0_101 (((cfgM m hO).slots t 101).cast nbuf0_101)
abbrev ms0_102 (hO : Ok m) (t : Fin (cfgM m hO).N) : Memref sig .tc .vmem S1x128x128 .bf16 := spec0_102.stage ((cfgM m hO).slots t 102)
abbrev hs0_102 (hO : Ok m) (t : Fin (cfgM m hO).N) : (ms0_102 m hO t).IsWhole := hstage0_102 (((cfgM m hO).slots t 102).cast nbuf0_102)
abbrev ms0_103 (hO : Ok m) (t : Fin (cfgM m hO).N) : Memref sig .tc .vmem S1x128x128 .bf16 := spec0_103.stage ((cfgM m hO).slots t 103)
abbrev hs0_103 (hO : Ok m) (t : Fin (cfgM m hO).N) : (ms0_103 m hO t).IsWhole := hstage0_103 (((cfgM m hO).slots t 103).cast nbuf0_103)
abbrev ms0_104 (hO : Ok m) (t : Fin (cfgM m hO).N) : Memref sig .tc .vmem S1x128x128 .bf16 := spec0_104.stage ((cfgM m hO).slots t 104)
abbrev hs0_104 (hO : Ok m) (t : Fin (cfgM m hO).N) : (ms0_104 m hO t).IsWhole := hstage0_104 (((cfgM m hO).slots t 104).cast nbuf0_104)
abbrev ms0_105 (hO : Ok m) (t : Fin (cfgM m hO).N) : Memref sig .tc .vmem S1x128x128 .bf16 := spec0_105.stage ((cfgM m hO).slots t 105)
abbrev hs0_105 (hO : Ok m) (t : Fin (cfgM m hO).N) : (ms0_105 m hO t).IsWhole := hstage0_105 (((cfgM m hO).slots t 105).cast nbuf0_105)
abbrev ms0_106 (hO : Ok m) (t : Fin (cfgM m hO).N) : Memref sig .tc .vmem S1x128x128 .bf16 := spec0_106.stage ((cfgM m hO).slots t 106)
abbrev hs0_106 (hO : Ok m) (t : Fin (cfgM m hO).N) : (ms0_106 m hO t).IsWhole := hstage0_106 (((cfgM m hO).slots t 106).cast nbuf0_106)
abbrev ms0_107 (hO : Ok m) (t : Fin (cfgM m hO).N) : Memref sig .tc .vmem S1x128x128 .bf16 := spec0_107.stage ((cfgM m hO).slots t 107)
abbrev hs0_107 (hO : Ok m) (t : Fin (cfgM m hO).N) : (ms0_107 m hO t).IsWhole := hstage0_107 (((cfgM m hO).slots t 107).cast nbuf0_107)
abbrev ms0_108 (hO : Ok m) (t : Fin (cfgM m hO).N) : Memref sig .tc .vmem S1x128x128 .bf16 := spec0_108.stage ((cfgM m hO).slots t 108)
abbrev hs0_108 (hO : Ok m) (t : Fin (cfgM m hO).N) : (ms0_108 m hO t).IsWhole := hstage0_108 (((cfgM m hO).slots t 108).cast nbuf0_108)
abbrev ms0_109 (hO : Ok m) (t : Fin (cfgM m hO).N) : Memref sig .tc .vmem S1x128x128 .bf16 := spec0_109.stage ((cfgM m hO).slots t 109)
abbrev hs0_109 (hO : Ok m) (t : Fin (cfgM m hO).N) : (ms0_109 m hO t).IsWhole := hstage0_109 (((cfgM m hO).slots t 109).cast nbuf0_109)
abbrev ms0_110 (hO : Ok m) (t : Fin (cfgM m hO).N) : Memref sig .tc .vmem S1x128x128 .bf16 := spec0_110.stage ((cfgM m hO).slots t 110)
abbrev hs0_110 (hO : Ok m) (t : Fin (cfgM m hO).N) : (ms0_110 m hO t).IsWhole := hstage0_110 (((cfgM m hO).slots t 110).cast nbuf0_110)
abbrev ms0_111 (hO : Ok m) (t : Fin (cfgM m hO).N) : Memref sig .tc .vmem S1x128x128 .bf16 := spec0_111.stage ((cfgM m hO).slots t 111)
abbrev hs0_111 (hO : Ok m) (t : Fin (cfgM m hO).N) : (ms0_111 m hO t).IsWhole := hstage0_111 (((cfgM m hO).slots t 111).cast nbuf0_111)
abbrev ms0_112 (hO : Ok m) (t : Fin (cfgM m hO).N) : Memref sig .tc .vmem S1x128x128 .bf16 := spec0_112.stage ((cfgM m hO).slots t 112)
abbrev hs0_112 (hO : Ok m) (t : Fin (cfgM m hO).N) : (ms0_112 m hO t).IsWhole := hstage0_112 (((cfgM m hO).slots t 112).cast nbuf0_112)
abbrev ms0_113 (hO : Ok m) (t : Fin (cfgM m hO).N) : Memref sig .tc .vmem S1x128x128 .bf16 := spec0_113.stage ((cfgM m hO).slots t 113)
abbrev hs0_113 (hO : Ok m) (t : Fin (cfgM m hO).N) : (ms0_113 m hO t).IsWhole := hstage0_113 (((cfgM m hO).slots t 113).cast nbuf0_113)
abbrev ms0_114 (hO : Ok m) (t : Fin (cfgM m hO).N) : Memref sig .tc .vmem S1x128x128 .bf16 := spec0_114.stage ((cfgM m hO).slots t 114)
abbrev hs0_114 (hO : Ok m) (t : Fin (cfgM m hO).N) : (ms0_114 m hO t).IsWhole := hstage0_114 (((cfgM m hO).slots t 114).cast nbuf0_114)
abbrev ms0_115 (hO : Ok m) (t : Fin (cfgM m hO).N) : Memref sig .tc .vmem S1x128x128 .bf16 := spec0_115.stage ((cfgM m hO).slots t 115)
abbrev hs0_115 (hO : Ok m) (t : Fin (cfgM m hO).N) : (ms0_115 m hO t).IsWhole := hstage0_115 (((cfgM m hO).slots t 115).cast nbuf0_115)
abbrev ms0_116 (hO : Ok m) (t : Fin (cfgM m hO).N) : Memref sig .tc .vmem S1x128x128 .bf16 := spec0_116.stage ((cfgM m hO).slots t 116)
abbrev hs0_116 (hO : Ok m) (t : Fin (cfgM m hO).N) : (ms0_116 m hO t).IsWhole := hstage0_116 (((cfgM m hO).slots t 116).cast nbuf0_116)
abbrev ms0_117 (hO : Ok m) (t : Fin (cfgM m hO).N) : Memref sig .tc .vmem S1x128x128 .bf16 := spec0_117.stage ((cfgM m hO).slots t 117)
abbrev hs0_117 (hO : Ok m) (t : Fin (cfgM m hO).N) : (ms0_117 m hO t).IsWhole := hstage0_117 (((cfgM m hO).slots t 117).cast nbuf0_117)
abbrev ms0_118 (hO : Ok m) (t : Fin (cfgM m hO).N) : Memref sig .tc .vmem S1x128x128 .bf16 := spec0_118.stage ((cfgM m hO).slots t 118)
abbrev hs0_118 (hO : Ok m) (t : Fin (cfgM m hO).N) : (ms0_118 m hO t).IsWhole := hstage0_118 (((cfgM m hO).slots t 118).cast nbuf0_118)
abbrev ms0_119 (hO : Ok m) (t : Fin (cfgM m hO).N) : Memref sig .tc .vmem S1x128x128 .bf16 := spec0_119.stage ((cfgM m hO).slots t 119)
abbrev hs0_119 (hO : Ok m) (t : Fin (cfgM m hO).N) : (ms0_119 m hO t).IsWhole := hstage0_119 (((cfgM m hO).slots t 119).cast nbuf0_119)
abbrev ms0_120 (hO : Ok m) (t : Fin (cfgM m hO).N) : Memref sig .tc .vmem S1x128x128 .bf16 := spec0_120.stage ((cfgM m hO).slots t 120)
abbrev hs0_120 (hO : Ok m) (t : Fin (cfgM m hO).N) : (ms0_120 m hO t).IsWhole := hstage0_120 (((cfgM m hO).slots t 120).cast nbuf0_120)
abbrev ms0_121 (hO : Ok m) (t : Fin (cfgM m hO).N) : Memref sig .tc .vmem S1x128x128 .bf16 := spec0_121.stage ((cfgM m hO).slots t 121)
abbrev hs0_121 (hO : Ok m) (t : Fin (cfgM m hO).N) : (ms0_121 m hO t).IsWhole := hstage0_121 (((cfgM m hO).slots t 121).cast nbuf0_121)
abbrev ms0_122 (hO : Ok m) (t : Fin (cfgM m hO).N) : Memref sig .tc .vmem S1x128x128 .bf16 := spec0_122.stage ((cfgM m hO).slots t 122)
abbrev hs0_122 (hO : Ok m) (t : Fin (cfgM m hO).N) : (ms0_122 m hO t).IsWhole := hstage0_122 (((cfgM m hO).slots t 122).cast nbuf0_122)
abbrev ms0_123 (hO : Ok m) (t : Fin (cfgM m hO).N) : Memref sig .tc .vmem S1x128x128 .bf16 := spec0_123.stage ((cfgM m hO).slots t 123)
abbrev hs0_123 (hO : Ok m) (t : Fin (cfgM m hO).N) : (ms0_123 m hO t).IsWhole := hstage0_123 (((cfgM m hO).slots t 123).cast nbuf0_123)
abbrev ms0_124 (hO : Ok m) (t : Fin (cfgM m hO).N) : Memref sig .tc .vmem S1x128x128 .bf16 := spec0_124.stage ((cfgM m hO).slots t 124)
abbrev hs0_124 (hO : Ok m) (t : Fin (cfgM m hO).N) : (ms0_124 m hO t).IsWhole := hstage0_124 (((cfgM m hO).slots t 124).cast nbuf0_124)
abbrev ms0_125 (hO : Ok m) (t : Fin (cfgM m hO).N) : Memref sig .tc .vmem S1x128x128 .bf16 := spec0_125.stage ((cfgM m hO).slots t 125)
abbrev hs0_125 (hO : Ok m) (t : Fin (cfgM m hO).N) : (ms0_125 m hO t).IsWhole := hstage0_125 (((cfgM m hO).slots t 125).cast nbuf0_125)
abbrev ms0_126 (hO : Ok m) (t : Fin (cfgM m hO).N) : Memref sig .tc .vmem S1x128x128 .bf16 := spec0_126.stage ((cfgM m hO).slots t 126)
abbrev hs0_126 (hO : Ok m) (t : Fin (cfgM m hO).N) : (ms0_126 m hO t).IsWhole := hstage0_126 (((cfgM m hO).slots t 126).cast nbuf0_126)
abbrev ms0_127 (hO : Ok m) (t : Fin (cfgM m hO).N) : Memref sig .tc .vmem S1x128x128 .bf16 := spec0_127.stage ((cfgM m hO).slots t 127)
abbrev hs0_127 (hO : Ok m) (t : Fin (cfgM m hO).N) : (ms0_127 m hO t).IsWhole := hstage0_127 (((cfgM m hO).slots t 127).cast nbuf0_127)
abbrev ms0_128 (hO : Ok m) (t : Fin (cfgM m hO).N) : Memref sig .tc .vmem S1x128x128 .bf16 := spec0_128.stage ((cfgM m hO).slots t 128)
abbrev hs0_128 (hO : Ok m) (t : Fin (cfgM m hO).N) : (ms0_128 m hO t).IsWhole := hstage0_128 (((cfgM m hO).slots t 128).cast nbuf0_128)
abbrev ms0_129 (hO : Ok m) (t : Fin (cfgM m hO).N) : Memref sig .tc .vmem S1x128x128 .bf16 := spec0_129.stage ((cfgM m hO).slots t 129)
abbrev hs0_129 (hO : Ok m) (t : Fin (cfgM m hO).N) : (ms0_129 m hO t).IsWhole := hstage0_129 (((cfgM m hO).slots t 129).cast nbuf0_129)
abbrev ms0_130 (hO : Ok m) (t : Fin (cfgM m hO).N) : Memref sig .tc .vmem S1x128x128 .bf16 := spec0_130.stage ((cfgM m hO).slots t 130)
abbrev hs0_130 (hO : Ok m) (t : Fin (cfgM m hO).N) : (ms0_130 m hO t).IsWhole := hstage0_130 (((cfgM m hO).slots t 130).cast nbuf0_130)
abbrev ms0_131 (hO : Ok m) (t : Fin (cfgM m hO).N) : Memref sig .tc .vmem S1x128x128 .bf16 := spec0_131.stage ((cfgM m hO).slots t 131)
abbrev hs0_131 (hO : Ok m) (t : Fin (cfgM m hO).N) : (ms0_131 m hO t).IsWhole := hstage0_131 (((cfgM m hO).slots t 131).cast nbuf0_131)
abbrev ms0_132 (hO : Ok m) (t : Fin (cfgM m hO).N) : Memref sig .tc .vmem S1x1x512 .f32 := spec0_132.stage ((cfgM m hO).slots t 132)
abbrev hs0_132 (hO : Ok m) (t : Fin (cfgM m hO).N) : (ms0_132 m hO t).IsWhole := hstage0_132 (((cfgM m hO).slots t 132).cast nbuf0_132)
abbrev ms0_133 (hO : Ok m) (t : Fin (cfgM m hO).N) : Memref sig .tc .vmem S1x1x512 .f32 := spec0_133.stage ((cfgM m hO).slots t 133)
abbrev hs0_133 (hO : Ok m) (t : Fin (cfgM m hO).N) : (ms0_133 m hO t).IsWhole := hstage0_133 (((cfgM m hO).slots t 133).cast nbuf0_133)

end Cert.ProjIdeal.Call

end
-- ==== Proof.Table.lean ====
module

public import proofs.«01_k».proof.Proof.Call.Runs
public import proofs.«01_k».proof.Pre_pre2
public import proofs.«01_k».proof.Proof.Dist
public import Idealize.ShloMosaic.Lib.Pointwise
public import Idealize.ShloMosaic.Lib.ReduceAll

@[expose] public section

set_option maxRecDepth 16384

noncomputable section

namespace Cert.ProjIdeal.Own

open Cert.ProjIdeal.Gen Cert.ProjIdeal.Call Idealize.ShloMosaic Idealize.ShloMosaic.TcCoe

variable {F : FTy → Type} [FloatOps F]

/-! ## The table of relation numbers, and where the matrix windows are -/

/-- A block index on the matrices is good as soon as its first entry is a matrix's number and the others are zero. -/
theorem good_map (T : Fin 3 → Nat) (h0 : T 0 < 1000) (h1 : T 1 = 0) (h2 : T 2 = 0) :
    ∃ h : (∀ a, (T a + 1) * S1x128x128.size a ≤ S1000x128x128.size a), EltTy.bits .bf16 = 32 ∨
      (Rect.block (s := S1000x128x128) S1x128x128.size T h).WholeWords (EltTy.packing .bf16) := by
  have e : T = ![T 0, 0, 0] := by
    funext a; match a with | 0 => rfl | 1 => exact h1 | 2 => exact h2
  generalize T 0 = n at e h0
  subst e
  refine ⟨?_, .inr (Affine.block_words_dvd (of_decide_eq_true rfl) (by decide))⟩
  intro a
  match a with
  | 0 => show (n + 1) * 1 ≤ 1000; omega
  | 1 => show (0 + 1) * 128 ≤ 128; omega
  | 2 => show (0 + 1) * 128 ≤ 128; omega

/-- Every word of the table is a relation's number. -/
def Small (pf : pre0.Contents (Elt F)) : Prop := ∀ j : S2x1408.Idx, BitVec.toNat (w := 32) (pf 0 j) < 1000

theorem at_lt {pf : pre0.Contents (Elt F)} (h : Small pf) (r : Rect (pre0.ref 0).ty.shape) (h1 : r.shape.numel = 1) :
    BitVec.toNat (w := 32) (pf.at 0 r h1) < 1000 := h _

/-- A table of relation numbers keeps every matrix window inside the array of matrices. -/
theorem ok_of_small {pf : pre0.Contents (Elt F)} (h : Small pf) : ok0 pf := by
  unfold ok0
  repeat' apply And.intro
  all_goals exact fun i => good_map _ (at_lt h _ _) rfl rfl

/-- A word between 0 and 1000, as the precondition compares it. -/
theorem word_small (x : BitVec 32) (h0 : IntOp.cmpi .sge x 0#32 = 1#1) (h1 : IntOp.cmpi .slt x 1000#32 = 1#1) : x.toNat < 1000 := by
  have h0' : (0#32).sle x = true := by
    revert h0; show BitVec.ofBool ((0#32).sle x) = 1#1 → _; cases (0#32).sle x <;> decide
  have h1' : x.slt 1000#32 = true := by
    revert h1; show BitVec.ofBool (x.slt 1000#32) = 1#1 → _; cases x.slt 1000#32 <;> decide
  rw [BitVec.sle_iff_toInt_le] at h0'
  rw [BitVec.slt_iff_toInt_lt] at h1'
  have e0 : (0#32).toInt = 0 := by decide
  have e1 : (1000#32).toInt = 1000 := by decide
  rw [e0] at h0'
  rw [e1] at h1'
  rw [BitVec.toInt_eq_toNat_cond] at h0' h1'
  split at h0' <;> omega

/-- The precondition's two comparisons of every word. -/
theorem small_of_fn [Cert.Pre_pre2.Facts] (u : IVec S2x1408 32) (d : FVec F S11264x128 .bf16) (r : FVec F S11264x128 .f32)
    (d' : FVec F S11264x128 .bf16) (r' : FVec F S11264x128 .f32) (w : FVec F S1000x16384 .f32)
    (h : Cert.Pre_pre2.fn (F := F) u d r d' r' w = fun _ => 1#1) (j : S2x1408.Idx) : (u j).toNat < 1000 := by
  have e := congrFun h (fun k => k.elim0)
  have : Subsingleton Cert.Pre_pre2.S_.Idx := ⟨fun a b => funext fun k => k.elim0⟩
  have k := Host.reduce_andi_all _ _ _ _ _ e j
  have andi_one (a b : BitVec 1) : IntOp.andi a b = 1#1 ↔ a = 1#1 ∧ b = 1#1 := by revert a b; decide
  simp only [andi, andi_one] at k
  exact word_small _ k.1 k.2

variable (m : (ℓ : Loc nD τ sig) → Buf (Elt F) ℓ)

/-- The program's table is the first argument. -/
theorem tbl_eq : tbl m 0 = m ((0 : Dev nD), Proc.devRef .tc main_arg0) := V_main_arg0 m 0

/-! ## The matrix windows' blocks -/

/-- The word the window of unit `g` of a side reads at point `t`: entry `64 t + g` of the side's row. -/
theorem word_at (side : Fin 2) (t : Fin 22) (g : Fin 64) (off : Fin 2 → Nat) (hoff : off = ![side.val, t.val * 64 + g.val])
    (inb : ∀ a, off a + S1x1.size a ≤ S2x1408.size a) (h1 : S1x1.numel = 1) :
    (Rect.unit (s := S2x1408) off S1x1.size inb).emb (Shape.Idx.first (h1.symm ▸ Nat.one_pos)) = ix2 side ⟨t.val * 64 + g.val, by omega⟩ := by
  subst hoff
  funext a
  refine Fin.ext ?_
  match a with
  | 0 => exact Nat.add_zero _
  | 1 => exact Nat.add_zero _

theorem off1_eq (i : grid0.Coords) (g : Fin 64) : k0_off1 i (BitVec.ofNat 32 g.val) = ![0, (i 0).val * 64 + g.val] := by
  have hi : (i 0).val < 22 := (i 0).isLt
  simp only [k0_off1, Scalar.muli, Scalar.addi, Scalar.indexCast, IntOp.muli, IntOp.addi]
  congr 1
  congr 1
  bv_omega

theorem off2_eq (i : grid0.Coords) (g : Fin 64) : k0_off2 i (BitVec.ofNat 32 g.val) = ![1, (i 0).val * 64 + g.val] := by
  have hi : (i 0).val < 22 := (i 0).isLt
  simp only [k0_off2, Scalar.muli, Scalar.addi, Scalar.indexCast, IntOp.muli, IntOp.addi]
  congr 1
  congr 1
  bv_omega

/-- A block of the array of matrices is the matrix its block index names. -/
theorem mat_read {α : Type} (x : S1000x128x128.Idx → α) (T : Fin 3 → Nat) (h : ∀ a, (T a + 1) * S1x128x128.size a ≤ S1000x128x128.size a)
    (h1 : T 1 = 0) (h2 : T 2 = 0) (k : BitVec 32) (hk : k.toNat < 1000) (h0 : T 0 = k.toNat) (j : S1x128x128.Idx) :
    x ((Rect.block (s := S1000x128x128) S1x128x128.size T h).emb j) = x (ix3 (Transe.relOf k) (j 1) (j 2)) := by
  congr 1
  funext a
  refine Fin.ext ?_
  have hj : (j 0).val < 1 := (j 0).isLt
  match a with
  | 0 => show T 0 * 1 + 1 * (j 0).val = min k.toNat 999; omega
  | 1 => show T 1 * 128 + 1 * (j 1).val = (j 1).val; omega
  | 2 => show T 2 * 128 + 1 * (j 2).val = (j 2).val; omega

/-- The matrix of a side's unit `g` at point `t`. -/
def mat (c : Dev nD) (side : Fin 2) (t : Fin 22) (g : Fin 64) : Vec F S1x128x128 .bf16 :=
  fun j => V m c main_v1 (ix3 (Transe.relOf (tbl m 0 (ix2 side ⟨t.val * 64 + g.val, by omega⟩))) (j 1) (j 2))

/-- The point as a number. -/
theorem N_eq (hO : Ok m) : (cfgM m hO).N = 22 := N_0
def pt (hO : Ok m) (t : Fin (cfgM m hO).N) : Fin 22 := t.cast (N_eq m hO)
theorem coord_eq (hO : Ok m) (t : Fin (cfgM m hO).N) : (grid0.coords t 0).val = (pt m hO t).val := by
  have h := Pipeline.Grid.coords_val (G := grid0) t 0 (S := 1) (B := 22) (by decide) (by decide)
  have ht : t.val < 22 := (pt m hO t).isLt
  rw [h]
  show t.val / 1 % 22 = t.val
  omega

/-- The matrices the windows of one side hold at a point, unit by unit. -/
def posMats (hO : Ok m) (c : Dev nD) (t : Fin (cfgM m hO).N) : Fin 64 → Vec F S1x128x128 .bf16 :=
  ![iblk m hO c 4 t, iblk m hO c 6 t, iblk m hO c 8 t, iblk m hO c 10 t, iblk m hO c 12 t, iblk m hO c 14 t, iblk m hO c 16 t, iblk m hO c 18 t, iblk m hO c 20 t, iblk m hO c 22 t, iblk m hO c 24 t, iblk m hO c 26 t, iblk m hO c 28 t, iblk m hO c 30 t, iblk m hO c 32 t, iblk m hO c 34 t, iblk m hO c 36 t, iblk m hO c 38 t, iblk m hO c 40 t, iblk m hO c 42 t, iblk m hO c 44 t, iblk m hO c 46 t, iblk m hO c 48 t, iblk m hO c 50 t, iblk m hO c 52 t, iblk m hO c 54 t, iblk m hO c 56 t, iblk m hO c 58 t, iblk m hO c 60 t, iblk m hO c 62 t, iblk m hO c 64 t, iblk m hO c 66 t, iblk m hO c 68 t, iblk m hO c 70 t, iblk m hO c 72 t, iblk m hO c 74 t, iblk m hO c 76 t, iblk m hO c 78 t, iblk m hO c 80 t, iblk m hO c 82 t, iblk m hO c 84 t, iblk m hO c 86 t, iblk m hO c 88 t, iblk m hO c 90 t, iblk m hO c 92 t, iblk m hO c 94 t, iblk m hO c 96 t, iblk m hO c 98 t, iblk m hO c 100 t, iblk m hO c 102 t, iblk m hO c 104 t, iblk m hO c 106 t, iblk m hO c 108 t, iblk m hO c 110 t, iblk m hO c 112 t, iblk m hO c 114 t, iblk m hO c 116 t, iblk m hO c 118 t, iblk m hO c 120 t, iblk m hO c 122 t, iblk m hO c 124 t, iblk m hO c 126 t, iblk m hO c 128 t, iblk m hO c 130 t]
def negMats (hO : Ok m) (c : Dev nD) (t : Fin (cfgM m hO).N) : Fin 64 → Vec F S1x128x128 .bf16 :=
  ![iblk m hO c 5 t, iblk m hO c 7 t, iblk m hO c 9 t, iblk m hO c 11 t, iblk m hO c 13 t, iblk m hO c 15 t, iblk m hO c 17 t, iblk m hO c 19 t, iblk m hO c 21 t, iblk m hO c 23 t, iblk m hO c 25 t, iblk m hO c 27 t, iblk m hO c 29 t, iblk m hO c 31 t, iblk m hO c 33 t, iblk m hO c 35 t, iblk m hO c 37 t, iblk m hO c 39 t, iblk m hO c 41 t, iblk m hO c 43 t, iblk m hO c 45 t, iblk m hO c 47 t, iblk m hO c 49 t, iblk m hO c 51 t, iblk m hO c 53 t, iblk m hO c 55 t, iblk m hO c 57 t, iblk m hO c 59 t, iblk m hO c 61 t, iblk m hO c 63 t, iblk m hO c 65 t, iblk m hO c 67 t, iblk m hO c 69 t, iblk m hO c 71 t, iblk m hO c 73 t, iblk m hO c 75 t, iblk m hO c 77 t, iblk m hO c 79 t, iblk m hO c 81 t, iblk m hO c 83 t, iblk m hO c 85 t, iblk m hO c 87 t, iblk m hO c 89 t, iblk m hO c 91 t, iblk m hO c 93 t, iblk m hO c 95 t, iblk m hO c 97 t, iblk m hO c 99 t, iblk m hO c 101 t, iblk m hO c 103 t, iblk m hO c 105 t, iblk m hO c 107 t, iblk m hO c 109 t, iblk m hO c 111 t, iblk m hO c 113 t, iblk m hO c 115 t, iblk m hO c 117 t, iblk m hO c 119 t, iblk m hO c 121 t, iblk m hO c 123 t, iblk m hO c 125 t, iblk m hO c 127 t, iblk m hO c 129 t, iblk m hO c 131 t]

/-- The pos window's word of unit `g`. -/
def posWord (hO : Ok m) (t : Fin (cfgM m hO).N) (g : Fin 64) : BitVec 32 :=
  tbl m 0 ((Rect.unit (s := S2x1408) (k0_off1 (grid0.coords t) (BitVec.ofNat 32 g.val)) S1x1.size (k0_off1_inb (grid0.coords t) g)).emb
    (Shape.Idx.first (numel1_S1x1.symm ▸ Nat.one_pos)))

theorem posWord_eq (hO : Ok m) (t : Fin (cfgM m hO).N) (g : Fin 64) :
    posWord m hO t g = tbl m 0 (ix2 0 ⟨(pt m hO t).val * 64 + g.val, by omega⟩) := by
  have ew := word_at 0 (pt m hO t) g (k0_off1 (grid0.coords t) (BitVec.ofNat 32 g.val))
    (by rw [off1_eq, coord_eq m hO]; rfl) (k0_off1_inb (grid0.coords t) g) numel1_S1x1
  exact congrArg (tbl m 0) ew

/-- A number below 1000 as a matrix's block index. -/
theorem pos_inb (hO : Ok m) (hS : Small (tbl m)) (t : Fin (cfgM m hO).N) (g : Fin 64) (a : Fin 3) :
    ((![(posWord m hO t g).toNat, 0, 0] : Fin 3 → Nat) a + 1) * S1x128x128.size a ≤ S1000x128x128.size a := by
  have h : (posWord m hO t g).toNat < 1000 := hS _
  match a with
  | 0 => show ((posWord m hO t g).toNat + 1) * 1 ≤ 1000; omega
  | 1 => show (0 + 1) * 128 ≤ 128; omega
  | 2 => show (0 + 1) * 128 ≤ 128; omega

theorem posMats_read (hO : Ok m) (hS : Small (tbl m)) (c : Dev nD) (t : Fin (cfgM m hO).N) (g : Fin 64) :
    posMats m hO c t g = fun j => V m c main_v1
      ((Rect.block (s := S1000x128x128) S1x128x128.size ![(posWord m hO t g).toNat, 0, 0] (pos_inb m hO hS t g)).emb j) := by
  fin_cases g <;> chain_rfl

/-- The windows of the side hold the matrices of its units. -/
theorem posMats_eq (hO : Ok m) (hS : Small (tbl m)) (c : Dev nD) (t : Fin (cfgM m hO).N) (g : Fin 64) :
    posMats m hO c t g = mat m c 0 (pt m hO t) g := by
  rw [posMats_read m hO hS]
  funext j
  rw [mat_read (V m c main_v1) _ (pos_inb m hO hS t g) rfl rfl (posWord m hO t g) (hS _) rfl, posWord_eq]
  rfl

/-- The neg window's word of unit `g`. -/
def negWord (hO : Ok m) (t : Fin (cfgM m hO).N) (g : Fin 64) : BitVec 32 :=
  tbl m 0 ((Rect.unit (s := S2x1408) (k0_off2 (grid0.coords t) (BitVec.ofNat 32 g.val)) S1x1.size (k0_off2_inb (grid0.coords t) g)).emb
    (Shape.Idx.first (numel1_S1x1.symm ▸ Nat.one_pos)))

theorem negWord_eq (hO : Ok m) (t : Fin (cfgM m hO).N) (g : Fin 64) :
    negWord m hO t g = tbl m 0 (ix2 1 ⟨(pt m hO t).val * 64 + g.val, by omega⟩) := by
  have ew := word_at 1 (pt m hO t) g (k0_off2 (grid0.coords t) (BitVec.ofNat 32 g.val))
    (by rw [off2_eq, coord_eq m hO]; rfl) (k0_off2_inb (grid0.coords t) g) numel1_S1x1
  exact congrArg (tbl m 0) ew

/-- A number below 1000 as a matrix's block index. -/
theorem neg_inb (hO : Ok m) (hS : Small (tbl m)) (t : Fin (cfgM m hO).N) (g : Fin 64) (a : Fin 3) :
    ((![(negWord m hO t g).toNat, 0, 0] : Fin 3 → Nat) a + 1) * S1x128x128.size a ≤ S1000x128x128.size a := by
  have h : (negWord m hO t g).toNat < 1000 := hS _
  match a with
  | 0 => show ((negWord m hO t g).toNat + 1) * 1 ≤ 1000; omega
  | 1 => show (0 + 1) * 128 ≤ 128; omega
  | 2 => show (0 + 1) * 128 ≤ 128; omega

theorem negMats_read (hO : Ok m) (hS : Small (tbl m)) (c : Dev nD) (t : Fin (cfgM m hO).N) (g : Fin 64) :
    negMats m hO c t g = fun j => V m c main_v1
      ((Rect.block (s := S1000x128x128) S1x128x128.size ![(negWord m hO t g).toNat, 0, 0] (neg_inb m hO hS t g)).emb j) := by
  fin_cases g <;> chain_rfl

/-- The windows of the side hold the matrices of its units. -/
theorem negMats_eq (hO : Ok m) (hS : Small (tbl m)) (c : Dev nD) (t : Fin (cfgM m hO).N) (g : Fin 64) :
    negMats m hO c t g = mat m c 1 (pt m hO t) g := by
  rw [negMats_read m hO hS]
  funext j
  rw [mat_read (V m c main_v1) _ (neg_inb m hO hS t g) rfl rfl (negWord m hO t g) (hS _) rfl, negWord_eq]
  rfl

/-! ## The blocks of positions -/

/-- Block `t` of an array of padded positions. -/
def rows {α : Type} (x : S11264x128.Idx → α) (t : Fin 22) : S512x128.Idx → α :=
  fun j => x (ix2 ⟨t.val * 512 + (j 0).val, by have : (j 0).val < 512 := (j 0).isLt; omega⟩ (j 1))

theorem rows_read {α : Type} (x : S11264x128.Idx → α) (t : Fin 22) (T : Fin 2 → Nat) (h : ∀ a, (T a + 1) * S512x128.size a ≤ S11264x128.size a)
    (h0 : T 0 = t.val) (h1 : T 1 = 0) :
    (fun j => x ((Rect.block (s := S11264x128) S512x128.size T h).emb j)) = rows x t := by
  funext j
  unfold rows
  congr 1
  funext a
  refine Fin.ext ?_
  match a with
  | 0 => show T 0 * 512 + 1 * (j 0).val = t.val * 512 + (j 0).val; omega
  | 1 => show T 1 * 128 + 1 * (j 1).val = (j 1).val; omega

theorem point_word (hO : Ok m) (t : Fin (cfgM m hO).N) : (BitVec.ofNat 32 (grid0.coords t 0).val).toNat = (pt m hO t).val := by
  rw [coord_eq, BitVec.toNat_ofNat]; omega

theorem rows0 (hO : Ok m) (c : Dev nD) (t : Fin (cfgM m hO).N) : iblk m hO c 0 t = rows (V m c main_arg1) (pt m hO t) :=
  rows_read (V m c main_arg1) (pt m hO t) (cc0_transform_0 (grid0.coords t)) (hinb0_0 (grid0.coords t)) (point_word m hO t) rfl
theorem rows1 (hO : Ok m) (c : Dev nD) (t : Fin (cfgM m hO).N) : iblk m hO c 1 t = rows (V m c main_arg2) (pt m hO t) :=
  rows_read (V m c main_arg2) (pt m hO t) (cc0_transform_1 (grid0.coords t)) (hinb0_1 (grid0.coords t)) (point_word m hO t) rfl
theorem rows2 (hO : Ok m) (c : Dev nD) (t : Fin (cfgM m hO).N) : iblk m hO c 2 t = rows (V m c main_arg3) (pt m hO t) :=
  rows_read (V m c main_arg3) (pt m hO t) (cc0_transform_2 (grid0.coords t)) (hinb0_2 (grid0.coords t)) (point_word m hO t) rfl
theorem rows3 (hO : Ok m) (c : Dev nD) (t : Fin (cfgM m hO).N) : iblk m hO c 3 t = rows (V m c main_arg4) (pt m hO t) :=
  rows_read (V m c main_arg4) (pt m hO t) (cc0_transform_3 (grid0.coords t)) (hinb0_3 (grid0.coords t)) (point_word m hO t) rfl

/-! ## The matrices over the reals -/

/-- The array of matrices the windows stage is the projection table, each row as a matrix. -/
theorem V_main_v1 (m : (ℓ : Loc nD τ sig) → Buf (Elt Ideal) ℓ) (c : Dev nD) :
    @Eq (FVec Ideal S1000x128x128 .bf16) (V m c main_v1) (truncf .bf16 (shapeCast S1000x128x128
      (m ((c : Thread nD τ).loc main_arg5) : FVec Ideal S1000x16384 .f32) shapeCasts_S1000x16384_S1000x128x128) bitsLt_bf16_f32) := by
  show StableHlo.after hostOps0 _ (Proc.devRef .tc main_v1) = _
  after_results
  rfl

theorem V_main_v1_at (m : (ℓ : Loc nD τ sig) → Buf (Elt Ideal) ℓ) (c : Dev nD) (k : Fin 1000) (o i : Fin 128) :
    (V m c main_v1 : FVec Ideal S1000x128x128 .bf16) (ix3 k o i)
      = (m ((c : Thread nD τ).loc main_arg5) : FVec Ideal S1000x16384 .f32) (ix2 k (Transe.flat o i)) := by
  rw [V_main_v1]
  pointwise
  rfl

/-- The matrix of unit `g` at an entry. -/
theorem mat_at (m : (ℓ : Loc nD τ sig) → Buf (Elt Ideal) ℓ) (c : Dev nD) (side : Fin 2) (t : Fin 22) (g : Fin 64) (z : Fin 1) (o i : Fin 128) :
    mat m c side t g (ix3 z o i) = (m ((c : Thread nD τ).loc main_arg5) : FVec Ideal S1000x16384 .f32)
      (ix2 (Transe.relOf (tbl m 0 (ix2 side ⟨t.val * 64 + g.val, by omega⟩))) (Transe.flat o i)) :=
  V_main_v1_at m c _ _ _

end Cert.ProjIdeal.Own

end
-- ==== Proof.Call.Frame.lean ====
/-
  The call's run: the proof data of its pipeline, the body at every grid point, the launch, and the frame.
-/
module

public import proofs.«01_k».proof.Proof.Call.Core
public import proofs.«01_k».proof.Proof.Table
public import Idealize.ShloMosaic.Lib.Claim

@[expose] public section

set_option maxRecDepth 16384

noncomputable section

namespace Cert.ProjIdeal.Call

open Cert.ProjIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- The positive side's distances at a point, from the blocks the point is given. -/
def posOut (hO : Ok m) (c : Dev nD) (t : Fin (cfgM m hO).N) : Vec F S1x1x512 .f32 :=
  Own.sideBlock (iblk m hO c 0 t) (iblk m hO c 1 t) (Own.posMats m hO c t)

/-- The negative side's. -/
def negOut (hO : Ok m) (c : Dev nD) (t : Fin (cfgM m hO).N) : Vec F S1x1x512 .f32 :=
  Own.sideBlock (iblk m hO c 2 t) (iblk m hO c 3 t) (Own.negMats m hO c t)

/-! ## The pipeline's proof data -/

/-- The proof data on core `c`: the arrays as the region finds them; after the body at point `t` each input's buffer
    holds its block and the outputs' buffers the distances. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => iblk m hO c 26 t
    | ⟨27, _⟩ => iblk m hO c 27 t
    | ⟨28, _⟩ => iblk m hO c 28 t
    | ⟨29, _⟩ => iblk m hO c 29 t
    | ⟨30, _⟩ => iblk m hO c 30 t
    | ⟨31, _⟩ => iblk m hO c 31 t
    | ⟨32, _⟩ => iblk m hO c 32 t
    | ⟨33, _⟩ => iblk m hO c 33 t
    | ⟨34, _⟩ => iblk m hO c 34 t
    | ⟨35, _⟩ => iblk m hO c 35 t
    | ⟨36, _⟩ => iblk m hO c 36 t
    | ⟨37, _⟩ => iblk m hO c 37 t
    | ⟨38, _⟩ => iblk m hO c 38 t
    | ⟨39, _⟩ => iblk m hO c 39 t
    | ⟨40, _⟩ => iblk m hO c 40 t
    | ⟨41, _⟩ => iblk m hO c 41 t
    | ⟨42, _⟩ => iblk m hO c 42 t
    | ⟨43, _⟩ => iblk m hO c 43 t
    | ⟨44, _⟩ => iblk m hO c 44 t
    | ⟨45, _⟩ => iblk m hO c 45 t
    | ⟨46, _⟩ => iblk m hO c 46 t
    | ⟨47, _⟩ => iblk m hO c 47 t
    | ⟨48, _⟩ => iblk m hO c 48 t
    | ⟨49, _⟩ => iblk m hO c 49 t
    | ⟨50, _⟩ => iblk m hO c 50 t
    | ⟨51, _⟩ => iblk m hO c 51 t
    | ⟨52, _⟩ => iblk m hO c 52 t
    | ⟨53, _⟩ => iblk m hO c 53 t
    | ⟨54, _⟩ => iblk m hO c 54 t
    | ⟨55, _⟩ => iblk m hO c 55 t
    | ⟨56, _⟩ => iblk m hO c 56 t
    | ⟨57, _⟩ => iblk m hO c 57 t
    | ⟨58, _⟩ => iblk m hO c 58 t
    | ⟨59, _⟩ => iblk m hO c 59 t
    | ⟨60, _⟩ => iblk m hO c 60 t
    | ⟨61, _⟩ => iblk m hO c 61 t
    | ⟨62, _⟩ => iblk m hO c 62 t
    | ⟨63, _⟩ => iblk m hO c 63 t
    | ⟨64, _⟩ => iblk m hO c 64 t
    | ⟨65, _⟩ => iblk m hO c 65 t
    | ⟨66, _⟩ => iblk m hO c 66 t
    | ⟨67, _⟩ => iblk m hO c 67 t
    | ⟨68, _⟩ => iblk m hO c 68 t
    | ⟨69, _⟩ => iblk m hO c 69 t
    | ⟨70, _⟩ => iblk m hO c 70 t
    | ⟨71, _⟩ => iblk m hO c 71 t
    | ⟨72, _⟩ => iblk m hO c 72 t
    | ⟨73, _⟩ => iblk m hO c 73 t
    | ⟨74, _⟩ => iblk m hO c 74 t
    | ⟨75, _⟩ => iblk m hO c 75 t
    | ⟨76, _⟩ => iblk m hO c 76 t
    | ⟨77, _⟩ => iblk m hO c 77 t
    | ⟨78, _⟩ => iblk m hO c 78 t
    | ⟨79, _⟩ => iblk m hO c 79 t
    | ⟨80, _⟩ => iblk m hO c 80 t
    | ⟨81, _⟩ => iblk m hO c 81 t
    | ⟨82, _⟩ => iblk m hO c 82 t
    | ⟨83, _⟩ => iblk m hO c 83 t
    | ⟨84, _⟩ => iblk m hO c 84 t
    | ⟨85, _⟩ => iblk m hO c 85 t
    | ⟨86, _⟩ => iblk m hO c 86 t
    | ⟨87, _⟩ => iblk m hO c 87 t
    | ⟨88, _⟩ => iblk m hO c 88 t
    | ⟨89, _⟩ => iblk m hO c 89 t
    | ⟨90, _⟩ => iblk m hO c 90 t
    | ⟨91, _⟩ => iblk m hO c 91 t
    | ⟨92, _⟩ => iblk m hO c 92 t
    | ⟨93, _⟩ => iblk m hO c 93 t
    | ⟨94, _⟩ => iblk m hO c 94 t
    | ⟨95, _⟩ => iblk m hO c 95 t
    | ⟨96, _⟩ => iblk m hO c 96 t
    | ⟨97, _⟩ => iblk m hO c 97 t
    | ⟨98, _⟩ => iblk m hO c 98 t
    | ⟨99, _⟩ => iblk m hO c 99 t
    | ⟨100, _⟩ => iblk m hO c 100 t
    | ⟨101, _⟩ => iblk m hO c 101 t
    | ⟨102, _⟩ => iblk m hO c 102 t
    | ⟨103, _⟩ => iblk m hO c 103 t
    | ⟨104, _⟩ => iblk m hO c 104 t
    | ⟨105, _⟩ => iblk m hO c 105 t
    | ⟨106, _⟩ => iblk m hO c 106 t
    | ⟨107, _⟩ => iblk m hO c 107 t
    | ⟨108, _⟩ => iblk m hO c 108 t
    | ⟨109, _⟩ => iblk m hO c 109 t
    | ⟨110, _⟩ => iblk m hO c 110 t
    | ⟨111, _⟩ => iblk m hO c 111 t
    | ⟨112, _⟩ => iblk m hO c 112 t
    | ⟨113, _⟩ => iblk m hO c 113 t
    | ⟨114, _⟩ => iblk m hO c 114 t
    | ⟨115, _⟩ => iblk m hO c 115 t
    | ⟨116, _⟩ => iblk m hO c 116 t
    | ⟨117, _⟩ => iblk m hO c 117 t
    | ⟨118, _⟩ => iblk m hO c 118 t
    | ⟨119, _⟩ => iblk m hO c 119 t
    | ⟨120, _⟩ => iblk m hO c 120 t
    | ⟨121, _⟩ => iblk m hO c 121 t
    | ⟨122, _⟩ => iblk m hO c 122 t
    | ⟨123, _⟩ => iblk m hO c 123 t
    | ⟨124, _⟩ => iblk m hO c 124 t
    | ⟨125, _⟩ => iblk m hO c 125 t
    | ⟨126, _⟩ => iblk m hO c 126 t
    | ⟨127, _⟩ => iblk m hO c 127 t
    | ⟨128, _⟩ => iblk m hO c 128 t
    | ⟨129, _⟩ => iblk m hO c 129 t
    | ⟨130, _⟩ => iblk m hO c 130 t
    | ⟨131, _⟩ => iblk m hO c 131 t
    | ⟨132, _⟩ => posOut m hO c t
    | ⟨133, _⟩ => negOut m hO c t
    | ⟨_ + 134, h⟩ => absurd h (Nat.not_lt.2 (Nat.le_add_left _ _))
  Φ _ := iprop(Pipeline.ΦA spec0 c ∗ Pipeline.ΦT pre0 (tbl m) c)
  q w := Pipeline.shareOf spec0 w
  owed _ := 0

/-- The proof data's arrays are the region-entry contents. -/
theorem A_eq (hO : Ok m) (c : Dev nD) (w : Fin (cfgM m hO).W) : (dats m hO 0 c).A w = V m c (Pipeline.arrRef spec0 w) := by
  dsimp only [dats]

/-- What the body leaves, window by window. -/
theorem after0_0 (hO : Ok m) (c) (t) : (dats m hO 0 c).after 0 t = iblk m hO c 0 t := by chain_rfl
theorem after0_1 (hO : Ok m) (c) (t) : (dats m hO 0 c).after 1 t = iblk m hO c 1 t := by chain_rfl
theorem after0_2 (hO : Ok m) (c) (t) : (dats m hO 0 c).after 2 t = iblk m hO c 2 t := by chain_rfl
theorem after0_3 (hO : Ok m) (c) (t) : (dats m hO 0 c).after 3 t = iblk m hO c 3 t := by chain_rfl
theorem after0_4 (hO : Ok m) (c) (t) : (dats m hO 0 c).after 4 t = iblk m hO c 4 t := by chain_rfl
theorem after0_5 (hO : Ok m) (c) (t) : (dats m hO 0 c).after 5 t = iblk m hO c 5 t := by chain_rfl
theorem after0_6 (hO : Ok m) (c) (t) : (dats m hO 0 c).after 6 t = iblk m hO c 6 t := by chain_rfl
theorem after0_7 (hO : Ok m) (c) (t) : (dats m hO 0 c).after 7 t = iblk m hO c 7 t := by chain_rfl
theorem after0_8 (hO : Ok m) (c) (t) : (dats m hO 0 c).after 8 t = iblk m hO c 8 t := by chain_rfl
theorem after0_9 (hO : Ok m) (c) (t) : (dats m hO 0 c).after 9 t = iblk m hO c 9 t := by chain_rfl
theorem after0_10 (hO : Ok m) (c) (t) : (dats m hO 0 c).after 10 t = iblk m hO c 10 t := by chain_rfl
theorem after0_11 (hO : Ok m) (c) (t) : (dats m hO 0 c).after 11 t = iblk m hO c 11 t := by chain_rfl
theorem after0_12 (hO : Ok m) (c) (t) : (dats m hO 0 c).after 12 t = iblk m hO c 12 t := by chain_rfl
theorem after0_13 (hO : Ok m) (c) (t) : (dats m hO 0 c).after 13 t = iblk m hO c 13 t := by chain_rfl
theorem after0_14 (hO : Ok m) (c) (t) : (dats m hO 0 c).after 14 t = iblk m hO c 14 t := by chain_rfl
theorem after0_15 (hO : Ok m) (c) (t) : (dats m hO 0 c).after 15 t = iblk m hO c 15 t := by chain_rfl
theorem after0_16 (hO : Ok m) (c) (t) : (dats m hO 0 c).after 16 t = iblk m hO c 16 t := by chain_rfl
theorem after0_17 (hO : Ok m) (c) (t) : (dats m hO 0 c).after 17 t = iblk m hO c 17 t := by chain_rfl
theorem after0_18 (hO : Ok m) (c) (t) : (dats m hO 0 c).after 18 t = iblk m hO c 18 t := by chain_rfl
theorem after0_19 (hO : Ok m) (c) (t) : (dats m hO 0 c).after 19 t = iblk m hO c 19 t := by chain_rfl
theorem after0_20 (hO : Ok m) (c) (t) : (dats m hO 0 c).after 20 t = iblk m hO c 20 t := by chain_rfl
theorem after0_21 (hO : Ok m) (c) (t) : (dats m hO 0 c).after 21 t = iblk m hO c 21 t := by chain_rfl
theorem after0_22 (hO : Ok m) (c) (t) : (dats m hO 0 c).after 22 t = iblk m hO c 22 t := by chain_rfl
theorem after0_23 (hO : Ok m) (c) (t) : (dats m hO 0 c).after 23 t = iblk m hO c 23 t := by chain_rfl
theorem after0_24 (hO : Ok m) (c) (t) : (dats m hO 0 c).after 24 t = iblk m hO c 24 t := by chain_rfl
theorem after0_25 (hO : Ok m) (c) (t) : (dats m hO 0 c).after 25 t = iblk m hO c 25 t := by chain_rfl
theorem after0_26 (hO : Ok m) (c) (t) : (dats m hO 0 c).after 26 t = iblk m hO c 26 t := by chain_rfl
theorem after0_27 (hO : Ok m) (c) (t) : (dats m hO 0 c).after 27 t = iblk m hO c 27 t := by chain_rfl
theorem after0_28 (hO : Ok m) (c) (t) : (dats m hO 0 c).after 28 t = iblk m hO c 28 t := by chain_rfl
theorem after0_29 (hO : Ok m) (c) (t) : (dats m hO 0 c).after 29 t = iblk m hO c 29 t := by chain_rfl
theorem after0_30 (hO : Ok m) (c) (t) : (dats m hO 0 c).after 30 t = iblk m hO c 30 t := by chain_rfl
theorem after0_31 (hO : Ok m) (c) (t) : (dats m hO 0 c).after 31 t = iblk m hO c 31 t := by chain_rfl
theorem after0_32 (hO : Ok m) (c) (t) : (dats m hO 0 c).after 32 t = iblk m hO c 32 t := by chain_rfl
theorem after0_33 (hO : Ok m) (c) (t) : (dats m hO 0 c).after 33 t = iblk m hO c 33 t := by chain_rfl
theorem after0_34 (hO : Ok m) (c) (t) : (dats m hO 0 c).after 34 t = iblk m hO c 34 t := by chain_rfl
theorem after0_35 (hO : Ok m) (c) (t) : (dats m hO 0 c).after 35 t = iblk m hO c 35 t := by chain_rfl
theorem after0_36 (hO : Ok m) (c) (t) : (dats m hO 0 c).after 36 t = iblk m hO c 36 t := by chain_rfl
theorem after0_37 (hO : Ok m) (c) (t) : (dats m hO 0 c).after 37 t = iblk m hO c 37 t := by chain_rfl
theorem after0_38 (hO : Ok m) (c) (t) : (dats m hO 0 c).after 38 t = iblk m hO c 38 t := by chain_rfl
theorem after0_39 (hO : Ok m) (c) (t) : (dats m hO 0 c).after 39 t = iblk m hO c 39 t := by chain_rfl
theorem after0_40 (hO : Ok m) (c) (t) : (dats m hO 0 c).after 40 t = iblk m hO c 40 t := by chain_rfl
theorem after0_41 (hO : Ok m) (c) (t) : (dats m hO 0 c).after 41 t = iblk m hO c 41 t := by chain_rfl
theorem after0_42 (hO : Ok m) (c) (t) : (dats m hO 0 c).after 42 t = iblk m hO c 42 t := by chain_rfl
theorem after0_43 (hO : Ok m) (c) (t) : (dats m hO 0 c).after 43 t = iblk m hO c 43 t := by chain_rfl
theorem after0_44 (hO : Ok m) (c) (t) : (dats m hO 0 c).after 44 t = iblk m hO c 44 t := by chain_rfl
theorem after0_45 (hO : Ok m) (c) (t) : (dats m hO 0 c).after 45 t = iblk m hO c 45 t := by chain_rfl
theorem after0_46 (hO : Ok m) (c) (t) : (dats m hO 0 c).after 46 t = iblk m hO c 46 t := by chain_rfl
theorem after0_47 (hO : Ok m) (c) (t) : (dats m hO 0 c).after 47 t = iblk m hO c 47 t := by chain_rfl
theorem after0_48 (hO : Ok m) (c) (t) : (dats m hO 0 c).after 48 t = iblk m hO c 48 t := by chain_rfl
theorem after0_49 (hO : Ok m) (c) (t) : (dats m hO 0 c).after 49 t = iblk m hO c 49 t := by chain_rfl
theorem after0_50 (hO : Ok m) (c) (t) : (dats m hO 0 c).after 50 t = iblk m hO c 50 t := by chain_rfl
theorem after0_51 (hO : Ok m) (c) (t) : (dats m hO 0 c).after 51 t = iblk m hO c 51 t := by chain_rfl
theorem after0_52 (hO : Ok m) (c) (t) : (dats m hO 0 c).after 52 t = iblk m hO c 52 t := by chain_rfl
theorem after0_53 (hO : Ok m) (c) (t) : (dats m hO 0 c).after 53 t = iblk m hO c 53 t := by chain_rfl
theorem after0_54 (hO : Ok m) (c) (t) : (dats m hO 0 c).after 54 t = iblk m hO c 54 t := by chain_rfl
theorem after0_55 (hO : Ok m) (c) (t) : (dats m hO 0 c).after 55 t = iblk m hO c 55 t := by chain_rfl
theorem after0_56 (hO : Ok m) (c) (t) : (dats m hO 0 c).after 56 t = iblk m hO c 56 t := by chain_rfl
theorem after0_57 (hO : Ok m) (c) (t) : (dats m hO 0 c).after 57 t = iblk m hO c 57 t := by chain_rfl
theorem after0_58 (hO : Ok m) (c) (t) : (dats m hO 0 c).after 58 t = iblk m hO c 58 t := by chain_rfl
theorem after0_59 (hO : Ok m) (c) (t) : (dats m hO 0 c).after 59 t = iblk m hO c 59 t := by chain_rfl
theorem after0_60 (hO : Ok m) (c) (t) : (dats m hO 0 c).after 60 t = iblk m hO c 60 t := by chain_rfl
theorem after0_61 (hO : Ok m) (c) (t) : (dats m hO 0 c).after 61 t = iblk m hO c 61 t := by chain_rfl
theorem after0_62 (hO : Ok m) (c) (t) : (dats m hO 0 c).after 62 t = iblk m hO c 62 t := by chain_rfl
theorem after0_63 (hO : Ok m) (c) (t) : (dats m hO 0 c).after 63 t = iblk m hO c 63 t := by chain_rfl
theorem after0_64 (hO : Ok m) (c) (t) : (dats m hO 0 c).after 64 t = iblk m hO c 64 t := by chain_rfl
theorem after0_65 (hO : Ok m) (c) (t) : (dats m hO 0 c).after 65 t = iblk m hO c 65 t := by chain_rfl
theorem after0_66 (hO : Ok m) (c) (t) : (dats m hO 0 c).after 66 t = iblk m hO c 66 t := by chain_rfl
theorem after0_67 (hO : Ok m) (c) (t) : (dats m hO 0 c).after 67 t = iblk m hO c 67 t := by chain_rfl
theorem after0_68 (hO : Ok m) (c) (t) : (dats m hO 0 c).after 68 t = iblk m hO c 68 t := by chain_rfl
theorem after0_69 (hO : Ok m) (c) (t) : (dats m hO 0 c).after 69 t = iblk m hO c 69 t := by chain_rfl
theorem after0_70 (hO : Ok m) (c) (t) : (dats m hO 0 c).after 70 t = iblk m hO c 70 t := by chain_rfl
theorem after0_71 (hO : Ok m) (c) (t) : (dats m hO 0 c).after 71 t = iblk m hO c 71 t := by chain_rfl
theorem after0_72 (hO : Ok m) (c) (t) : (dats m hO 0 c).after 72 t = iblk m hO c 72 t := by chain_rfl
theorem after0_73 (hO : Ok m) (c) (t) : (dats m hO 0 c).after 73 t = iblk m hO c 73 t := by chain_rfl
theorem after0_74 (hO : Ok m) (c) (t) : (dats m hO 0 c).after 74 t = iblk m hO c 74 t := by chain_rfl
theorem after0_75 (hO : Ok m) (c) (t) : (dats m hO 0 c).after 75 t = iblk m hO c 75 t := by chain_rfl
theorem after0_76 (hO : Ok m) (c) (t) : (dats m hO 0 c).after 76 t = iblk m hO c 76 t := by chain_rfl
theorem after0_77 (hO : Ok m) (c) (t) : (dats m hO 0 c).after 77 t = iblk m hO c 77 t := by chain_rfl
theorem after0_78 (hO : Ok m) (c) (t) : (dats m hO 0 c).after 78 t = iblk m hO c 78 t := by chain_rfl
theorem after0_79 (hO : Ok m) (c) (t) : (dats m hO 0 c).after 79 t = iblk m hO c 79 t := by chain_rfl
theorem after0_80 (hO : Ok m) (c) (t) : (dats m hO 0 c).after 80 t = iblk m hO c 80 t := by chain_rfl
theorem after0_81 (hO : Ok m) (c) (t) : (dats m hO 0 c).after 81 t = iblk m hO c 81 t := by chain_rfl
theorem after0_82 (hO : Ok m) (c) (t) : (dats m hO 0 c).after 82 t = iblk m hO c 82 t := by chain_rfl
theorem after0_83 (hO : Ok m) (c) (t) : (dats m hO 0 c).after 83 t = iblk m hO c 83 t := by chain_rfl
theorem after0_84 (hO : Ok m) (c) (t) : (dats m hO 0 c).after 84 t = iblk m hO c 84 t := by chain_rfl
theorem after0_85 (hO : Ok m) (c) (t) : (dats m hO 0 c).after 85 t = iblk m hO c 85 t := by chain_rfl
theorem after0_86 (hO : Ok m) (c) (t) : (dats m hO 0 c).after 86 t = iblk m hO c 86 t := by chain_rfl
theorem after0_87 (hO : Ok m) (c) (t) : (dats m hO 0 c).after 87 t = iblk m hO c 87 t := by chain_rfl
theorem after0_88 (hO : Ok m) (c) (t) : (dats m hO 0 c).after 88 t = iblk m hO c 88 t := by chain_rfl
theorem after0_89 (hO : Ok m) (c) (t) : (dats m hO 0 c).after 89 t = iblk m hO c 89 t := by chain_rfl
theorem after0_90 (hO : Ok m) (c) (t) : (dats m hO 0 c).after 90 t = iblk m hO c 90 t := by chain_rfl
theorem after0_91 (hO : Ok m) (c) (t) : (dats m hO 0 c).after 91 t = iblk m hO c 91 t := by chain_rfl
theorem after0_92 (hO : Ok m) (c) (t) : (dats m hO 0 c).after 92 t = iblk m hO c 92 t := by chain_rfl
theorem after0_93 (hO : Ok m) (c) (t) : (dats m hO 0 c).after 93 t = iblk m hO c 93 t := by chain_rfl
theorem after0_94 (hO : Ok m) (c) (t) : (dats m hO 0 c).after 94 t = iblk m hO c 94 t := by chain_rfl
theorem after0_95 (hO : Ok m) (c) (t) : (dats m hO 0 c).after 95 t = iblk m hO c 95 t := by chain_rfl
theorem after0_96 (hO : Ok m) (c) (t) : (dats m hO 0 c).after 96 t = iblk m hO c 96 t := by chain_rfl
theorem after0_97 (hO : Ok m) (c) (t) : (dats m hO 0 c).after 97 t = iblk m hO c 97 t := by chain_rfl
theorem after0_98 (hO : Ok m) (c) (t) : (dats m hO 0 c).after 98 t = iblk m hO c 98 t := by chain_rfl
theorem after0_99 (hO : Ok m) (c) (t) : (dats m hO 0 c).after 99 t = iblk m hO c 99 t := by chain_rfl
theorem after0_100 (hO : Ok m) (c) (t) : (dats m hO 0 c).after 100 t = iblk m hO c 100 t := by chain_rfl
theorem after0_101 (hO : Ok m) (c) (t) : (dats m hO 0 c).after 101 t = iblk m hO c 101 t := by chain_rfl
theorem after0_102 (hO : Ok m) (c) (t) : (dats m hO 0 c).after 102 t = iblk m hO c 102 t := by chain_rfl
theorem after0_103 (hO : Ok m) (c) (t) : (dats m hO 0 c).after 103 t = iblk m hO c 103 t := by chain_rfl
theorem after0_104 (hO : Ok m) (c) (t) : (dats m hO 0 c).after 104 t = iblk m hO c 104 t := by chain_rfl
theorem after0_105 (hO : Ok m) (c) (t) : (dats m hO 0 c).after 105 t = iblk m hO c 105 t := by chain_rfl
theorem after0_106 (hO : Ok m) (c) (t) : (dats m hO 0 c).after 106 t = iblk m hO c 106 t := by chain_rfl
theorem after0_107 (hO : Ok m) (c) (t) : (dats m hO 0 c).after 107 t = iblk m hO c 107 t := by chain_rfl
theorem after0_108 (hO : Ok m) (c) (t) : (dats m hO 0 c).after 108 t = iblk m hO c 108 t := by chain_rfl
theorem after0_109 (hO : Ok m) (c) (t) : (dats m hO 0 c).after 109 t = iblk m hO c 109 t := by chain_rfl
theorem after0_110 (hO : Ok m) (c) (t) : (dats m hO 0 c).after 110 t = iblk m hO c 110 t := by chain_rfl
theorem after0_111 (hO : Ok m) (c) (t) : (dats m hO 0 c).after 111 t = iblk m hO c 111 t := by chain_rfl
theorem after0_112 (hO : Ok m) (c) (t) : (dats m hO 0 c).after 112 t = iblk m hO c 112 t := by chain_rfl
theorem after0_113 (hO : Ok m) (c) (t) : (dats m hO 0 c).after 113 t = iblk m hO c 113 t := by chain_rfl
theorem after0_114 (hO : Ok m) (c) (t) : (dats m hO 0 c).after 114 t = iblk m hO c 114 t := by chain_rfl
theorem after0_115 (hO : Ok m) (c) (t) : (dats m hO 0 c).after 115 t = iblk m hO c 115 t := by chain_rfl
theorem after0_116 (hO : Ok m) (c) (t) : (dats m hO 0 c).after 116 t = iblk m hO c 116 t := by chain_rfl
theorem after0_117 (hO : Ok m) (c) (t) : (dats m hO 0 c).after 117 t = iblk m hO c 117 t := by chain_rfl
theorem after0_118 (hO : Ok m) (c) (t) : (dats m hO 0 c).after 118 t = iblk m hO c 118 t := by chain_rfl
theorem after0_119 (hO : Ok m) (c) (t) : (dats m hO 0 c).after 119 t = iblk m hO c 119 t := by chain_rfl
theorem after0_120 (hO : Ok m) (c) (t) : (dats m hO 0 c).after 120 t = iblk m hO c 120 t := by chain_rfl
theorem after0_121 (hO : Ok m) (c) (t) : (dats m hO 0 c).after 121 t = iblk m hO c 121 t := by chain_rfl
theorem after0_122 (hO : Ok m) (c) (t) : (dats m hO 0 c).after 122 t = iblk m hO c 122 t := by chain_rfl
theorem after0_123 (hO : Ok m) (c) (t) : (dats m hO 0 c).after 123 t = iblk m hO c 123 t := by chain_rfl
theorem after0_124 (hO : Ok m) (c) (t) : (dats m hO 0 c).after 124 t = iblk m hO c 124 t := by chain_rfl
theorem after0_125 (hO : Ok m) (c) (t) : (dats m hO 0 c).after 125 t = iblk m hO c 125 t := by chain_rfl
theorem after0_126 (hO : Ok m) (c) (t) : (dats m hO 0 c).after 126 t = iblk m hO c 126 t := by chain_rfl
theorem after0_127 (hO : Ok m) (c) (t) : (dats m hO 0 c).after 127 t = iblk m hO c 127 t := by chain_rfl
theorem after0_128 (hO : Ok m) (c) (t) : (dats m hO 0 c).after 128 t = iblk m hO c 128 t := by chain_rfl
theorem after0_129 (hO : Ok m) (c) (t) : (dats m hO 0 c).after 129 t = iblk m hO c 129 t := by chain_rfl
theorem after0_130 (hO : Ok m) (c) (t) : (dats m hO 0 c).after 130 t = iblk m hO c 130 t := by chain_rfl
theorem after0_131 (hO : Ok m) (c) (t) : (dats m hO 0 c).after 131 t = iblk m hO c 131 t := by chain_rfl
theorem after0_132 (hO : Ok m) (c) (t) : (dats m hO 0 c).after 132 t = posOut m hO c t := by chain_rfl
theorem after0_133 (hO : Ok m) (c) (t) : (dats m hO 0 c).after 133 t = negOut m hO c t := by chain_rfl

/-- Each input's current staging buffer holds its block at every point, fetched there or not. -/
theorem before0_0 (hO : Ok m) (c) (t) (d) : (dats m hO 0 c).before 0 t d = iblk m hO c 0 t :=
  before0_0_of m hO (dats m hO 0 c) (A_eq m hO c 0) (after0_0 m hO c) t d
theorem before0_1 (hO : Ok m) (c) (t) (d) : (dats m hO 0 c).before 1 t d = iblk m hO c 1 t :=
  before0_1_of m hO (dats m hO 0 c) (A_eq m hO c 1) (after0_1 m hO c) t d
theorem before0_2 (hO : Ok m) (c) (t) (d) : (dats m hO 0 c).before 2 t d = iblk m hO c 2 t :=
  before0_2_of m hO (dats m hO 0 c) (A_eq m hO c 2) (after0_2 m hO c) t d
theorem before0_3 (hO : Ok m) (c) (t) (d) : (dats m hO 0 c).before 3 t d = iblk m hO c 3 t :=
  before0_3_of m hO (dats m hO 0 c) (A_eq m hO c 3) (after0_3 m hO c) t d
theorem before0_4 (hO : Ok m) (c) (t) (d) : (dats m hO 0 c).before 4 t d = iblk m hO c 4 t :=
  before0_4_of m hO (dats m hO 0 c) (A_eq m hO c 4) (after0_4 m hO c) t d
theorem before0_5 (hO : Ok m) (c) (t) (d) : (dats m hO 0 c).before 5 t d = iblk m hO c 5 t :=
  before0_5_of m hO (dats m hO 0 c) (A_eq m hO c 5) (after0_5 m hO c) t d
theorem before0_6 (hO : Ok m) (c) (t) (d) : (dats m hO 0 c).before 6 t d = iblk m hO c 6 t :=
  before0_6_of m hO (dats m hO 0 c) (A_eq m hO c 6) (after0_6 m hO c) t d
theorem before0_7 (hO : Ok m) (c) (t) (d) : (dats m hO 0 c).before 7 t d = iblk m hO c 7 t :=
  before0_7_of m hO (dats m hO 0 c) (A_eq m hO c 7) (after0_7 m hO c) t d
theorem before0_8 (hO : Ok m) (c) (t) (d) : (dats m hO 0 c).before 8 t d = iblk m hO c 8 t :=
  before0_8_of m hO (dats m hO 0 c) (A_eq m hO c 8) (after0_8 m hO c) t d
theorem before0_9 (hO : Ok m) (c) (t) (d) : (dats m hO 0 c).before 9 t d = iblk m hO c 9 t :=
  before0_9_of m hO (dats m hO 0 c) (A_eq m hO c 9) (after0_9 m hO c) t d
theorem before0_10 (hO : Ok m) (c) (t) (d) : (dats m hO 0 c).before 10 t d = iblk m hO c 10 t :=
  before0_10_of m hO (dats m hO 0 c) (A_eq m hO c 10) (after0_10 m hO c) t d
theorem before0_11 (hO : Ok m) (c) (t) (d) : (dats m hO 0 c).before 11 t d = iblk m hO c 11 t :=
  before0_11_of m hO (dats m hO 0 c) (A_eq m hO c 11) (after0_11 m hO c) t d
theorem before0_12 (hO : Ok m) (c) (t) (d) : (dats m hO 0 c).before 12 t d = iblk m hO c 12 t :=
  before0_12_of m hO (dats m hO 0 c) (A_eq m hO c 12) (after0_12 m hO c) t d
theorem before0_13 (hO : Ok m) (c) (t) (d) : (dats m hO 0 c).before 13 t d = iblk m hO c 13 t :=
  before0_13_of m hO (dats m hO 0 c) (A_eq m hO c 13) (after0_13 m hO c) t d
theorem before0_14 (hO : Ok m) (c) (t) (d) : (dats m hO 0 c).before 14 t d = iblk m hO c 14 t :=
  before0_14_of m hO (dats m hO 0 c) (A_eq m hO c 14) (after0_14 m hO c) t d
theorem before0_15 (hO : Ok m) (c) (t) (d) : (dats m hO 0 c).before 15 t d = iblk m hO c 15 t :=
  before0_15_of m hO (dats m hO 0 c) (A_eq m hO c 15) (after0_15 m hO c) t d
theorem before0_16 (hO : Ok m) (c) (t) (d) : (dats m hO 0 c).before 16 t d = iblk m hO c 16 t :=
  before0_16_of m hO (dats m hO 0 c) (A_eq m hO c 16) (after0_16 m hO c) t d
theorem before0_17 (hO : Ok m) (c) (t) (d) : (dats m hO 0 c).before 17 t d = iblk m hO c 17 t :=
  before0_17_of m hO (dats m hO 0 c) (A_eq m hO c 17) (after0_17 m hO c) t d
theorem before0_18 (hO : Ok m) (c) (t) (d) : (dats m hO 0 c).before 18 t d = iblk m hO c 18 t :=
  before0_18_of m hO (dats m hO 0 c) (A_eq m hO c 18) (after0_18 m hO c) t d
theorem before0_19 (hO : Ok m) (c) (t) (d) : (dats m hO 0 c).before 19 t d = iblk m hO c 19 t :=
  before0_19_of m hO (dats m hO 0 c) (A_eq m hO c 19) (after0_19 m hO c) t d
theorem before0_20 (hO : Ok m) (c) (t) (d) : (dats m hO 0 c).before 20 t d = iblk m hO c 20 t :=
  before0_20_of m hO (dats m hO 0 c) (A_eq m hO c 20) (after0_20 m hO c) t d
theorem before0_21 (hO : Ok m) (c) (t) (d) : (dats m hO 0 c).before 21 t d = iblk m hO c 21 t :=
  before0_21_of m hO (dats m hO 0 c) (A_eq m hO c 21) (after0_21 m hO c) t d
theorem before0_22 (hO : Ok m) (c) (t) (d) : (dats m hO 0 c).before 22 t d = iblk m hO c 22 t :=
  before0_22_of m hO (dats m hO 0 c) (A_eq m hO c 22) (after0_22 m hO c) t d
theorem before0_23 (hO : Ok m) (c) (t) (d) : (dats m hO 0 c).before 23 t d = iblk m hO c 23 t :=
  before0_23_of m hO (dats m hO 0 c) (A_eq m hO c 23) (after0_23 m hO c) t d
theorem before0_24 (hO : Ok m) (c) (t) (d) : (dats m hO 0 c).before 24 t d = iblk m hO c 24 t :=
  before0_24_of m hO (dats m hO 0 c) (A_eq m hO c 24) (after0_24 m hO c) t d
theorem before0_25 (hO : Ok m) (c) (t) (d) : (dats m hO 0 c).before 25 t d = iblk m hO c 25 t :=
  before0_25_of m hO (dats m hO 0 c) (A_eq m hO c 25) (after0_25 m hO c) t d
theorem before0_26 (hO : Ok m) (c) (t) (d) : (dats m hO 0 c).before 26 t d = iblk m hO c 26 t :=
  before0_26_of m hO (dats m hO 0 c) (A_eq m hO c 26) (after0_26 m hO c) t d
theorem before0_27 (hO : Ok m) (c) (t) (d) : (dats m hO 0 c).before 27 t d = iblk m hO c 27 t :=
  before0_27_of m hO (dats m hO 0 c) (A_eq m hO c 27) (after0_27 m hO c) t d
theorem before0_28 (hO : Ok m) (c) (t) (d) : (dats m hO 0 c).before 28 t d = iblk m hO c 28 t :=
  before0_28_of m hO (dats m hO 0 c) (A_eq m hO c 28) (after0_28 m hO c) t d
theorem before0_29 (hO : Ok m) (c) (t) (d) : (dats m hO 0 c).before 29 t d = iblk m hO c 29 t :=
  before0_29_of m hO (dats m hO 0 c) (A_eq m hO c 29) (after0_29 m hO c) t d
theorem before0_30 (hO : Ok m) (c) (t) (d) : (dats m hO 0 c).before 30 t d = iblk m hO c 30 t :=
  before0_30_of m hO (dats m hO 0 c) (A_eq m hO c 30) (after0_30 m hO c) t d
theorem before0_31 (hO : Ok m) (c) (t) (d) : (dats m hO 0 c).before 31 t d = iblk m hO c 31 t :=
  before0_31_of m hO (dats m hO 0 c) (A_eq m hO c 31) (after0_31 m hO c) t d
theorem before0_32 (hO : Ok m) (c) (t) (d) : (dats m hO 0 c).before 32 t d = iblk m hO c 32 t :=
  before0_32_of m hO (dats m hO 0 c) (A_eq m hO c 32) (after0_32 m hO c) t d
theorem before0_33 (hO : Ok m) (c) (t) (d) : (dats m hO 0 c).before 33 t d = iblk m hO c 33 t :=
  before0_33_of m hO (dats m hO 0 c) (A_eq m hO c 33) (after0_33 m hO c) t d
theorem before0_34 (hO : Ok m) (c) (t) (d) : (dats m hO 0 c).before 34 t d = iblk m hO c 34 t :=
  before0_34_of m hO (dats m hO 0 c) (A_eq m hO c 34) (after0_34 m hO c) t d
theorem before0_35 (hO : Ok m) (c) (t) (d) : (dats m hO 0 c).before 35 t d = iblk m hO c 35 t :=
  before0_35_of m hO (dats m hO 0 c) (A_eq m hO c 35) (after0_35 m hO c) t d
theorem before0_36 (hO : Ok m) (c) (t) (d) : (dats m hO 0 c).before 36 t d = iblk m hO c 36 t :=
  before0_36_of m hO (dats m hO 0 c) (A_eq m hO c 36) (after0_36 m hO c) t d
theorem before0_37 (hO : Ok m) (c) (t) (d) : (dats m hO 0 c).before 37 t d = iblk m hO c 37 t :=
  before0_37_of m hO (dats m hO 0 c) (A_eq m hO c 37) (after0_37 m hO c) t d
theorem before0_38 (hO : Ok m) (c) (t) (d) : (dats m hO 0 c).before 38 t d = iblk m hO c 38 t :=
  before0_38_of m hO (dats m hO 0 c) (A_eq m hO c 38) (after0_38 m hO c) t d
theorem before0_39 (hO : Ok m) (c) (t) (d) : (dats m hO 0 c).before 39 t d = iblk m hO c 39 t :=
  before0_39_of m hO (dats m hO 0 c) (A_eq m hO c 39) (after0_39 m hO c) t d
theorem before0_40 (hO : Ok m) (c) (t) (d) : (dats m hO 0 c).before 40 t d = iblk m hO c 40 t :=
  before0_40_of m hO (dats m hO 0 c) (A_eq m hO c 40) (after0_40 m hO c) t d
theorem before0_41 (hO : Ok m) (c) (t) (d) : (dats m hO 0 c).before 41 t d = iblk m hO c 41 t :=
  before0_41_of m hO (dats m hO 0 c) (A_eq m hO c 41) (after0_41 m hO c) t d
theorem before0_42 (hO : Ok m) (c) (t) (d) : (dats m hO 0 c).before 42 t d = iblk m hO c 42 t :=
  before0_42_of m hO (dats m hO 0 c) (A_eq m hO c 42) (after0_42 m hO c) t d
theorem before0_43 (hO : Ok m) (c) (t) (d) : (dats m hO 0 c).before 43 t d = iblk m hO c 43 t :=
  before0_43_of m hO (dats m hO 0 c) (A_eq m hO c 43) (after0_43 m hO c) t d
theorem before0_44 (hO : Ok m) (c) (t) (d) : (dats m hO 0 c).before 44 t d = iblk m hO c 44 t :=
  before0_44_of m hO (dats m hO 0 c) (A_eq m hO c 44) (after0_44 m hO c) t d
theorem before0_45 (hO : Ok m) (c) (t) (d) : (dats m hO 0 c).before 45 t d = iblk m hO c 45 t :=
  before0_45_of m hO (dats m hO 0 c) (A_eq m hO c 45) (after0_45 m hO c) t d
theorem before0_46 (hO : Ok m) (c) (t) (d) : (dats m hO 0 c).before 46 t d = iblk m hO c 46 t :=
  before0_46_of m hO (dats m hO 0 c) (A_eq m hO c 46) (after0_46 m hO c) t d
theorem before0_47 (hO : Ok m) (c) (t) (d) : (dats m hO 0 c).before 47 t d = iblk m hO c 47 t :=
  before0_47_of m hO (dats m hO 0 c) (A_eq m hO c 47) (after0_47 m hO c) t d
theorem before0_48 (hO : Ok m) (c) (t) (d) : (dats m hO 0 c).before 48 t d = iblk m hO c 48 t :=
  before0_48_of m hO (dats m hO 0 c) (A_eq m hO c 48) (after0_48 m hO c) t d
theorem before0_49 (hO : Ok m) (c) (t) (d) : (dats m hO 0 c).before 49 t d = iblk m hO c 49 t :=
  before0_49_of m hO (dats m hO 0 c) (A_eq m hO c 49) (after0_49 m hO c) t d
theorem before0_50 (hO : Ok m) (c) (t) (d) : (dats m hO 0 c).before 50 t d = iblk m hO c 50 t :=
  before0_50_of m hO (dats m hO 0 c) (A_eq m hO c 50) (after0_50 m hO c) t d
theorem before0_51 (hO : Ok m) (c) (t) (d) : (dats m hO 0 c).before 51 t d = iblk m hO c 51 t :=
  before0_51_of m hO (dats m hO 0 c) (A_eq m hO c 51) (after0_51 m hO c) t d
theorem before0_52 (hO : Ok m) (c) (t) (d) : (dats m hO 0 c).before 52 t d = iblk m hO c 52 t :=
  before0_52_of m hO (dats m hO 0 c) (A_eq m hO c 52) (after0_52 m hO c) t d
theorem before0_53 (hO : Ok m) (c) (t) (d) : (dats m hO 0 c).before 53 t d = iblk m hO c 53 t :=
  before0_53_of m hO (dats m hO 0 c) (A_eq m hO c 53) (after0_53 m hO c) t d
theorem before0_54 (hO : Ok m) (c) (t) (d) : (dats m hO 0 c).before 54 t d = iblk m hO c 54 t :=
  before0_54_of m hO (dats m hO 0 c) (A_eq m hO c 54) (after0_54 m hO c) t d
theorem before0_55 (hO : Ok m) (c) (t) (d) : (dats m hO 0 c).before 55 t d = iblk m hO c 55 t :=
  before0_55_of m hO (dats m hO 0 c) (A_eq m hO c 55) (after0_55 m hO c) t d
theorem before0_56 (hO : Ok m) (c) (t) (d) : (dats m hO 0 c).before 56 t d = iblk m hO c 56 t :=
  before0_56_of m hO (dats m hO 0 c) (A_eq m hO c 56) (after0_56 m hO c) t d
theorem before0_57 (hO : Ok m) (c) (t) (d) : (dats m hO 0 c).before 57 t d = iblk m hO c 57 t :=
  before0_57_of m hO (dats m hO 0 c) (A_eq m hO c 57) (after0_57 m hO c) t d
theorem before0_58 (hO : Ok m) (c) (t) (d) : (dats m hO 0 c).before 58 t d = iblk m hO c 58 t :=
  before0_58_of m hO (dats m hO 0 c) (A_eq m hO c 58) (after0_58 m hO c) t d
theorem before0_59 (hO : Ok m) (c) (t) (d) : (dats m hO 0 c).before 59 t d = iblk m hO c 59 t :=
  before0_59_of m hO (dats m hO 0 c) (A_eq m hO c 59) (after0_59 m hO c) t d
theorem before0_60 (hO : Ok m) (c) (t) (d) : (dats m hO 0 c).before 60 t d = iblk m hO c 60 t :=
  before0_60_of m hO (dats m hO 0 c) (A_eq m hO c 60) (after0_60 m hO c) t d
theorem before0_61 (hO : Ok m) (c) (t) (d) : (dats m hO 0 c).before 61 t d = iblk m hO c 61 t :=
  before0_61_of m hO (dats m hO 0 c) (A_eq m hO c 61) (after0_61 m hO c) t d
theorem before0_62 (hO : Ok m) (c) (t) (d) : (dats m hO 0 c).before 62 t d = iblk m hO c 62 t :=
  before0_62_of m hO (dats m hO 0 c) (A_eq m hO c 62) (after0_62 m hO c) t d
theorem before0_63 (hO : Ok m) (c) (t) (d) : (dats m hO 0 c).before 63 t d = iblk m hO c 63 t :=
  before0_63_of m hO (dats m hO 0 c) (A_eq m hO c 63) (after0_63 m hO c) t d
theorem before0_64 (hO : Ok m) (c) (t) (d) : (dats m hO 0 c).before 64 t d = iblk m hO c 64 t :=
  before0_64_of m hO (dats m hO 0 c) (A_eq m hO c 64) (after0_64 m hO c) t d
theorem before0_65 (hO : Ok m) (c) (t) (d) : (dats m hO 0 c).before 65 t d = iblk m hO c 65 t :=
  before0_65_of m hO (dats m hO 0 c) (A_eq m hO c 65) (after0_65 m hO c) t d
theorem before0_66 (hO : Ok m) (c) (t) (d) : (dats m hO 0 c).before 66 t d = iblk m hO c 66 t :=
  before0_66_of m hO (dats m hO 0 c) (A_eq m hO c 66) (after0_66 m hO c) t d
theorem before0_67 (hO : Ok m) (c) (t) (d) : (dats m hO 0 c).before 67 t d = iblk m hO c 67 t :=
  before0_67_of m hO (dats m hO 0 c) (A_eq m hO c 67) (after0_67 m hO c) t d
theorem before0_68 (hO : Ok m) (c) (t) (d) : (dats m hO 0 c).before 68 t d = iblk m hO c 68 t :=
  before0_68_of m hO (dats m hO 0 c) (A_eq m hO c 68) (after0_68 m hO c) t d
theorem before0_69 (hO : Ok m) (c) (t) (d) : (dats m hO 0 c).before 69 t d = iblk m hO c 69 t :=
  before0_69_of m hO (dats m hO 0 c) (A_eq m hO c 69) (after0_69 m hO c) t d
theorem before0_70 (hO : Ok m) (c) (t) (d) : (dats m hO 0 c).before 70 t d = iblk m hO c 70 t :=
  before0_70_of m hO (dats m hO 0 c) (A_eq m hO c 70) (after0_70 m hO c) t d
theorem before0_71 (hO : Ok m) (c) (t) (d) : (dats m hO 0 c).before 71 t d = iblk m hO c 71 t :=
  before0_71_of m hO (dats m hO 0 c) (A_eq m hO c 71) (after0_71 m hO c) t d
theorem before0_72 (hO : Ok m) (c) (t) (d) : (dats m hO 0 c).before 72 t d = iblk m hO c 72 t :=
  before0_72_of m hO (dats m hO 0 c) (A_eq m hO c 72) (after0_72 m hO c) t d
theorem before0_73 (hO : Ok m) (c) (t) (d) : (dats m hO 0 c).before 73 t d = iblk m hO c 73 t :=
  before0_73_of m hO (dats m hO 0 c) (A_eq m hO c 73) (after0_73 m hO c) t d
theorem before0_74 (hO : Ok m) (c) (t) (d) : (dats m hO 0 c).before 74 t d = iblk m hO c 74 t :=
  before0_74_of m hO (dats m hO 0 c) (A_eq m hO c 74) (after0_74 m hO c) t d
theorem before0_75 (hO : Ok m) (c) (t) (d) : (dats m hO 0 c).before 75 t d = iblk m hO c 75 t :=
  before0_75_of m hO (dats m hO 0 c) (A_eq m hO c 75) (after0_75 m hO c) t d
theorem before0_76 (hO : Ok m) (c) (t) (d) : (dats m hO 0 c).before 76 t d = iblk m hO c 76 t :=
  before0_76_of m hO (dats m hO 0 c) (A_eq m hO c 76) (after0_76 m hO c) t d
theorem before0_77 (hO : Ok m) (c) (t) (d) : (dats m hO 0 c).before 77 t d = iblk m hO c 77 t :=
  before0_77_of m hO (dats m hO 0 c) (A_eq m hO c 77) (after0_77 m hO c) t d
theorem before0_78 (hO : Ok m) (c) (t) (d) : (dats m hO 0 c).before 78 t d = iblk m hO c 78 t :=
  before0_78_of m hO (dats m hO 0 c) (A_eq m hO c 78) (after0_78 m hO c) t d
theorem before0_79 (hO : Ok m) (c) (t) (d) : (dats m hO 0 c).before 79 t d = iblk m hO c 79 t :=
  before0_79_of m hO (dats m hO 0 c) (A_eq m hO c 79) (after0_79 m hO c) t d
theorem before0_80 (hO : Ok m) (c) (t) (d) : (dats m hO 0 c).before 80 t d = iblk m hO c 80 t :=
  before0_80_of m hO (dats m hO 0 c) (A_eq m hO c 80) (after0_80 m hO c) t d
theorem before0_81 (hO : Ok m) (c) (t) (d) : (dats m hO 0 c).before 81 t d = iblk m hO c 81 t :=
  before0_81_of m hO (dats m hO 0 c) (A_eq m hO c 81) (after0_81 m hO c) t d
theorem before0_82 (hO : Ok m) (c) (t) (d) : (dats m hO 0 c).before 82 t d = iblk m hO c 82 t :=
  before0_82_of m hO (dats m hO 0 c) (A_eq m hO c 82) (after0_82 m hO c) t d
theorem before0_83 (hO : Ok m) (c) (t) (d) : (dats m hO 0 c).before 83 t d = iblk m hO c 83 t :=
  before0_83_of m hO (dats m hO 0 c) (A_eq m hO c 83) (after0_83 m hO c) t d
theorem before0_84 (hO : Ok m) (c) (t) (d) : (dats m hO 0 c).before 84 t d = iblk m hO c 84 t :=
  before0_84_of m hO (dats m hO 0 c) (A_eq m hO c 84) (after0_84 m hO c) t d
theorem before0_85 (hO : Ok m) (c) (t) (d) : (dats m hO 0 c).before 85 t d = iblk m hO c 85 t :=
  before0_85_of m hO (dats m hO 0 c) (A_eq m hO c 85) (after0_85 m hO c) t d
theorem before0_86 (hO : Ok m) (c) (t) (d) : (dats m hO 0 c).before 86 t d = iblk m hO c 86 t :=
  before0_86_of m hO (dats m hO 0 c) (A_eq m hO c 86) (after0_86 m hO c) t d
theorem before0_87 (hO : Ok m) (c) (t) (d) : (dats m hO 0 c).before 87 t d = iblk m hO c 87 t :=
  before0_87_of m hO (dats m hO 0 c) (A_eq m hO c 87) (after0_87 m hO c) t d
theorem before0_88 (hO : Ok m) (c) (t) (d) : (dats m hO 0 c).before 88 t d = iblk m hO c 88 t :=
  before0_88_of m hO (dats m hO 0 c) (A_eq m hO c 88) (after0_88 m hO c) t d
theorem before0_89 (hO : Ok m) (c) (t) (d) : (dats m hO 0 c).before 89 t d = iblk m hO c 89 t :=
  before0_89_of m hO (dats m hO 0 c) (A_eq m hO c 89) (after0_89 m hO c) t d
theorem before0_90 (hO : Ok m) (c) (t) (d) : (dats m hO 0 c).before 90 t d = iblk m hO c 90 t :=
  before0_90_of m hO (dats m hO 0 c) (A_eq m hO c 90) (after0_90 m hO c) t d
theorem before0_91 (hO : Ok m) (c) (t) (d) : (dats m hO 0 c).before 91 t d = iblk m hO c 91 t :=
  before0_91_of m hO (dats m hO 0 c) (A_eq m hO c 91) (after0_91 m hO c) t d
theorem before0_92 (hO : Ok m) (c) (t) (d) : (dats m hO 0 c).before 92 t d = iblk m hO c 92 t :=
  before0_92_of m hO (dats m hO 0 c) (A_eq m hO c 92) (after0_92 m hO c) t d
theorem before0_93 (hO : Ok m) (c) (t) (d) : (dats m hO 0 c).before 93 t d = iblk m hO c 93 t :=
  before0_93_of m hO (dats m hO 0 c) (A_eq m hO c 93) (after0_93 m hO c) t d
theorem before0_94 (hO : Ok m) (c) (t) (d) : (dats m hO 0 c).before 94 t d = iblk m hO c 94 t :=
  before0_94_of m hO (dats m hO 0 c) (A_eq m hO c 94) (after0_94 m hO c) t d
theorem before0_95 (hO : Ok m) (c) (t) (d) : (dats m hO 0 c).before 95 t d = iblk m hO c 95 t :=
  before0_95_of m hO (dats m hO 0 c) (A_eq m hO c 95) (after0_95 m hO c) t d
theorem before0_96 (hO : Ok m) (c) (t) (d) : (dats m hO 0 c).before 96 t d = iblk m hO c 96 t :=
  before0_96_of m hO (dats m hO 0 c) (A_eq m hO c 96) (after0_96 m hO c) t d
theorem before0_97 (hO : Ok m) (c) (t) (d) : (dats m hO 0 c).before 97 t d = iblk m hO c 97 t :=
  before0_97_of m hO (dats m hO 0 c) (A_eq m hO c 97) (after0_97 m hO c) t d
theorem before0_98 (hO : Ok m) (c) (t) (d) : (dats m hO 0 c).before 98 t d = iblk m hO c 98 t :=
  before0_98_of m hO (dats m hO 0 c) (A_eq m hO c 98) (after0_98 m hO c) t d
theorem before0_99 (hO : Ok m) (c) (t) (d) : (dats m hO 0 c).before 99 t d = iblk m hO c 99 t :=
  before0_99_of m hO (dats m hO 0 c) (A_eq m hO c 99) (after0_99 m hO c) t d
theorem before0_100 (hO : Ok m) (c) (t) (d) : (dats m hO 0 c).before 100 t d = iblk m hO c 100 t :=
  before0_100_of m hO (dats m hO 0 c) (A_eq m hO c 100) (after0_100 m hO c) t d
theorem before0_101 (hO : Ok m) (c) (t) (d) : (dats m hO 0 c).before 101 t d = iblk m hO c 101 t :=
  before0_101_of m hO (dats m hO 0 c) (A_eq m hO c 101) (after0_101 m hO c) t d
theorem before0_102 (hO : Ok m) (c) (t) (d) : (dats m hO 0 c).before 102 t d = iblk m hO c 102 t :=
  before0_102_of m hO (dats m hO 0 c) (A_eq m hO c 102) (after0_102 m hO c) t d
theorem before0_103 (hO : Ok m) (c) (t) (d) : (dats m hO 0 c).before 103 t d = iblk m hO c 103 t :=
  before0_103_of m hO (dats m hO 0 c) (A_eq m hO c 103) (after0_103 m hO c) t d
theorem before0_104 (hO : Ok m) (c) (t) (d) : (dats m hO 0 c).before 104 t d = iblk m hO c 104 t :=
  before0_104_of m hO (dats m hO 0 c) (A_eq m hO c 104) (after0_104 m hO c) t d
theorem before0_105 (hO : Ok m) (c) (t) (d) : (dats m hO 0 c).before 105 t d = iblk m hO c 105 t :=
  before0_105_of m hO (dats m hO 0 c) (A_eq m hO c 105) (after0_105 m hO c) t d
theorem before0_106 (hO : Ok m) (c) (t) (d) : (dats m hO 0 c).before 106 t d = iblk m hO c 106 t :=
  before0_106_of m hO (dats m hO 0 c) (A_eq m hO c 106) (after0_106 m hO c) t d
theorem before0_107 (hO : Ok m) (c) (t) (d) : (dats m hO 0 c).before 107 t d = iblk m hO c 107 t :=
  before0_107_of m hO (dats m hO 0 c) (A_eq m hO c 107) (after0_107 m hO c) t d
theorem before0_108 (hO : Ok m) (c) (t) (d) : (dats m hO 0 c).before 108 t d = iblk m hO c 108 t :=
  before0_108_of m hO (dats m hO 0 c) (A_eq m hO c 108) (after0_108 m hO c) t d
theorem before0_109 (hO : Ok m) (c) (t) (d) : (dats m hO 0 c).before 109 t d = iblk m hO c 109 t :=
  before0_109_of m hO (dats m hO 0 c) (A_eq m hO c 109) (after0_109 m hO c) t d
theorem before0_110 (hO : Ok m) (c) (t) (d) : (dats m hO 0 c).before 110 t d = iblk m hO c 110 t :=
  before0_110_of m hO (dats m hO 0 c) (A_eq m hO c 110) (after0_110 m hO c) t d
theorem before0_111 (hO : Ok m) (c) (t) (d) : (dats m hO 0 c).before 111 t d = iblk m hO c 111 t :=
  before0_111_of m hO (dats m hO 0 c) (A_eq m hO c 111) (after0_111 m hO c) t d
theorem before0_112 (hO : Ok m) (c) (t) (d) : (dats m hO 0 c).before 112 t d = iblk m hO c 112 t :=
  before0_112_of m hO (dats m hO 0 c) (A_eq m hO c 112) (after0_112 m hO c) t d
theorem before0_113 (hO : Ok m) (c) (t) (d) : (dats m hO 0 c).before 113 t d = iblk m hO c 113 t :=
  before0_113_of m hO (dats m hO 0 c) (A_eq m hO c 113) (after0_113 m hO c) t d
theorem before0_114 (hO : Ok m) (c) (t) (d) : (dats m hO 0 c).before 114 t d = iblk m hO c 114 t :=
  before0_114_of m hO (dats m hO 0 c) (A_eq m hO c 114) (after0_114 m hO c) t d
theorem before0_115 (hO : Ok m) (c) (t) (d) : (dats m hO 0 c).before 115 t d = iblk m hO c 115 t :=
  before0_115_of m hO (dats m hO 0 c) (A_eq m hO c 115) (after0_115 m hO c) t d
theorem before0_116 (hO : Ok m) (c) (t) (d) : (dats m hO 0 c).before 116 t d = iblk m hO c 116 t :=
  before0_116_of m hO (dats m hO 0 c) (A_eq m hO c 116) (after0_116 m hO c) t d
theorem before0_117 (hO : Ok m) (c) (t) (d) : (dats m hO 0 c).before 117 t d = iblk m hO c 117 t :=
  before0_117_of m hO (dats m hO 0 c) (A_eq m hO c 117) (after0_117 m hO c) t d
theorem before0_118 (hO : Ok m) (c) (t) (d) : (dats m hO 0 c).before 118 t d = iblk m hO c 118 t :=
  before0_118_of m hO (dats m hO 0 c) (A_eq m hO c 118) (after0_118 m hO c) t d
theorem before0_119 (hO : Ok m) (c) (t) (d) : (dats m hO 0 c).before 119 t d = iblk m hO c 119 t :=
  before0_119_of m hO (dats m hO 0 c) (A_eq m hO c 119) (after0_119 m hO c) t d
theorem before0_120 (hO : Ok m) (c) (t) (d) : (dats m hO 0 c).before 120 t d = iblk m hO c 120 t :=
  before0_120_of m hO (dats m hO 0 c) (A_eq m hO c 120) (after0_120 m hO c) t d
theorem before0_121 (hO : Ok m) (c) (t) (d) : (dats m hO 0 c).before 121 t d = iblk m hO c 121 t :=
  before0_121_of m hO (dats m hO 0 c) (A_eq m hO c 121) (after0_121 m hO c) t d
theorem before0_122 (hO : Ok m) (c) (t) (d) : (dats m hO 0 c).before 122 t d = iblk m hO c 122 t :=
  before0_122_of m hO (dats m hO 0 c) (A_eq m hO c 122) (after0_122 m hO c) t d
theorem before0_123 (hO : Ok m) (c) (t) (d) : (dats m hO 0 c).before 123 t d = iblk m hO c 123 t :=
  before0_123_of m hO (dats m hO 0 c) (A_eq m hO c 123) (after0_123 m hO c) t d
theorem before0_124 (hO : Ok m) (c) (t) (d) : (dats m hO 0 c).before 124 t d = iblk m hO c 124 t :=
  before0_124_of m hO (dats m hO 0 c) (A_eq m hO c 124) (after0_124 m hO c) t d
theorem before0_125 (hO : Ok m) (c) (t) (d) : (dats m hO 0 c).before 125 t d = iblk m hO c 125 t :=
  before0_125_of m hO (dats m hO 0 c) (A_eq m hO c 125) (after0_125 m hO c) t d
theorem before0_126 (hO : Ok m) (c) (t) (d) : (dats m hO 0 c).before 126 t d = iblk m hO c 126 t :=
  before0_126_of m hO (dats m hO 0 c) (A_eq m hO c 126) (after0_126 m hO c) t d
theorem before0_127 (hO : Ok m) (c) (t) (d) : (dats m hO 0 c).before 127 t d = iblk m hO c 127 t :=
  before0_127_of m hO (dats m hO 0 c) (A_eq m hO c 127) (after0_127 m hO c) t d
theorem before0_128 (hO : Ok m) (c) (t) (d) : (dats m hO 0 c).before 128 t d = iblk m hO c 128 t :=
  before0_128_of m hO (dats m hO 0 c) (A_eq m hO c 128) (after0_128 m hO c) t d
theorem before0_129 (hO : Ok m) (c) (t) (d) : (dats m hO 0 c).before 129 t d = iblk m hO c 129 t :=
  before0_129_of m hO (dats m hO 0 c) (A_eq m hO c 129) (after0_129 m hO c) t d
theorem before0_130 (hO : Ok m) (c) (t) (d) : (dats m hO 0 c).before 130 t d = iblk m hO c 130 t :=
  before0_130_of m hO (dats m hO 0 c) (A_eq m hO c 130) (after0_130 m hO c) t d
theorem before0_131 (hO : Ok m) (c) (t) (d) : (dats m hO 0 c).before 131 t d = iblk m hO c 131 t :=
  before0_131_of m hO (dats m hO 0 c) (A_eq m hO c 131) (after0_131 m hO c) t d
/-! ## The body at a generic point -/

/-- The windows' buffers as the body finds them. -/
def preList (hO : Ok m) (c : Dev nD) (t : Fin (cfgM m hO).N) : List (sProp 𝕄) :=
  [ iprop(∃ d, owns (c : Thread nD τ) (ms0_0 m hO t) fullShare ((dats m hO 0 c).before 0 t d)),
    iprop(∃ d, owns (c : Thread nD τ) (ms0_1 m hO t) fullShare ((dats m hO 0 c).before 1 t d)),
    iprop(∃ d, owns (c : Thread nD τ) (ms0_2 m hO t) fullShare ((dats m hO 0 c).before 2 t d)),
    iprop(∃ d, owns (c : Thread nD τ) (ms0_3 m hO t) fullShare ((dats m hO 0 c).before 3 t d)),
    iprop(∃ d, owns (c : Thread nD τ) (ms0_4 m hO t) fullShare ((dats m hO 0 c).before 4 t d)),
    iprop(∃ d, owns (c : Thread nD τ) (ms0_5 m hO t) fullShare ((dats m hO 0 c).before 5 t d)),
    iprop(∃ d, owns (c : Thread nD τ) (ms0_6 m hO t) fullShare ((dats m hO 0 c).before 6 t d)),
    iprop(∃ d, owns (c : Thread nD τ) (ms0_7 m hO t) fullShare ((dats m hO 0 c).before 7 t d)),
    iprop(∃ d, owns (c : Thread nD τ) (ms0_8 m hO t) fullShare ((dats m hO 0 c).before 8 t d)),
    iprop(∃ d, owns (c : Thread nD τ) (ms0_9 m hO t) fullShare ((dats m hO 0 c).before 9 t d)),
    iprop(∃ d, owns (c : Thread nD τ) (ms0_10 m hO t) fullShare ((dats m hO 0 c).before 10 t d)),
    iprop(∃ d, owns (c : Thread nD τ) (ms0_11 m hO t) fullShare ((dats m hO 0 c).before 11 t d)),
    iprop(∃ d, owns (c : Thread nD τ) (ms0_12 m hO t) fullShare ((dats m hO 0 c).before 12 t d)),
    iprop(∃ d, owns (c : Thread nD τ) (ms0_13 m hO t) fullShare ((dats m hO 0 c).before 13 t d)),
    iprop(∃ d, owns (c : Thread nD τ) (ms0_14 m hO t) fullShare ((dats m hO 0 c).before 14 t d)),
    iprop(∃ d, owns (c : Thread nD τ) (ms0_15 m hO t) fullShare ((dats m hO 0 c).before 15 t d)),
    iprop(∃ d, owns (c : Thread nD τ) (ms0_16 m hO t) fullShare ((dats m hO 0 c).before 16 t d)),
    iprop(∃ d, owns (c : Thread nD τ) (ms0_17 m hO t) fullShare ((dats m hO 0 c).before 17 t d)),
    iprop(∃ d, owns (c : Thread nD τ) (ms0_18 m hO t) fullShare ((dats m hO 0 c).before 18 t d)),
    iprop(∃ d, owns (c : Thread nD τ) (ms0_19 m hO t) fullShare ((dats m hO 0 c).before 19 t d)),
    iprop(∃ d, owns (c : Thread nD τ) (ms0_20 m hO t) fullShare ((dats m hO 0 c).before 20 t d)),
    iprop(∃ d, owns (c : Thread nD τ) (ms0_21 m hO t) fullShare ((dats m hO 0 c).before 21 t d)),
    iprop(∃ d, owns (c : Thread nD τ) (ms0_22 m hO t) fullShare ((dats m hO 0 c).before 22 t d)),
    iprop(∃ d, owns (c : Thread nD τ) (ms0_23 m hO t) fullShare ((dats m hO 0 c).before 23 t d)),
    iprop(∃ d, owns (c : Thread nD τ) (ms0_24 m hO t) fullShare ((dats m hO 0 c).before 24 t d)),
    iprop(∃ d, owns (c : Thread nD τ) (ms0_25 m hO t) fullShare ((dats m hO 0 c).before 25 t d)),
    iprop(∃ d, owns (c : Thread nD τ) (ms0_26 m hO t) fullShare ((dats m hO 0 c).before 26 t d)),
    iprop(∃ d, owns (c : Thread nD τ) (ms0_27 m hO t) fullShare ((dats m hO 0 c).before 27 t d)),
    iprop(∃ d, owns (c : Thread nD τ) (ms0_28 m hO t) fullShare ((dats m hO 0 c).before 28 t d)),
    iprop(∃ d, owns (c : Thread nD τ) (ms0_29 m hO t) fullShare ((dats m hO 0 c).before 29 t d)),
    iprop(∃ d, owns (c : Thread nD τ) (ms0_30 m hO t) fullShare ((dats m hO 0 c).before 30 t d)),
    iprop(∃ d, owns (c : Thread nD τ) (ms0_31 m hO t) fullShare ((dats m hO 0 c).before 31 t d)),
    iprop(∃ d, owns (c : Thread nD τ) (ms0_32 m hO t) fullShare ((dats m hO 0 c).before 32 t d)),
    iprop(∃ d, owns (c : Thread nD τ) (ms0_33 m hO t) fullShare ((dats m hO 0 c).before 33 t d)),
    iprop(∃ d, owns (c : Thread nD τ) (ms0_34 m hO t) fullShare ((dats m hO 0 c).before 34 t d)),
    iprop(∃ d, owns (c : Thread nD τ) (ms0_35 m hO t) fullShare ((dats m hO 0 c).before 35 t d)),
    iprop(∃ d, owns (c : Thread nD τ) (ms0_36 m hO t) fullShare ((dats m hO 0 c).before 36 t d)),
    iprop(∃ d, owns (c : Thread nD τ) (ms0_37 m hO t) fullShare ((dats m hO 0 c).before 37 t d)),
    iprop(∃ d, owns (c : Thread nD τ) (ms0_38 m hO t) fullShare ((dats m hO 0 c).before 38 t d)),
    iprop(∃ d, owns (c : Thread nD τ) (ms0_39 m hO t) fullShare ((dats m hO 0 c).before 39 t d)),
    iprop(∃ d, owns (c : Thread nD τ) (ms0_40 m hO t) fullShare ((dats m hO 0 c).before 40 t d)),
    iprop(∃ d, owns (c : Thread nD τ) (ms0_41 m hO t) fullShare ((dats m hO 0 c).before 41 t d)),
    iprop(∃ d, owns (c : Thread nD τ) (ms0_42 m hO t) fullShare ((dats m hO 0 c).before 42 t d)),
    iprop(∃ d, owns (c : Thread nD τ) (ms0_43 m hO t) fullShare ((dats m hO 0 c).before 43 t d)),
    iprop(∃ d, owns (c : Thread nD τ) (ms0_44 m hO t) fullShare ((dats m hO 0 c).before 44 t d)),
    iprop(∃ d, owns (c : Thread nD τ) (ms0_45 m hO t) fullShare ((dats m hO 0 c).before 45 t d)),
    iprop(∃ d, owns (c : Thread nD τ) (ms0_46 m hO t) fullShare ((dats m hO 0 c).before 46 t d)),
    iprop(∃ d, owns (c : Thread nD τ) (ms0_47 m hO t) fullShare ((dats m hO 0 c).before 47 t d)),
    iprop(∃ d, owns (c : Thread nD τ) (ms0_48 m hO t) fullShare ((dats m hO 0 c).before 48 t d)),
    iprop(∃ d, owns (c : Thread nD τ) (ms0_49 m hO t) fullShare ((dats m hO 0 c).before 49 t d)),
    iprop(∃ d, owns (c : Thread nD τ) (ms0_50 m hO t) fullShare ((dats m hO 0 c).before 50 t d)),
    iprop(∃ d, owns (c : Thread nD τ) (ms0_51 m hO t) fullShare ((dats m hO 0 c).before 51 t d)),
    iprop(∃ d, owns (c : Thread nD τ) (ms0_52 m hO t) fullShare ((dats m hO 0 c).before 52 t d)),
    iprop(∃ d, owns (c : Thread nD τ) (ms0_53 m hO t) fullShare ((dats m hO 0 c).before 53 t d)),
    iprop(∃ d, owns (c : Thread nD τ) (ms0_54 m hO t) fullShare ((dats m hO 0 c).before 54 t d)),
    iprop(∃ d, owns (c : Thread nD τ) (ms0_55 m hO t) fullShare ((dats m hO 0 c).before 55 t d)),
    iprop(∃ d, owns (c : Thread nD τ) (ms0_56 m hO t) fullShare ((dats m hO 0 c).before 56 t d)),
    iprop(∃ d, owns (c : Thread nD τ) (ms0_57 m hO t) fullShare ((dats m hO 0 c).before 57 t d)),
    iprop(∃ d, owns (c : Thread nD τ) (ms0_58 m hO t) fullShare ((dats m hO 0 c).before 58 t d)),
    iprop(∃ d, owns (c : Thread nD τ) (ms0_59 m hO t) fullShare ((dats m hO 0 c).before 59 t d)),
    iprop(∃ d, owns (c : Thread nD τ) (ms0_60 m hO t) fullShare ((dats m hO 0 c).before 60 t d)),
    iprop(∃ d, owns (c : Thread nD τ) (ms0_61 m hO t) fullShare ((dats m hO 0 c).before 61 t d)),
    iprop(∃ d, owns (c : Thread nD τ) (ms0_62 m hO t) fullShare ((dats m hO 0 c).before 62 t d)),
    iprop(∃ d, owns (c : Thread nD τ) (ms0_63 m hO t) fullShare ((dats m hO 0 c).before 63 t d)),
    iprop(∃ d, owns (c : Thread nD τ) (ms0_64 m hO t) fullShare ((dats m hO 0 c).before 64 t d)),
    iprop(∃ d, owns (c : Thread nD τ) (ms0_65 m hO t) fullShare ((dats m hO 0 c).before 65 t d)),
    iprop(∃ d, owns (c : Thread nD τ) (ms0_66 m hO t) fullShare ((dats m hO 0 c).before 66 t d)),
    iprop(∃ d, owns (c : Thread nD τ) (ms0_67 m hO t) fullShare ((dats m hO 0 c).before 67 t d)),
    iprop(∃ d, owns (c : Thread nD τ) (ms0_68 m hO t) fullShare ((dats m hO 0 c).before 68 t d)),
    iprop(∃ d, owns (c : Thread nD τ) (ms0_69 m hO t) fullShare ((dats m hO 0 c).before 69 t d)),
    iprop(∃ d, owns (c : Thread nD τ) (ms0_70 m hO t) fullShare ((dats m hO 0 c).before 70 t d)),
    iprop(∃ d, owns (c : Thread nD τ) (ms0_71 m hO t) fullShare ((dats m hO 0 c).before 71 t d)),
    iprop(∃ d, owns (c : Thread nD τ) (ms0_72 m hO t) fullShare ((dats m hO 0 c).before 72 t d)),
    iprop(∃ d, owns (c : Thread nD τ) (ms0_73 m hO t) fullShare ((dats m hO 0 c).before 73 t d)),
    iprop(∃ d, owns (c : Thread nD τ) (ms0_74 m hO t) fullShare ((dats m hO 0 c).before 74 t d)),
    iprop(∃ d, owns (c : Thread nD τ) (ms0_75 m hO t) fullShare ((dats m hO 0 c).before 75 t d)),
    iprop(∃ d, owns (c : Thread nD τ) (ms0_76 m hO t) fullShare ((dats m hO 0 c).before 76 t d)),
    iprop(∃ d, owns (c : Thread nD τ) (ms0_77 m hO t) fullShare ((dats m hO 0 c).before 77 t d)),
    iprop(∃ d, owns (c : Thread nD τ) (ms0_78 m hO t) fullShare ((dats m hO 0 c).before 78 t d)),
    iprop(∃ d, owns (c : Thread nD τ) (ms0_79 m hO t) fullShare ((dats m hO 0 c).before 79 t d)),
    iprop(∃ d, owns (c : Thread nD τ) (ms0_80 m hO t) fullShare ((dats m hO 0 c).before 80 t d)),
    iprop(∃ d, owns (c : Thread nD τ) (ms0_81 m hO t) fullShare ((dats m hO 0 c).before 81 t d)),
    iprop(∃ d, owns (c : Thread nD τ) (ms0_82 m hO t) fullShare ((dats m hO 0 c).before 82 t d)),
    iprop(∃ d, owns (c : Thread nD τ) (ms0_83 m hO t) fullShare ((dats m hO 0 c).before 83 t d)),
    iprop(∃ d, owns (c : Thread nD τ) (ms0_84 m hO t) fullShare ((dats m hO 0 c).before 84 t d)),
    iprop(∃ d, owns (c : Thread nD τ) (ms0_85 m hO t) fullShare ((dats m hO 0 c).before 85 t d)),
    iprop(∃ d, owns (c : Thread nD τ) (ms0_86 m hO t) fullShare ((dats m hO 0 c).before 86 t d)),
    iprop(∃ d, owns (c : Thread nD τ) (ms0_87 m hO t) fullShare ((dats m hO 0 c).before 87 t d)),
    iprop(∃ d, owns (c : Thread nD τ) (ms0_88 m hO t) fullShare ((dats m hO 0 c).before 88 t d)),
    iprop(∃ d, owns (c : Thread nD τ) (ms0_89 m hO t) fullShare ((dats m hO 0 c).before 89 t d)),
    iprop(∃ d, owns (c : Thread nD τ) (ms0_90 m hO t) fullShare ((dats m hO 0 c).before 90 t d)),
    iprop(∃ d, owns (c : Thread nD τ) (ms0_91 m hO t) fullShare ((dats m hO 0 c).before 91 t d)),
    iprop(∃ d, owns (c : Thread nD τ) (ms0_92 m hO t) fullShare ((dats m hO 0 c).before 92 t d)),
    iprop(∃ d, owns (c : Thread nD τ) (ms0_93 m hO t) fullShare ((dats m hO 0 c).before 93 t d)),
    iprop(∃ d, owns (c : Thread nD τ) (ms0_94 m hO t) fullShare ((dats m hO 0 c).before 94 t d)),
    iprop(∃ d, owns (c : Thread nD τ) (ms0_95 m hO t) fullShare ((dats m hO 0 c).before 95 t d)),
    iprop(∃ d, owns (c : Thread nD τ) (ms0_96 m hO t) fullShare ((dats m hO 0 c).before 96 t d)),
    iprop(∃ d, owns (c : Thread nD τ) (ms0_97 m hO t) fullShare ((dats m hO 0 c).before 97 t d)),
    iprop(∃ d, owns (c : Thread nD τ) (ms0_98 m hO t) fullShare ((dats m hO 0 c).before 98 t d)),
    iprop(∃ d, owns (c : Thread nD τ) (ms0_99 m hO t) fullShare ((dats m hO 0 c).before 99 t d)),
    iprop(∃ d, owns (c : Thread nD τ) (ms0_100 m hO t) fullShare ((dats m hO 0 c).before 100 t d)),
    iprop(∃ d, owns (c : Thread nD τ) (ms0_101 m hO t) fullShare ((dats m hO 0 c).before 101 t d)),
    iprop(∃ d, owns (c : Thread nD τ) (ms0_102 m hO t) fullShare ((dats m hO 0 c).before 102 t d)),
    iprop(∃ d, owns (c : Thread nD τ) (ms0_103 m hO t) fullShare ((dats m hO 0 c).before 103 t d)),
    iprop(∃ d, owns (c : Thread nD τ) (ms0_104 m hO t) fullShare ((dats m hO 0 c).before 104 t d)),
    iprop(∃ d, owns (c : Thread nD τ) (ms0_105 m hO t) fullShare ((dats m hO 0 c).before 105 t d)),
    iprop(∃ d, owns (c : Thread nD τ) (ms0_106 m hO t) fullShare ((dats m hO 0 c).before 106 t d)),
    iprop(∃ d, owns (c : Thread nD τ) (ms0_107 m hO t) fullShare ((dats m hO 0 c).before 107 t d)),
    iprop(∃ d, owns (c : Thread nD τ) (ms0_108 m hO t) fullShare ((dats m hO 0 c).before 108 t d)),
    iprop(∃ d, owns (c : Thread nD τ) (ms0_109 m hO t) fullShare ((dats m hO 0 c).before 109 t d)),
    iprop(∃ d, owns (c : Thread nD τ) (ms0_110 m hO t) fullShare ((dats m hO 0 c).before 110 t d)),
    iprop(∃ d, owns (c : Thread nD τ) (ms0_111 m hO t) fullShare ((dats m hO 0 c).before 111 t d)),
    iprop(∃ d, owns (c : Thread nD τ) (ms0_112 m hO t) fullShare ((dats m hO 0 c).before 112 t d)),
    iprop(∃ d, owns (c : Thread nD τ) (ms0_113 m hO t) fullShare ((dats m hO 0 c).before 113 t d)),
    iprop(∃ d, owns (c : Thread nD τ) (ms0_114 m hO t) fullShare ((dats m hO 0 c).before 114 t d)),
    iprop(∃ d, owns (c : Thread nD τ) (ms0_115 m hO t) fullShare ((dats m hO 0 c).before 115 t d)),
    iprop(∃ d, owns (c : Thread nD τ) (ms0_116 m hO t) fullShare ((dats m hO 0 c).before 116 t d)),
    iprop(∃ d, owns (c : Thread nD τ) (ms0_117 m hO t) fullShare ((dats m hO 0 c).before 117 t d)),
    iprop(∃ d, owns (c : Thread nD τ) (ms0_118 m hO t) fullShare ((dats m hO 0 c).before 118 t d)),
    iprop(∃ d, owns (c : Thread nD τ) (ms0_119 m hO t) fullShare ((dats m hO 0 c).before 119 t d)),
    iprop(∃ d, owns (c : Thread nD τ) (ms0_120 m hO t) fullShare ((dats m hO 0 c).before 120 t d)),
    iprop(∃ d, owns (c : Thread nD τ) (ms0_121 m hO t) fullShare ((dats m hO 0 c).before 121 t d)),
    iprop(∃ d, owns (c : Thread nD τ) (ms0_122 m hO t) fullShare ((dats m hO 0 c).before 122 t d)),
    iprop(∃ d, owns (c : Thread nD τ) (ms0_123 m hO t) fullShare ((dats m hO 0 c).before 123 t d)),
    iprop(∃ d, owns (c : Thread nD τ) (ms0_124 m hO t) fullShare ((dats m hO 0 c).before 124 t d)),
    iprop(∃ d, owns (c : Thread nD τ) (ms0_125 m hO t) fullShare ((dats m hO 0 c).before 125 t d)),
    iprop(∃ d, owns (c : Thread nD τ) (ms0_126 m hO t) fullShare ((dats m hO 0 c).before 126 t d)),
    iprop(∃ d, owns (c : Thread nD τ) (ms0_127 m hO t) fullShare ((dats m hO 0 c).before 127 t d)),
    iprop(∃ d, owns (c : Thread nD τ) (ms0_128 m hO t) fullShare ((dats m hO 0 c).before 128 t d)),
    iprop(∃ d, owns (c : Thread nD τ) (ms0_129 m hO t) fullShare ((dats m hO 0 c).before 129 t d)),
    iprop(∃ d, owns (c : Thread nD τ) (ms0_130 m hO t) fullShare ((dats m hO 0 c).before 130 t d)),
    iprop(∃ d, owns (c : Thread nD τ) (ms0_131 m hO t) fullShare ((dats m hO 0 c).before 131 t d)),
    iprop(∃ d, owns (c : Thread nD τ) (ms0_132 m hO t) fullShare ((dats m hO 0 c).before 132 t d)),
    iprop(∃ d, owns (c : Thread nD τ) (ms0_133 m hO t) fullShare ((dats m hO 0 c).before 133 t d))]

/-- The windows' buffers as the body leaves them. -/
def postList (hO : Ok m) (c : Dev nD) (t : Fin (cfgM m hO).N) : List (sProp 𝕄) :=
  [ owns (c : Thread nD τ) (ms0_0 m hO t) fullShare ((dats m hO 0 c).after 0 t),
    owns (c : Thread nD τ) (ms0_1 m hO t) fullShare ((dats m hO 0 c).after 1 t),
    owns (c : Thread nD τ) (ms0_2 m hO t) fullShare ((dats m hO 0 c).after 2 t),
    owns (c : Thread nD τ) (ms0_3 m hO t) fullShare ((dats m hO 0 c).after 3 t),
    owns (c : Thread nD τ) (ms0_4 m hO t) fullShare ((dats m hO 0 c).after 4 t),
    owns (c : Thread nD τ) (ms0_5 m hO t) fullShare ((dats m hO 0 c).after 5 t),
    owns (c : Thread nD τ) (ms0_6 m hO t) fullShare ((dats m hO 0 c).after 6 t),
    owns (c : Thread nD τ) (ms0_7 m hO t) fullShare ((dats m hO 0 c).after 7 t),
    owns (c : Thread nD τ) (ms0_8 m hO t) fullShare ((dats m hO 0 c).after 8 t),
    owns (c : Thread nD τ) (ms0_9 m hO t) fullShare ((dats m hO 0 c).after 9 t),
    owns (c : Thread nD τ) (ms0_10 m hO t) fullShare ((dats m hO 0 c).after 10 t),
    owns (c : Thread nD τ) (ms0_11 m hO t) fullShare ((dats m hO 0 c).after 11 t),
    owns (c : Thread nD τ) (ms0_12 m hO t) fullShare ((dats m hO 0 c).after 12 t),
    owns (c : Thread nD τ) (ms0_13 m hO t) fullShare ((dats m hO 0 c).after 13 t),
    owns (c : Thread nD τ) (ms0_14 m hO t) fullShare ((dats m hO 0 c).after 14 t),
    owns (c : Thread nD τ) (ms0_15 m hO t) fullShare ((dats m hO 0 c).after 15 t),
    owns (c : Thread nD τ) (ms0_16 m hO t) fullShare ((dats m hO 0 c).after 16 t),
    owns (c : Thread nD τ) (ms0_17 m hO t) fullShare ((dats m hO 0 c).after 17 t),
    owns (c : Thread nD τ) (ms0_18 m hO t) fullShare ((dats m hO 0 c).after 18 t),
    owns (c : Thread nD τ) (ms0_19 m hO t) fullShare ((dats m hO 0 c).after 19 t),
    owns (c : Thread nD τ) (ms0_20 m hO t) fullShare ((dats m hO 0 c).after 20 t),
    owns (c : Thread nD τ) (ms0_21 m hO t) fullShare ((dats m hO 0 c).after 21 t),
    owns (c : Thread nD τ) (ms0_22 m hO t) fullShare ((dats m hO 0 c).after 22 t),
    owns (c : Thread nD τ) (ms0_23 m hO t) fullShare ((dats m hO 0 c).after 23 t),
    owns (c : Thread nD τ) (ms0_24 m hO t) fullShare ((dats m hO 0 c).after 24 t),
    owns (c : Thread nD τ) (ms0_25 m hO t) fullShare ((dats m hO 0 c).after 25 t),
    owns (c : Thread nD τ) (ms0_26 m hO t) fullShare ((dats m hO 0 c).after 26 t),
    owns (c : Thread nD τ) (ms0_27 m hO t) fullShare ((dats m hO 0 c).after 27 t),
    owns (c : Thread nD τ) (ms0_28 m hO t) fullShare ((dats m hO 0 c).after 28 t),
    owns (c : Thread nD τ) (ms0_29 m hO t) fullShare ((dats m hO 0 c).after 29 t),
    owns (c : Thread nD τ) (ms0_30 m hO t) fullShare ((dats m hO 0 c).after 30 t),
    owns (c : Thread nD τ) (ms0_31 m hO t) fullShare ((dats m hO 0 c).after 31 t),
    owns (c : Thread nD τ) (ms0_32 m hO t) fullShare ((dats m hO 0 c).after 32 t),
    owns (c : Thread nD τ) (ms0_33 m hO t) fullShare ((dats m hO 0 c).after 33 t),
    owns (c : Thread nD τ) (ms0_34 m hO t) fullShare ((dats m hO 0 c).after 34 t),
    owns (c : Thread nD τ) (ms0_35 m hO t) fullShare ((dats m hO 0 c).after 35 t),
    owns (c : Thread nD τ) (ms0_36 m hO t) fullShare ((dats m hO 0 c).after 36 t),
    owns (c : Thread nD τ) (ms0_37 m hO t) fullShare ((dats m hO 0 c).after 37 t),
    owns (c : Thread nD τ) (ms0_38 m hO t) fullShare ((dats m hO 0 c).after 38 t),
    owns (c : Thread nD τ) (ms0_39 m hO t) fullShare ((dats m hO 0 c).after 39 t),
    owns (c : Thread nD τ) (ms0_40 m hO t) fullShare ((dats m hO 0 c).after 40 t),
    owns (c : Thread nD τ) (ms0_41 m hO t) fullShare ((dats m hO 0 c).after 41 t),
    owns (c : Thread nD τ) (ms0_42 m hO t) fullShare ((dats m hO 0 c).after 42 t),
    owns (c : Thread nD τ) (ms0_43 m hO t) fullShare ((dats m hO 0 c).after 43 t),
    owns (c : Thread nD τ) (ms0_44 m hO t) fullShare ((dats m hO 0 c).after 44 t),
    owns (c : Thread nD τ) (ms0_45 m hO t) fullShare ((dats m hO 0 c).after 45 t),
    owns (c : Thread nD τ) (ms0_46 m hO t) fullShare ((dats m hO 0 c).after 46 t),
    owns (c : Thread nD τ) (ms0_47 m hO t) fullShare ((dats m hO 0 c).after 47 t),
    owns (c : Thread nD τ) (ms0_48 m hO t) fullShare ((dats m hO 0 c).after 48 t),
    owns (c : Thread nD τ) (ms0_49 m hO t) fullShare ((dats m hO 0 c).after 49 t),
    owns (c : Thread nD τ) (ms0_50 m hO t) fullShare ((dats m hO 0 c).after 50 t),
    owns (c : Thread nD τ) (ms0_51 m hO t) fullShare ((dats m hO 0 c).after 51 t),
    owns (c : Thread nD τ) (ms0_52 m hO t) fullShare ((dats m hO 0 c).after 52 t),
    owns (c : Thread nD τ) (ms0_53 m hO t) fullShare ((dats m hO 0 c).after 53 t),
    owns (c : Thread nD τ) (ms0_54 m hO t) fullShare ((dats m hO 0 c).after 54 t),
    owns (c : Thread nD τ) (ms0_55 m hO t) fullShare ((dats m hO 0 c).after 55 t),
    owns (c : Thread nD τ) (ms0_56 m hO t) fullShare ((dats m hO 0 c).after 56 t),
    owns (c : Thread nD τ) (ms0_57 m hO t) fullShare ((dats m hO 0 c).after 57 t),
    owns (c : Thread nD τ) (ms0_58 m hO t) fullShare ((dats m hO 0 c).after 58 t),
    owns (c : Thread nD τ) (ms0_59 m hO t) fullShare ((dats m hO 0 c).after 59 t),
    owns (c : Thread nD τ) (ms0_60 m hO t) fullShare ((dats m hO 0 c).after 60 t),
    owns (c : Thread nD τ) (ms0_61 m hO t) fullShare ((dats m hO 0 c).after 61 t),
    owns (c : Thread nD τ) (ms0_62 m hO t) fullShare ((dats m hO 0 c).after 62 t),
    owns (c : Thread nD τ) (ms0_63 m hO t) fullShare ((dats m hO 0 c).after 63 t),
    owns (c : Thread nD τ) (ms0_64 m hO t) fullShare ((dats m hO 0 c).after 64 t),
    owns (c : Thread nD τ) (ms0_65 m hO t) fullShare ((dats m hO 0 c).after 65 t),
    owns (c : Thread nD τ) (ms0_66 m hO t) fullShare ((dats m hO 0 c).after 66 t),
    owns (c : Thread nD τ) (ms0_67 m hO t) fullShare ((dats m hO 0 c).after 67 t),
    owns (c : Thread nD τ) (ms0_68 m hO t) fullShare ((dats m hO 0 c).after 68 t),
    owns (c : Thread nD τ) (ms0_69 m hO t) fullShare ((dats m hO 0 c).after 69 t),
    owns (c : Thread nD τ) (ms0_70 m hO t) fullShare ((dats m hO 0 c).after 70 t),
    owns (c : Thread nD τ) (ms0_71 m hO t) fullShare ((dats m hO 0 c).after 71 t),
    owns (c : Thread nD τ) (ms0_72 m hO t) fullShare ((dats m hO 0 c).after 72 t),
    owns (c : Thread nD τ) (ms0_73 m hO t) fullShare ((dats m hO 0 c).after 73 t),
    owns (c : Thread nD τ) (ms0_74 m hO t) fullShare ((dats m hO 0 c).after 74 t),
    owns (c : Thread nD τ) (ms0_75 m hO t) fullShare ((dats m hO 0 c).after 75 t),
    owns (c : Thread nD τ) (ms0_76 m hO t) fullShare ((dats m hO 0 c).after 76 t),
    owns (c : Thread nD τ) (ms0_77 m hO t) fullShare ((dats m hO 0 c).after 77 t),
    owns (c : Thread nD τ) (ms0_78 m hO t) fullShare ((dats m hO 0 c).after 78 t),
    owns (c : Thread nD τ) (ms0_79 m hO t) fullShare ((dats m hO 0 c).after 79 t),
    owns (c : Thread nD τ) (ms0_80 m hO t) fullShare ((dats m hO 0 c).after 80 t),
    owns (c : Thread nD τ) (ms0_81 m hO t) fullShare ((dats m hO 0 c).after 81 t),
    owns (c : Thread nD τ) (ms0_82 m hO t) fullShare ((dats m hO 0 c).after 82 t),
    owns (c : Thread nD τ) (ms0_83 m hO t) fullShare ((dats m hO 0 c).after 83 t),
    owns (c : Thread nD τ) (ms0_84 m hO t) fullShare ((dats m hO 0 c).after 84 t),
    owns (c : Thread nD τ) (ms0_85 m hO t) fullShare ((dats m hO 0 c).after 85 t),
    owns (c : Thread nD τ) (ms0_86 m hO t) fullShare ((dats m hO 0 c).after 86 t),
    owns (c : Thread nD τ) (ms0_87 m hO t) fullShare ((dats m hO 0 c).after 87 t),
    owns (c : Thread nD τ) (ms0_88 m hO t) fullShare ((dats m hO 0 c).after 88 t),
    owns (c : Thread nD τ) (ms0_89 m hO t) fullShare ((dats m hO 0 c).after 89 t),
    owns (c : Thread nD τ) (ms0_90 m hO t) fullShare ((dats m hO 0 c).after 90 t),
    owns (c : Thread nD τ) (ms0_91 m hO t) fullShare ((dats m hO 0 c).after 91 t),
    owns (c : Thread nD τ) (ms0_92 m hO t) fullShare ((dats m hO 0 c).after 92 t),
    owns (c : Thread nD τ) (ms0_93 m hO t) fullShare ((dats m hO 0 c).after 93 t),
    owns (c : Thread nD τ) (ms0_94 m hO t) fullShare ((dats m hO 0 c).after 94 t),
    owns (c : Thread nD τ) (ms0_95 m hO t) fullShare ((dats m hO 0 c).after 95 t),
    owns (c : Thread nD τ) (ms0_96 m hO t) fullShare ((dats m hO 0 c).after 96 t),
    owns (c : Thread nD τ) (ms0_97 m hO t) fullShare ((dats m hO 0 c).after 97 t),
    owns (c : Thread nD τ) (ms0_98 m hO t) fullShare ((dats m hO 0 c).after 98 t),
    owns (c : Thread nD τ) (ms0_99 m hO t) fullShare ((dats m hO 0 c).after 99 t),
    owns (c : Thread nD τ) (ms0_100 m hO t) fullShare ((dats m hO 0 c).after 100 t),
    owns (c : Thread nD τ) (ms0_101 m hO t) fullShare ((dats m hO 0 c).after 101 t),
    owns (c : Thread nD τ) (ms0_102 m hO t) fullShare ((dats m hO 0 c).after 102 t),
    owns (c : Thread nD τ) (ms0_103 m hO t) fullShare ((dats m hO 0 c).after 103 t),
    owns (c : Thread nD τ) (ms0_104 m hO t) fullShare ((dats m hO 0 c).after 104 t),
    owns (c : Thread nD τ) (ms0_105 m hO t) fullShare ((dats m hO 0 c).after 105 t),
    owns (c : Thread nD τ) (ms0_106 m hO t) fullShare ((dats m hO 0 c).after 106 t),
    owns (c : Thread nD τ) (ms0_107 m hO t) fullShare ((dats m hO 0 c).after 107 t),
    owns (c : Thread nD τ) (ms0_108 m hO t) fullShare ((dats m hO 0 c).after 108 t),
    owns (c : Thread nD τ) (ms0_109 m hO t) fullShare ((dats m hO 0 c).after 109 t),
    owns (c : Thread nD τ) (ms0_110 m hO t) fullShare ((dats m hO 0 c).after 110 t),
    owns (c : Thread nD τ) (ms0_111 m hO t) fullShare ((dats m hO 0 c).after 111 t),
    owns (c : Thread nD τ) (ms0_112 m hO t) fullShare ((dats m hO 0 c).after 112 t),
    owns (c : Thread nD τ) (ms0_113 m hO t) fullShare ((dats m hO 0 c).after 113 t),
    owns (c : Thread nD τ) (ms0_114 m hO t) fullShare ((dats m hO 0 c).after 114 t),
    owns (c : Thread nD τ) (ms0_115 m hO t) fullShare ((dats m hO 0 c).after 115 t),
    owns (c : Thread nD τ) (ms0_116 m hO t) fullShare ((dats m hO 0 c).after 116 t),
    owns (c : Thread nD τ) (ms0_117 m hO t) fullShare ((dats m hO 0 c).after 117 t),
    owns (c : Thread nD τ) (ms0_118 m hO t) fullShare ((dats m hO 0 c).after 118 t),
    owns (c : Thread nD τ) (ms0_119 m hO t) fullShare ((dats m hO 0 c).after 119 t),
    owns (c : Thread nD τ) (ms0_120 m hO t) fullShare ((dats m hO 0 c).after 120 t),
    owns (c : Thread nD τ) (ms0_121 m hO t) fullShare ((dats m hO 0 c).after 121 t),
    owns (c : Thread nD τ) (ms0_122 m hO t) fullShare ((dats m hO 0 c).after 122 t),
    owns (c : Thread nD τ) (ms0_123 m hO t) fullShare ((dats m hO 0 c).after 123 t),
    owns (c : Thread nD τ) (ms0_124 m hO t) fullShare ((dats m hO 0 c).after 124 t),
    owns (c : Thread nD τ) (ms0_125 m hO t) fullShare ((dats m hO 0 c).after 125 t),
    owns (c : Thread nD τ) (ms0_126 m hO t) fullShare ((dats m hO 0 c).after 126 t),
    owns (c : Thread nD τ) (ms0_127 m hO t) fullShare ((dats m hO 0 c).after 127 t),
    owns (c : Thread nD τ) (ms0_128 m hO t) fullShare ((dats m hO 0 c).after 128 t),
    owns (c : Thread nD τ) (ms0_129 m hO t) fullShare ((dats m hO 0 c).after 129 t),
    owns (c : Thread nD τ) (ms0_130 m hO t) fullShare ((dats m hO 0 c).after 130 t),
    owns (c : Thread nD τ) (ms0_131 m hO t) fullShare ((dats m hO 0 c).after 131 t),
    owns (c : Thread nD τ) (ms0_132 m hO t) fullShare ((dats m hO 0 c).after 132 t),
    owns (c : Thread nD τ) (ms0_133 m hO t) fullShare ((dats m hO 0 c).after 133 t)]

/-- Each input's buffer at its block, and `A` and `B` for the outputs' buffers. -/
def held (hO : Ok m) (c : Dev nD) (t : Fin (cfgM m hO).N) (A B : sProp 𝕄) : List (sProp 𝕄) :=
  [ owns (c : Thread nD τ) (ms0_0 m hO t) fullShare (iblk m hO c 0 t),
    owns (c : Thread nD τ) (ms0_1 m hO t) fullShare (iblk m hO c 1 t),
    owns (c : Thread nD τ) (ms0_2 m hO t) fullShare (iblk m hO c 2 t),
    owns (c : Thread nD τ) (ms0_3 m hO t) fullShare (iblk m hO c 3 t),
    owns (c : Thread nD τ) (ms0_4 m hO t) fullShare (iblk m hO c 4 t),
    owns (c : Thread nD τ) (ms0_5 m hO t) fullShare (iblk m hO c 5 t),
    owns (c : Thread nD τ) (ms0_6 m hO t) fullShare (iblk m hO c 6 t),
    owns (c : Thread nD τ) (ms0_7 m hO t) fullShare (iblk m hO c 7 t),
    owns (c : Thread nD τ) (ms0_8 m hO t) fullShare (iblk m hO c 8 t),
    owns (c : Thread nD τ) (ms0_9 m hO t) fullShare (iblk m hO c 9 t),
    owns (c : Thread nD τ) (ms0_10 m hO t) fullShare (iblk m hO c 10 t),
    owns (c : Thread nD τ) (ms0_11 m hO t) fullShare (iblk m hO c 11 t),
    owns (c : Thread nD τ) (ms0_12 m hO t) fullShare (iblk m hO c 12 t),
    owns (c : Thread nD τ) (ms0_13 m hO t) fullShare (iblk m hO c 13 t),
    owns (c : Thread nD τ) (ms0_14 m hO t) fullShare (iblk m hO c 14 t),
    owns (c : Thread nD τ) (ms0_15 m hO t) fullShare (iblk m hO c 15 t),
    owns (c : Thread nD τ) (ms0_16 m hO t) fullShare (iblk m hO c 16 t),
    owns (c : Thread nD τ) (ms0_17 m hO t) fullShare (iblk m hO c 17 t),
    owns (c : Thread nD τ) (ms0_18 m hO t) fullShare (iblk m hO c 18 t),
    owns (c : Thread nD τ) (ms0_19 m hO t) fullShare (iblk m hO c 19 t),
    owns (c : Thread nD τ) (ms0_20 m hO t) fullShare (iblk m hO c 20 t),
    owns (c : Thread nD τ) (ms0_21 m hO t) fullShare (iblk m hO c 21 t),
    owns (c : Thread nD τ) (ms0_22 m hO t) fullShare (iblk m hO c 22 t),
    owns (c : Thread nD τ) (ms0_23 m hO t) fullShare (iblk m hO c 23 t),
    owns (c : Thread nD τ) (ms0_24 m hO t) fullShare (iblk m hO c 24 t),
    owns (c : Thread nD τ) (ms0_25 m hO t) fullShare (iblk m hO c 25 t),
    owns (c : Thread nD τ) (ms0_26 m hO t) fullShare (iblk m hO c 26 t),
    owns (c : Thread nD τ) (ms0_27 m hO t) fullShare (iblk m hO c 27 t),
    owns (c : Thread nD τ) (ms0_28 m hO t) fullShare (iblk m hO c 28 t),
    owns (c : Thread nD τ) (ms0_29 m hO t) fullShare (iblk m hO c 29 t),
    owns (c : Thread nD τ) (ms0_30 m hO t) fullShare (iblk m hO c 30 t),
    owns (c : Thread nD τ) (ms0_31 m hO t) fullShare (iblk m hO c 31 t),
    owns (c : Thread nD τ) (ms0_32 m hO t) fullShare (iblk m hO c 32 t),
    owns (c : Thread nD τ) (ms0_33 m hO t) fullShare (iblk m hO c 33 t),
    owns (c : Thread nD τ) (ms0_34 m hO t) fullShare (iblk m hO c 34 t),
    owns (c : Thread nD τ) (ms0_35 m hO t) fullShare (iblk m hO c 35 t),
    owns (c : Thread nD τ) (ms0_36 m hO t) fullShare (iblk m hO c 36 t),
    owns (c : Thread nD τ) (ms0_37 m hO t) fullShare (iblk m hO c 37 t),
    owns (c : Thread nD τ) (ms0_38 m hO t) fullShare (iblk m hO c 38 t),
    owns (c : Thread nD τ) (ms0_39 m hO t) fullShare (iblk m hO c 39 t),
    owns (c : Thread nD τ) (ms0_40 m hO t) fullShare (iblk m hO c 40 t),
    owns (c : Thread nD τ) (ms0_41 m hO t) fullShare (iblk m hO c 41 t),
    owns (c : Thread nD τ) (ms0_42 m hO t) fullShare (iblk m hO c 42 t),
    owns (c : Thread nD τ) (ms0_43 m hO t) fullShare (iblk m hO c 43 t),
    owns (c : Thread nD τ) (ms0_44 m hO t) fullShare (iblk m hO c 44 t),
    owns (c : Thread nD τ) (ms0_45 m hO t) fullShare (iblk m hO c 45 t),
    owns (c : Thread nD τ) (ms0_46 m hO t) fullShare (iblk m hO c 46 t),
    owns (c : Thread nD τ) (ms0_47 m hO t) fullShare (iblk m hO c 47 t),
    owns (c : Thread nD τ) (ms0_48 m hO t) fullShare (iblk m hO c 48 t),
    owns (c : Thread nD τ) (ms0_49 m hO t) fullShare (iblk m hO c 49 t),
    owns (c : Thread nD τ) (ms0_50 m hO t) fullShare (iblk m hO c 50 t),
    owns (c : Thread nD τ) (ms0_51 m hO t) fullShare (iblk m hO c 51 t),
    owns (c : Thread nD τ) (ms0_52 m hO t) fullShare (iblk m hO c 52 t),
    owns (c : Thread nD τ) (ms0_53 m hO t) fullShare (iblk m hO c 53 t),
    owns (c : Thread nD τ) (ms0_54 m hO t) fullShare (iblk m hO c 54 t),
    owns (c : Thread nD τ) (ms0_55 m hO t) fullShare (iblk m hO c 55 t),
    owns (c : Thread nD τ) (ms0_56 m hO t) fullShare (iblk m hO c 56 t),
    owns (c : Thread nD τ) (ms0_57 m hO t) fullShare (iblk m hO c 57 t),
    owns (c : Thread nD τ) (ms0_58 m hO t) fullShare (iblk m hO c 58 t),
    owns (c : Thread nD τ) (ms0_59 m hO t) fullShare (iblk m hO c 59 t),
    owns (c : Thread nD τ) (ms0_60 m hO t) fullShare (iblk m hO c 60 t),
    owns (c : Thread nD τ) (ms0_61 m hO t) fullShare (iblk m hO c 61 t),
    owns (c : Thread nD τ) (ms0_62 m hO t) fullShare (iblk m hO c 62 t),
    owns (c : Thread nD τ) (ms0_63 m hO t) fullShare (iblk m hO c 63 t),
    owns (c : Thread nD τ) (ms0_64 m hO t) fullShare (iblk m hO c 64 t),
    owns (c : Thread nD τ) (ms0_65 m hO t) fullShare (iblk m hO c 65 t),
    owns (c : Thread nD τ) (ms0_66 m hO t) fullShare (iblk m hO c 66 t),
    owns (c : Thread nD τ) (ms0_67 m hO t) fullShare (iblk m hO c 67 t),
    owns (c : Thread nD τ) (ms0_68 m hO t) fullShare (iblk m hO c 68 t),
    owns (c : Thread nD τ) (ms0_69 m hO t) fullShare (iblk m hO c 69 t),
    owns (c : Thread nD τ) (ms0_70 m hO t) fullShare (iblk m hO c 70 t),
    owns (c : Thread nD τ) (ms0_71 m hO t) fullShare (iblk m hO c 71 t),
    owns (c : Thread nD τ) (ms0_72 m hO t) fullShare (iblk m hO c 72 t),
    owns (c : Thread nD τ) (ms0_73 m hO t) fullShare (iblk m hO c 73 t),
    owns (c : Thread nD τ) (ms0_74 m hO t) fullShare (iblk m hO c 74 t),
    owns (c : Thread nD τ) (ms0_75 m hO t) fullShare (iblk m hO c 75 t),
    owns (c : Thread nD τ) (ms0_76 m hO t) fullShare (iblk m hO c 76 t),
    owns (c : Thread nD τ) (ms0_77 m hO t) fullShare (iblk m hO c 77 t),
    owns (c : Thread nD τ) (ms0_78 m hO t) fullShare (iblk m hO c 78 t),
    owns (c : Thread nD τ) (ms0_79 m hO t) fullShare (iblk m hO c 79 t),
    owns (c : Thread nD τ) (ms0_80 m hO t) fullShare (iblk m hO c 80 t),
    owns (c : Thread nD τ) (ms0_81 m hO t) fullShare (iblk m hO c 81 t),
    owns (c : Thread nD τ) (ms0_82 m hO t) fullShare (iblk m hO c 82 t),
    owns (c : Thread nD τ) (ms0_83 m hO t) fullShare (iblk m hO c 83 t),
    owns (c : Thread nD τ) (ms0_84 m hO t) fullShare (iblk m hO c 84 t),
    owns (c : Thread nD τ) (ms0_85 m hO t) fullShare (iblk m hO c 85 t),
    owns (c : Thread nD τ) (ms0_86 m hO t) fullShare (iblk m hO c 86 t),
    owns (c : Thread nD τ) (ms0_87 m hO t) fullShare (iblk m hO c 87 t),
    owns (c : Thread nD τ) (ms0_88 m hO t) fullShare (iblk m hO c 88 t),
    owns (c : Thread nD τ) (ms0_89 m hO t) fullShare (iblk m hO c 89 t),
    owns (c : Thread nD τ) (ms0_90 m hO t) fullShare (iblk m hO c 90 t),
    owns (c : Thread nD τ) (ms0_91 m hO t) fullShare (iblk m hO c 91 t),
    owns (c : Thread nD τ) (ms0_92 m hO t) fullShare (iblk m hO c 92 t),
    owns (c : Thread nD τ) (ms0_93 m hO t) fullShare (iblk m hO c 93 t),
    owns (c : Thread nD τ) (ms0_94 m hO t) fullShare (iblk m hO c 94 t),
    owns (c : Thread nD τ) (ms0_95 m hO t) fullShare (iblk m hO c 95 t),
    owns (c : Thread nD τ) (ms0_96 m hO t) fullShare (iblk m hO c 96 t),
    owns (c : Thread nD τ) (ms0_97 m hO t) fullShare (iblk m hO c 97 t),
    owns (c : Thread nD τ) (ms0_98 m hO t) fullShare (iblk m hO c 98 t),
    owns (c : Thread nD τ) (ms0_99 m hO t) fullShare (iblk m hO c 99 t),
    owns (c : Thread nD τ) (ms0_100 m hO t) fullShare (iblk m hO c 100 t),
    owns (c : Thread nD τ) (ms0_101 m hO t) fullShare (iblk m hO c 101 t),
    owns (c : Thread nD τ) (ms0_102 m hO t) fullShare (iblk m hO c 102 t),
    owns (c : Thread nD τ) (ms0_103 m hO t) fullShare (iblk m hO c 103 t),
    owns (c : Thread nD τ) (ms0_104 m hO t) fullShare (iblk m hO c 104 t),
    owns (c : Thread nD τ) (ms0_105 m hO t) fullShare (iblk m hO c 105 t),
    owns (c : Thread nD τ) (ms0_106 m hO t) fullShare (iblk m hO c 106 t),
    owns (c : Thread nD τ) (ms0_107 m hO t) fullShare (iblk m hO c 107 t),
    owns (c : Thread nD τ) (ms0_108 m hO t) fullShare (iblk m hO c 108 t),
    owns (c : Thread nD τ) (ms0_109 m hO t) fullShare (iblk m hO c 109 t),
    owns (c : Thread nD τ) (ms0_110 m hO t) fullShare (iblk m hO c 110 t),
    owns (c : Thread nD τ) (ms0_111 m hO t) fullShare (iblk m hO c 111 t),
    owns (c : Thread nD τ) (ms0_112 m hO t) fullShare (iblk m hO c 112 t),
    owns (c : Thread nD τ) (ms0_113 m hO t) fullShare (iblk m hO c 113 t),
    owns (c : Thread nD τ) (ms0_114 m hO t) fullShare (iblk m hO c 114 t),
    owns (c : Thread nD τ) (ms0_115 m hO t) fullShare (iblk m hO c 115 t),
    owns (c : Thread nD τ) (ms0_116 m hO t) fullShare (iblk m hO c 116 t),
    owns (c : Thread nD τ) (ms0_117 m hO t) fullShare (iblk m hO c 117 t),
    owns (c : Thread nD τ) (ms0_118 m hO t) fullShare (iblk m hO c 118 t),
    owns (c : Thread nD τ) (ms0_119 m hO t) fullShare (iblk m hO c 119 t),
    owns (c : Thread nD τ) (ms0_120 m hO t) fullShare (iblk m hO c 120 t),
    owns (c : Thread nD τ) (ms0_121 m hO t) fullShare (iblk m hO c 121 t),
    owns (c : Thread nD τ) (ms0_122 m hO t) fullShare (iblk m hO c 122 t),
    owns (c : Thread nD τ) (ms0_123 m hO t) fullShare (iblk m hO c 123 t),
    owns (c : Thread nD τ) (ms0_124 m hO t) fullShare (iblk m hO c 124 t),
    owns (c : Thread nD τ) (ms0_125 m hO t) fullShare (iblk m hO c 125 t),
    owns (c : Thread nD τ) (ms0_126 m hO t) fullShare (iblk m hO c 126 t),
    owns (c : Thread nD τ) (ms0_127 m hO t) fullShare (iblk m hO c 127 t),
    owns (c : Thread nD τ) (ms0_128 m hO t) fullShare (iblk m hO c 128 t),
    owns (c : Thread nD τ) (ms0_129 m hO t) fullShare (iblk m hO c 129 t),
    owns (c : Thread nD τ) (ms0_130 m hO t) fullShare (iblk m hO c 130 t),
    owns (c : Thread nD τ) (ms0_131 m hO t) fullShare (iblk m hO c 131 t),
    A, B]

theorem held_length (hO : Ok m) (c : Dev nD) (t : Fin (cfgM m hO).N) (A B : sProp 𝕄) : (held m hO c t A B).length = 134 := by chain_rfl

theorem of_before {c : Dev nD} {S : Shape} {e : EltTy} {D : Type} {ms : Memref sig .tc .vmem S e} {f : D → S.Idx → Elt F e} {x : S.Idx → Elt F e} (h : ∀ d, f d = x) :
    iprop(∃ d, owns (c : Thread nD τ) ms fullShare (f d)) ⊢ (owns (c : Thread nD τ) ms fullShare x : sProp 𝕄) := by
  iintro ⟨%d, H⟩
  rw [h]
  iexact H

theorem of_any {c : Dev nD} {S : Shape} {e : EltTy} {D : Type} {ms : Memref sig .tc .vmem S e} {f : D → S.Idx → Elt F e} :
    iprop(∃ d, owns (c : Thread nD τ) ms fullShare (f d)) ⊢ (iprop(∃ d, owns (c : Thread nD τ) ms fullShare d) : sProp 𝕄) := by
  iintro ⟨%d, H⟩
  iexists _
  iexact H

theorem pre_le (hO : Ok m) (c : Dev nD) (t : Fin (cfgM m hO).N) :
    List.Forall₂ (· ⊢ ·) (preList m hO c t) (held m hO c t iprop(∃ d, owns (c : Thread nD τ) (ms0_132 m hO t) fullShare d) iprop(∃ d, owns (c : Thread nD τ) (ms0_133 m hO t) fullShare d)) := by
  unfold preList held
  exact .cons (of_before (before0_0 m hO c t)) <|
    .cons (of_before (before0_1 m hO c t)) <|
    .cons (of_before (before0_2 m hO c t)) <|
    .cons (of_before (before0_3 m hO c t)) <|
    .cons (of_before (before0_4 m hO c t)) <|
    .cons (of_before (before0_5 m hO c t)) <|
    .cons (of_before (before0_6 m hO c t)) <|
    .cons (of_before (before0_7 m hO c t)) <|
    .cons (of_before (before0_8 m hO c t)) <|
    .cons (of_before (before0_9 m hO c t)) <|
    .cons (of_before (before0_10 m hO c t)) <|
    .cons (of_before (before0_11 m hO c t)) <|
    .cons (of_before (before0_12 m hO c t)) <|
    .cons (of_before (before0_13 m hO c t)) <|
    .cons (of_before (before0_14 m hO c t)) <|
    .cons (of_before (before0_15 m hO c t)) <|
    .cons (of_before (before0_16 m hO c t)) <|
    .cons (of_before (before0_17 m hO c t)) <|
    .cons (of_before (before0_18 m hO c t)) <|
    .cons (of_before (before0_19 m hO c t)) <|
    .cons (of_before (before0_20 m hO c t)) <|
    .cons (of_before (before0_21 m hO c t)) <|
    .cons (of_before (before0_22 m hO c t)) <|
    .cons (of_before (before0_23 m hO c t)) <|
    .cons (of_before (before0_24 m hO c t)) <|
    .cons (of_before (before0_25 m hO c t)) <|
    .cons (of_before (before0_26 m hO c t)) <|
    .cons (of_before (before0_27 m hO c t)) <|
    .cons (of_before (before0_28 m hO c t)) <|
    .cons (of_before (before0_29 m hO c t)) <|
    .cons (of_before (before0_30 m hO c t)) <|
    .cons (of_before (before0_31 m hO c t)) <|
    .cons (of_before (before0_32 m hO c t)) <|
    .cons (of_before (before0_33 m hO c t)) <|
    .cons (of_before (before0_34 m hO c t)) <|
    .cons (of_before (before0_35 m hO c t)) <|
    .cons (of_before (before0_36 m hO c t)) <|
    .cons (of_before (before0_37 m hO c t)) <|
    .cons (of_before (before0_38 m hO c t)) <|
    .cons (of_before (before0_39 m hO c t)) <|
    .cons (of_before (before0_40 m hO c t)) <|
    .cons (of_before (before0_41 m hO c t)) <|
    .cons (of_before (before0_42 m hO c t)) <|
    .cons (of_before (before0_43 m hO c t)) <|
    .cons (of_before (before0_44 m hO c t)) <|
    .cons (of_before (before0_45 m hO c t)) <|
    .cons (of_before (before0_46 m hO c t)) <|
    .cons (of_before (before0_47 m hO c t)) <|
    .cons (of_before (before0_48 m hO c t)) <|
    .cons (of_before (before0_49 m hO c t)) <|
    .cons (of_before (before0_50 m hO c t)) <|
    .cons (of_before (before0_51 m hO c t)) <|
    .cons (of_before (before0_52 m hO c t)) <|
    .cons (of_before (before0_53 m hO c t)) <|
    .cons (of_before (before0_54 m hO c t)) <|
    .cons (of_before (before0_55 m hO c t)) <|
    .cons (of_before (before0_56 m hO c t)) <|
    .cons (of_before (before0_57 m hO c t)) <|
    .cons (of_before (before0_58 m hO c t)) <|
    .cons (of_before (before0_59 m hO c t)) <|
    .cons (of_before (before0_60 m hO c t)) <|
    .cons (of_before (before0_61 m hO c t)) <|
    .cons (of_before (before0_62 m hO c t)) <|
    .cons (of_before (before0_63 m hO c t)) <|
    .cons (of_before (before0_64 m hO c t)) <|
    .cons (of_before (before0_65 m hO c t)) <|
    .cons (of_before (before0_66 m hO c t)) <|
    .cons (of_before (before0_67 m hO c t)) <|
    .cons (of_before (before0_68 m hO c t)) <|
    .cons (of_before (before0_69 m hO c t)) <|
    .cons (of_before (before0_70 m hO c t)) <|
    .cons (of_before (before0_71 m hO c t)) <|
    .cons (of_before (before0_72 m hO c t)) <|
    .cons (of_before (before0_73 m hO c t)) <|
    .cons (of_before (before0_74 m hO c t)) <|
    .cons (of_before (before0_75 m hO c t)) <|
    .cons (of_before (before0_76 m hO c t)) <|
    .cons (of_before (before0_77 m hO c t)) <|
    .cons (of_before (before0_78 m hO c t)) <|
    .cons (of_before (before0_79 m hO c t)) <|
    .cons (of_before (before0_80 m hO c t)) <|
    .cons (of_before (before0_81 m hO c t)) <|
    .cons (of_before (before0_82 m hO c t)) <|
    .cons (of_before (before0_83 m hO c t)) <|
    .cons (of_before (before0_84 m hO c t)) <|
    .cons (of_before (before0_85 m hO c t)) <|
    .cons (of_before (before0_86 m hO c t)) <|
    .cons (of_before (before0_87 m hO c t)) <|
    .cons (of_before (before0_88 m hO c t)) <|
    .cons (of_before (before0_89 m hO c t)) <|
    .cons (of_before (before0_90 m hO c t)) <|
    .cons (of_before (before0_91 m hO c t)) <|
    .cons (of_before (before0_92 m hO c t)) <|
    .cons (of_before (before0_93 m hO c t)) <|
    .cons (of_before (before0_94 m hO c t)) <|
    .cons (of_before (before0_95 m hO c t)) <|
    .cons (of_before (before0_96 m hO c t)) <|
    .cons (of_before (before0_97 m hO c t)) <|
    .cons (of_before (before0_98 m hO c t)) <|
    .cons (of_before (before0_99 m hO c t)) <|
    .cons (of_before (before0_100 m hO c t)) <|
    .cons (of_before (before0_101 m hO c t)) <|
    .cons (of_before (before0_102 m hO c t)) <|
    .cons (of_before (before0_103 m hO c t)) <|
    .cons (of_before (before0_104 m hO c t)) <|
    .cons (of_before (before0_105 m hO c t)) <|
    .cons (of_before (before0_106 m hO c t)) <|
    .cons (of_before (before0_107 m hO c t)) <|
    .cons (of_before (before0_108 m hO c t)) <|
    .cons (of_before (before0_109 m hO c t)) <|
    .cons (of_before (before0_110 m hO c t)) <|
    .cons (of_before (before0_111 m hO c t)) <|
    .cons (of_before (before0_112 m hO c t)) <|
    .cons (of_before (before0_113 m hO c t)) <|
    .cons (of_before (before0_114 m hO c t)) <|
    .cons (of_before (before0_115 m hO c t)) <|
    .cons (of_before (before0_116 m hO c t)) <|
    .cons (of_before (before0_117 m hO c t)) <|
    .cons (of_before (before0_118 m hO c t)) <|
    .cons (of_before (before0_119 m hO c t)) <|
    .cons (of_before (before0_120 m hO c t)) <|
    .cons (of_before (before0_121 m hO c t)) <|
    .cons (of_before (before0_122 m hO c t)) <|
    .cons (of_before (before0_123 m hO c t)) <|
    .cons (of_before (before0_124 m hO c t)) <|
    .cons (of_before (before0_125 m hO c t)) <|
    .cons (of_before (before0_126 m hO c t)) <|
    .cons (of_before (before0_127 m hO c t)) <|
    .cons (of_before (before0_128 m hO c t)) <|
    .cons (of_before (before0_129 m hO c t)) <|
    .cons (of_before (before0_130 m hO c t)) <|
    .cons (of_before (before0_131 m hO c t)) <|
    .cons of_any <| .cons of_any .nil

theorem post_eq (hO : Ok m) (c : Dev nD) (t : Fin (cfgM m hO).N) :
    held m hO c t (owns (c : Thread nD τ) (ms0_132 m hO t) fullShare (posOut m hO c t)) (owns (c : Thread nD τ) (ms0_133 m hO t) fullShare (negOut m hO c t))
      = postList m hO c t := by chain_rfl

/-- An input's buffer comes out of the bundle and goes back. -/
theorem held_get (hO : Ok m) (c : Dev nD) (t : Fin (cfgM m hO).N) (k : Nat) (hk : k < 134) (A B : sProp 𝕄) :
    Bundle.chain (held m hO c t A B)
      ⊢ iprop((held m hO c t A B)[k]'(by rw [held_length]; exact hk) ∗ ((held m hO c t A B)[k]'(by rw [held_length]; exact hk) -∗ Bundle.chain (held m hO c t A B))) := by
  have h := Bundle.chain_set (held m hO c t A B) k (by rw [held_length]; exact hk) ((held m hO c t A B)[k]'(by rw [held_length]; exact hk))
  rwa [List.set_getElem_self] at h

/-- The first output's buffer comes out of the bundle, and what is put back takes its place. -/
theorem held_first (hO : Ok m) (c : Dev nD) (t : Fin (cfgM m hO).N) (A A' B : sProp 𝕄) :
    Bundle.chain (held m hO c t A B) ⊢ iprop(A ∗ (A' -∗ Bundle.chain (held m hO c t A' B))) := by
  have h := Bundle.chain_set (held m hO c t A B) 132 (by rw [held_length]; decide) A'
  rw [show (held m hO c t A B)[132]'(by rw [held_length]; decide) = A from by chain_rfl,
    show (held m hO c t A B).set 132 A' = held m hO c t A' B from by chain_rfl] at h
  exact h

/-- The second output's. -/
theorem held_second (hO : Ok m) (c : Dev nD) (t : Fin (cfgM m hO).N) (A B B' : sProp 𝕄) :
    Bundle.chain (held m hO c t A B) ⊢ iprop(B ∗ (B' -∗ Bundle.chain (held m hO c t A B'))) := by
  have h := Bundle.chain_set (held m hO c t A B) 133 (by rw [held_length]; decide) B'
  rw [show (held m hO c t A B)[133]'(by rw [held_length]; decide) = B from by chain_rfl,
    show (held m hO c t A B).set 133 B' = held m hO c t A B' from by chain_rfl] at h
  exact h

/-- What the body is called with at point `t`, -/
def bodyPre (hO : Ok m) (c : Dev nD) (t : Fin (cfgM m hO).N) : sProp 𝕄 :=
  iprop((dats m hO 0 c).Φ t.castSucc ∗ (dats m hO 0 c).owesAt () t.castSucc ∗ Bundle.chain (preList m hO c t))

/-- and what it returns. -/
def bodyPost (hO : Ok m) (c : Dev nD) (t : Fin (cfgM m hO).N) : sProp 𝕄 :=
  iprop((dats m hO 0 c).Φ t.succ ∗ (dats m hO 0 c).owesAt () t.succ ∗ Bundle.chain (postList m hO c t))

set_option maxHeartbeats 13200000 in
/-- The body's run on the bundle of the point's buffers. -/
theorem body_bundle (hO : Ok m) (c : Dev nD) (t : Fin (cfgM m hO).N) :
    Bundle.Does (defs₀ (F := F)) (c : Thread nD τ) (Bundle.chain (held m hO c t iprop(∃ d, owns (c : Thread nD τ) (ms0_132 m hO t) fullShare d) iprop(∃ d, owns (c : Thread nD τ) (ms0_133 m hO t) fullShare d)))
      (bodyAt0 (adm m hO) t) ⟨⟩
      (Bundle.chain (held m hO c t (owns (c : Thread nD τ) (ms0_132 m hO t) fullShare (posOut m hO c t)) (owns (c : Thread nD τ) (ms0_133 m hO t) fullShare (negOut m hO c t)))) :=
  @body_does F _ c (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (ms0_36 m hO t) (hs0_36 m hO t) (ms0_37 m hO t) (hs0_37 m hO t) (ms0_38 m hO t) (hs0_38 m hO t) (ms0_39 m hO t) (hs0_39 m hO t) (ms0_40 m hO t) (hs0_40 m hO t) (ms0_41 m hO t) (hs0_41 m hO t) (ms0_42 m hO t) (hs0_42 m hO t) (ms0_43 m hO t) (hs0_43 m hO t) (ms0_44 m hO t) (hs0_44 m hO t) (ms0_45 m hO t) (hs0_45 m hO t) (ms0_46 m hO t) (hs0_46 m hO t) (ms0_47 m hO t) (hs0_47 m hO t) (ms0_48 m hO t) (hs0_48 m hO t) (ms0_49 m hO t) (hs0_49 m hO t) (ms0_50 m hO t) (hs0_50 m hO t) (ms0_51 m hO t) (hs0_51 m hO t) (ms0_52 m hO t) (hs0_52 m hO t) (ms0_53 m hO t) (hs0_53 m hO t) (ms0_54 m hO t) (hs0_54 m hO t) (ms0_55 m hO t) (hs0_55 m hO t) (ms0_56 m hO t) (hs0_56 m hO t) (ms0_57 m hO t) (hs0_57 m hO t) (ms0_58 m hO t) (hs0_58 m hO t) (ms0_59 m hO t) (hs0_59 m hO t) (ms0_60 m hO t) (hs0_60 m hO t) (ms0_61 m hO t) (hs0_61 m hO t) (ms0_62 m hO t) (hs0_62 m hO t) (ms0_63 m hO t) (hs0_63 m hO t) (ms0_64 m hO t) (hs0_64 m hO t) (ms0_65 m hO t) (hs0_65 m hO t) (ms0_66 m hO t) (hs0_66 m hO t) (ms0_67 m hO t) (hs0_67 m hO t) (ms0_68 m hO t) (hs0_68 m hO t) (ms0_69 m hO t) (hs0_69 m hO t) (ms0_70 m hO t) (hs0_70 m hO t) (ms0_71 m hO t) (hs0_71 m hO t) (ms0_72 m hO t) (hs0_72 m hO t) (ms0_73 m hO t) (hs0_73 m hO t) (ms0_74 m hO t) (hs0_74 m hO t) (ms0_75 m hO t) (hs0_75 m hO t) (ms0_76 m hO t) (hs0_76 m hO t) (ms0_77 m hO t) (hs0_77 m hO t) (ms0_78 m hO t) (hs0_78 m hO t) (ms0_79 m hO t) (hs0_79 m hO t) (ms0_80 m hO t) (hs0_80 m hO t) (ms0_81 m hO t) (hs0_81 m hO t) (ms0_82 m hO t) (hs0_82 m hO t) (ms0_83 m hO t) (hs0_83 m hO t) (ms0_84 m hO t) (hs0_84 m hO t) (ms0_85 m hO t) (hs0_85 m hO t) (ms0_86 m hO t) (hs0_86 m hO t) (ms0_87 m hO t) (hs0_87 m hO t) (ms0_88 m hO t) (hs0_88 m hO t) (ms0_89 m hO t) (hs0_89 m hO t) (ms0_90 m hO t) (hs0_90 m hO t) (ms0_91 m hO t) (hs0_91 m hO t) (ms0_92 m hO t) (hs0_92 m hO t) (ms0_93 m hO t) (hs0_93 m hO t) (ms0_94 m hO t) (hs0_94 m hO t) (ms0_95 m hO t) (hs0_95 m hO t) (ms0_96 m hO t) (hs0_96 m hO t) (ms0_97 m hO t) (hs0_97 m hO t) (ms0_98 m hO t) (hs0_98 m hO t) (ms0_99 m hO t) (hs0_99 m hO t) (ms0_100 m hO t) (hs0_100 m hO t) (ms0_101 m hO t) (hs0_101 m hO t) (ms0_102 m hO t) (hs0_102 m hO t) (ms0_103 m hO t) (hs0_103 m hO t) (ms0_104 m hO t) (hs0_104 m hO t) (ms0_105 m hO t) (hs0_105 m hO t) (ms0_106 m hO t) (hs0_106 m hO t) (ms0_107 m hO t) (hs0_107 m hO t) (ms0_108 m hO t) (hs0_108 m hO t) (ms0_109 m hO t) (hs0_109 m hO t) (ms0_110 m hO t) (hs0_110 m hO t) (ms0_111 m hO t) (hs0_111 m hO t) (ms0_112 m hO t) (hs0_112 m hO t) (ms0_113 m hO t) (hs0_113 m hO t) (ms0_114 m hO t) (hs0_114 m hO t) (ms0_115 m hO t) (hs0_115 m hO t) (ms0_116 m hO t) (hs0_116 m hO t) (ms0_117 m hO t) (hs0_117 m hO t) (ms0_118 m hO t) (hs0_118 m hO t) (ms0_119 m hO t) (hs0_119 m hO t) (ms0_120 m hO t) (hs0_120 m hO t) (ms0_121 m hO t) (hs0_121 m hO t) (ms0_122 m hO t) (hs0_122 m hO t) (ms0_123 m hO t) (hs0_123 m hO t) (ms0_124 m hO t) (hs0_124 m hO t) (ms0_125 m hO t) (hs0_125 m hO t) (ms0_126 m hO t) (hs0_126 m hO t) (ms0_127 m hO t) (hs0_127 m hO t) (ms0_128 m hO t) (hs0_128 m hO t) (ms0_129 m hO t) (hs0_129 m hO t) (ms0_130 m hO t) (hs0_130 m hO t) (ms0_131 m hO t) (hs0_131 m hO t) (ms0_132 m hO t) (hs0_132 m hO t) (ms0_133 m hO t) (hs0_133 m hO t)
    (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (iblk m hO c 36 t) (iblk m hO c 37 t) (iblk m hO c 38 t) (iblk m hO c 39 t) (iblk m hO c 40 t) (iblk m hO c 41 t) (iblk m hO c 42 t) (iblk m hO c 43 t) (iblk m hO c 44 t) (iblk m hO c 45 t) (iblk m hO c 46 t) (iblk m hO c 47 t) (iblk m hO c 48 t) (iblk m hO c 49 t) (iblk m hO c 50 t) (iblk m hO c 51 t) (iblk m hO c 52 t) (iblk m hO c 53 t) (iblk m hO c 54 t) (iblk m hO c 55 t) (iblk m hO c 56 t) (iblk m hO c 57 t) (iblk m hO c 58 t) (iblk m hO c 59 t) (iblk m hO c 60 t) (iblk m hO c 61 t) (iblk m hO c 62 t) (iblk m hO c 63 t) (iblk m hO c 64 t) (iblk m hO c 65 t) (iblk m hO c 66 t) (iblk m hO c 67 t) (iblk m hO c 68 t) (iblk m hO c 69 t) (iblk m hO c 70 t) (iblk m hO c 71 t) (iblk m hO c 72 t) (iblk m hO c 73 t) (iblk m hO c 74 t) (iblk m hO c 75 t) (iblk m hO c 76 t) (iblk m hO c 77 t) (iblk m hO c 78 t) (iblk m hO c 79 t) (iblk m hO c 80 t) (iblk m hO c 81 t) (iblk m hO c 82 t) (iblk m hO c 83 t) (iblk m hO c 84 t) (iblk m hO c 85 t) (iblk m hO c 86 t) (iblk m hO c 87 t) (iblk m hO c 88 t) (iblk m hO c 89 t) (iblk m hO c 90 t) (iblk m hO c 91 t) (iblk m hO c 92 t) (iblk m hO c 93 t) (iblk m hO c 94 t) (iblk m hO c 95 t) (iblk m hO c 96 t) (iblk m hO c 97 t) (iblk m hO c 98 t) (iblk m hO c 99 t) (iblk m hO c 100 t) (iblk m hO c 101 t) (iblk m hO c 102 t) (iblk m hO c 103 t) (iblk m hO c 104 t) (iblk m hO c 105 t) (iblk m hO c 106 t) (iblk m hO c 107 t) (iblk m hO c 108 t) (iblk m hO c 109 t) (iblk m hO c 110 t) (iblk m hO c 111 t) (iblk m hO c 112 t) (iblk m hO c 113 t) (iblk m hO c 114 t) (iblk m hO c 115 t) (iblk m hO c 116 t) (iblk m hO c 117 t) (iblk m hO c 118 t) (iblk m hO c 119 t) (iblk m hO c 120 t) (iblk m hO c 121 t) (iblk m hO c 122 t) (iblk m hO c 123 t) (iblk m hO c 124 t) (iblk m hO c 125 t) (iblk m hO c 126 t) (iblk m hO c 127 t) (iblk m hO c 128 t) (iblk m hO c 129 t) (iblk m hO c 130 t) (iblk m hO c 131 t)
    (fun A B => Bundle.chain (held m hO c t A B))
    (held_get m hO c t 0 (by decide)) (held_get m hO c t 1 (by decide)) (held_get m hO c t 2 (by decide)) (held_get m hO c t 3 (by decide)) (held_get m hO c t 4 (by decide)) (held_get m hO c t 5 (by decide)) (held_get m hO c t 6 (by decide)) (held_get m hO c t 7 (by decide)) (held_get m hO c t 8 (by decide)) (held_get m hO c t 9 (by decide)) (held_get m hO c t 10 (by decide)) (held_get m hO c t 11 (by decide)) (held_get m hO c t 12 (by decide)) (held_get m hO c t 13 (by decide)) (held_get m hO c t 14 (by decide)) (held_get m hO c t 15 (by decide)) (held_get m hO c t 16 (by decide)) (held_get m hO c t 17 (by decide)) (held_get m hO c t 18 (by decide)) (held_get m hO c t 19 (by decide)) (held_get m hO c t 20 (by decide)) (held_get m hO c t 21 (by decide)) (held_get m hO c t 22 (by decide)) (held_get m hO c t 23 (by decide)) (held_get m hO c t 24 (by decide)) (held_get m hO c t 25 (by decide)) (held_get m hO c t 26 (by decide)) (held_get m hO c t 27 (by decide)) (held_get m hO c t 28 (by decide)) (held_get m hO c t 29 (by decide)) (held_get m hO c t 30 (by decide)) (held_get m hO c t 31 (by decide)) (held_get m hO c t 32 (by decide)) (held_get m hO c t 33 (by decide)) (held_get m hO c t 34 (by decide)) (held_get m hO c t 35 (by decide)) (held_get m hO c t 36 (by decide)) (held_get m hO c t 37 (by decide)) (held_get m hO c t 38 (by decide)) (held_get m hO c t 39 (by decide)) (held_get m hO c t 40 (by decide)) (held_get m hO c t 41 (by decide)) (held_get m hO c t 42 (by decide)) (held_get m hO c t 43 (by decide)) (held_get m hO c t 44 (by decide)) (held_get m hO c t 45 (by decide)) (held_get m hO c t 46 (by decide)) (held_get m hO c t 47 (by decide)) (held_get m hO c t 48 (by decide)) (held_get m hO c t 49 (by decide)) (held_get m hO c t 50 (by decide)) (held_get m hO c t 51 (by decide)) (held_get m hO c t 52 (by decide)) (held_get m hO c t 53 (by decide)) (held_get m hO c t 54 (by decide)) (held_get m hO c t 55 (by decide)) (held_get m hO c t 56 (by decide)) (held_get m hO c t 57 (by decide)) (held_get m hO c t 58 (by decide)) (held_get m hO c t 59 (by decide)) (held_get m hO c t 60 (by decide)) (held_get m hO c t 61 (by decide)) (held_get m hO c t 62 (by decide)) (held_get m hO c t 63 (by decide)) (held_get m hO c t 64 (by decide)) (held_get m hO c t 65 (by decide)) (held_get m hO c t 66 (by decide)) (held_get m hO c t 67 (by decide)) (held_get m hO c t 68 (by decide)) (held_get m hO c t 69 (by decide)) (held_get m hO c t 70 (by decide)) (held_get m hO c t 71 (by decide)) (held_get m hO c t 72 (by decide)) (held_get m hO c t 73 (by decide)) (held_get m hO c t 74 (by decide)) (held_get m hO c t 75 (by decide)) (held_get m hO c t 76 (by decide)) (held_get m hO c t 77 (by decide)) (held_get m hO c t 78 (by decide)) (held_get m hO c t 79 (by decide)) (held_get m hO c t 80 (by decide)) (held_get m hO c t 81 (by decide)) (held_get m hO c t 82 (by decide)) (held_get m hO c t 83 (by decide)) (held_get m hO c t 84 (by decide)) (held_get m hO c t 85 (by decide)) (held_get m hO c t 86 (by decide)) (held_get m hO c t 87 (by decide)) (held_get m hO c t 88 (by decide)) (held_get m hO c t 89 (by decide)) (held_get m hO c t 90 (by decide)) (held_get m hO c t 91 (by decide)) (held_get m hO c t 92 (by decide)) (held_get m hO c t 93 (by decide)) (held_get m hO c t 94 (by decide)) (held_get m hO c t 95 (by decide)) (held_get m hO c t 96 (by decide)) (held_get m hO c t 97 (by decide)) (held_get m hO c t 98 (by decide)) (held_get m hO c t 99 (by decide)) (held_get m hO c t 100 (by decide)) (held_get m hO c t 101 (by decide)) (held_get m hO c t 102 (by decide)) (held_get m hO c t 103 (by decide)) (held_get m hO c t 104 (by decide)) (held_get m hO c t 105 (by decide)) (held_get m hO c t 106 (by decide)) (held_get m hO c t 107 (by decide)) (held_get m hO c t 108 (by decide)) (held_get m hO c t 109 (by decide)) (held_get m hO c t 110 (by decide)) (held_get m hO c t 111 (by decide)) (held_get m hO c t 112 (by decide)) (held_get m hO c t 113 (by decide)) (held_get m hO c t 114 (by decide)) (held_get m hO c t 115 (by decide)) (held_get m hO c t 116 (by decide)) (held_get m hO c t 117 (by decide)) (held_get m hO c t 118 (by decide)) (held_get m hO c t 119 (by decide)) (held_get m hO c t 120 (by decide)) (held_get m hO c t 121 (by decide)) (held_get m hO c t 122 (by decide)) (held_get m hO c t 123 (by decide)) (held_get m hO c t 124 (by decide)) (held_get m hO c t 125 (by decide)) (held_get m hO c t 126 (by decide)) (held_get m hO c t 127 (by decide)) (held_get m hO c t 128 (by decide)) (held_get m hO c t 129 (by decide)) (held_get m hO c t 130 (by decide)) (held_get m hO c t 131 (by decide))
    (fun B => held_first m hO c t _ _ B) (fun A => held_second m hO c t A _ _)
    (fun A' B => held_first m hO c t _ A' B) (fun A B' => held_second m hO c t A _ B')

/-- The body at any point: the inputs' buffers hold their blocks, so the run applies; the invariant passes through
    unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  refine BIBase.Entails.trans ?_ (body_bundle m hO c t Set.univ (fun _ => bodyPost m hO c t))
  unfold bodyPre bodyPost
  rw [show (dats m hO 0 c).Φ t.succ = (dats m hO 0 c).Φ t.castSucc from rfl,
    show (dats m hO 0 c).owesAt () t.succ = (dats m hO 0 c).owesAt () t.castSucc from rfl, post_eq]
  refine (BIClass.sep_mono .rfl (BIClass.sep_mono .rfl (Bundle.chain_mono (pre_le m hO c t)))).trans ?_
  iintro ⟨HΦ, Ho, HB⟩
  isplitl [HB]; · iexact HB
  iintro HB
  isplitl [HΦ]; · iexact HΦ
  isplitl [Ho]; · iexact Ho
  iexact HB

/-- The body table's row at point `t`'s slots is the body at `t`. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- A triple with its condition and its result written differently. -/
theorem restate {M : Type} [URA M] {α : Type} {P P' : sProp M} {W : sWPT M α} {Q Q' : α → sProp M}
    (h : P ⊢ W Q) (hP : P' = P) (hQ : ∀ a, Q' a = Q a) : P' ⊢ W Q' := by
  obtain rfl := hP
  obtain rfl : Q' = Q := funext hQ
  exact h

set_option maxHeartbeats 4000000 in
/-- The body obligation, at every point. -/
theorem body_obligation (hO : Ok m) (c : Dev nD) : BodyObligation (dats (F := F) m hO 0 c) (defs₀ (F := F)) Variants.none () Set.univ := fun t => by
  rw [bigSep_W0, bigSep_W0, defs₀_row m hO]
  refine restate (sound_body m hO c t) ?_ fun _ => ?_
  · chain_rfl
  · chain_rfl

/-! ## The run and the frame -/

set_option backward.isDefEq.respectTransparency.types false in
/-- Every run of the call ends as its proof data says, with every semaphore counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- The same without the counters. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- The frame: every run ends, with the argument arrays unchanged and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.ProjIdeal.Call

end
-- ==== Proof.Value.lean ====
/-
  The values of the call over the reals: its outputs end at the two sides' distances.
-/
module

public import proofs.«01_k».proof.Proof.Call.Frame

@[expose] public section

set_option maxRecDepth 16384

noncomputable section

namespace Cert.ProjIdeal.Own

open Cert.ProjIdeal.Gen Cert.ProjIdeal.Call Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (ρ : Dev nD → PrngReg)

/-- The positive side's distances, from the call's arguments. -/
def dists132 (c : Dev nD) : S22x1x512.Idx → EReal :=
  Transe.dists (tbl m 0) 0 (m ((c : Thread nD τ).loc main_arg1)) (m ((c : Thread nD τ).loc main_arg2)) (m ((c : Thread nD τ).loc main_arg5))

/-- The negative side's. -/
def dists133 (c : Dev nD) : S22x1x512.Idx → EReal :=
  Transe.dists (tbl m 0) 1 (m ((c : Thread nD τ).loc main_arg3)) (m ((c : Thread nD τ).loc main_arg4)) (m ((c : Thread nD τ).loc main_arg5))

/-- Block `t` of an array of distances. -/
theorem block_of {u : Transe.Units.Idx → BitVec 32} {side : Fin 2} {d r : Transe.Padded.Idx → EReal} {w : Transe.Table.Idx → EReal}
    (t : Fin 22) (T : Fin 3 → Nat) (h : ∀ a, (T a + 1) * S1x1x512.size a ≤ S22x1x512.size a)
    (h0 : T 0 = t.val) (h1 : T 1 = 0) (h2 : T 2 = 0) :
    (fun j : S1x1x512.Idx => Transe.distAt u side d r w t (j 2))
      = fun j => Transe.dists u side d r w ((Rect.block (s := S22x1x512) S1x1x512.size T h).emb j) := by
  funext j
  have hj : (j 0).val < 1 := (j 0).isLt
  unfold Transe.dists
  have e0 : ((Rect.block (s := S22x1x512) S1x1x512.size T h).emb j) 0 = t := Fin.ext (by
    show T 0 * 1 + 1 * (j 0).val = t.val; omega)
  have e2 : ((Rect.block (s := S22x1x512) S1x1x512.size T h).emb j) 2 = j 2 := Fin.ext (by
    show T 2 * 512 + 1 * (j 2).val = (j 2).val; omega)
  rw [e0, e2]

/-- An index whose first coordinate is `t` lies in block `t`. -/
theorem mem_block (i : S22x1x512.Idx) (t : Fin 22) (T : Fin 3 → Nat) (h : ∀ a, (T a + 1) * S1x1x512.size a ≤ S22x1x512.size a)
    (h0 : T 0 = t.val) (h1 : T 1 = 0) (h2 : T 2 = 0) (hi : (i 0).val = t.val) :
    i ∈ (Rect.block (s := S22x1x512) S1x1x512.size T h).set := by
  unfold Rect.block
  rw [Rect.mem_set_unit]
  have hi1 : (i 1).val < 1 := (i 1).isLt
  have hi2 : (i 2).val < 512 := (i 2).isLt
  intro a
  match a with
  | ⟨0, _⟩ => show T 0 * 1 ≤ (i 0).val ∧ (i 0).val < T 0 * 1 + 1; omega
  | ⟨1, _⟩ => show T 1 * 1 ≤ (i 1).val ∧ (i 1).val < T 1 * 1 + 1; omega
  | ⟨2, _⟩ => show T 2 * 512 ≤ (i 2).val ∧ (i 2).val < T 2 * 512 + 512; omega

/-- One side's block of distances, from the rows and matrices of point `t`. -/
theorem side_eq (c : Dev nD) (t : Fin 22) (side : Fin 2) (x : Vec Ideal S512x128 .bf16) (r : Vec Ideal S512x128 .f32) (X : Fin 64 → Vec Ideal S1x128x128 .bf16)
    (dv : Vec Ideal S11264x128 .bf16) (rv : Vec Ideal S11264x128 .f32) (hx : x = rows dv t) (hr : r = rows rv t) (hX : ∀ g, X g = mat m c side t g) :
    sideBlock x r X = fun j => Transe.distAt (tbl m 0) side dv rv (m ((c : Thread nD τ).loc main_arg5)) t (j 2) := by
  funext j
  obtain ⟨z, z', p, rfl⟩ : ∃ (z z' : Fin 1) (p : Fin 512), j = ix3 z z' p := ⟨j 0, j 1, j 2, eq_ix3 j⟩
  rw [sideBlock_at x r X (m ((c : Thread nD τ).loc main_arg5))
    (fun g => Transe.relOf (tbl m 0 (ix2 side ⟨t.val * 64 + g.val, by omega⟩)))
    (fun g z o i => by rw [hX, mat_at]), hx, hr]
  rfl

/-- The positive output's buffer after point `t` holds the distances of block `t`. -/
theorem posOut_eq (hO : Ok m) (hS : Small (tbl m)) (c : Dev nD) (t : Fin (cfgM m hO).N) :
    posOut m hO c t = fun j => Transe.distAt (tbl m 0) 0 (m ((c : Thread nD τ).loc main_arg1)) (m ((c : Thread nD τ).loc main_arg2))
      (m ((c : Thread nD τ).loc main_arg5)) (pt m hO t) (j 2) :=
  side_eq m c (pt m hO t) 0 _ _ _ _ _ ((rows0 m hO c t).trans (congrArg (fun a => rows a (pt m hO t)) (V_main_arg1 m c)))
    ((rows1 m hO c t).trans (congrArg (fun a => rows a (pt m hO t)) (V_main_arg2 m c))) fun g => posMats_eq m hO hS c t g

/-- What point `t` writes back is block `t` of the positive side's distances. -/
theorem flushed132 (hO : Ok m) (hS : Small (tbl m)) (c : Dev nD) (t : Fin (cfgM m hO).N) :
    (dats m hO 0 c).flushed 132 t = (((cfgM m hO).win 132).blk t).view.read (Elt Ideal) (dists132 m c) := by
  show ((cfgM m hO).win 132).cut (grid0.coords t) ((dats m hO 0 c).after 132 t) = _
  rw [after0_132, posOut_eq m hO hS]
  exact block_of (pt m hO t) (cc0_transform_132 (grid0.coords t)) (hinb0_132 (grid0.coords t)) (point_word m hO t) rfl rfl

theorem mem132 (hO : Ok m) (t : Fin (cfgM m hO).N) (i : S22x1x512.Idx) (h : (i 0).val = (pt m hO t).val) :
    i ∈ (((cfgM m hO).win 132).blk t).view.set := by
  have e : i ∈ ((View.whole main_v2_0).slice (Rect.block (s := S22x1x512) S1x1x512.size (cc0_transform_132 (grid0.coords t)) (hinb0_132 (grid0.coords t)))).set := by
    rw [View.set_slice_whole]
    exact mem_block i (pt m hO t) (cc0_transform_132 (grid0.coords t)) (hinb0_132 (grid0.coords t)) (point_word m hO t) rfl rfl h
  exact e

/-- The positive output ends at its side's distances. -/
theorem final132 (hO : Ok m) (hS : Small (tbl m)) (c : Dev nD) : (dats m hO 0 c).arrAt 132 (cfgM m hO).N = dists132 m c :=
  (dats m hO 0 c).arrAt_eq_of_cover 132 (dists132 m c) (fun t _ => flushed132 m hO hS c t) fun (i : S22x1x512.Idx) =>
    ⟨(i 0).cast (N_eq m hO).symm, flush0_132 (adm m hO) _, mem132 m hO _ i rfl⟩

/-- The negative output's buffer after point `t` holds the distances of block `t`. -/
theorem negOut_eq (hO : Ok m) (hS : Small (tbl m)) (c : Dev nD) (t : Fin (cfgM m hO).N) :
    negOut m hO c t = fun j => Transe.distAt (tbl m 0) 1 (m ((c : Thread nD τ).loc main_arg3)) (m ((c : Thread nD τ).loc main_arg4))
      (m ((c : Thread nD τ).loc main_arg5)) (pt m hO t) (j 2) :=
  side_eq m c (pt m hO t) 1 _ _ _ _ _ ((rows2 m hO c t).trans (congrArg (fun a => rows a (pt m hO t)) (V_main_arg3 m c)))
    ((rows3 m hO c t).trans (congrArg (fun a => rows a (pt m hO t)) (V_main_arg4 m c))) fun g => negMats_eq m hO hS c t g

/-- What point `t` writes back is block `t` of the negative side's distances. -/
theorem flushed133 (hO : Ok m) (hS : Small (tbl m)) (c : Dev nD) (t : Fin (cfgM m hO).N) :
    (dats m hO 0 c).flushed 133 t = (((cfgM m hO).win 133).blk t).view.read (Elt Ideal) (dists133 m c) := by
  show ((cfgM m hO).win 133).cut (grid0.coords t) ((dats m hO 0 c).after 133 t) = _
  rw [after0_133, negOut_eq m hO hS]
  exact block_of (pt m hO t) (cc0_transform_133 (grid0.coords t)) (hinb0_133 (grid0.coords t)) (point_word m hO t) rfl rfl

theorem mem133 (hO : Ok m) (t : Fin (cfgM m hO).N) (i : S22x1x512.Idx) (h : (i 0).val = (pt m hO t).val) :
    i ∈ (((cfgM m hO).win 133).blk t).view.set := by
  have e : i ∈ ((View.whole main_v2_1).slice (Rect.block (s := S22x1x512) S1x1x512.size (cc0_transform_133 (grid0.coords t)) (hinb0_133 (grid0.coords t)))).set := by
    rw [View.set_slice_whole]
    exact mem_block i (pt m hO t) (cc0_transform_133 (grid0.coords t)) (hinb0_133 (grid0.coords t)) (point_word m hO t) rfl rfl h
  exact e

/-- The negative output ends at its side's distances. -/
theorem final133 (hO : Ok m) (hS : Small (tbl m)) (c : Dev nD) : (dats m hO 0 c).arrAt 133 (cfgM m hO).N = dists133 m c :=
  (dats m hO 0 c).arrAt_eq_of_cover 133 (dists133 m c) (fun t _ => flushed133 m hO hS c t) fun (i : S22x1x512.Idx) =>
    ⟨(i 0).cast (N_eq m hO).symm, flush0_133 (adm m hO) _, mem133 m hO _ i rfl⟩

/-- The run leaves both outputs at their sides' distances. -/
theorem outs (hO : Ok m) (hS : Small (tbl m)) : θ_run defs (onTc (τ := τ) (main (F := Ideal))) ⟨m, fun _ => 0, ρ⟩ fun r => ∀ c : Dev nD,
      r.2.mem ((c : Thread nD τ).loc main_v2_0) = dists132 m c ∧ r.2.mem ((c : Thread nD τ).loc main_v2_1) = dists133 m c :=
  (θ_run defs _ _).mono (fun _ h c => ⟨((h c).1 132).trans (final132 m hO hS c), ((h c).1 133).trans (final133 m hO hS c)⟩) (run_main m ρ hO)

/-- The run: both outputs at their sides' distances, the arguments unchanged. -/
theorem run (hO : Ok m) (hS : Small (tbl m)) : θ_run defs (onTc (τ := τ) (main (F := Ideal))) ⟨m, fun _ => 0, ρ⟩ fun r => ∀ c : Dev nD,
      r.2.mem ((c : Thread nD τ).loc main_v2_0) = dists132 m c
      ∧ r.2.mem ((c : Thread nD τ).loc main_v2_1) = dists133 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h.1 c).1, (h.1 c).2, h.2 c⟩) (θ_run_and (outs m ρ hO hS) (unchanged m ρ hO))

end Cert.ProjIdeal.Own

end
-- ==== Proof.Same.lean ====
/-
  The call's program at words and its idealization at words are one program: no operation was rewritten.
-/
module

public import proofs.«01_k».proof.Defs
public import proofs.«01_k».proof.Proof.Gen.Proj
public import proofs.«01_k».proof.Proof.Gen.ProjIdeal
public import proofs.«01_k».proof.Proof.Gen.Pre_pre2
public import Idealize.ShloMosaic.Lib.Pipeline.Regions
public import Idealize.ShloMosaic.Lib.Claim

@[expose] public section

set_option maxRecDepth 16384

noncomputable section

namespace Cert.ProjIdeal.Own

open Idealize.ShloMosaic Idealize.ShloMosaic.TcCoe Idealize.SL.Sem

/-- The precondition of the idealization's text read at words. -/
def PreBits [hPre_pre2 : Cert.Pre_pre2.Facts] (m : (ℓ : Loc Cert.ProjIdeal.nD Cert.ProjIdeal.τ Cert.ProjIdeal.sig) → Buf (Elt Bits) ℓ) : Prop :=
  ∀ c : Dev Cert.ProjIdeal.nD,
    (Cert.Pre_pre2.fn (F := Bits) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5))) = (fun _ => 1#1)

/-- The frame of the idealization's text read at words. -/
def quiescentBits [hProjIdeal : Cert.ProjIdeal.Facts] [hPre_pre2 : Cert.Pre_pre2.Facts] : Prop :=
  ∀ (m : (ℓ : Loc Cert.ProjIdeal.nD Cert.ProjIdeal.τ Cert.ProjIdeal.sig) → Buf (Elt Bits) ℓ) (g : Dev Cert.ProjIdeal.nD → PrngReg), PreBits m →
    θ_run (Cert.ProjIdeal.defs (F := Bits)) (onTc (τ := Cert.ProjIdeal.τ) (Cert.ProjIdeal.main (F := Bits))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

/-- It is the frame of the call itself. -/
theorem quiescentBits_eq : @quiescentBits Cert.ProjIdeal.Gen.facts Cert.Pre_pre2.Gen.facts = @Cert.quiescent_Proj Cert.Proj.Gen.facts Cert.Pre_pre2.Gen.facts := by
  chain_rfl

end Cert.ProjIdeal.Own

end
-- ==== Proof.RefValue.lean ====
/-
  The reference's value: each of its two results is the array of distances of one side (`Transe.dists`).
-/
module

public import proofs.«01_k».proof.Proof.Dist
public import proofs.«01_k».proof.Proof.Gen.ProjReferenceIdeal

@[expose] public section

set_option maxRecDepth 16384

noncomputable section

namespace Cert.ProjReferenceIdeal.Own

open Cert.ProjReferenceIdeal Cert.ProjReferenceIdeal.Gen Idealize.ShloMosaic Transe

/-- The gather of whole matrices, read at an entry: the matrix named by the index word, clamped into the table. -/
theorem gather_at {α : Type} (x : S1000x128x128.Idx → α) (idx : IVec S11264x1 32) (p : Fin 11264) (o c : Fin 128) :
    Host.gather gather_S1000x128x128_S11264x1_S11264x128x128_12_0_n_n_0_1_1128128 x idx (ix3 p o c)
      = x (ix3 ⟨min (idx (ix2 p 0)).toInt.toNat 999, by omega⟩ o c) := by
  unfold Host.gather
  congr 1
  funext a
  refine Fin.ext ?_
  show gather_S1000x128x128_S11264x1_S11264x128x128_12_0_n_n_0_1_1128128.start (ix3 p o c) idx a
      + gather_S1000x128x128_S11264x1_S11264x128x128_12_0_n_n_0_1_1128128.batchCoord (ix3 p o c) a
      + gather_S1000x128x128_S11264x1_S11264x128x128_12_0_n_n_0_1_1128128.offCoord (ix3 p o c) a = _
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.batchCoord_eq_zero _ _ _ (fun h => by simp [gather_S1000x128x128_S11264x1_S11264x128x128_12_0_n_n_0_1_1128128] at h),
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S1000x128x128_S11264x1_S11264x128x128_12_0_n_n_0_1_1128128.startIndexMap from List.mem_singleton.mpr rfl)]
    have hsi : gather_S1000x128x128_S11264x1_S11264x128x128_12_0_n_n_0_1_1128128.siIdx (ix3 p o c)
        ⟨List.idxOf (0 : Fin 3) gather_S1000x128x128_S11264x1_S11264x128x128_12_0_n_n_0_1_1128128.startIndexMap,
          List.idxOf_lt_length_iff.2 (List.mem_singleton.mpr rfl)⟩ = ix2 p 0 := by
      funext b; refine Fin.ext ?_
      match b with
      | ⟨0, _⟩ => rfl
      | ⟨1, _⟩ => rfl
    erw [hsi]; rfl
  · simp [GatherDims.start, GatherDims.batchCoord, gather_S1000x128x128_S11264x1_S11264x128x128_12_0_n_n_0_1_1128128]; rfl
  · simp [GatherDims.start, GatherDims.batchCoord, gather_S1000x128x128_S11264x1_S11264x128x128_12_0_n_n_0_1_1128128]; rfl

/-- The host's sequence of operations for one side, from the side's row of relations. -/
abbrev sideTerm (u : IVec S1408 32) (d : FVec Ideal S11264x128 .bf16) (r : FVec Ideal S11264x128 .f32)
    (w : FVec Ideal S1000x16384 .f32) : FVec Ideal S11264x128 .f32 :=
  addf (Host.dotGeneral dot_S11264x128x128_S11264x128_S11264x128_2_1_1_n_0_0 none
    (Host.gather gather_S1000x128x128_S11264x1_S11264x128x128_12_0_n_n_0_1_1128128
      (shapeCast _ w shapeCasts_S1000x16384_S1000x128x128)
      (broadcastInDim S11264x1 ![0] bcast_S11264_S11264x1_0
        (select (cmpi .slt (shapeCast _ (broadcastInDim S1408x8 ![0] bcast_S1408_S1408x8_0 u) shapeCasts_S1408x8_S11264)
            (broadcastInDim S11264 ![] bcast_S_S11264 (constantI S_ 32 0#32)))
          (addi (shapeCast _ (broadcastInDim S1408x8 ![0] bcast_S1408_S1408x8_0 u) shapeCasts_S1408x8_S11264)
            (broadcastInDim S11264 ![] bcast_S_S11264 (constantI S_ 32 1000#32)))
          (shapeCast _ (broadcastInDim S1408x8 ![0] bcast_S1408_S1408x8_0 u) shapeCasts_S1408x8_S11264))))
    (extf .f32 d bitsLt_bf16_f32)) r

theorem wrap_eq (x : BitVec 32) (h : x.toNat < 1000) :
    (Scalar.select (IntOp.cmpi .slt x 0#32) (IntOp.addi x 1000#32) x).toInt.toNat = x.toNat := by
  have : IntOp.cmpi .slt x 0#32 = 0#1 := by
    have hx : x.slt 0#32 = false := by rw [BitVec.slt, decide_eq_false_iff_not]; simp; rw [BitVec.toInt_eq_toNat_of_lt (by omega)]; omega
    simp [IntOp.cmpi, hx]
  rw [this]
  show x.toInt.toNat = x.toNat
  rw [BitVec.toInt_eq_toNat_of_lt (by omega)]; rfl

theorem side_at (u : IVec S1408 32) (hu : ∀ i, (u i).toNat < 1000) (d : FVec Ideal S11264x128 .bf16)
    (r : FVec Ideal S11264x128 .f32) (w : FVec Ideal S1000x16384 .f32) (p : Fin 11264) (o : Fin 128) :
    sideTerm u d r w (ix2 p o)
      = (∑ c : Fin 128, w (ix2 (relOf (u (ix1 ⟨p.val / 8, by omega⟩))) (flat o c)) * d (ix2 p c)) + r (ix2 p o) := by
  unfold sideTerm
  pointwise
  simp only [gather_at]
  pointwise
  have hp : p.val / 8 < 1408 := by omega
  have h : ∀ h', (⟨min (Scalar.select (IntOp.cmpi CmpIPredicate.slt (u (ix1 ⟨↑p / 8, hp⟩)) 0#32)
      (IntOp.addi (u (ix1 ⟨↑p / 8, hp⟩)) 1000#32) (u (ix1 ⟨↑p / 8, hp⟩))).toInt.toNat 999, h'⟩ : Fin 1000)
      = relOf (u (ix1 ⟨↑p / 8, hp⟩)) := fun h' => by
    refine Fin.ext ?_
    show min _ 999 = min _ 999
    rw [wrap_eq _ (hu _)]
  simp only [h]
  rfl

/-- The host's norm and blocks of one side, read at an index. -/
theorem norm_at (y : FVec Ideal S11264x128 .f32) (t : Fin 22) (z : Fin 1) (p : Fin 512) :
    shapeCast S22x1x512 (Host.sqrt (Host.reduceAdd (mulf y y) (constant S_ .f32 0x00000000#32) reducesTo_S11264x128_S11264_d1 h_S_))
        shapeCasts_S11264_S22x1x512 (ix3 t z p)
      = Ideal.sqrt (∑ o : Fin 128, y (ix2 ⟨t.val * 512 + p.val, by omega⟩ o) * y (ix2 ⟨t.val * 512 + p.val, by omega⟩ o)) := by
  obtain rfl : z = 0 := Subsingleton.elim _ _
  pointwise

/-- One side's result is the array of its distances. -/
theorem result_eq (u : IVec S2x1408 32) (side : Fin 2) (row : IVec S1408 32) (hrow : ∀ k, row (ix1 k) = u (ix2 side k))
    (hu : ∀ i, (u i).toNat < 1000) (d : FVec Ideal S11264x128 .bf16)
    (r : FVec Ideal S11264x128 .f32) (w : FVec Ideal S1000x16384 .f32) :
    shapeCast S22x1x512 (Host.sqrt (Host.reduceAdd (mulf (sideTerm row d r w) (sideTerm row d r w)) (constant S_ .f32 0x00000000#32)
        reducesTo_S11264x128_S11264_d1 h_S_)) shapeCasts_S11264_S22x1x512
      = dists u side d r w := by
  funext j
  obtain ⟨t, z, p, rfl⟩ : ∃ (t : Fin 22) (z : Fin 1) (p : Fin 512), j = ix3 t z p := ⟨j 0, j 1, j 2, eq_ix3 j⟩
  rw [norm_at]
  show _ = distAt u side d r w t p
  unfold distAt Transe.dist
  have hr : ∀ i, (row i).toNat < 1000 := fun i => by
    obtain ⟨k, rfl⟩ : ∃ k : Fin 1408, i = ix1 k := ⟨i 0, eq_ix1 i⟩
    rw [hrow]; exact hu _
  refine congrArg _ (Finset.sum_congr rfl fun o _ => ?_)
  rw [side_at row hr]
  have e : (⟨(t.val * 512 + p.val) / 8, by omega⟩ : Fin 1408) = ⟨t.val * 64 + p.val / 8, by omega⟩ := Fin.ext (by show (t.val * 512 + p.val) / 8 = t.val * 64 + p.val / 8; omega)
  simp only [hrow, e]

theorem row0_eq (u : IVec S2x1408 32) (k : Fin 1408) :
    shapeCast S1408 (extractStridedSlice S1x1408 ![0, 0] u slices_S2x1408_S1x1408_0_0) shapeCasts_S1x1408_S1408 (ix1 k) = u (ix2 0 k) := by
  pointwise

theorem row1_eq (u : IVec S2x1408 32) (k : Fin 1408) :
    shapeCast S1408 (extractStridedSlice S1x1408 ![1, 0] u slices_S2x1408_S1x1408_1_0) shapeCasts_S1x1408_S1408 (ix1 k) = u (ix2 1 k) := by
  pointwise

end Cert.ProjReferenceIdeal.Own

end
-- ==== Proof.Call.Claim.lean ====
/-
  The projection call's claims: at words and over the reals it runs and leaves its arguments alone; over the
  reals its two outputs are what the reference computes from the same arguments.
-/
module

public import proofs.«01_k».proof.Defs
public import proofs.«01_k».proof.Proof.Value
public import proofs.«01_k».proof.Proof.Same
public import proofs.«01_k».proof.Proof.RefValue
public import proofs.«01_k».proof.Proof.Gen.Proj
public import proofs.«01_k».proof.Proof.Gen.ProjIdeal
public import proofs.«01_k».proof.Proof.Gen.ProjReferenceIdeal
public import proofs.«01_k».proof.Proof.Gen.ProjReferenceIdeal.Run
public import proofs.«01_k».proof.Proof.Gen.Pre_pre2
public import Idealize.ShloMosaic.Lib.Claim
public import Idealize.ShloMosaic.Lib.Quiescent

@[expose] public section

noncomputable section

namespace Cert.Proof

open Idealize.ShloMosaic Idealize.ShloMosaic.TcCoe Idealize.ShloMosaic.Tactic Idealize.SL.Sem

/-- The precondition says that the call's table holds relation numbers. -/
theorem small_of_pre (m : (ℓ : Loc Cert.ProjIdeal.nD Cert.ProjIdeal.τ Cert.ProjIdeal.sig) → Buf (Elt Ideal) ℓ) (h : Cert.Pre_ProjIdeal m) :
    Cert.ProjIdeal.Own.Small (Cert.ProjIdeal.Call.tbl m) := fun j => by
  rw [Cert.ProjIdeal.Own.tbl_eq]
  exact Cert.ProjIdeal.Own.small_of_fn _ _ _ _ _ _ (h 0) j

theorem small_of_bits (m : (ℓ : Loc Cert.ProjIdeal.nD Cert.ProjIdeal.τ Cert.ProjIdeal.sig) → Buf (Elt Bits) ℓ) (h : Cert.ProjIdeal.Own.PreBits m) :
    Cert.ProjIdeal.Own.Small (Cert.ProjIdeal.Call.tbl m) := fun j => by
  rw [Cert.ProjIdeal.Own.tbl_eq]
  exact Cert.ProjIdeal.Own.small_of_fn _ _ _ _ _ _ (h 0) j

theorem proj_frame_bits : Cert.quiescent_Proj :=
  Cert.ProjIdeal.Own.quiescentBits_eq ▸ fun m g h =>
    Cert.ProjIdeal.Call.frame m g (Cert.ProjIdeal.Own.ok_of_small (small_of_bits m h))

theorem proj_frame_ideal : Cert.quiescent_ProjIdeal := fun m g h =>
  Cert.ProjIdeal.Call.frame m g (Cert.ProjIdeal.Own.ok_of_small (small_of_pre m h))

theorem proj_value : Cert.algebraic_ProjIdeal_ProjReferenceIdeal := by
  intro m g m' g' hp ha
  have hS := small_of_pre m hp
  have hu : ∀ i, ((m ((0 : Dev Cert.ProjIdeal.nD), Proc.devRef .tc Cert.ProjIdeal.main_arg0) : IVec Cert.ProjIdeal.S2x1408 32) i).toNat < 1000 := fun i => by
    have := hS i
    rwa [Cert.ProjIdeal.Own.tbl_eq] at this
  refine ⟨Cert.ProjIdeal.Own.dists132 m, Cert.ProjIdeal.Own.dists133 m,
    Cert.ProjIdeal.Own.run m g (Cert.ProjIdeal.Own.ok_of_small hS) hS, ?_⟩
  refine (θ_run _ _ _).mono (fun _ h c => ⟨?_, ?_, (h c).2.2⟩) (Cert.ProjReferenceIdeal.Value.run m' g')
  · obtain rfl : c = 0 := Subsingleton.elim _ _
    refine (h 0).1.trans ?_
    unfold Cert.ProjIdeal.Own.dists132
    rw [Cert.ProjIdeal.Own.tbl_eq, (ha 0).1, (ha 0).2.1, (ha 0).2.2.1, (ha 0).2.2.2.2.2]
    exact Cert.ProjReferenceIdeal.Own.result_eq _ 0 _ (Cert.ProjReferenceIdeal.Own.row0_eq _) hu _ _ _
  · obtain rfl : c = 0 := Subsingleton.elim _ _
    refine (h 0).2.1.trans ?_
    unfold Cert.ProjIdeal.Own.dists133
    rw [Cert.ProjIdeal.Own.tbl_eq, (ha 0).1, (ha 0).2.2.2.1, (ha 0).2.2.2.2.1, (ha 0).2.2.2.2.2]
    exact Cert.ProjReferenceIdeal.Own.result_eq _ 1 _ (Cert.ProjReferenceIdeal.Own.row1_eq _) hu _ _ _

/-- The reference runs, leaves its arguments alone, and has no semaphore. -/
theorem proj_reference_frame : Cert.quiescent_ProjReferenceIdeal := fun m ρ _ =>
  (θ_run Cert.ProjReferenceIdeal.defs _ _).mono
    (fun r h => ⟨fun c => (h c).2.2, Idealize.ShloMosaic.sem_eq_zero_of_no_sems (by decide) r.2⟩)
    (Cert.ProjReferenceIdeal.Value.run (F := Ideal) m ρ)

theorem proj_reference_frame_small : Cert.quiescent_ProjReferenceIdeal_pre_pre2 := fun m ρ _ => proj_reference_frame m ρ trivial

end Cert.Proof

end
-- ==== Proof.Margin.Term.lean ====
/-
  The margin loss in plain mathematics: two tables of distances, for every triple the slot (block and place in the block)
  of its distance in each of them, and the sum over the triples of `max (positive - negative + 6) 0`.
-/
module

public import Idealize.ShloMosaic.PureOps
public import Idealize.ShloMosaic.Lib.Pointwise

@[expose] public section

noncomputable section

namespace Margin

open Idealize.ShloMosaic

/-- The table entry that a slot names, for a block below 22 and a place below 512. -/
def look (d : (⟨3, ![22, 1, 512]⟩ : Shape).Idx → EReal) (row lane : BitVec 32) : EReal :=
  d (ix3 ⟨min row.toNat 21, by omega⟩ 0 ⟨min lane.toNat 511, by omega⟩)

/-- What one triple contributes: the margin loss of its two distances, the constant being the word of 6. -/
def term (p n : EReal) : EReal := max (p - n + Ideal.ofBits .f32 1086324736#32) 0

/-- Triple `n`'s contribution, the slots read from the two tables of slots. -/
def termAt (dp dn : (⟨3, ![22, 1, 512]⟩ : Shape).Idx → EReal) (row lane : (⟨3, ![2, 4096, 1]⟩ : Shape).Idx → BitVec 32) (n : Fin 4096) : EReal :=
  term (look dp (row (ix3 0 n 0)) (lane (ix3 0 n 0))) (look dn (row (ix3 1 n 0)) (lane (ix3 1 n 0)))

theorem word_4096 : Ideal.ofBits .f32 0x45800000#32 = ((4096 : ℝ) : EReal) := by
  simp [Ideal.ofBits, Ideal.ieee, -EReal.coe_mul]
  norm_num

theorem word_inv_4096 : Ideal.ofBits .f32 0x39800000#32 = (((4096 : ℝ)⁻¹ : ℝ) : EReal) := by
  simp [Ideal.ofBits, Ideal.ieee, -EReal.coe_mul]
  norm_num

/-- Multiplying by the word of 1/4096 is dividing by the word of 4096. -/
theorem mean_eq (x : EReal) : x * Ideal.ofBits .f32 0x39800000#32 = Ideal.div x (Ideal.ofBits .f32 0x45800000#32) := by
  rw [word_4096, word_inv_4096]
  unfold Ideal.div
  rw [if_neg (by norm_num), EReal.coe_inv]

/-- A comparison of a word with a small number, widened and read as a number, is 1 where they agree and 0 elsewhere. -/
theorem hit_eq (x : BitVec 32) (k : Nat) (hk : k < 2 ^ 32) :
    FloatOps.sitofp (F := Ideal) .f32 (BitVec.setWidth 32 (IntOp.cmpi CmpIPredicate.eq x (BitVec.ofNat 32 k))) = if x.toNat = k then (1 : EReal) else 0 := by
  by_cases h : x.toNat = k
  · have : x = BitVec.ofNat 32 k := by apply BitVec.eq_of_toNat_eq; simp [h]; omega
    rw [if_pos h, ← this]
    have c : IntOp.cmpi CmpIPredicate.eq x x = 1#1 := by simp [IntOp.cmpi]
    rw [c]
    show (((BitVec.setWidth 32 1#1).toInt : ℝ) : EReal) = 1
    rw [show (BitVec.setWidth 32 1#1).toInt = 1 from by decide]
    norm_num
  · have n : x ≠ BitVec.ofNat 32 k := fun e => h (by rw [e, BitVec.toNat_ofNat, Nat.mod_eq_of_lt hk])
    rw [if_neg h]
    have c : IntOp.cmpi CmpIPredicate.eq x (BitVec.ofNat 32 k) = 0#1 := by
      show BitVec.ofBool (x == BitVec.ofNat 32 k) = 0#1
      rw [beq_false_of_ne n]; rfl
    rw [c]
    show (((BitVec.setWidth 32 0#1).toInt : ℝ) : EReal) = 0
    rw [show (BitVec.setWidth 32 0#1).toInt = 0 from by decide]
    norm_num

/-- The two one-hot products pick the entry that the slot names. -/
theorem picked (d : (⟨3, ![22, 1, 512]⟩ : Shape).Idx → EReal) (row lane : BitVec 32) (hr : row.toNat < 22) (hl : lane.toNat < 512) :
    ∑ k : Fin 512, (∑ b : Fin 22,
        FloatOps.sitofp (F := Ideal) .f32 (BitVec.setWidth 32 (IntOp.cmpi CmpIPredicate.eq row (BitVec.ofNat 32 b.val))) * d (ix3 b 0 k))
      * FloatOps.sitofp (F := Ideal) .f32 (BitVec.setWidth 32 (IntOp.cmpi CmpIPredicate.eq lane (BitVec.ofNat 32 k.val)))
      = look d row lane := by
  have e (k : Fin 512) : (∑ b : Fin 22,
        FloatOps.sitofp (F := Ideal) .f32 (BitVec.setWidth 32 (IntOp.cmpi CmpIPredicate.eq row (BitVec.ofNat 32 b.val))) * d (ix3 b 0 k))
      = d (ix3 ⟨min row.toNat 21, by omega⟩ 0 k) := by
    rw [Finset.sum_eq_single ⟨min row.toNat 21, by omega⟩]
    · rw [hit_eq _ _ (by show min row.toNat 21 < _; omega), if_pos (by show row.toNat = min row.toNat 21; omega), one_mul]
    · intro b _ hb
      rw [hit_eq _ _ (by omega), if_neg (fun h => hb (Fin.ext (by show b.val = min row.toNat 21; omega))), zero_mul]
    · exact fun h => absurd (Finset.mem_univ _) h
  simp only [e]
  unfold look
  rw [Finset.sum_eq_single ⟨min lane.toNat 511, by omega⟩]
  · rw [hit_eq _ _ (by show min lane.toNat 511 < _; omega), if_pos (by show lane.toNat = min lane.toNat 511; omega), mul_one]
  · intro k _ hk
    rw [hit_eq _ _ (by omega), if_neg (fun h => hk (Fin.ext (by show k.val = min lane.toNat 511; omega))), mul_zero]
  · exact fun h => absurd (Finset.mem_univ _) h

end Margin

end
-- ==== Proof.Margin.Pick.lean ====
/-
  What one grid point of the loss call computes: the one-hot products pick the table entries that the slots name.
-/
module

public import proofs.«01_k».proof.Proof.Margin.Term
public import proofs.«01_k».proof.Proof.Gen.LossIdeal.Skeleton
public import Idealize.ShloMosaic.Lib.Pointwise

@[expose] public section

noncomputable section

namespace Cert.LossIdeal.Own

open Cert.LossIdeal Cert.LossIdeal.Gen Idealize.ShloMosaic

/-- The positive side's picked distance of one triple of the block. -/
theorem pick4 (r : Vec Ideal S128x1 .i32) (d : Vec Ideal S22x1x512 .f32) (l : Vec Ideal S128x1 .i32) (a : Fin 128)
    (hr : (r (ix2 a 0)).toNat < 22) (hl : (l (ix2 a 0)).toNat < 512) :
    k0_pay4 r d l (ix2 a 0) = Margin.look d (r (ix2 a 0)) (l (ix2 a 0)) := by
  unfold k0_pay4
  pointwise
  exact Margin.picked d _ _ hr hl

/-- The negative side's picked distance of one triple of the block, its last sum still to be taken. -/
theorem pick5 (r : Vec Ideal S128x1 .i32) (d : Vec Ideal S22x1x512 .f32) (l : Vec Ideal S128x1 .i32) (a : Fin 128)
    (hr : (r (ix2 a 0)).toNat < 22) (hl : (l (ix2 a 0)).toNat < 512) :
    ∑ k : Fin 512, k0_pay5 r d l (ix2 a k) = Margin.look d (r (ix2 a 0)) (l (ix2 a 0)) := by
  unfold k0_pay5
  pointwise
  exact Margin.picked d _ _ hr hl

/-- The block's contributions are added to what the output's buffer holds. -/
theorem pay1_at (v : FVec Ideal S128x1 .f32) (w : FVec Ideal S128x512 .f32) (x : Vec Ideal S1x1 .f32) :
    k0_pay1 v w x (ix2 0 0) = x (ix2 0 0) + ∑ a : Fin 128, Margin.term (v (ix2 a 0)) (∑ k : Fin 512, w (ix2 a k)) := by
  unfold k0_pay1
  pointwise
  rfl

/-- The last point's scaling. -/
theorem pay2_at (x : Vec Ideal S1x1 .f32) : k0_pay2 x (ix2 0 0) = x (ix2 0 0) * Ideal.ofBits .f32 0x39800000#32 := by
  unfold k0_pay2
  pointwise

/-- The first point's clearing. -/
theorem pay3_at : k0_pay3 (F := Ideal) (ix2 0 0) = 0 := by
  unfold k0_pay3
  pointwise

end Cert.LossIdeal.Own

end
-- ==== Proof.Margin.Value.lean ====
/-
  The loss call's run: its one number ends at the sum of all triples' contributions, scaled by 1/4096.
-/
module

public import proofs.«01_k».proof.Proof.Margin.Pick
public import proofs.«01_k».proof.Proof.Gen.LossIdeal.Value
public import Idealize.ShloMosaic.Lib.Pipeline.Value
public import Idealize.ShloMosaic.Lib.Tactic

@[expose] public section

set_option maxRecDepth 16384

noncomputable section

namespace Cert.LossIdeal.Own

open Cert.LossIdeal Cert.LossIdeal.Gen Cert.LossIdeal.Value Idealize.ShloMosaic Idealize.ShloMosaic.TcCoe Idealize.SL.Sem

variable (m : (ℓ : Loc nD τ sig) → Buf (Elt Ideal) ℓ) (ρ : Dev nD → PrngReg)

/-- The tables of slots name blocks below 22 and places below 512. -/
def Slots (row lane : IVec S2x4096x1 32) : Prop := (∀ j, (row j).toNat < 22) ∧ ∀ j, (lane j).toNat < 512

/-- Row `s` of a table of slots, as a column. -/
def side (x : IVec S2x4096x1 32) (s : Fin 2) : IVec S4096x1 32 := fun j => x (ix3 s (j 0) 0)

theorem cut0 (x : IVec S2x4096x1 32) :
    shapeCast S4096x1 (extractStridedSlice S1x4096x1 ![0, 0, 0] x slices_S2x4096x1_S1x4096x1_0_0_0) shapeCasts_S1x4096x1_S4096x1 = side x 0 := by
  funext j
  obtain ⟨n, z, rfl⟩ : ∃ (n : Fin 4096) (z : Fin 1), j = ix2 n z := ⟨j 0, j 1, eq_ix2 j⟩
  obtain rfl : z = 0 := Subsingleton.elim _ _
  unfold side
  pointwise

theorem cut1 (x : IVec S2x4096x1 32) :
    shapeCast S4096x1 (extractStridedSlice S1x4096x1 ![1, 0, 0] x slices_S2x4096x1_S1x4096x1_1_0_0) shapeCasts_S1x4096x1_S4096x1 = side x 1 := by
  funext j
  obtain ⟨n, z, rfl⟩ : ∃ (n : Fin 4096) (z : Fin 1), j = ix2 n z := ⟨j 0, j 1, eq_ix2 j⟩
  obtain rfl : z = 0 := Subsingleton.elim _ _
  unfold side
  pointwise

theorem V_main_v1 (c : Dev nD) : V m c main_v1 = side (m ((c : Thread nD τ).loc main_arg2)) 0 := by
  rw [← cut0]
  unfold_abbrev_sides
  after_results <;> rfl
theorem V_main_v3 (c : Dev nD) : V m c main_v3 = side (m ((c : Thread nD τ).loc main_arg3)) 0 := by
  rw [← cut0]
  unfold_abbrev_sides
  after_results <;> rfl
theorem V_main_v5 (c : Dev nD) : V m c main_v5 = side (m ((c : Thread nD τ).loc main_arg2)) 1 := by
  rw [← cut1]
  unfold_abbrev_sides
  after_results <;> rfl
theorem V_main_v7 (c : Dev nD) : V m c main_v7 = side (m ((c : Thread nD τ).loc main_arg3)) 1 := by
  rw [← cut1]
  unfold_abbrev_sides
  after_results <;> rfl

/-- A whole table, read through a window that always names its one block. -/
theorem table_read (x : Vec Ideal S22x1x512 .f32) (T : Fin 3 → Nat) (h : ∀ a, (T a + 1) * S22x1x512.size a ≤ S22x1x512.size a) :
    (fun j => x ((Rect.block (s := S22x1x512) S22x1x512.size T h).emb j)) = x := by
  funext j
  congr 1
  funext a
  refine Fin.ext ?_
  have := h a
  show T a * S22x1x512.size a + 1 * (j a).val = (j a).val
  have hp : 0 < S22x1x512.size a := Nat.lt_of_le_of_lt (Nat.zero_le _) (j a).isLt
  have : T a = 0 := by
    by_contra h0
    have : 2 * S22x1x512.size a ≤ (T a + 1) * S22x1x512.size a := Nat.mul_le_mul_right _ (by omega)
    omega
  rw [this]
  omega

/-- A column's block `t` read through its window. -/
theorem column_read (x : Vec Ideal S4096x1 .i32) (t : Fin 32) (T : Fin 2 → Nat) (h : ∀ a, (T a + 1) * S128x1.size a ≤ S4096x1.size a)
    (h0 : T 0 = t.val) (h1 : T 1 = 0) (a : Fin 128) :
    x ((Rect.block (s := S4096x1) S128x1.size T h).emb (ix2 a 0)) = x (ix2 ⟨t.val * 128 + a.val, by omega⟩ 0) := by
  congr 1
  funext b
  refine Fin.ext ?_
  match b with
  | 0 => show T 0 * 128 + 1 * a.val = t.val * 128 + a.val; omega
  | 1 => show T 1 * 1 + 1 * 0 = 0; omega

/-- A grid point as a number below 32. -/
def pt (t : Fin cfg0.N) : Fin 32 := t.cast N_0

theorem point_word (t : Fin cfg0.N) : (BitVec.ofNat 32 (grid0.coords t 0).val).toNat = (pt t).val := by
  revert t
  exact (by decide +kernel : ∀ t : Fin grid0.N, (BitVec.ofNat 32 (grid0.coords t 0).val).toNat = t.val)

theorem block0 (c : Dev nD) (t : Fin cfg0.N) : iblk m c 0 t = m ((c : Thread nD τ).loc main_arg0) := by
  rw [← V_main_arg0 m c]
  exact table_read (V m c main_arg0) (cc0_transform_0 (grid0.coords t)) (hinb0_0 (grid0.coords t))
theorem block1 (c : Dev nD) (t : Fin cfg0.N) : iblk m c 1 t = m ((c : Thread nD τ).loc main_arg1) := by
  rw [← V_main_arg1 m c]
  exact table_read (V m c main_arg1) (cc0_transform_1 (grid0.coords t)) (hinb0_1 (grid0.coords t))
theorem block2 (c : Dev nD) (t : Fin cfg0.N) (a : Fin 128) :
    iblk m c 2 t (ix2 a 0) = (m ((c : Thread nD τ).loc main_arg2) : IVec S2x4096x1 32) (ix3 0 ⟨(pt t).val * 128 + a.val, by omega⟩ 0) :=
  (column_read (V m c main_v1) (pt t) (cc0_transform_2 (grid0.coords t)) (hinb0_2 (grid0.coords t)) (point_word t) rfl a).trans
    (congrFun (V_main_v1 m c) _)
theorem block3 (c : Dev nD) (t : Fin cfg0.N) (a : Fin 128) :
    iblk m c 3 t (ix2 a 0) = (m ((c : Thread nD τ).loc main_arg3) : IVec S2x4096x1 32) (ix3 0 ⟨(pt t).val * 128 + a.val, by omega⟩ 0) :=
  (column_read (V m c main_v3) (pt t) (cc0_transform_3 (grid0.coords t)) (hinb0_3 (grid0.coords t)) (point_word t) rfl a).trans
    (congrFun (V_main_v3 m c) _)
theorem block4 (c : Dev nD) (t : Fin cfg0.N) (a : Fin 128) :
    iblk m c 4 t (ix2 a 0) = (m ((c : Thread nD τ).loc main_arg2) : IVec S2x4096x1 32) (ix3 1 ⟨(pt t).val * 128 + a.val, by omega⟩ 0) :=
  (column_read (V m c main_v5) (pt t) (cc0_transform_4 (grid0.coords t)) (hinb0_4 (grid0.coords t)) (point_word t) rfl a).trans
    (congrFun (V_main_v5 m c) _)
theorem block5 (c : Dev nD) (t : Fin cfg0.N) (a : Fin 128) :
    iblk m c 5 t (ix2 a 0) = (m ((c : Thread nD τ).loc main_arg3) : IVec S2x4096x1 32) (ix3 1 ⟨(pt t).val * 128 + a.val, by omega⟩ 0) :=
  (column_read (V m c main_v7) (pt t) (cc0_transform_5 (grid0.coords t)) (hinb0_5 (grid0.coords t)) (point_word t) rfl a).trans
    (congrFun (V_main_v7 m c) _)

/-- Triple `n`'s contribution, zero past the last triple. -/
def contrib (c : Dev nD) (n : Fin 4096) : EReal :=
  Margin.termAt (m ((c : Thread nD τ).loc main_arg0)) (m ((c : Thread nD τ).loc main_arg1))
    (m ((c : Thread nD τ).loc main_arg2)) (m ((c : Thread nD τ).loc main_arg3)) n

/-- What point `n` adds. -/
def addend (c : Dev nD) (n : Nat) : EReal := ∑ a : Fin 128, contrib m c ⟨(n % 32) * 128 + a.val, by omega⟩

theorem added (hS : ∀ c : Dev nD, Slots (m ((c : Thread nD τ).loc main_arg2)) (m ((c : Thread nD τ).loc main_arg3)))
    (c : Dev nD) (n : Nat) (h : n < cfg0.N) (x : Vec Ideal S1x1 .f32) :
    k0_pay1 (k0_pay4 (iblk m c 2 ⟨n, h⟩) (iblk m c 0 ⟨n, h⟩) (iblk m c 3 ⟨n, h⟩))
      (k0_pay5 (iblk m c 4 ⟨n, h⟩) (iblk m c 1 ⟨n, h⟩) (iblk m c 5 ⟨n, h⟩)) x (ix2 0 0) = x (ix2 0 0) + addend m c n := by
  have hn : n % 32 = n := Nat.mod_eq_of_lt (lt_of_lt_of_eq h N_0)
  rw [pay1_at]
  congr 1
  refine Finset.sum_congr rfl fun a _ => ?_
  rw [pick4 _ _ _ _ (by rw [block2]; exact (hS c).1 _) (by rw [block3]; exact (hS c).2 _),
    pick5 _ _ _ _ (by rw [block4]; exact (hS c).1 _) (by rw [block5]; exact (hS c).2 _),
    block0, block1, block2, block3, block4, block5]
  have e : (⟨(pt ⟨n, h⟩).val * 128 + a.val, by have := (pt ⟨n, h⟩).isLt; omega⟩ : Fin 4096) = ⟨(n % 32) * 128 + a.val, by omega⟩ :=
    Fin.ext (by show n * 128 + a.val = (n % 32) * 128 + a.val; rw [hn])
  rw [e]
  rfl

theorem one_idx (i : S1x1.Idx) : i = ix2 0 0 := by
  rw [eq_ix2 i]
  congr 1 <;> exact Subsingleton.elim _ _

/-- All the points' addends together are all the triples' contributions. -/
theorem addends (c : Dev nD) : ∑ s ∈ Finset.range 32, addend m c s = ∑ n : Fin 4096, contrib m c n := by
  rw [← Fin.sum_univ_eq_sum_range (fun s => addend m c s) 32]
  unfold addend
  rw [← Fintype.sum_prod_type' (f := fun (t : Fin 32) (a : Fin 128) => contrib m c ⟨(t.val % 32) * 128 + a.val, by omega⟩)]
  refine Fintype.sum_equiv (finProdFinEquiv (m := 32) (n := 128)) _ _ fun p => ?_
  refine congrArg _ (Fin.ext ?_)
  have := p.1.isLt
  show (p.1.val % 32) * 128 + p.2.val = p.2.val + 128 * p.1.val
  omega

/-- The call's one number. -/
def loss (c : Dev nD) : EReal := (∑ n : Fin 4096, contrib m c n) * Ideal.ofBits .f32 0x39800000#32

theorem step_mid (c : Dev nD) (n : Nat) (h : n < cfg0.N) (acc : Vec Ideal S1x1 .f32) (h0 : 0 < n) (h1 : n < 31) :
    step6 m c n h acc = k0_pay1 (k0_pay4 (iblk m c 2 ⟨n, h⟩) (iblk m c 0 ⟨n, h⟩) (iblk m c 3 ⟨n, h⟩))
      (k0_pay5 (iblk m c 4 ⟨n, h⟩) (iblk m c 1 ⟨n, h⟩) (iblk m c 5 ⟨n, h⟩)) acc := by
  unfold step6
  rw [if_pos (by omega)]

theorem step_last (c : Dev nD) (n : Nat) (h : n < cfg0.N) (acc : Vec Ideal S1x1 .f32) (h0 : n = 31) :
    step6 m c n h acc = k0_pay2 (k0_pay1 (k0_pay4 (iblk m c 2 ⟨n, h⟩) (iblk m c 0 ⟨n, h⟩) (iblk m c 3 ⟨n, h⟩))
      (k0_pay5 (iblk m c 4 ⟨n, h⟩) (iblk m c 1 ⟨n, h⟩) (iblk m c 5 ⟨n, h⟩)) acc) := by
  unfold step6
  rw [if_neg (by omega), if_pos (by omega)]

theorem result_eq (hS : ∀ c : Dev nD, Slots (m ((c : Thread nD τ).loc main_arg2)) (m ((c : Thread nD τ).loc main_arg3))) (c : Dev nD) :
    G6 m c = fun _ => loss m c := by
  funext i
  obtain rfl := one_idx i
  have h : 32 * run6Of (ix2 0 0 : S1x1.Idx) + 31 < cfg0.N := by rw [show cfg0.N = 32 from N_0]; decide
  unfold G6
  rw [dif_pos h]
  rw [one_idx (loc6Of (ix2 0 0))]
  have hb : 32 * run6Of (ix2 0 0 : S1x1.Idx) = 0 := by decide
  have go : ∀ (b : Nat) (h : b + 31 < cfg0.N), b = 0 → Pipeline.accAt (reset6 m c) (step6 m c) b 31 h (ix2 0 0) = loss m c := by
    rintro b h rfl
    rw [Pipeline.accAt_succ, step_last m c _ _ _ (by decide), pay2_at, added m hS]
    unfold loss
    congr 1
    rw [Pipeline.accAt_add_apply (reset6 m c) (step6 m c) (fun _ => (0 : EReal)) (fun n _ => addend m c n) 0 30
      (fun h i => by
        obtain rfl := one_idx i
        unfold reset6
        rw [added m hS, pay3_at])
      (fun n h acc i h0 h1 => by
        obtain rfl := one_idx i
        rw [step_mid m c n h acc (by omega) (by omega), added m hS]) 30 (le_refl _), zero_add, ← addends, Finset.sum_range_succ _ 31]
    simp only [Nat.zero_add]
  exact go _ h hb

end Cert.LossIdeal.Own

end
-- ==== Proof.Margin.Ref.lean ====
/-
  The loss reference read at its one number: the mean of the triples' contributions.
-/
module

public import proofs.«01_k».proof.Proof.Margin.Term
public import proofs.«01_k».proof.Proof.Gen.LossReferenceIdeal.Run
public import Idealize.ShloMosaic.Lib.Tactic

@[expose] public section

set_option maxRecDepth 16384

noncomputable section

namespace Cert.LossReferenceIdeal.Own

open Cert.LossReferenceIdeal Cert.LossReferenceIdeal.Gen Cert.LossReferenceIdeal.Value Idealize.ShloMosaic Idealize.ShloMosaic.TcCoe Idealize.SL.Sem

/-- The flat slot numbers of both sides: block times 512 plus place. -/
def flat (row lane : IVec S2x4096x1 32) : IVec S2x4096 32 :=
  addi (muli (shapeCast _ row shapeCasts_S2x4096x1_S2x4096) (broadcastInDim S2x4096 ![] bcast_S_S2x4096 (constantI S_ 32 512#32)))
    (shapeCast _ lane shapeCasts_S2x4096x1_S2x4096)

/-- The positive side's slot numbers. -/
def flat0 (row lane : IVec S2x4096x1 32) : IVec S4096 32 :=
  shapeCast _ (extractStridedSlice S1x4096 ![0, 0] (flat row lane) slices_S2x4096_S1x4096_0_0) shapeCasts_S1x4096_S4096

/-- The negative side's slot numbers. -/
def flat1 (row lane : IVec S2x4096x1 32) : IVec S4096 32 :=
  shapeCast _ (extractStridedSlice S1x4096 ![1, 0] (flat row lane) slices_S2x4096_S1x4096_1_0) shapeCasts_S1x4096_S4096

/-- A table read at slot numbers. -/
def entries (d : FVec Ideal S22x1x512 .f32) (s : IVec S4096 32) : FVec Ideal S4096 .f32 :=
  Host.gather gather_S11264_S4096x1_S4096_n_0_n_n_0_1_1 (shapeCast _ d shapeCasts_S22x1x512_S11264)
    (broadcastInDim S4096x1 ![0] bcast_S4096_S4096x1_0
      (select (cmpi .slt s (broadcastInDim S4096 ![] bcast_S_S4096 (constantI S_ 32 0#32)))
        (addi s (broadcastInDim S4096 ![] bcast_S_S4096 (constantI S_ 32 11264#32))) s))

/-- The mean margin loss of two vectors of distances. -/
def mean (p n : FVec Ideal S4096 .f32) : FVec Ideal S1x1 .f32 :=
  shapeCast _ (Host.divf (Host.reduceAdd (maximumf (addf (subf p n) (broadcastInDim S4096 ![] bcast_S_S4096 (constant (F := Ideal) S_ .f32 0x40C00000#32)))
    (broadcastInDim S4096 ![] bcast_S_S4096 (constant (F := Ideal) S_ .f32 0x00000000#32))) (constant (F := Ideal) S_ .f32 0x00000000#32) reducesTo_S4096_S_d0 h_S_)
    (constant (F := Ideal) S_ .f32 0x45800000#32)) shapeCasts_S_S1x1

theorem flat0_at (row lane : IVec S2x4096x1 32) (n : Fin 4096) :
    flat0 row lane (ix1 n) = IntOp.addi (IntOp.muli (row (ix3 0 n 0)) 512#32) (lane (ix3 0 n 0)) := by
  unfold flat0 flat
  pointwise
theorem flat1_at (row lane : IVec S2x4096x1 32) (n : Fin 4096) :
    flat1 row lane (ix1 n) = IntOp.addi (IntOp.muli (row (ix3 1 n 0)) 512#32) (lane (ix3 1 n 0)) := by
  unfold flat1 flat
  pointwise

theorem gather_at {α : Type} (x : S11264.Idx → α) (idx : IVec S4096x1 32) (p : Fin 4096) :
    Host.gather gather_S11264_S4096x1_S4096_n_0_n_n_0_1_1 x idx (ix1 p) = x (ix1 ⟨min (idx (ix2 p 0)).toInt.toNat 11263, by omega⟩) := by
  unfold Host.gather
  congr 1
  funext a
  refine Fin.ext ?_
  obtain rfl : a = 0 := Subsingleton.elim _ _
  show gather_S11264_S4096x1_S4096_n_0_n_n_0_1_1.start (ix1 p) idx 0
      + gather_S11264_S4096x1_S4096_n_0_n_n_0_1_1.batchCoord (ix1 p) 0
      + gather_S11264_S4096x1_S4096_n_0_n_n_0_1_1.offCoord (ix1 p) 0 = _
  rw [GatherDims.batchCoord_eq_zero _ _ _ (fun h => by simp [gather_S11264_S4096x1_S4096_n_0_n_n_0_1_1] at h),
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S11264_S4096x1_S4096_n_0_n_n_0_1_1.startIndexMap from List.mem_singleton.mpr rfl)]
  have hsi : gather_S11264_S4096x1_S4096_n_0_n_n_0_1_1.siIdx (ix1 p)
      ⟨List.idxOf (0 : Fin 1) gather_S11264_S4096x1_S4096_n_0_n_n_0_1_1.startIndexMap,
        List.idxOf_lt_length_iff.2 (List.mem_singleton.mpr rfl)⟩ = ix2 p 0 := by
    funext b; refine Fin.ext ?_
    match b with
    | ⟨0, _⟩ => rfl
    | ⟨1, _⟩ => rfl
  erw [hsi]; rfl

theorem flat_word (r l : BitVec 32) (hr : r.toNat < 22) (hl : l.toNat < 512) :
    (IntOp.addi (IntOp.muli r 512#32) l).toNat = r.toNat * 512 + l.toNat := by
  show (r * 512#32 + l).toNat = _
  rw [BitVec.toNat_add, BitVec.toNat_mul]
  have : (512#32).toNat = 512 := by decide
  rw [this]
  omega

theorem wrap_word (x : BitVec 32) (h : x.toNat < 11264) :
    (Scalar.select (IntOp.cmpi .slt x 0#32) (IntOp.addi x 11264#32) x).toInt.toNat = x.toNat := by
  have hx : x.slt 0#32 = false := by
    rw [BitVec.slt, decide_eq_false_iff_not, BitVec.toInt_eq_toNat_of_lt (by omega)]
    simp
  have : IntOp.cmpi .slt x 0#32 = 0#1 := by
    show BitVec.ofBool (x.slt 0#32) = _
    rw [hx]; rfl
  rw [this]
  show x.toInt.toNat = x.toNat
  rw [BitVec.toInt_eq_toNat_of_lt (by omega)]; rfl

theorem table_flat (d : FVec Ideal S22x1x512 .f32) (r : Fin 22) (l : Fin 512) :
    (shapeCast S11264 d shapeCasts_S22x1x512_S11264) (ix1 ⟨r.val * 512 + l.val, by omega⟩) = d (ix3 r 0 l) := by
  pointwise

theorem entries_at (d : FVec Ideal S22x1x512 .f32) (s : IVec S4096 32) (n : Fin 4096) (r l : BitVec 32)
    (e : s (ix1 n) = IntOp.addi (IntOp.muli r 512#32) l) (hr : r.toNat < 22) (hl : l.toNat < 512) :
    entries d s (ix1 n) = Margin.look d r l := by
  have hw := flat_word r l hr hl
  have hs : (s (ix1 n)).toNat < 11264 := by rw [e, hw]; omega
  unfold entries Margin.look
  rw [gather_at, ← table_flat d]
  congr 2
  refine Fin.ext ?_
  have hi : (broadcastInDim S4096x1 ![0] bcast_S4096_S4096x1_0
      (select (cmpi .slt s (broadcastInDim S4096 ![] bcast_S_S4096 (constantI S_ 32 0#32)))
        (addi s (broadcastInDim S4096 ![] bcast_S_S4096 (constantI S_ 32 11264#32))) s)) (ix2 n 0)
      = Scalar.select (IntOp.cmpi .slt (s (ix1 n)) 0#32) (IntOp.addi (s (ix1 n)) 11264#32) (s (ix1 n)) := by
    pointwise
  show min (BitVec.toInt _).toNat 11263 = min r.toNat 21 * 512 + min l.toNat 511
  rw [hi, wrap_word _ hs, e, hw]
  omega

theorem mean_at (p n : FVec Ideal S4096 .f32) :
    mean p n (ix2 0 0) = Ideal.div (∑ k : Fin 4096, Margin.term (p (ix1 k)) (n (ix1 k))) (Ideal.ofBits .f32 0x45800000#32) := by
  unfold mean
  pointwise
  rfl

/-- The reference's one number is the kernel's. -/
theorem reference_at (dp dn : FVec Ideal S22x1x512 .f32) (row lane : IVec S2x4096x1 32)
    (hr : ∀ j, (row j).toNat < 22) (hl : ∀ j, (lane j).toNat < 512) :
    mean (entries dp (flat0 row lane)) (entries dn (flat1 row lane)) (ix2 0 0)
      = (∑ n : Fin 4096, Margin.termAt dp dn row lane n) * Ideal.ofBits .f32 0x39800000#32 := by
  rw [mean_at, Margin.mean_eq]
  congr 1
  refine Finset.sum_congr rfl fun n _ => ?_
  rw [entries_at dp _ n _ _ (flat0_at row lane n) (hr _) (hl _), entries_at dn _ n _ _ (flat1_at row lane n) (hr _) (hl _)]
  rfl

end Cert.LossReferenceIdeal.Own

end
-- ==== Proof.Margin.Claim.lean ====
/-
  The loss call and its reference give the same number, for slots that name places of the tables.
-/
module

public import proofs.«01_k».proof.Defs
public import proofs.«01_k».proof.Proof.Margin.Value
public import proofs.«01_k».proof.Proof.Margin.Ref
public import proofs.«01_k».proof.Proof.Gen.Pre_pre3
public import Idealize.ShloMosaic.Lib.ReduceAll
public import Idealize.ShloMosaic.Adequacy
public import Idealize.ShloMosaic.Init
public import Idealize.ShloMosaic.Lib.Quiescent

@[expose] public section

set_option maxRecDepth 16384

noncomputable section

namespace Margin

open Idealize.ShloMosaic Idealize.ShloMosaic.TcCoe Idealize.SL.Sem

/-- A word between 0 and `K` as a signed number is below `K` as a natural number. -/
theorem word_below (x : BitVec 32) (K : Nat) (hK : K < 2 ^ 31) (h0 : IntOp.cmpi .sge x 0#32 = 1#1)
    (h1 : IntOp.cmpi .slt x (BitVec.ofNat 32 K) = 1#1) : x.toNat < K := by
  have of_one (b : Bool) (h : BitVec.ofBool b = 1#1) : b = true := by revert h; cases b <;> decide
  have h0' : (0#32).sle x = true := of_one _ h0
  have h1' : x.slt (BitVec.ofNat 32 K) = true := of_one _ h1
  rw [BitVec.sle_iff_toInt_le] at h0'
  rw [BitVec.slt_iff_toInt_lt] at h1'
  have e0 : (0#32).toInt = 0 := by decide
  have eK : (BitVec.ofNat 32 K).toInt = K := by
    rw [BitVec.toInt_eq_toNat_of_lt (by rw [BitVec.toNat_ofNat]; omega), BitVec.toNat_ofNat]
    omega
  rw [e0] at h0'
  rw [eK] at h1'
  rw [BitVec.toInt_eq_toNat_cond] at h0' h1'
  split at h0' <;> omega

theorem andi_one (a b : BitVec 1) : IntOp.andi a b = 1#1 ↔ a = 1#1 ∧ b = 1#1 := by revert a b; decide

/-- What the precondition says of the tables of slots. -/
theorem slots_of_fn [Cert.Pre_pre3.Facts] (dp dn : FVec Ideal Cert.Pre_pre3.S22x1x512 .f32) (row lane : IVec Cert.Pre_pre3.S2x4096x1 32)
    (h : Cert.Pre_pre3.fn (F := Ideal) dp dn row lane = fun _ => 1#1) : Cert.LossIdeal.Own.Slots row lane := by
  have : Subsingleton Cert.Pre_pre3.S_.Idx := ⟨fun a b => funext fun k => k.elim0⟩
  have e := (andi_one _ _).mp (congrFun h (fun k => k.elim0))
  refine ⟨fun j => ?_, fun j => ?_⟩
  · have k := Host.reduce_andi_all _ _ _ _ _ e.1 j
    simp only [andi, andi_one] at k
    exact word_below _ 22 (by norm_num) k.1 k.2
  · have k := Host.reduce_andi_all _ _ _ _ _ e.2 j
    simp only [andi, andi_one] at k
    exact word_below _ 512 (by norm_num) k.1 k.2

end Margin

namespace Cert.Proof

open Idealize.ShloMosaic Idealize.ShloMosaic.TcCoe Idealize.SL.Sem

theorem loss_reference_quiescent : quiescent_LossReferenceIdeal := fun m ρ _ =>
  (θ_run Cert.LossReferenceIdeal.defs _ _).mono (fun r h => ⟨fun c => (h c).2, sem_eq_zero_of_no_sems (by decide) r.2⟩)
    (Cert.LossReferenceIdeal.Value.run (F := Ideal) m ρ)

theorem loss_reference_quiescent_slots : quiescent_LossReferenceIdeal_pre_pre3 := fun m ρ _ => loss_reference_quiescent m ρ trivial

theorem loss_value : algebraic_LossIdeal_LossReferenceIdeal_pre_pre3 := by
  intro m ρ m' ρ' hp hagree
  have hS : ∀ c : Dev Cert.LossIdeal.nD, Cert.LossIdeal.Own.Slots (m ((c : Thread Cert.LossIdeal.nD Cert.LossIdeal.τ).loc Cert.LossIdeal.main_arg2))
      (m ((c : Thread Cert.LossIdeal.nD Cert.LossIdeal.τ).loc Cert.LossIdeal.main_arg3)) := fun c => Margin.slots_of_fn _ _ _ _ (hp c)
  refine ⟨_, Cert.LossIdeal.Value.run (F := Ideal) m ρ, ?_⟩
  refine (θ_run Cert.LossReferenceIdeal.defs _ _).mono (fun _ h c => ⟨?_, (h c).2⟩) (Cert.LossReferenceIdeal.Value.run (F := Ideal) m' ρ')
  rw [(h c).1]
  simp only [hagree c]
  refine Eq.trans ?_ (Cert.LossIdeal.Own.result_eq m hS c).symm
  funext i
  obtain rfl := Cert.LossIdeal.Own.one_idx i
  exact Cert.LossReferenceIdeal.Own.reference_at _ _ _ _ (hS c).1 (hS c).2

end Cert.Proof

end
-- ==== Proof.lean ====
/-
  The claims: the gather call's, from slots' words and the two tables to the vectors that the projection call takes; the projection call's, from the relation matrices and the gathered vectors to the two tables of distances,
  and the loss call's, from the tables of distances to the mean margin loss.
-/
module

public import proofs.«01_k».proof.Defs
public import proofs.«01_k».proof.Proof.Gather.Claim
public import proofs.«01_k».proof.Proof.Gen.Gather.Frame
public import proofs.«01_k».proof.Proof.Gen.GatherIdeal.Frame
public import proofs.«01_k».proof.Proof.Gen.GatherIdeal.Value
public import proofs.«01_k».proof.Proof.Gen.GatherReferenceIdeal.Run
public import proofs.«01_k».proof.Proof.Gen.Pre_pre4
public import proofs.«01_k».proof.Proof.Call.Claim
public import proofs.«01_k».proof.Proof.Margin.Claim
public import proofs.«01_k».proof.Proof.Gen.Loss.Frame
public import proofs.«01_k».proof.Proof.Gen.LossIdeal.Frame
public import proofs.«01_k».proof.Proof.Gen.LossIdeal.Value
public import proofs.«01_k».proof.Proof.Gen.LossReferenceIdeal.Run
public import proofs.«01_k».proof.Proof.Gen.Pre_pre2
public import proofs.«01_k».proof.Proof.Gen.Pre_pre3

@[expose] public section

noncomputable section

namespace Cert.Proof

open Idealize.ShloMosaic Idealize.SL.Sem

theorem claim : Cert.Claim :=
  ⟨Cert.Gather.Gen.facts, Cert.GatherIdeal.Gen.facts, Cert.GatherReferenceIdeal.Gen.facts,
    Cert.Proj.Gen.facts, Cert.ProjIdeal.Gen.facts, Cert.ProjReferenceIdeal.Gen.facts, Cert.Loss.Gen.facts, Cert.LossIdeal.Gen.facts,
    Cert.LossReferenceIdeal.Gen.facts, Cert.Pre_pre4.Gen.facts, Cert.Pre_pre2.Gen.facts, Cert.Pre_pre3.Gen.facts,
    fun m ρ _ => Cert.Gather.Gen.frame m ρ, fun m ρ _ => Cert.GatherIdeal.Gen.frame m ρ, fun m ρ _ => Cert.GatherIdeal.Gen.frame m ρ,
    gather_reference_quiescent, gather_reference_quiescent_words,
    proj_frame_bits, proj_frame_ideal, proj_reference_frame, proj_reference_frame_small,
    fun m ρ _ => Cert.Loss.Gen.frame m ρ, fun m ρ _ => Cert.LossIdeal.Gen.frame m ρ, fun m ρ _ => Cert.LossIdeal.Gen.frame m ρ,
    loss_reference_quiescent, loss_reference_quiescent_slots,
    trivial, gather_value, trivial, proj_value, trivial, loss_value⟩

end Cert.Proof

end
